-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_v41) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S6x256x5120 : Shape := ⟨3, ![6, 256, 5120]⟩
abbrev S6x256x2 : Shape := ⟨3, ![6, 256, 2]⟩
abbrev S5120 : Shape := ⟨1, ![5120]⟩
abbrev S_ : Shape := ⟨0, ![]⟩

class Facts : Prop where
  bcast_S_S6x256x2 : S_.BroadcastsInDim S6x256x2 (![] : Fin 0 → Fin S6x256x2.rank)
  bcast_S_S5120 : S_.BroadcastsInDim S5120 (![] : Fin 0 → Fin S5120.rank)
  reducesTo_S5120_S_d0 : S5120.ReducesTo [0] S_
  h_S_ : 0 < S_.numel
  reducesTo_S6x256x2_S_d0_1_2 : S6x256x2.ReducesTo [0, 1, 2] S_

variable [Facts]

def fn {F : FTy → Type} [FloatOps F] (main_arg0 : FVec F S6x256x5120 .bf16) (main_arg1 : IVec S6x256x2 32) (main_arg2 : FVec F S6x256x2 .f32) (main_arg3 : FVec F S5120 .f32) : IVec S_ 1 :=
  let main_c : IVec S_ 32 := constantI S_ 32 0#32
  let main_v0 : IVec S6x256x2 32 := broadcastInDim S6x256x2 ![] bcast_S_S6x256x2 main_c
  let main_v1 : IVec S6x256x2 1 := cmpi .sge main_arg1 main_v0
  let main_c_0 : IVec S_ 32 := constantI S_ 32 16#32
  let main_v2 : IVec S6x256x2 32 := broadcastInDim S6x256x2 ![] bcast_S_S6x256x2 main_c_0
  let main_v3 : IVec S6x256x2 1 := cmpi .slt main_arg1 main_v2
  let main_v4 : IVec S6x256x2 1 := andi main_v1 main_v3
  let main_v5 : FVec F S5120 .f32 := Host.absf main_arg3
  let main_cst : FVec F S_ .f32 := constant S_ .f32 0x7F7FFFFF#32
  let main_v6 : FVec F S5120 .f32 := broadcastInDim S5120 ![] bcast_S_S5120 main_cst
  let main_v7 : IVec S5120 1 := cmpf .ole main_v5 main_v6
  let main_c_1 : IVec S_ 1 := constantI S_ 1 1#1
  let main_v8 : IVec S_ 1 := (fun x v => Host.reduce IntOp.andi x v reducesTo_S5120_S_d0 h_S_) main_v7 main_c_1
  let main_c_2 : IVec S_ 1 := constantI S_ 1 1#1
  let main_v9 : IVec S_ 1 := (fun x v => Host.reduce IntOp.andi x v reducesTo_S6x256x2_S_d0_1_2 h_S_) main_v4 main_c_2
  let main_v10 : IVec S_ 1 := andi main_v8 main_v9
  main_v10
-- ==== Kernel.lean ====
abbrev S6x256x5120 : Shape := ⟨3, ![6, 256, 5120]⟩
abbrev S6x256x2 : Shape := ⟨3, ![6, 256, 2]⟩
abbrev S5120 : Shape := ⟨1, ![5120]⟩
abbrev S192x8x5120 : Shape := ⟨3, ![192, 8, 5120]⟩
abbrev S6x2x256 : Shape := ⟨3, ![6, 2, 256]⟩
abbrev S1x5120 : Shape := ⟨2, ![1, 5120]⟩
abbrev S6x16x40x5120 : Shape := ⟨4, ![6, 16, 40, 5120]⟩
abbrev S6x16x40 : Shape := ⟨3, ![6, 16, 40]⟩
abbrev S2x6x256 : Shape := ⟨3, ![2, 6, 256]⟩
abbrev S6x256 : Shape := ⟨2, ![6, 256]⟩
abbrev S24x8x8x5120 : Shape := ⟨4, ![24, 8, 8, 5120]⟩
abbrev S6x160x256 : Shape := ⟨3, ![6, 160, 256]⟩
abbrev S8x8x128 : Shape := ⟨3, ![8, 8, 128]⟩
abbrev S24 : Shape := ⟨1, ![24]⟩
abbrev S3 : Shape := ⟨1, ![3]⟩
abbrev S5 : Shape := ⟨1, ![5]⟩
abbrev S1 : Shape := ⟨1, ![1]⟩
abbrev S_ : Shape := ⟨0, ![]⟩
abbrev S1x8x8x5120 : Shape := ⟨4, ![1, 8, 8, 5120]⟩
abbrev S8x8x5120 : Shape := ⟨3, ![8, 8, 5120]⟩
abbrev S256x256 : Shape := ⟨2, ![256, 256]⟩
abbrev S16x256 : Shape := ⟨2, ![16, 256]⟩
abbrev S1x1x256 : Shape := ⟨3, ![1, 1, 256]⟩
abbrev S1x256 : Shape := ⟨2, ![1, 256]⟩
abbrev S32x256 : Shape := ⟨2, ![32, 256]⟩
abbrev S16 : Shape := ⟨1, ![16]⟩
abbrev S16x1 : Shape := ⟨2, ![16, 1]⟩
abbrev S256 : Shape := ⟨1, ![256]⟩
abbrev S160x256 : Shape := ⟨2, ![160, 256]⟩
abbrev S1x160x256 : Shape := ⟨3, ![1, 160, 256]⟩
abbrev S8x128 : Shape := ⟨2, ![8, 128]⟩
abbrev S1x1x8x256 : Shape := ⟨4, ![1, 1, 8, 256]⟩
abbrev S8x256 : Shape := ⟨2, ![8, 256]⟩
abbrev S8 : Shape := ⟨1, ![8]⟩
abbrev S8x1 : Shape := ⟨2, ![8, 1]⟩
abbrev S1x8x128 : Shape := ⟨3, ![1, 8, 128]⟩
abbrev S6x128 : Shape := ⟨2, ![6, 128]⟩
abbrev S128 : Shape := ⟨1, ![128]⟩
abbrev S1x128 : Shape := ⟨2, ![1, 128]⟩
abbrev S1x4x8x256 : Shape := ⟨4, ![1, 4, 8, 256]⟩
abbrev S4x8x256 : Shape := ⟨3, ![4, 8, 256]⟩
abbrev S4x8x128 : Shape := ⟨3, ![4, 8, 128]⟩
abbrev S1x1x128 : Shape := ⟨3, ![1, 1, 128]⟩
abbrev S32x128 : Shape := ⟨2, ![32, 128]⟩
abbrev S1x32x128 : Shape := ⟨3, ![1, 32, 128]⟩
abbrev S1x64x5120 : Shape := ⟨3, ![1, 64, 5120]⟩
abbrev S64x5120 : Shape := ⟨2, ![64, 5120]⟩
abbrev S40x256 : Shape := ⟨2, ![40, 256]⟩
abbrev S16x512 : Shape := ⟨2, ![16, 512]⟩
abbrev S40x512 : Shape := ⟨2, ![40, 512]⟩
abbrev S16x40 : Shape := ⟨2, ![16, 40]⟩
abbrev S1x16x40 : Shape := ⟨3, ![1, 16, 40]⟩
abbrev S640x256 : Shape := ⟨2, ![640, 256]⟩
abbrev S1x256x256 : Shape := ⟨3, ![1, 256, 256]⟩
abbrev S16x40x256 : Shape := ⟨3, ![16, 40, 256]⟩
abbrev S1x16x40x256 : Shape := ⟨4, ![1, 16, 40, 256]⟩
abbrev S1x16x40x1280 : Shape := ⟨4, ![1, 16, 40, 1280]⟩
abbrev S16x40x1280 : Shape := ⟨3, ![16, 40, 1280]⟩

abbrev nBuf : Space → Nat
  | .hbm => 21
  | .vmem => 13
  | .smem => 0
  | _ => 0

abbrev bufTy : (tb : Table) → Fin (tcTables nBuf tb) → BufTy
  | .hbm, ⟨0, _⟩ => ⟨S6x256x5120, .bf16⟩
  | .hbm, ⟨1, _⟩ => ⟨S6x256x2, .i32⟩
  | .hbm, ⟨2, _⟩ => ⟨S6x256x2, .f32⟩
  | .hbm, ⟨3, _⟩ => ⟨S5120, .f32⟩
  | .hbm, ⟨4, _⟩ => ⟨S192x8x5120, .bf16⟩
  | .hbm, ⟨5, _⟩ => ⟨S6x2x256, .i32⟩
  | .hbm, ⟨6, _⟩ => ⟨S6x2x256, .f32⟩
  | .hbm, ⟨7, _⟩ => ⟨S1x5120, .f32⟩
  | .hbm, ⟨8, _⟩ => ⟨S6x16x40x5120, .fp8e4m3⟩
  | .hbm, ⟨9, _⟩ => ⟨S6x16x40, .f32⟩
  | .hbm, ⟨10, _⟩ => ⟨S6x2x256, .f32⟩
  | .hbm, ⟨11, _⟩ => ⟨S6x2x256, .i32⟩
  | .hbm, ⟨12, _⟩ => ⟨S2x6x256, .i32⟩
  | .hbm, ⟨13, _⟩ => ⟨S6x256x5120, .fp8e4m3⟩
  | .hbm, ⟨14, _⟩ => ⟨S6x256, .f32⟩
  | .hbm, ⟨15, _⟩ => ⟨S6x256x2, .f32⟩
  | .hbm, ⟨16, _⟩ => ⟨S6x256x2, .i32⟩
  | .hbm, ⟨17, _⟩ => ⟨S6x256x2, .i32⟩
  | .hbm, ⟨18, _⟩ => ⟨S_, .i32⟩
  | .hbm, ⟨19, _⟩ => ⟨S6x256x2, .i32⟩
  | .hbm, ⟨20, _⟩ => ⟨S6x256x2, .i1⟩
  | .local _ .vmem, ⟨0, _⟩ => ⟨S24x8x8x5120, .bf16⟩
  | .local _ .vmem, ⟨1, _⟩ => ⟨S6x2x256, .i32⟩
  | .local _ .vmem, ⟨2, _⟩ => ⟨S6x2x256, .f32⟩
  | .local _ .vmem, ⟨3, _⟩ => ⟨S1x5120, .f32⟩
  | .local _ .vmem, ⟨4, _⟩ => ⟨S6x160x256, .i32⟩
  | .local _ .vmem, ⟨5, _⟩ => ⟨S8x8x128, .f32⟩
  | .local _ .vmem, ⟨6, _⟩ => ⟨S6x256x5120, .fp8e4m3⟩
  | .local _ .vmem, ⟨7, _⟩ => ⟨S6x16x40x5120, .fp8e4m3⟩
  | .local _ .vmem, ⟨8, _⟩ => ⟨S6x16x40, .f32⟩
  | .local _ .vmem, ⟨9, _⟩ => ⟨S6x2x256, .f32⟩
  | .local _ .vmem, ⟨10, _⟩ => ⟨S6x2x256, .i32⟩
  | .local _ .vmem, ⟨11, _⟩ => ⟨S2x6x256, .i32⟩
  | .local _ .vmem, ⟨12, _⟩ => ⟨S6x256, .f32⟩
  | _, _ => ⟨S6x256x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c24_i32 : BitVec 32 := 24#32
  let v6 : BitVec 32 := Scalar.addi c0_i32_0 c24_i32
  let c1_i32_1 : BitVec 32 := 1#32
  ⟨c0_i32_0, v6, c1_i32_1⟩
def k0_off1 (k0_t1 : Fin k0_t1_loop.trips) : Fin 1 → Nat :=
  let c0_i32_0 : BitVec 32 := 0#32
  let c1_i32_1 : BitVec 32 := 1#32
  let arg29 : BitVec 32 := Scf.iv c0_i32_0 c1_i32_1 k0_t1
  ![arg29.toNat]
def k0_off2 (k0_t1 : Fin k0_t1_loop.trips) : Fin 4 → Nat :=
  let c0_i32_0 : BitVec 32 := 0#32
  let c1_i32_1 : BitVec 32 := 1#32
  let arg29 : BitVec 32 := Scf.iv c0_i32_0 c1_i32_1 k0_t1
  let c0_i32_56 : BitVec 32 := 0#32
  let c0_i32_57 : BitVec 32 := 0#32
  let c0_i32_58 : BitVec 32 := 0#32
  ![arg29.toNat, 0, 0, 0]
def k0_off3 (k0_t1 : Fin k0_t1_loop.trips) : Fin 3 → Nat :=
  let c0_i32_0 : BitVec 32 := 0#32
  let c1_i32_1 : BitVec 32 := 1#32
  let arg29 : BitVec 32 := Scf.iv c0_i32_0 c1_i32_1 k0_t1
  let c8_i32 : BitVec 32 := 8#32
  let v96 : BitVec 32 := Scalar.muli arg29 c8_i32
  let c0_i32_59 : BitVec 32 := 0#32
  let c0_i32_60 : BitVec 32 := 0#32
  ![v96.toNat, 0, 0]
@[reducible] def k0_t2_loop : Scf.Loop 32 :=
  let c0_i32_6 : BitVec 32 := 0#32
  let c6_i32 : BitVec 32 := 6#32
  let v19 : BitVec 32 := Scalar.addi c0_i32_6 c6_i32
  let c1_i32_7 : BitVec 32 := 1#32
  ⟨c0_i32_6, v19, c1_i32_7⟩
def k0_off4 (k0_t2 : Fin k0_t2_loop.trips) : Fin 3 → Nat :=
  let c0_i32_6 : BitVec 32 := 0#32
  let c1_i32_7 : BitVec 32 := 1#32
  let arg29 : BitVec 32 := Scf.iv c0_i32_6 c1_i32_7 k0_t2
  let v97 : Index := Scalar.indexCast arg29
  let c0_56 : Index := 0#32
  let c0_57 : Index := 0#32
  ![v97.toNat, 0, 0]
def k0_off5 (k0_t2 : Fin k0_t2_loop.trips) : Fin 3 → Nat :=
  let c0_i32_6 : BitVec 32 := 0#32
  let c1_i32_7 : BitVec 32 := 1#32
  let arg29 : BitVec 32 := Scf.iv c0_i32_6 c1_i32_7 k0_t2
  let v100 : Index := Scalar.indexCast arg29
  let c1_58 : Index := 1#32
  let c0_59 : Index := 0#32
  ![v100.toNat, 1, 0]
def k0_off6 (k0_t2 : Fin k0_t2_loop.trips) : Fin 3 → Nat :=
  let c0_72 : Index := 0#32
  let c0_i32_6 : BitVec 32 := 0#32
  let c1_i32_7 : BitVec 32 := 1#32
  let arg29 : BitVec 32 := Scf.iv c0_i32_6 c1_i32_7 k0_t2
  let v147 : Index := Scalar.indexCast arg29
  let c0_73 : Index := 0#32
  ![0, v147.toNat, 0]
def k0_off7 (k0_t2 : Fin k0_t2_loop.trips) : Fin 3 → Nat :=
  let c1_74 : Index := 1#32
  let c0_i32_6 : BitVec 32 := 0#32
  let c1_i32_7 : BitVec 32 := 1#32
  let arg29 : BitVec 32 := Scf.iv c0_i32_6 c1_i32_7 k0_t2
  let v152 : Index := Scalar.indexCast arg29
  let c0_75 : Index := 0#32
  ![1, v152.toNat, 0]
def k0_off8 (k0_t2 : Fin k0_t2_loop.trips) : Fin 3 → Nat :=
  let c0_i32_6 : BitVec 32 := 0#32
  let c1_i32_7 : BitVec 32 := 1#32
  let arg29 : BitVec 32 := Scf.iv c0_i32_6 c1_i32_7 k0_t2
  let v223 : Index := Scalar.indexCast arg29
  let c0_97 : Index := 0#32
  let c0_98 : Index := 0#32
  ![v223.toNat, 0, 0]
@[reducible] def k0_t3_loop : Scf.Loop 32 :=
  let c0_i32_11 : BitVec 32 := 0#32
  let c4_i32 : BitVec 32 := 4#32
  let v25 : BitVec 32 := Scalar.addi c0_i32_11 c4_i32
  let c1_i32_12 : BitVec 32 := 1#32
  ⟨c0_i32_11, v25, c1_i32_12⟩
def k0_off9 (k0_t3 : Fin k0_t3_loop.trips) : Fin 1 → Nat :=
  let c0_i32_56 : BitVec 32 := 0#32
  let c0_i32_11 : BitVec 32 := 0#32
  let c1_i32_12 : BitVec 32 := 1#32
  let arg29 : BitVec 32 := Scf.iv c0_i32_11 c1_i32_12 k0_t3
  let v96 : BitVec 32 := Scalar.addi c0_i32_56 arg29
  ![v96.toNat]
def k0_off10 (k0_t3 : Fin k0_t3_loop.trips) : Fin 4 → Nat :=
  let c0_i32_56 : BitVec 32 := 0#32
  let c0_i32_11 : BitVec 32 := 0#32
  let c1_i32_12 : BitVec 32 := 1#32
  let arg29 : BitVec 32 := Scf.iv c0_i32_11 c1_i32_12 k0_t3
  let v96 : BitVec 32 := Scalar.addi c0_i32_56 arg29
  let c0_i32_57 : BitVec 32 := 0#32
  let c0_i32_58 : BitVec 32 := 0#32
  let c0_i32_59 : BitVec 32 := 0#32
  ![v96.toNat, 0, 0, 0]
def k0_off11 (k0_t3 : Fin k0_t3_loop.trips) : Fin 3 → Nat :=
  let c0_i32_56 : BitVec 32 := 0#32
  let c0_i32_11 : BitVec 32 := 0#32
  let c1_i32_12 : BitVec 32 := 1#32
  let arg29 : BitVec 32 := Scf.iv c0_i32_11 c1_i32_12 k0_t3
  let v96 : BitVec 32 := Scalar.addi c0_i32_56 arg29
  let c8_i32 : BitVec 32 := 8#32
  let v97 : BitVec 32 := Scalar.muli v96 c8_i32
  let c0_i32_60 : BitVec 32 := 0#32
  let c0_i32_61 : BitVec 32 := 0#32
  ![v97.toNat, 0, 0]
@[reducible] def k0_t4_loop : Scf.Loop 32 :=
  let c0_i32_65 : BitVec 32 := 0#32
  let c8_i32_66 : BitVec 32 := 8#32
  let v110 : BitVec 32 := Scalar.addi c0_i32_65 c8_i32_66
  let c1_i32_67 : BitVec 32 := 1#32
  ⟨c0_i32_65, v110, c1_i32_67⟩
@[reducible] def k0_t5_loop : Scf.Loop 32 :=
  let c0_i32_83 : BitVec 32 := 0#32
  let c20_i32 : BitVec 32 := 20#32
  let v127 : BitVec 32 := Scalar.addi c0_i32_83 c20_i32
  let c1_i32_84 : BitVec 32 := 1#32
  ⟨c0_i32_83, v127, c1_i32_84⟩
def k0_mult1 (k0_t5 : Fin k0_t5_loop.trips) : BitVec 32 :=
  let c0_i32_83 : BitVec 32 := 0#32
  let c1_i32_84 : BitVec 32 := 1#32
  let arg33 : BitVec 32 := Scf.iv c0_i32_83 c1_i32_84 k0_t5
  let c256_i32 : BitVec 32 := 256#32
  let v191 : BitVec 32 := Scalar.muli arg33 c256_i32
  v191
def k0_off12 (k0_t3 : Fin k0_t3_loop.trips) (k0_t4 : Fin k0_t4_loop.trips) (k0_t5 : Fin k0_t5_loop.trips) : Fin 4 → Nat :=
  let c0_i32_56 : BitVec 32 := 0#32
  let c0_i32_11 : BitVec 32 := 0#32
  let c1_i32_12 : BitVec 32 := 1#32
  let arg29 : BitVec 32 := Scf.iv c0_i32_11 c1_i32_12 k0_t3
  let v96 : BitVec 32 := Scalar.addi c0_i32_56 arg29
  let v193 : Index := Scalar.indexCast v96
  let c0_i32_65 : BitVec 32 := 0#32
  let c1_i32_67 : BitVec 32 := 1#32
  let arg31 : BitVec 32 := Scf.iv c0_i32_65 c1_i32_67 k0_t4
  let v194 : Index := Scalar.indexCast arg31
  let c0_105 : Index := 0#32
  let c0_i32_83 : BitVec 32 := 0#32
  let c1_i32_84 : BitVec 32 := 1#32
  let arg33 : BitVec 32 := Scf.iv c0_i32_83 c1_i32_84 k0_t5
  let c256_i32 : BitVec 32 := 256#32
  let v191 : BitVec 32 := Scalar.muli arg33 c256_i32
  let v192 : BitVec 32 := v191
  let v195 : Index := Scalar.indexCast v192
  ![v193.toNat, v194.toNat, 0, v195.toNat]
def k0_off13 (k0_t5 : Fin k0_t5_loop.trips) : Fin 2 → Nat :=
  let c0_106 : Index := 0#32
  let c0_i32_83 : BitVec 32 := 0#32
  let c1_i32_84 : BitVec 32 := 1#32
  let arg33 : BitVec 32 := Scf.iv c0_i32_83 c1_i32_84 k0_t5
  let c256_i32 : BitVec 32 := 256#32
  let v191 : BitVec 32 := Scalar.muli arg33 c256_i32
  let v192 : BitVec 32 := v191
  let v199 : Index := Scalar.indexCast v192
  ![0, v199.toNat]
def k0_off14 (k0_t4 : Fin k0_t4_loop.trips) : Fin 3 → Nat :=
  let c0_i32_65 : BitVec 32 := 0#32
  let c1_i32_67 : BitVec 32 := 1#32
  let arg31 : BitVec 32 := Scf.iv c0_i32_65 c1_i32_67 k0_t4
  let v179 : Index := Scalar.indexCast arg31
  let c0_102 : Index := 0#32
  let c0_103 : Index := 0#32
  ![v179.toNat, 0, 0]
def k0_cond1 (k0_t3 : Fin k0_t3_loop.trips) : BitVec 1 :=
  let c0_i32_11 : BitVec 32 := 0#32
  let c1_i32_12 : BitVec 32 := 1#32
  let arg29 : BitVec 32 := Scf.iv c0_i32_11 c1_i32_12 k0_t3
  let c1_i32_62 : BitVec 32 := 1#32
  let v103 : BitVec 32 := Scalar.andi arg29 c1_i32_62
  let c1_i32_69 : BitVec 32 := 1#32
  let v112 : BitVec 1 := Scalar.cmpi .eq v103 c1_i32_69
  let v113 : BitVec 32 := Scalar.extui v112
  let c0_i32_70 : BitVec 32 := 0#32
  let v114 : BitVec 1 := Scalar.cmpi .ne v113 c0_i32_70
  v114

def k0_mult2 (k0_t3 : Fin k0_t3_loop.trips) : BitVec 32 :=
  let c0_i32_11 : BitVec 32 := 0#32
  let c1_i32_12 : BitVec 32 := 1#32
  let arg29 : BitVec 32 := Scf.iv c0_i32_11 c1_i32_12 k0_t3
  let c1_i32_82 : BitVec 32 := 1#32
  let v126 : BitVec 32 := Scalar.shrsi arg29 c1_i32_82
  let c128_i32 : BitVec 32 := 128#32
  let v127 : BitVec 32 := Scalar.muli v126 c128_i32
  v127
def k0_off15 (k0_t3 : Fin k0_t3_loop.trips) : Fin 2 → Nat :=
  let c0_85 : Index := 0#32
  let c0_i32_11 : BitVec 32 := 0#32
  let c1_i32_12 : BitVec 32 := 1#32
  let arg29 : BitVec 32 := Scf.iv c0_i32_11 c1_i32_12 k0_t3
  let c1_i32_82 : BitVec 32 := 1#32
  let v126 : BitVec 32 := Scalar.shrsi arg29 c1_i32_82
  let c128_i32 : BitVec 32 := 128#32
  let v127 : BitVec 32 := Scalar.muli v126 c128_i32
  let v128 : BitVec 32 := v127
  let v134 : Index := Scalar.indexCast v128
  ![0, v134.toNat]
@[reducible] def k0_t6_loop : Scf.Loop 32 :=
  let c0_i32_72 : BitVec 32 := 0#32
  let c2_i32_73 : BitVec 32 := 2#32
  let v116 : BitVec 32 := Scalar.addi c0_i32_72 c2_i32_73
  let c1_i32_74 : BitVec 32 := 1#32
  ⟨c0_i32_72, v116, c1_i32_74⟩
@[reducible] def k0_t7_loop : Scf.Loop 32 :=
  let c0_i32_82 : BitVec 32 := 0#32
  let c20_i32 : BitVec 32 := 20#32
  let v126 : BitVec 32 := Scalar.addi c0_i32_82 c20_i32
  let c1_i32_83 : BitVec 32 := 1#32
  ⟨c0_i32_82, v126, c1_i32_83⟩
def k0_mult3 (k0_t7 : Fin k0_t7_loop.trips) : BitVec 32 :=
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  v127
def k0_off16 (k0_t3 : Fin k0_t3_loop.trips) (k0_t6 : Fin k0_t6_loop.trips) (k0_t7 : Fin k0_t7_loop.trips) : Fin 4 → Nat :=
  let c0_i32_56 : BitVec 32 := 0#32
  let c0_i32_11 : BitVec 32 := 0#32
  let c1_i32_12 : BitVec 32 := 1#32
  let arg29 : BitVec 32 := Scf.iv c0_i32_11 c1_i32_12 k0_t3
  let v96 : BitVec 32 := Scalar.addi c0_i32_56 arg29
  let v130 : Index := Scalar.indexCast v96
  let c0_i32_72 : BitVec 32 := 0#32
  let c1_i32_74 : BitVec 32 := 1#32
  let arg31 : BitVec 32 := Scf.iv c0_i32_72 c1_i32_74 k0_t6
  let c4_i32_85 : BitVec 32 := 4#32
  let v129 : BitVec 32 := Scalar.muli arg31 c4_i32_85
  let v131 : Index := Scalar.indexCast v129
  let c0_86 : Index := 0#32
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let v132 : Index := Scalar.indexCast v128
  ![v130.toNat, v131.toNat, 0, v132.toNat]
def k0_mult4 (k0_t7 : Fin k0_t7_loop.trips) : BitVec 32 :=
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let c0_i32_87 : BitVec 32 := 0#32
  let v136 : BitVec 32 := Scalar.addi v128 c0_i32_87
  v136
def k0_off17 (k0_t7 : Fin k0_t7_loop.trips) (c0_i32_87 : BitVec 32) : Fin 2 → Nat :=
  let c0_88 : Index := 0#32
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let v136 : BitVec 32 := Scalar.addi v128 c0_i32_87
  let v137 : BitVec 32 := v136
  let v138 : Index := Scalar.indexCast v137
  ![0, v138.toNat]
def k0_off18 (k0_t6 : Fin k0_t6_loop.trips) : Fin 3 → Nat :=
  let c0_i32_72 : BitVec 32 := 0#32
  let c1_i32_74 : BitVec 32 := 1#32
  let arg31 : BitVec 32 := Scf.iv c0_i32_72 c1_i32_74 k0_t6
  let c4_i32_89 : BitVec 32 := 4#32
  let v141 : BitVec 32 := Scalar.muli arg31 c4_i32_89
  let v142 : Index := Scalar.indexCast v141
  let c0_90 : Index := 0#32
  let c0_91 : Index := 0#32
  ![v142.toNat, 0, 0]
def k0_mult5 (k0_t3 : Fin k0_t3_loop.trips) (k0_t6 : Fin k0_t6_loop.trips) : BitVec 32 :=
  let c0_i32_11 : BitVec 32 := 0#32
  let c1_i32_12 : BitVec 32 := 1#32
  let arg29 : BitVec 32 := Scf.iv c0_i32_11 c1_i32_12 k0_t3
  let c64_i32_71 : BitVec 32 := 64#32
  let v115 : BitVec 32 := Scalar.muli arg29 c64_i32_71
  let c0_i32_72 : BitVec 32 := 0#32
  let c1_i32_74 : BitVec 32 := 1#32
  let arg31 : BitVec 32 := Scf.iv c0_i32_72 c1_i32_74 k0_t6
  let c32_i32 : BitVec 32 := 32#32
  let v154 : BitVec 32 := Scalar.muli arg31 c32_i32
  let v155 : BitVec 32 := Scalar.addi v115 v154
  v155
def k0_mult6 (k0_t7 : Fin k0_t7_loop.trips) : BitVec 32 :=
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let c0_i32_94 : BitVec 32 := 0#32
  let v157 : BitVec 32 := Scalar.addi v128 c0_i32_94
  v157
def k0_off19 (k0_t3 : Fin k0_t3_loop.trips) (k0_t6 : Fin k0_t6_loop.trips) (k0_t7 : Fin k0_t7_loop.trips) (c0_i32_94 : BitVec 32) : Fin 3 → Nat :=
  let c0_95 : Index := 0#32
  let c0_i32_11 : BitVec 32 := 0#32
  let c1_i32_12 : BitVec 32 := 1#32
  let arg29 : BitVec 32 := Scf.iv c0_i32_11 c1_i32_12 k0_t3
  let c64_i32_71 : BitVec 32 := 64#32
  let v115 : BitVec 32 := Scalar.muli arg29 c64_i32_71
  let c0_i32_72 : BitVec 32 := 0#32
  let c1_i32_74 : BitVec 32 := 1#32
  let arg31 : BitVec 32 := Scf.iv c0_i32_72 c1_i32_74 k0_t6
  let c32_i32 : BitVec 32 := 32#32
  let v154 : BitVec 32 := Scalar.muli arg31 c32_i32
  let v155 : BitVec 32 := Scalar.addi v115 v154
  let v156 : BitVec 32 := v155
  let v159 : Index := Scalar.indexCast v156
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let v157 : BitVec 32 := Scalar.addi v128 c0_i32_94
  let v158 : BitVec 32 := v157
  let v160 : Index := Scalar.indexCast v158
  ![0, v159.toNat, v160.toNat]
def k0_mult7 (k0_t7 : Fin k0_t7_loop.trips) : BitVec 32 :=
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let c128_i32 : BitVec 32 := 128#32
  let v164 : BitVec 32 := Scalar.addi v128 c128_i32
  v164
def k0_mult8 (k0_t3 : Fin k0_t3_loop.trips) (k0_t6 : Fin k0_t6_loop.trips) : BitVec 32 :=
  let c0_i32_11 : BitVec 32 := 0#32
  let c1_i32_12 : BitVec 32 := 1#32
  let arg29 : BitVec 32 := Scf.iv c0_i32_11 c1_i32_12 k0_t3
  let c64_i32_71 : BitVec 32 := 64#32
  let v115 : BitVec 32 := Scalar.muli arg29 c64_i32_71
  let c0_i32_72 : BitVec 32 := 0#32
  let c1_i32_74 : BitVec 32 := 1#32
  let arg31 : BitVec 32 := Scf.iv c0_i32_72 c1_i32_74 k0_t6
  let c32_i32_102 : BitVec 32 := 32#32
  let v182 : BitVec 32 := Scalar.muli arg31 c32_i32_102
  let v183 : BitVec 32 := Scalar.addi v115 v182
  v183
def k0_mult9 (k0_t7 : Fin k0_t7_loop.trips) : BitVec 32 :=
  let c0_i32_82 : BitVec 32 := 0#32
  let c1_i32_83 : BitVec 32 := 1#32
  let arg32 : BitVec 32 := Scf.iv c0_i32_82 c1_i32_83 k0_t7
  let c256_i32 : BitVec 32 := 256#32
  let v127 : BitVec 32 := Scalar.muli arg32 c256_i32
  let v128 : BitVec 32 := v127
  let c128_i32_103 : BitVec 32 := 128#32
  let v185 : BitVec 32 := Scalar.addi v128 c128_i32_103
  v185
def k0_mult10 (k0_t3 : Fin k0_t3_loop.trips) : BitVec 32 :=
  let c0_i32_11 : BitVec 32 := 0#32
  let c1_i32_12 : BitVec 32 := 1#32
  let arg29 : BitVec 32 := Scf.iv c0_i32_11 c1_i32_12 k0_t3
  let c64_i32_76 : BitVec 32 := 64#32
  let v117 : BitVec 32 := Scalar.muli arg29 c64_i32_76
  v117
def k0_off20 (k0_t3 : Fin k0_t3_loop.trips) : Fin 3 → Nat :=
  let c0_i32_79 : BitVec 32 := 0#32
  let c0_i32_11 : BitVec 32 := 0#32
  let c1_i32_12 : BitVec 32 := 1#32
  let arg29 : BitVec 32 := Scf.iv c0_i32_11 c1_i32_12 k0_t3
  let c64_i32_76 : BitVec 32 := 64#32
  let v117 : BitVec 32 := Scalar.muli arg29 c64_i32_76
  let v118 : BitVec 32 := v117
  let c0_i32_80 : BitVec 32 := 0#32
  ![0, v118.toNat, 0]
@[reducible] def k0_t8_loop : Scf.Loop 32 :=
  let c1_i32_39 : BitVec 32 := 1#32
  let c5_i32 : BitVec 32 := 5#32
  let v79 : BitVec 32 := Scalar.addi c1_i32_39 c5_i32
  let c1_i32_40 : BitVec 32 := 1#32
  ⟨c1_i32_39, v79, c1_i32_40⟩
@[reducible] def k0_t9_loop : Scf.Loop 32 :=
  let c0_i32_57 : BitVec 32 := 0#32
  let c4_i32_58 : BitVec 32 := 4#32
  let v97 : BitVec 32 := Scalar.addi c0_i32_57 c4_i32_58
  let c1_i32_59 : BitVec 32 := 1#32
  ⟨c0_i32_57, v97, c1_i32_59⟩
def k0_off21 (k0_t8 : Fin k0_t8_loop.trips) (k0_t9 : Fin k0_t9_loop.trips) : Fin 1 → Nat :=
  let c1_i32_39 : BitVec 32 := 1#32
  let c1_i32_40 : BitVec 32 := 1#32
  let arg29 : BitVec 32 := Scf.iv c1_i32_39 c1_i32_40 k0_t8
  let c4_i32_78 : BitVec 32 := 4#32
  let v150 : BitVec 32 := Scalar.muli arg29 c4_i32_78
  let c0_i32_57 : BitVec 32 := 0#32
  let c1_i32_59 : BitVec 32 := 1#32
  let arg30 : BitVec 32 := Scf.iv c0_i32_57 c1_i32_59 k0_t9
  let v151 : BitVec 32 := Scalar.addi v150 arg30
  ![v151.toNat]
def k0_off22 (k0_t8 : Fin k0_t8_loop.trips) (k0_t9 : Fin k0_t9_loop.trips) : Fin 4 → Nat :=
  let c1_i32_39 : BitVec 32 := 1#32
  let c1_i32_40 : BitVec 32 := 1#32
  let arg29 : BitVec 32 := Scf.iv c1_i32_39 c1_i32_40 k0_t8
  let c4_i32_78 : BitVec 32 := 4#32
  let v150 : BitVec 32 := Scalar.muli arg29 c4_i32_78
  let c0_i32_57 : BitVec 32 := 0#32
  let c1_i32_59 : BitVec 32 := 1#32
  let arg30 : BitVec 32 := Scf.iv c0_i32_57 c1_i32_59 k0_t9
  let v151 : BitVec 32 := Scalar.addi v150 arg30
  let c0_i32_79 : BitVec 32 := 0#32
  let c0_i32_80 : BitVec 32 := 0#32
  let c0_i32_81 : BitVec 32 := 0#32
  ![v151.toNat, 0, 0, 0]
def k0_off23 (k0_t8 : Fin k0_t8_loop.trips) (k0_t9 : Fin k0_t9_loop.trips) : Fin 3 → Nat :=
  let c1_i32_39 : BitVec 32 := 1#32
  let c1_i32_40 : BitVec 32 := 1#32
  let arg29 : BitVec 32 := Scf.iv c1_i32_39 c1_i32_40 k0_t8
  let c4_i32_78 : BitVec 32 := 4#32
  let v150 : BitVec 32 := Scalar.muli arg29 c4_i32_78
  let c0_i32_57 : BitVec 32 := 0#32
  let c1_i32_59 : BitVec 32 := 1#32
  let arg30 : BitVec 32 := Scf.iv c0_i32_57 c1_i32_59 k0_t9
  let v151 : BitVec 32 := Scalar.addi v150 arg30
  let c8_i32 : BitVec 32 := 8#32
  let v152 : BitVec 32 := Scalar.muli v151 c8_i32
  let c0_i32_82 : BitVec 32 := 0#32
  let c0_i32_83 : BitVec 32 := 0#32
  ![v152.toNat, 0, 0]
@[reducible] def k0_t10_loop : Scf.Loop 32 :=
  let c0_i32_87 : BitVec 32 := 0#32
  let c8_i32_88 : BitVec 32 := 8#32
  let v165 : BitVec 32 := Scalar.addi c0_i32_87 c8_i32_88
  let c1_i32_89 : BitVec 32 := 1#32
  ⟨c0_i32_87, v165, c1_i32_89⟩
@[reducible] def k0_t11_loop : Scf.Loop 32 :=
  let c0_i32_117 : BitVec 32 := 0#32
  let c20_i32 : BitVec 32 := 20#32
  let v201 : BitVec 32 := Scalar.addi c0_i32_117 c20_i32
  let c1_i32_118 : BitVec 32 := 1#32
  ⟨c0_i32_117, v201, c1_i32_118⟩
def k0_mult11 (k0_t11 : Fin k0_t11_loop.trips) : BitVec 32 :=
  let c0_i32_117 : BitVec 32 := 0#32
  let c1_i32_118 : BitVec 32 := 1#32
  let arg34 : BitVec 32 := Scf.iv c0_i32_117 c1_i32_118 k0_t11
  let c256_i32 : BitVec 32 := 256#32
  let v265 : BitVec 32 := Scalar.muli arg34 c256_i32
  v265
def k0_off24 (k0_t8 : Fin k0_t8_loop.trips) (k0_t9 : Fin k0_t9_loop.trips) (k0_t10 : Fin k0_t10_loop.trips) (k0_t11 : Fin k0_t11_loop.trips) : Fin 4 → Nat :=
  let c1_i32_39 : BitVec 32 := 1#32
  let c1_i32_40 : BitVec 32 := 1#32
  let arg29 : BitVec 32 := Scf.iv c1_i32_39 c1_i32_40 k0_t8
  let c4_i32_78 : BitVec 32 := 4#32
  let v150 : BitVec 32 := Scalar.muli arg29 c4_i32_78
  let c0_i32_57 : BitVec 32 := 0#32
  let c1_i32_59 : BitVec 32 := 1#32
  let arg30 : BitVec 32 := Scf.iv c0_i32_57 c1_i32_59 k0_t9
  let v151 : BitVec 32 := Scalar.addi v150 arg30
  let v267 : Index := Scalar.indexCast v151
  let c0_i32_87 : BitVec 32 := 0#32
  let c1_i32_89 : BitVec 32 := 1#32
  let arg32 : BitVec 32 := Scf.iv c0_i32_87 c1_i32_89 k0_t10
  let v268 : Index := Scalar.indexCast arg32
  let c0_139 : Index := 0#32
  let c0_i32_117 : BitVec 32 := 0#32
  let c1_i32_118 : BitVec 32 := 1#32
  let arg34 : BitVec 32 := Scf.iv c0_i32_117 c1_i32_118 k0_t11
  let c256_i32 : BitVec 32 := 256#32
  let v265 : BitVec 32 := Scalar.muli arg34 c256_i32
  let v266 : BitVec 32 := v265
  let v269 : Index := Scalar.indexCast v266
  ![v267.toNat, v268.toNat, 0, v269.toNat]
def k0_off25 (k0_t11 : Fin k0_t11_loop.trips) : Fin 2 → Nat :=
  let c0_140 : Index := 0#32
  let c0_i32_117 : BitVec 32 := 0#32
  let c1_i32_118 : BitVec 32 := 1#32
  let arg34 : BitVec 32 := Scf.iv c0_i32_117 c1_i32_118 k0_t11
  let c256_i32 : BitVec 32 := 256#32
  let v265 : BitVec 32 := Scalar.muli arg34 c256_i32
  let v266 : BitVec 32 := v265
  let v273 : Index := Scalar.indexCast v266
  ![0, v273.toNat]
def k0_off26 (k0_t10 : Fin k0_t10_loop.trips) : Fin 3 → Nat :=
  let c0_i32_87 : BitVec 32 := 0#32
  let c1_i32_89 : BitVec 32 := 1#32
  let arg32 : BitVec 32 := Scf.iv c0_i32_87 c1_i32_89 k0_t10
  let v253 : Index := Scalar.indexCast arg32
  let c0_136 : Index := 0#32
  let c0_137 : Index := 0#32
  ![v253.toNat, 0, 0]
def k0_cond2 (k0_t9 : Fin k0_t9_loop.trips) : BitVec 1 :=
  let c0_i32_57 : BitVec 32 := 0#32
  let c1_i32_59 : BitVec 32 := 1#32
  let arg30 : BitVec 32 := Scf.iv c0_i32_57 c1_i32_59 k0_t9
  let c1_i32_84 : BitVec 32 := 1#32
  let v158 : BitVec 32 := Scalar.andi arg30 c1_i32_84
  let c1_i32_91 : BitVec 32 := 1#32
  let v167 : BitVec 1 := Scalar.cmpi .eq v158 c1_i32_91
  let v168 : BitVec 32 := Scalar.extui v167
  let c0_i32_92 : BitVec 32 := 0#32
  let v169 : BitVec 1 := Scalar.cmpi .ne v168 c0_i32_92
  v169

def k0_mult12 (k0_t9 : Fin k0_t9_loop.trips) : BitVec 32 :=
  let c0_i32_57 : BitVec 32 := 0#32
  let c1_i32_59 : BitVec 32 := 1#32
  let arg30 : BitVec 32 := Scf.iv c0_i32_57 c1_i32_59 k0_t9
  let c1_i32_116 : BitVec 32 := 1#32
  let v200 : BitVec 32 := Scalar.shrsi arg30 c1_i32_116
  let c128_i32 : BitVec 32 := 128#32
  let v201 : BitVec 32 := Scalar.muli v200 c128_i32
  v201
def k0_off27 (k0_t9 : Fin k0_t9_loop.trips) : Fin 2 → Nat :=
  let c0_118 : Index := 0#32
  let c0_i32_57 : BitVec 32 := 0#32
  let c1_i32_59 : BitVec 32 := 1#32
  let arg30 : BitVec 32 := Scf.iv c0_i32_57 c1_i32_59 k0_t9
  let c1_i32_116 : BitVec 32 := 1#32
  let v200 : BitVec 32 := Scalar.shrsi arg30 c1_i32_116
  let c128_i32 : BitVec 32 := 128#32
  let v201 : BitVec 32 := Scalar.muli v200 c128_i32
  let v202 : BitVec 32 := v201
  let v208 : Index := Scalar.indexCast v202
  ![0, v208.toNat]
@[reducible] def k0_t12_loop : Scf.Loop 32 :=
  let c0_i32_94 : BitVec 32 := 0#32
  let c2_i32_95 : BitVec 32 := 2#32
  let v171 : BitVec 32 := Scalar.addi c0_i32_94 c2_i32_95
  let c1_i32_96 : BitVec 32 := 1#32
  ⟨c0_i32_94, v171, c1_i32_96⟩
@[reducible] def k0_t13_loop : Scf.Loop 32 :=
  let c0_i32_116 : BitVec 32 := 0#32
  let c20_i32 : BitVec 32 := 20#32
  let v200 : BitVec 32 := Scalar.addi c0_i32_116 c20_i32
  let c1_i32_117 : BitVec 32 := 1#32
  ⟨c0_i32_116, v200, c1_i32_117⟩
def k0_mult13 (k0_t13 : Fin k0_t13_loop.trips) : BitVec 32 :=
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  v201
def k0_off28 (k0_t8 : Fin k0_t8_loop.trips) (k0_t9 : Fin k0_t9_loop.trips) (k0_t12 : Fin k0_t12_loop.trips) (k0_t13 : Fin k0_t13_loop.trips) : Fin 4 → Nat :=
  let c1_i32_39 : BitVec 32 := 1#32
  let c1_i32_40 : BitVec 32 := 1#32
  let arg29 : BitVec 32 := Scf.iv c1_i32_39 c1_i32_40 k0_t8
  let c4_i32_78 : BitVec 32 := 4#32
  let v150 : BitVec 32 := Scalar.muli arg29 c4_i32_78
  let c0_i32_57 : BitVec 32 := 0#32
  let c1_i32_59 : BitVec 32 := 1#32
  let arg30 : BitVec 32 := Scf.iv c0_i32_57 c1_i32_59 k0_t9
  let v151 : BitVec 32 := Scalar.addi v150 arg30
  let v204 : Index := Scalar.indexCast v151
  let c0_i32_94 : BitVec 32 := 0#32
  let c1_i32_96 : BitVec 32 := 1#32
  let arg32 : BitVec 32 := Scf.iv c0_i32_94 c1_i32_96 k0_t12
  let c4_i32_119 : BitVec 32 := 4#32
  let v203 : BitVec 32 := Scalar.muli arg32 c4_i32_119
  let v205 : Index := Scalar.indexCast v203
  let c0_120 : Index := 0#32
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let v206 : Index := Scalar.indexCast v202
  ![v204.toNat, v205.toNat, 0, v206.toNat]
def k0_mult14 (k0_t13 : Fin k0_t13_loop.trips) : BitVec 32 :=
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let c0_i32_121 : BitVec 32 := 0#32
  let v210 : BitVec 32 := Scalar.addi v202 c0_i32_121
  v210
def k0_off29 (k0_t13 : Fin k0_t13_loop.trips) (c0_i32_121 : BitVec 32) : Fin 2 → Nat :=
  let c0_122 : Index := 0#32
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let v210 : BitVec 32 := Scalar.addi v202 c0_i32_121
  let v211 : BitVec 32 := v210
  let v212 : Index := Scalar.indexCast v211
  ![0, v212.toNat]
def k0_off30 (k0_t12 : Fin k0_t12_loop.trips) : Fin 3 → Nat :=
  let c0_i32_94 : BitVec 32 := 0#32
  let c1_i32_96 : BitVec 32 := 1#32
  let arg32 : BitVec 32 := Scf.iv c0_i32_94 c1_i32_96 k0_t12
  let c4_i32_123 : BitVec 32 := 4#32
  let v215 : BitVec 32 := Scalar.muli arg32 c4_i32_123
  let v216 : Index := Scalar.indexCast v215
  let c0_124 : Index := 0#32
  let c0_125 : Index := 0#32
  ![v216.toNat, 0, 0]
def k0_mult15 (k0_t9 : Fin k0_t9_loop.trips) (k0_t12 : Fin k0_t12_loop.trips) : BitVec 32 :=
  let c0_i32_57 : BitVec 32 := 0#32
  let c1_i32_59 : BitVec 32 := 1#32
  let arg30 : BitVec 32 := Scf.iv c0_i32_57 c1_i32_59 k0_t9
  let c64_i32_93 : BitVec 32 := 64#32
  let v170 : BitVec 32 := Scalar.muli arg30 c64_i32_93
  let c0_i32_94 : BitVec 32 := 0#32
  let c1_i32_96 : BitVec 32 := 1#32
  let arg32 : BitVec 32 := Scf.iv c0_i32_94 c1_i32_96 k0_t12
  let c32_i32 : BitVec 32 := 32#32
  let v228 : BitVec 32 := Scalar.muli arg32 c32_i32
  let v229 : BitVec 32 := Scalar.addi v170 v228
  v229
def k0_mult16 (k0_t13 : Fin k0_t13_loop.trips) : BitVec 32 :=
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let c0_i32_128 : BitVec 32 := 0#32
  let v231 : BitVec 32 := Scalar.addi v202 c0_i32_128
  v231
def k0_off31 (k0_t8 : Fin k0_t8_loop.trips) (k0_t9 : Fin k0_t9_loop.trips) (k0_t12 : Fin k0_t12_loop.trips) (k0_t13 : Fin k0_t13_loop.trips) (c0_i32_128 : BitVec 32) : Fin 3 → Nat :=
  let c1_i32_39 : BitVec 32 := 1#32
  let c1_i32_40 : BitVec 32 := 1#32
  let arg29 : BitVec 32 := Scf.iv c1_i32_39 c1_i32_40 k0_t8
  let v233 : Index := Scalar.indexCast arg29
  let c0_i32_57 : BitVec 32 := 0#32
  let c1_i32_59 : BitVec 32 := 1#32
  let arg30 : BitVec 32 := Scf.iv c0_i32_57 c1_i32_59 k0_t9
  let c64_i32_93 : BitVec 32 := 64#32
  let v170 : BitVec 32 := Scalar.muli arg30 c64_i32_93
  let c0_i32_94 : BitVec 32 := 0#32
  let c1_i32_96 : BitVec 32 := 1#32
  let arg32 : BitVec 32 := Scf.iv c0_i32_94 c1_i32_96 k0_t12
  let c32_i32 : BitVec 32 := 32#32
  let v228 : BitVec 32 := Scalar.muli arg32 c32_i32
  let v229 : BitVec 32 := Scalar.addi v170 v228
  let v230 : BitVec 32 := v229
  let v234 : Index := Scalar.indexCast v230
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let v231 : BitVec 32 := Scalar.addi v202 c0_i32_128
  let v232 : BitVec 32 := v231
  let v235 : Index := Scalar.indexCast v232
  ![v233.toNat, v234.toNat, v235.toNat]
def k0_mult17 (k0_t13 : Fin k0_t13_loop.trips) : BitVec 32 :=
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let c128_i32 : BitVec 32 := 128#32
  let v239 : BitVec 32 := Scalar.addi v202 c128_i32
  v239
def k0_mult18 (k0_t9 : Fin k0_t9_loop.trips) (k0_t12 : Fin k0_t12_loop.trips) : BitVec 32 :=
  let c0_i32_57 : BitVec 32 := 0#32
  let c1_i32_59 : BitVec 32 := 1#32
  let arg30 : BitVec 32 := Scf.iv c0_i32_57 c1_i32_59 k0_t9
  let c64_i32_93 : BitVec 32 := 64#32
  let v170 : BitVec 32 := Scalar.muli arg30 c64_i32_93
  let c0_i32_94 : BitVec 32 := 0#32
  let c1_i32_96 : BitVec 32 := 1#32
  let arg32 : BitVec 32 := Scf.iv c0_i32_94 c1_i32_96 k0_t12
  let c32_i32_135 : BitVec 32 := 32#32
  let v257 : BitVec 32 := Scalar.muli arg32 c32_i32_135
  let v258 : BitVec 32 := Scalar.addi v170 v257
  v258
def k0_mult19 (k0_t13 : Fin k0_t13_loop.trips) : BitVec 32 :=
  let c0_i32_116 : BitVec 32 := 0#32
  let c1_i32_117 : BitVec 32 := 1#32
  let arg33 : BitVec 32 := Scf.iv c0_i32_116 c1_i32_117 k0_t13
  let c256_i32 : BitVec 32 := 256#32
  let v201 : BitVec 32 := Scalar.muli arg33 c256_i32
  let v202 : BitVec 32 := v201
  let c128_i32_136 : BitVec 32 := 128#32
  let v260 : BitVec 32 := Scalar.addi v202 c128_i32_136
  v260
def k0_off32 (k0_t8 : Fin k0_t8_loop.trips) : Fin 3 → Nat :=
  let c1_i32_39 : BitVec 32 := 1#32
  let c1_i32_40 : BitVec 32 := 1#32
  let arg29 : BitVec 32 := Scf.iv c1_i32_39 c1_i32_40 k0_t8
  let c1_i32_98 : BitVec 32 := 1#32
  let v172 : BitVec 32 := Scalar.subi arg29 c1_i32_98
  let v174 : Index := Scalar.indexCast v172
  let c0_99 : Index := 0#32
  let c0_100 : Index := 0#32
  ![v174.toNat, 0, 0]
@[reducible] def k0_t14_loop : Scf.Loop 32 :=
  let c0_i32_101 : BitVec 32 := 0#32
  let c5_i32_102 : BitVec 32 := 5#32
  let v178 : BitVec 32 := Scalar.addi c0_i32_101 c5_i32_102
  let c1_i32_103 : BitVec 32 := 1#32
  ⟨c0_i32_101, v178, c1_i32_103⟩
def k0_mult20 (k0_t9 : Fin k0_t9_loop.trips) (k0_t14 : Fin k0_t14_loop.trips) : BitVec 32 :=
  let c0_i32_57 : BitVec 32 := 0#32
  let c1_i32_59 : BitVec 32 := 1#32
  let arg30 : BitVec 32 := Scf.iv c0_i32_57 c1_i32_59 k0_t9
  let c1280_i32 : BitVec 32 := 1280#32
  let v173 : BitVec 32 := Scalar.muli arg30 c1280_i32
  let c0_i32_101 : BitVec 32 := 0#32
  let c1_i32_103 : BitVec 32 := 1#32
  let arg32 : BitVec 32 := Scf.iv c0_i32_101 c1_i32_103 k0_t14
  let c256_i32 : BitVec 32 := 256#32
  let v200 : BitVec 32 := Scalar.muli arg32 c256_i32
  let v201 : BitVec 32 := Scalar.addi v173 v200
  v201
def k0_off33 (k0_t8 : Fin k0_t8_loop.trips) (k0_t9 : Fin k0_t9_loop.trips) (k0_t14 : Fin k0_t14_loop.trips) : Fin 3 → Nat :=
  let c1_i32_39 : BitVec 32 := 1#32
  let c1_i32_40 : BitVec 32 := 1#32
  let arg29 : BitVec 32 := Scf.iv c1_i32_39 c1_i32_40 k0_t8
  let c1_i32_98 : BitVec 32 := 1#32
  let v172 : BitVec 32 := Scalar.subi arg29 c1_i32_98
  let v203 : Index := Scalar.indexCast v172
  let c0_116 : Index := 0#32
  let c0_i32_57 : BitVec 32 := 0#32
  let c1_i32_59 : BitVec 32 := 1#32
  let arg30 : BitVec 32 := Scf.iv c0_i32_57 c1_i32_59 k0_t9
  let c1280_i32 : BitVec 32 := 1280#32
  let v173 : BitVec 32 := Scalar.muli arg30 c1280_i32
  let c0_i32_101 : BitVec 32 := 0#32
  let c1_i32_103 : BitVec 32 := 1#32
  let arg32 : BitVec 32 := Scf.iv c0_i32_101 c1_i32_103 k0_t14
  let c256_i32 : BitVec 32 := 256#32
  let v200 : BitVec 32 := Scalar.muli arg32 c256_i32
  let v201 : BitVec 32 := Scalar.addi v173 v200
  let v202 : BitVec 32 := v201
  let v204 : Index := Scalar.indexCast v202
  ![v203.toNat, 0, v204.toNat]
def k0_off34 (k0_t8 : Fin k0_t8_loop.trips) (k0_t9 : Fin k0_t9_loop.trips) (k0_t14 : Fin k0_t14_loop.trips) : Fin 4 → Nat :=
  let c1_i32_39 : BitVec 32 := 1#32
  let c1_i32_40 : BitVec 32 := 1#32
  let arg29 : BitVec 32 := Scf.iv c1_i32_39 c1_i32_40 k0_t8
  let c1_i32_98 : BitVec 32 := 1#32
  let v172 : BitVec 32 := Scalar.subi arg29 c1_i32_98
  let v210 : Index := Scalar.indexCast v172
  let c0_118 : Index := 0#32
  let c0_119 : Index := 0#32
  let c0_i32_57 : BitVec 32 := 0#32
  let c1_i32_59 : BitVec 32 := 1#32
  let arg30 : BitVec 32 := Scf.iv c0_i32_57 c1_i32_59 k0_t9
  let c1280_i32 : BitVec 32 := 1280#32
  let v173 : BitVec 32 := Scalar.muli arg30 c1280_i32
  let c0_i32_101 : BitVec 32 := 0#32
  let c1_i32_103 : BitVec 32 := 1#32
  let arg32 : BitVec 32 := Scf.iv c0_i32_101 c1_i32_103 k0_t14
  let c256_i32 : BitVec 32 := 256#32
  let v200 : BitVec 32 := Scalar.muli arg32 c256_i32
  let v201 : BitVec 32 := Scalar.addi v173 v200
  let v202 : BitVec 32 := v201
  let v211 : Index := Scalar.indexCast v202
  ![v210.toNat, 0, 0, v211.toNat]
def k0_mult21 (k0_t9 : Fin k0_t9_loop.trips) : BitVec 32 :=
  let c0_i32_57 : BitVec 32 := 0#32
  let c1_i32_59 : BitVec 32 := 1#32
  let arg30 : BitVec 32 := Scf.iv c0_i32_57 c1_i32_59 k0_t9
  let c1280_i32_106 : BitVec 32 := 1280#32
  let v180 : BitVec 32 := Scalar.muli arg30 c1280_i32_106
  v180
def k0_off35 (k0_t8 : Fin k0_t8_loop.trips) (k0_t9 : Fin k0_t9_loop.trips) : Fin 1 → Nat :=
  let c1_i32_39 : BitVec 32 := 1#32
  let c1_i32_40 : BitVec 32 := 1#32
  let arg29 : BitVec 32 := Scf.iv c1_i32_39 c1_i32_40 k0_t8
  let c1_i32_105 : BitVec 32 := 1#32
  let v179 : BitVec 32 := Scalar.subi arg29 c1_i32_105
  let c4_i32_107 : BitVec 32 := 4#32
  let v182 : BitVec 32 := Scalar.muli v179 c4_i32_107
  let c0_i32_57 : BitVec 32 := 0#32
  let c1_i32_59 : BitVec 32 := 1#32
  let arg30 : BitVec 32 := Scf.iv c0_i32_57 c1_i32_59 k0_t9
  let v183 : BitVec 32 := Scalar.addi v182 arg30
  ![v183.toNat]
def k0_off36 (k0_t8 : Fin k0_t8_loop.trips) (k0_t9 : Fin k0_t9_loop.trips) : Fin 4 → Nat :=
  let c1_i32_39 : BitVec 32 := 1#32
  let c1_i32_40 : BitVec 32 := 1#32
  let arg29 : BitVec 32 := Scf.iv c1_i32_39 c1_i32_40 k0_t8
  let c1_i32_105 : BitVec 32 := 1#32
  let v179 : BitVec 32 := Scalar.subi arg29 c1_i32_105
  let c0_i32_108 : BitVec 32 := 0#32
  let c0_i32_109 : BitVec 32 := 0#32
  let c0_i32_57 : BitVec 32 := 0#32
  let c1_i32_59 : BitVec 32 := 1#32
  let arg30 : BitVec 32 := Scf.iv c0_i32_57 c1_i32_59 k0_t9
  let c1280_i32_106 : BitVec 32 := 1280#32
  let v180 : BitVec 32 := Scalar.muli arg30 c1280_i32_106
  let v181 : BitVec 32 := v180
  ![v179.toNat, 0, 0, v181.toNat]
def k0_mult22 (k0_t9 : Fin k0_t9_loop.trips) : BitVec 32 :=
  let c0_i32_57 : BitVec 32 := 0#32
  let c1_i32_59 : BitVec 32 := 1#32
  let arg30 : BitVec 32 := Scf.iv c0_i32_57 c1_i32_59 k0_t9
  let c64_i32_112 : BitVec 32 := 64#32
  let v190 : BitVec 32 := Scalar.muli arg30 c64_i32_112
  v190
def k0_off37 (k0_t8 : Fin k0_t8_loop.trips) (k0_t9 : Fin k0_t9_loop.trips) : Fin 3 → Nat :=
  let c1_i32_39 : BitVec 32 := 1#32
  let c1_i32_40 : BitVec 32 := 1#32
  let arg29 : BitVec 32 := Scf.iv c1_i32_39 c1_i32_40 k0_t8
  let c0_i32_57 : BitVec 32 := 0#32
  let c1_i32_59 : BitVec 32 := 1#32
  let arg30 : BitVec 32 := Scf.iv c0_i32_57 c1_i32_59 k0_t9
  let c64_i32_112 : BitVec 32 := 64#32
  let v190 : BitVec 32 := Scalar.muli arg30 c64_i32_112
  let v191 : BitVec 32 := v190
  let c0_i32_114 : BitVec 32 := 0#32
  ![arg29.toNat, v191.toNat, 0]
def k0_off38 (k0_t8 : Fin k0_t8_loop.trips) : Fin 3 → Nat :=
  let c1_i32_39 : BitVec 32 := 1#32
  let c1_i32_40 : BitVec 32 := 1#32
  let arg29 : BitVec 32 := Scf.iv c1_i32_39 c1_i32_40 k0_t8
  let v109 : Index := Scalar.indexCast arg29
  let c0_65 : Index := 0#32
  let c0_66 : Index := 0#32
  ![v109.toNat, 0, 0]
def k0_off39 (k0_t8 : Fin k0_t8_loop.trips) : Fin 3 → Nat :=
  let c1_i32_39 : BitVec 32 := 1#32
  let c1_i32_40 : BitVec 32 := 1#32
  let arg29 : BitVec 32 := Scf.iv c1_i32_39 c1_i32_40 k0_t8
  let v125 : Index := Scalar.indexCast arg29
  let c1_70 : Index := 1#32
  let c0_71 : Index := 0#32
  ![v125.toNat, 1, 0]
def k0_off40 (k0_t8 : Fin k0_t8_loop.trips) : Fin 3 → Nat :=
  let c1_i32_39 : BitVec 32 := 1#32
  let c1_i32_40 : BitVec 32 := 1#32
  let arg29 : BitVec 32 := Scf.iv c1_i32_39 c1_i32_40 k0_t8
  let v146 : Index := Scalar.indexCast arg29
  let c0_76 : Index := 0#32
  let c0_77 : Index := 0#32
  ![v146.toNat, 0, 0]
@[reducible] def k0_t15_loop : Scf.Loop 32 :=
  let c0_i32_43 : BitVec 32 := 0#32
  let c4_i32_44 : BitVec 32 := 4#32
  let v84 : BitVec 32 := Scalar.addi c0_i32_43 c4_i32_44
  let c1_i32_45 : BitVec 32 := 1#32
  ⟨c0_i32_43, v84, c1_i32_45⟩
@[reducible] def k0_t16_loop : Scf.Loop 32 :=
  let c0_i32_58 : BitVec 32 := 0#32
  let c5_i32_59 : BitVec 32 := 5#32
  let v100 : BitVec 32 := Scalar.addi c0_i32_58 c5_i32_59
  let c1_i32_60 : BitVec 32 := 1#32
  ⟨c0_i32_58, v100, c1_i32_60⟩
def k0_mult23 (k0_t15 : Fin k0_t15_loop.trips) (k0_t16 : Fin k0_t16_loop.trips) : BitVec 32 :=
  let c0_i32_43 : BitVec 32 := 0#32
  let c1_i32_45 : BitVec 32 := 1#32
  let arg29 : BitVec 32 := Scf.iv c0_i32_43 c1_i32_45 k0_t15
  let c1280_i32 : BitVec 32 := 1280#32
  let v96 : BitVec 32 := Scalar.muli arg29 c1280_i32
  let c0_i32_58 : BitVec 32 := 0#32
  let c1_i32_60 : BitVec 32 := 1#32
  let arg30 : BitVec 32 := Scf.iv c0_i32_58 c1_i32_60 k0_t16
  let c256_i32 : BitVec 32 := 256#32
  let v110 : BitVec 32 := Scalar.muli arg30 c256_i32
  let v111 : BitVec 32 := Scalar.addi v96 v110
  v111
def k0_off41 (k0_t15 : Fin k0_t15_loop.trips) (k0_t16 : Fin k0_t16_loop.trips) : Fin 3 → Nat :=
  let c5_69 : Index := 5#32
  let c0_70 : Index := 0#32
  let c0_i32_43 : BitVec 32 := 0#32
  let c1_i32_45 : BitVec 32 := 1#32
  let arg29 : BitVec 32 := Scf.iv c0_i32_43 c1_i32_45 k0_t15
  let c1280_i32 : BitVec 32 := 1280#32
  let v96 : BitVec 32 := Scalar.muli arg29 c1280_i32
  let c0_i32_58 : BitVec 32 := 0#32
  let c1_i32_60 : BitVec 32 := 1#32
  let arg30 : BitVec 32 := Scf.iv c0_i32_58 c1_i32_60 k0_t16
  let c256_i32 : BitVec 32 := 256#32
  let v110 : BitVec 32 := Scalar.muli arg30 c256_i32
  let v111 : BitVec 32 := Scalar.addi v96 v110
  let v112 : BitVec 32 := v111
  let v113 : Index := Scalar.indexCast v112
  ![5, 0, v113.toNat]
def k0_off42 (k0_t15 : Fin k0_t15_loop.trips) (k0_t16 : Fin k0_t16_loop.trips) : Fin 4 → Nat :=
  let c5_72 : Index := 5#32
  let c0_73 : Index := 0#32
  let c0_74 : Index := 0#32
  let c0_i32_43 : BitVec 32 := 0#32
  let c1_i32_45 : BitVec 32 := 1#32
  let arg29 : BitVec 32 := Scf.iv c0_i32_43 c1_i32_45 k0_t15
  let c1280_i32 : BitVec 32 := 1280#32
  let v96 : BitVec 32 := Scalar.muli arg29 c1280_i32
  let c0_i32_58 : BitVec 32 := 0#32
  let c1_i32_60 : BitVec 32 := 1#32
  let arg30 : BitVec 32 := Scf.iv c0_i32_58 c1_i32_60 k0_t16
  let c256_i32 : BitVec 32 := 256#32
  let v110 : BitVec 32 := Scalar.muli arg30 c256_i32
  let v111 : BitVec 32 := Scalar.addi v96 v110
  let v112 : BitVec 32 := v111
  let v119 : Index := Scalar.indexCast v112
  ![5, 0, 0, v119.toNat]
def k0_mult24 (k0_t15 : Fin k0_t15_loop.trips) : BitVec 32 :=
  let c0_i32_43 : BitVec 32 := 0#32
  let c1_i32_45 : BitVec 32 := 1#32
  let arg29 : BitVec 32 := Scf.iv c0_i32_43 c1_i32_45 k0_t15
  let c1280_i32_62 : BitVec 32 := 1280#32
  let v101 : BitVec 32 := Scalar.muli arg29 c1280_i32_62
  v101
def k0_off43 (k0_t15 : Fin k0_t15_loop.trips) : Fin 1 → Nat :=
  let c20_i32 : BitVec 32 := 20#32
  let c0_i32_43 : BitVec 32 := 0#32
  let c1_i32_45 : BitVec 32 := 1#32
  let arg29 : BitVec 32 := Scf.iv c0_i32_43 c1_i32_45 k0_t15
  let v103 : BitVec 32 := Scalar.addi c20_i32 arg29
  ![v103.toNat]
def k0_off44 (k0_t15 : Fin k0_t15_loop.trips) : Fin 4 → Nat :=
  let c5_i32_64 : BitVec 32 := 5#32
  let c0_i32_65 : BitVec 32 := 0#32
  let c0_i32_66 : BitVec 32 := 0#32
  let c0_i32_43 : BitVec 32 := 0#32
  let c1_i32_45 : BitVec 32 := 1#32
  let arg29 : BitVec 32 := Scf.iv c0_i32_43 c1_i32_45 k0_t15
  let c1280_i32_62 : BitVec 32 := 1280#32
  let v101 : BitVec 32 := Scalar.muli arg29 c1280_i32_62
  let v102 : BitVec 32 := v101
  ![5, 0, 0, v102.toNat]
@[reducible] def k0_t17_loop : Scf.Loop 32 :=
  let c0_i32_52 : BitVec 32 := 0#32
  let c6_i32_53 : BitVec 32 := 6#32
  let v95 : BitVec 32 := Scalar.addi c0_i32_52 c6_i32_53
  let c1_i32_54 : BitVec 32 := 1#32
  ⟨c0_i32_52, v95, c1_i32_54⟩
@[reducible] def k0_t18_loop : Scf.Loop 32 :=
  let c0_i32_56 : BitVec 32 := 0#32
  let c4_i32_57 : BitVec 32 := 4#32
  let v96 : BitVec 32 := Scalar.addi c0_i32_56 c4_i32_57
  let c1_i32_58 : BitVec 32 := 1#32
  ⟨c0_i32_56, v96, c1_i32_58⟩
def k0_mult25 (k0_t18 : Fin k0_t18_loop.trips) : BitVec 32 :=
  let c0_i32_56 : BitVec 32 := 0#32
  let c1_i32_58 : BitVec 32 := 1#32
  let arg30 : BitVec 32 := Scf.iv c0_i32_56 c1_i32_58 k0_t18
  let c64_i32 : BitVec 32 := 64#32
  let v97 : BitVec 32 := Scalar.muli arg30 c64_i32
  v97
def k0_off45 (k0_t17 : Fin k0_t17_loop.trips) (k0_t18 : Fin k0_t18_loop.trips) : Fin 1 → Nat :=
  let c0_i32_52 : BitVec 32 := 0#32
  let c1_i32_54 : BitVec 32 := 1#32
  let arg29 : BitVec 32 := Scf.iv c0_i32_52 c1_i32_54 k0_t17
  let c4_i32_60 : BitVec 32 := 4#32
  let v99 : BitVec 32 := Scalar.muli arg29 c4_i32_60
  let c0_i32_56 : BitVec 32 := 0#32
  let c1_i32_58 : BitVec 32 := 1#32
  let arg30 : BitVec 32 := Scf.iv c0_i32_56 c1_i32_58 k0_t18
  let v100 : BitVec 32 := Scalar.addi v99 arg30
  ![v100.toNat]
def k0_off46 (k0_t17 : Fin k0_t17_loop.trips) (k0_t18 : Fin k0_t18_loop.trips) : Fin 3 → Nat :=
  let c0_i32_52 : BitVec 32 := 0#32
  let c1_i32_54 : BitVec 32 := 1#32
  let arg29 : BitVec 32 := Scf.iv c0_i32_52 c1_i32_54 k0_t17
  let c0_i32_56 : BitVec 32 := 0#32
  let c1_i32_58 : BitVec 32 := 1#32
  let arg30 : BitVec 32 := Scf.iv c0_i32_56 c1_i32_58 k0_t18
  let c64_i32 : BitVec 32 := 64#32
  let v97 : BitVec 32 := Scalar.muli arg30 c64_i32
  let v98 : BitVec 32 := v97
  let c0_i32_61 : BitVec 32 := 0#32
  ![arg29.toNat, v98.toNat, 0]
def k0_mult26 (k0_t18 : Fin k0_t18_loop.trips) : BitVec 32 :=
  let c0_i32_56 : BitVec 32 := 0#32
  let c1_i32_58 : BitVec 32 := 1#32
  let arg30 : BitVec 32 := Scf.iv c0_i32_56 c1_i32_58 k0_t18
  let c1280_i32 : BitVec 32 := 1280#32
  let v107 : BitVec 32 := Scalar.muli arg30 c1280_i32
  v107
def k0_off47 (k0_t17 : Fin k0_t17_loop.trips) (k0_t18 : Fin k0_t18_loop.trips) : Fin 4 → Nat :=
  let c0_i32_52 : BitVec 32 := 0#32
  let c1_i32_54 : BitVec 32 := 1#32
  let arg29 : BitVec 32 := Scf.iv c0_i32_52 c1_i32_54 k0_t17
  let c0_i32_64 : BitVec 32 := 0#32
  let c0_i32_65 : BitVec 32 := 0#32
  let c0_i32_56 : BitVec 32 := 0#32
  let c1_i32_58 : BitVec 32 := 1#32
  let arg30 : BitVec 32 := Scf.iv c0_i32_56 c1_i32_58 k0_t18
  let c1280_i32 : BitVec 32 := 1280#32
  let v107 : BitVec 32 := Scalar.muli arg30 c1280_i32
  let v108 : BitVec 32 := v107
  ![arg29.toNat, 0, 0, v108.toNat]
-- ==== ReferenceIdeal.lean ====
abbrev S6x256x5120 : Shape := ⟨3, ![6, 256, 5120]⟩
abbrev S6x256x2 : Shape := ⟨3, ![6, 256, 2]⟩
abbrev S5120 : Shape := ⟨1, ![5120]⟩
abbrev S_ : Shape := ⟨0, ![]⟩
abbrev S6x256 : Shape := ⟨2, ![6, 256]⟩
abbrev S6x256x1 : Shape := ⟨3, ![6, 256, 1]⟩
abbrev S1x1x5120 : Shape := ⟨3, ![1, 1, 5120]⟩
abbrev S1x1x254 : Shape := ⟨3, ![1, 1, 254]⟩
abbrev S6x256x254 : Shape := ⟨3, ![6, 256, 254]⟩
abbrev S1x1x1 : Shape := ⟨3, ![1, 1, 1]⟩
abbrev S1x256x256 : Shape := ⟨3, ![1, 256, 256]⟩
abbrev S6x1x256 : Shape := ⟨3, ![6, 1, 256]⟩
abbrev S6x256x256 : Shape := ⟨3, ![6, 256, 256]⟩
abbrev S1x16x40x1 : Shape := ⟨4, ![1, 16, 40, 1]⟩
abbrev S6x1x1x256 : Shape := ⟨4, ![6, 1, 1, 256]⟩
abbrev S6x16x40x256 : Shape := ⟨4, ![6, 16, 40, 256]⟩
abbrev S6x16x40 : Shape := ⟨3, ![6, 16, 40]⟩
abbrev S6x16x40x5120 : Shape := ⟨4, ![6, 16, 40, 5120]⟩

abbrev nBuf : Space → Nat
  | .hbm => 189
  | .vmem => 0
  | .smem => 0
  | _ => 0

abbrev hbmTy0_0 (i : Nat) : BufTy := match i % 128 with
  | 0 => ⟨S6x256x5120, .bf16⟩
  | 1 => ⟨S6x256x2, .i32⟩
  | 2 => ⟨S6x256x2, .f32⟩
  | 3 => ⟨S5120, .f32⟩
  | 4 => ⟨S6x256x5120, .f32⟩
  | 5 => ⟨S6x256x5120, .f32⟩
  | 6 => ⟨S_, .f32⟩
  | 7 => ⟨S6x256, .f32⟩
  | 8 => ⟨S6x256x1, .f32⟩
  | 9 => ⟨S_, .f32⟩
  | 10 => ⟨S6x256x1, .f32⟩
  | 11 => ⟨S6x256x1, .f32⟩
  | 12 => ⟨S_, .f32⟩
  | 13 => ⟨S6x256x1, .f32⟩
  | 14 => ⟨S6x256x1, .f32⟩
  | 15 => ⟨S6x256x1, .f32⟩
  | 16 => ⟨S6x256x5120, .f32⟩
  | 17 => ⟨S6x256x5120, .f32⟩
  | 18 => ⟨S1x1x5120, .f32⟩
  | 19 => ⟨S6x256x5120, .f32⟩
  | 20 => ⟨S6x256x5120, .f32⟩
  | 21 => ⟨S6x256x5120, .f32⟩
  | 22 => ⟨S_, .f32⟩
  | 23 => ⟨S6x256, .f32⟩
  | 24 => ⟨S6x256x1, .f32⟩
  | 25 => ⟨S_, .f32⟩
  | 26 => ⟨S6x256x1, .f32⟩
  | 27 => ⟨S6x256x1, .f32⟩
  | 28 => ⟨S1x1x254, .i32⟩
  | 29 => ⟨S_, .i32⟩
  | 30 => ⟨S1x1x254, .i32⟩
  | 31 => ⟨S1x1x254, .i32⟩
  | 32 => ⟨S_, .i32⟩
  | 33 => ⟨S1x1x254, .i32⟩
  | 34 => ⟨S1x1x254, .i32⟩
  | 35 => ⟨S1x1x254, .f32⟩
  | 36 => ⟨S6x256x254, .f32⟩
  | 37 => ⟨S6x256x254, .f32⟩
  | 38 => ⟨S6x256x254, .i1⟩
  | 39 => ⟨S_, .f32⟩
  | 40 => ⟨S_, .f32⟩
  | 41 => ⟨S6x256x254, .f32⟩
  | 42 => ⟨S6x256x254, .f32⟩
  | 43 => ⟨S6x256x254, .f32⟩
  | 44 => ⟨S_, .f32⟩
  | 45 => ⟨S6x256, .f32⟩
  | 46 => ⟨S6x256x1, .f32⟩
  | 47 => ⟨S1x1x1, .f32⟩
  | 48 => ⟨S6x256x1, .f32⟩
  | 49 => ⟨S6x256x1, .i1⟩
  | 50 => ⟨S_, .f32⟩
  | 51 => ⟨S_, .f32⟩
  | 52 => ⟨S6x256x1, .f32⟩
  | 53 => ⟨S6x256x1, .f32⟩
  | 54 => ⟨S_, .f32⟩
  | 55 => ⟨S6x256x1, .f32⟩
  | 56 => ⟨S6x256x1, .f32⟩
  | 57 => ⟨S6x256x5120, .f32⟩
  | 58 => ⟨S6x256x5120, .f32⟩
  | 59 => ⟨S_, .f32⟩
  | 60 => ⟨S_, .f32⟩
  | 61 => ⟨S_, .f32⟩
  | 62 => ⟨S6x256x5120, .f32⟩
  | 63 => ⟨S6x256x5120, .f32⟩
  | 64 => ⟨S_, .f32⟩
  | 65 => ⟨S6x256x5120, .f32⟩
  | 66 => ⟨S6x256x5120, .f32⟩
  | 67 => ⟨S6x256x5120, .fp8e4m3⟩
  | 68 => ⟨S6x256, .f32⟩
  | 69 => ⟨S6x256x1, .i32⟩
  | 70 => ⟨S6x256, .i32⟩
  | 71 => ⟨S6x256x1, .i32⟩
  | 72 => ⟨S6x256, .i32⟩
  | 73 => ⟨S1x256x256, .i32⟩
  | 74 => ⟨S1x256x256, .i32⟩
  | 75 => ⟨S1x256x256, .i1⟩
  | 76 => ⟨S6x1x256, .i32⟩
  | 77 => ⟨S6x256x1, .i32⟩
  | 78 => ⟨S6x256x256, .i32⟩
  | 79 => ⟨S6x256x256, .i32⟩
  | 80 => ⟨S6x256x256, .i1⟩
  | 81 => ⟨S6x256x256, .i1⟩
  | 82 => ⟨S6x256x256, .i1⟩
  | 83 => ⟨S_, .i32⟩
  | 84 => ⟨S_, .i32⟩
  | 85 => ⟨S6x256x256, .i32⟩
  | 86 => ⟨S6x256x256, .i32⟩
  | 87 => ⟨S6x256x256, .i32⟩
  | 88 => ⟨S6x256x256, .i32⟩
  | 89 => ⟨S_, .i32⟩
  | 90 => ⟨S6x256, .i32⟩
  | 91 => ⟨S6x1x256, .i32⟩
  | 92 => ⟨S6x256x1, .i32⟩
  | 93 => ⟨S6x256x256, .i32⟩
  | 94 => ⟨S6x256x256, .i32⟩
  | 95 => ⟨S6x256x256, .i1⟩
  | 96 => ⟨S6x256x256, .i1⟩
  | 97 => ⟨S6x256x256, .i1⟩
  | 98 => ⟨S_, .i32⟩
  | 99 => ⟨S_, .i32⟩
  | 100 => ⟨S6x256x256, .i32⟩
  | 101 => ⟨S6x256x256, .i32⟩
  | 102 => ⟨S6x256x256, .i32⟩
  | 103 => ⟨S6x256x256, .i32⟩
  | 104 => ⟨S_, .i32⟩
  | 105 => ⟨S6x256, .i32⟩
  | 106 => ⟨S6x1x256, .i32⟩
  | 107 => ⟨S6x256x1, .i32⟩
  | 108 => ⟨S6x256x256, .i32⟩
  | 109 => ⟨S6x256x256, .i32⟩
  | 110 => ⟨S6x256x256, .i1⟩
  | 111 => ⟨S_, .i32⟩
  | 112 => ⟨S_, .i32⟩
  | 113 => ⟨S6x256x256, .i32⟩
  | 114 => ⟨S6x256x256, .i32⟩
  | 115 => ⟨S6x256x256, .i32⟩
  | 116 => ⟨S6x256x256, .i32⟩
  | 117 => ⟨S_, .i32⟩
  | 118 => ⟨S6x256, .i32⟩
  | 119 => ⟨S_, .i32⟩
  | 120 => ⟨S6x256, .i32⟩
  | 121 => ⟨S6x256, .i32⟩
  | 122 => ⟨S_, .i32⟩
  | 123 => ⟨S6x256, .i32⟩
  | 124 => ⟨S6x256, .i32⟩
  | 125 => ⟨S_, .i32⟩
  | 126 => ⟨S6x256, .i32⟩
  | 127 => ⟨S6x256, .i32⟩
  | _ => ⟨S6x256x5120, .bf16⟩

abbrev hbmTy0_1 (i : Nat) : BufTy := match i % 128 with
  | 0 => ⟨S6x256, .i32⟩
  | 1 => ⟨S6x256x1, .i32⟩
  | 2 => ⟨S6x256x1, .i32⟩
  | 3 => ⟨S6x256x2, .i32⟩
  | 4 => ⟨S_, .i32⟩
  | 5 => ⟨S6x256x2, .i32⟩
  | 6 => ⟨S6x256x2, .i1⟩
  | 7 => ⟨S1x16x40x1, .i32⟩
  | 8 => ⟨S1x16x40x1, .i32⟩
  | 9 => ⟨S6x1x1x256, .i32⟩
  | 10 => ⟨S6x16x40x256, .i32⟩
  | 11 => ⟨S6x16x40x256, .i32⟩
  | 12 => ⟨S6x16x40x256, .i1⟩
  | 13 => ⟨S6x1x1x256, .i32⟩
  | 14 => ⟨S6x16x40x256, .i32⟩
  | 15 => ⟨S6x16x40x256, .i32⟩
  | 16 => ⟨S6x16x40x256, .i1⟩
  | 17 => ⟨S6x16x40x256, .i1⟩
  | 18 => ⟨S6x1x1x256, .i32⟩
  | 19 => ⟨S6x16x40x256, .i32⟩
  | 20 => ⟨S6x16x40x256, .i32⟩
  | 21 => ⟨S6x16x40x256, .i1⟩
  | 22 => ⟨S6x1x1x256, .i32⟩
  | 23 => ⟨S6x16x40x256, .i32⟩
  | 24 => ⟨S6x16x40x256, .i32⟩
  | 25 => ⟨S6x16x40x256, .i1⟩
  | 26 => ⟨S6x16x40x256, .i1⟩
  | 27 => ⟨S6x1x1x256, .f32⟩
  | 28 => ⟨S_, .f32⟩
  | 29 => ⟨S_, .f32⟩
  | 30 => ⟨S6x16x40x256, .f32⟩
  | 31 => ⟨S6x16x40x256, .f32⟩
  | 32 => ⟨S6x16x40x256, .f32⟩
  | 33 => ⟨S_, .f32⟩
  | 34 => ⟨S6x16x40, .f32⟩
  | 35 => ⟨S_, .f32⟩
  | 36 => ⟨S_, .f32⟩
  | 37 => ⟨S6x16x40x256, .f32⟩
  | 38 => ⟨S6x16x40x256, .f32⟩
  | 39 => ⟨S6x16x40x256, .f32⟩
  | 40 => ⟨S_, .f32⟩
  | 41 => ⟨S6x16x40, .f32⟩
  | 42 => ⟨S6x16x40, .f32⟩
  | 43 => ⟨S6x16x40x256, .i1⟩
  | 44 => ⟨S6x16x40x256, .f32⟩
  | 45 => ⟨S6x16x40x5120, .f32⟩
  | 46 => ⟨S6x16x40x5120, .fp8e4m3⟩
  | 47 => ⟨S6x256x1, .f32⟩
  | 48 => ⟨S6x256x1, .f32⟩
  | 49 => ⟨S6x256x1, .f32⟩
  | 50 => ⟨S_, .f32⟩
  | 51 => ⟨S6x256x1, .f32⟩
  | 52 => ⟨S6x256x1, .i1⟩
  | 53 => ⟨S_, .f32⟩
  | 54 => ⟨S_, .f32⟩
  | 55 => ⟨S6x256x1, .f32⟩
  | 56 => ⟨S6x256x1, .f32⟩
  | 57 => ⟨S6x256x2, .f32⟩
  | 58 => ⟨S6x256x2, .f32⟩
  | 59 => ⟨S6x256x2, .f32⟩
  | 60 => ⟨S6x256x2, .f32⟩
  | _ => ⟨S6x256x5120, .bf16⟩

abbrev hbmTy (i : Nat) : BufTy := match i / 128 with
  | 0 => hbmTy0_0 i
  | 1 => hbmTy0_1 i
  | _ => ⟨S6x256x5120, .bf16⟩

abbrev bufTy : (tb : Table) → Fin (tcTables nBuf tb) → BufTy
  | .hbm, ⟨i, _⟩ => hbmTy i
  | _, _ => ⟨S6x256x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_call1_v0 : Ref sig .tc := ⟨.hbm, 51, rfl⟩
abbrev main_call1_v1 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_cst_10 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_c_12 : Ref sig .tc := ⟨.hbm, 84, rfl⟩
abbrev main_call3_v0 : Ref sig .tc := ⟨.hbm, 85, rfl⟩
abbrev main_call3_v1 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_c_15 : Ref sig .tc := ⟨.hbm, 99, rfl⟩
abbrev main_call4_v0 : Ref sig .tc := ⟨.hbm, 100, rfl⟩
abbrev main_call4_v1 : Ref sig .tc := ⟨.hbm, 101, rfl⟩
abbrev main_v66 : Ref sig .tc := ⟨.hbm, 102, rfl⟩
abbrev main_v67 : Ref sig .tc := ⟨.hbm, 103, rfl⟩
abbrev main_c_16 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_c_18 : Ref sig .tc := ⟨.hbm, 112, rfl⟩
abbrev main_call5_v0 : Ref sig .tc := ⟨.hbm, 113, rfl⟩
abbrev main_call5_v1 : Ref sig .tc := ⟨.hbm, 114, rfl⟩
abbrev main_v74 : Ref sig .tc := ⟨.hbm, 115, rfl⟩
abbrev main_v75 : Ref sig .tc := ⟨.hbm, 116, rfl⟩
abbrev main_c_19 : Ref sig .tc := ⟨.hbm, 117, rfl⟩
abbrev main_v76 : Ref sig .tc := ⟨.hbm, 118, rfl⟩
abbrev main_c_20 : Ref sig .tc := ⟨.hbm, 119, rfl⟩
abbrev main_v77 : Ref sig .tc := ⟨.hbm, 120, rfl⟩
abbrev main_v78 : Ref sig .tc := ⟨.hbm, 121, rfl⟩
abbrev main_c_21 : Ref sig .tc := ⟨.hbm, 122, rfl⟩
abbrev main_v79 : Ref sig .tc := ⟨.hbm, 123, rfl⟩
abbrev main_v80 : Ref sig .tc := ⟨.hbm, 124, rfl⟩
abbrev main_c_22 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_23 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_24 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v110 : Ref sig .tc := ⟨.hbm, 160, rfl⟩
abbrev main_cst_25 : Ref sig .tc := ⟨.hbm, 161, rfl⟩
abbrev main_v111 : Ref sig .tc := ⟨.hbm, 162, rfl⟩
abbrev main_cst_26 : Ref sig .tc := ⟨.hbm, 163, rfl⟩
abbrev main_call7_v0 : Ref sig .tc := ⟨.hbm, 164, rfl⟩
abbrev main_call7_v1 : Ref sig .tc := ⟨.hbm, 165, rfl⟩
abbrev main_call7_v2 : Ref sig .tc := ⟨.hbm, 166, rfl⟩
abbrev main_v112 : Ref sig .tc := ⟨.hbm, 167, rfl⟩
abbrev main_cst_27 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_cst_28 : Ref sig .tc := ⟨.hbm, 178, rfl⟩
abbrev main_v122 : Ref sig .tc := ⟨.hbm, 179, rfl⟩
abbrev main_v123 : Ref sig .tc := ⟨.hbm, 180, rfl⟩
abbrev main_cst_29 : Ref sig .tc := ⟨.hbm, 181, rfl⟩
abbrev main_call8_v0 : Ref sig .tc := ⟨.hbm, 182, rfl⟩
abbrev main_call8_v1 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩

abbrev nD : Nat := 1
abbrev τ : Topo := Topo.v7x

variable {F : FTy → Type} [FloatOps F]
-- ==== Proof.Base.lean ====
/-
  Ownership of a buffer by a numbering of its elements, and the rules for the memory operations of a kernel stated over it.

  Every buffer the kernel fills is filled in order: each element has a NUMBER (the number of the operation that writes it), so
  "what has been written so far" is "the elements whose number lies below `n`". `Btw κ a b` is the set of elements whose
  number under `κ` lies in `[a, b)`.
-/
module

public import Idealize.ShloMosaic.Lib.Pipeline.FrameSuffixV
public import Idealize.ShloMosaic.Lib.Pipeline.FrameBody
public import Idealize.ShloMosaic.Lib.Transfers
public import Idealize.ShloMosaic.Lib.Tactic
public import Idealize.ShloMosaic.Lib.Pipeline.ValueKit.Geometry

@[expose] public section

noncomputable section

namespace Cert.Disp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

/-! ## The elements numbered in an interval -/

section Sets

variable {I : Type} [Fintype I]

/-- The elements whose number lies in `[a, b)`. -/
def Btw (κ : I → ℕ) (a b : ℕ) : Finset I := Finset.univ.filter fun i => a ≤ κ i ∧ κ i < b

theorem mem_Btw {κ : I → ℕ} {a b : ℕ} {i : I} : i ∈ Btw κ a b ↔ a ≤ κ i ∧ κ i < b := by simp [Btw]

theorem Btw_disj (κ : I → ℕ) {a b b' c : ℕ} (h : b ≤ b') : Disjoint (Btw κ a b) (Btw κ b' c) :=
  Finset.disjoint_left.mpr fun i h₁ h₂ => by rw [mem_Btw] at h₁ h₂; omega

theorem Btw_union [DecidableEq I] (κ : I → ℕ) {a b c : ℕ} (h₁ : a ≤ b) (h₂ : b ≤ c) : Btw κ a b ∪ Btw κ b c = Btw κ a c := by
  ext i; rw [Finset.mem_union, mem_Btw, mem_Btw, mem_Btw]; omega

theorem Btw_all {κ : I → ℕ} {n : ℕ} (h : ∀ i, κ i < n) : Btw κ 0 n = Finset.univ := by
  ext i; simp [mem_Btw, h i]

theorem Btw_mono {κ : I → ℕ} {a b a' b' : ℕ} (h₁ : a' ≤ a) (h₂ : b ≤ b') : Btw κ a b ⊆ Btw κ a' b' := fun i hi => by
  rw [mem_Btw] at hi ⊢; omega

end Sets

section Rects

/-- An element of a unit-stride rectangle, coordinate by coordinate. -/
theorem emb_val {s : Shape} {off size : Fin s.rank → ℕ} {inb} {o : Fin s.rank → ℕ} (ho : off = o) (x : (Rect.unit off size inb).shape.Idx) (a : Fin s.rank) :
    ((Rect.unit off size inb).emb x a : ℕ) = o a + x a := by
  subst ho; exact ValueKit.rect_emb_unit_val _ _ _ _ _

theorem mem_unit {s : Shape} {off size : Fin s.rank → ℕ} {inb} {o : Fin s.rank → ℕ} (ho : off = o) {i : s.Idx} :
    i ∈ (Rect.unit off size inb).set ↔ ∀ a, o a ≤ i a ∧ (i a : ℕ) < o a + size a := by
  subst ho; exact Rect.mem_set_unit

theorem mem2 {d : Fin 2 → ℕ} {off size : Fin 2 → ℕ} {inb} {o₀ o₁ : ℕ} (ho : off = ![o₀, o₁]) {i : (⟨2, d⟩ : Shape).Idx} :
    i ∈ (Rect.unit (s := ⟨2, d⟩) off size inb).set ↔ (o₀ ≤ i 0 ∧ (i 0 : ℕ) < o₀ + size 0) ∧ (o₁ ≤ i 1 ∧ (i 1 : ℕ) < o₁ + size 1) :=
  (mem_unit (s := ⟨2, d⟩) ho).trans (Fin.forall_fin_two)

theorem mem3 {d : Fin 3 → ℕ} {off size : Fin 3 → ℕ} {inb} {o₀ o₁ o₂ : ℕ} (ho : off = ![o₀, o₁, o₂]) {i : (⟨3, d⟩ : Shape).Idx} :
    i ∈ (Rect.unit (s := ⟨3, d⟩) off size inb).set
      ↔ (o₀ ≤ i 0 ∧ (i 0 : ℕ) < o₀ + size 0) ∧ (o₁ ≤ i 1 ∧ (i 1 : ℕ) < o₁ + size 1) ∧ (o₂ ≤ i 2 ∧ (i 2 : ℕ) < o₂ + size 2) :=
  (mem_unit (s := ⟨3, d⟩) ho).trans
    ⟨fun h => ⟨h 0, h 1, h 2⟩, fun h a => by
      match a with
      | 0 => exact h.1
      | 1 => exact h.2.1
      | 2 => exact h.2.2⟩

theorem mem4 {d : Fin 4 → ℕ} {off size : Fin 4 → ℕ} {inb} {o₀ o₁ o₂ o₃ : ℕ} (ho : off = ![o₀, o₁, o₂, o₃]) {i : (⟨4, d⟩ : Shape).Idx} :
    i ∈ (Rect.unit (s := ⟨4, d⟩) off size inb).set
      ↔ (o₀ ≤ i 0 ∧ (i 0 : ℕ) < o₀ + size 0) ∧ (o₁ ≤ i 1 ∧ (i 1 : ℕ) < o₁ + size 1) ∧ (o₂ ≤ i 2 ∧ (i 2 : ℕ) < o₂ + size 2)
          ∧ (o₃ ≤ i 3 ∧ (i 3 : ℕ) < o₃ + size 3) :=
  (mem_unit (s := ⟨4, d⟩) ho).trans
    ⟨fun h => ⟨h 0, h 1, h 2, h 3⟩, fun h a => by
      match a with
      | 0 => exact h.1
      | 1 => exact h.2.1
      | 2 => exact h.2.2.1
      | 3 => exact h.2.2.2⟩

/-! A buffer given by the coordinates of its elements, read through a unit-stride rectangle. -/

theorem rd2 {d : Fin 2 → ℕ} {α : Type} {off size : Fin 2 → ℕ} {inb} {o₀ o₁ : ℕ} (ho : off = ![o₀, o₁]) (g : ℕ → ℕ → α) :
    (fun y => (fun i : (⟨2, d⟩ : Shape).Idx => g (i 0) (i 1)) ((Rect.unit (s := ⟨2, d⟩) off size inb).emb y)) = fun y => g (o₀ + (y 0 : ℕ)) (o₁ + (y 1 : ℕ)) :=
  funext fun y => congrArg₂ g (emb_val (s := ⟨2, d⟩) ho y 0) (emb_val (s := ⟨2, d⟩) ho y 1)

theorem rd3 {d : Fin 3 → ℕ} {α : Type} {off size : Fin 3 → ℕ} {inb} {o₀ o₁ o₂ : ℕ} (ho : off = ![o₀, o₁, o₂]) (g : ℕ → ℕ → ℕ → α) :
    (fun y => (fun i : (⟨3, d⟩ : Shape).Idx => g (i 0) (i 1) (i 2)) ((Rect.unit (s := ⟨3, d⟩) off size inb).emb y))
      = fun y => g (o₀ + (y 0 : ℕ)) (o₁ + (y 1 : ℕ)) (o₂ + (y 2 : ℕ)) :=
  funext fun y => by
    show g _ _ _ = g _ _ _
    rw [emb_val (s := ⟨3, d⟩) ho y 0, emb_val (s := ⟨3, d⟩) ho y 1, emb_val (s := ⟨3, d⟩) ho y 2]; rfl

theorem rd4 {d : Fin 4 → ℕ} {α : Type} {off size : Fin 4 → ℕ} {inb} {o₀ o₁ o₂ o₃ : ℕ} (ho : off = ![o₀, o₁, o₂, o₃]) (g : ℕ → ℕ → ℕ → ℕ → α) :
    (fun y => (fun i : (⟨4, d⟩ : Shape).Idx => g (i 0) (i 1) (i 2) (i 3)) ((Rect.unit (s := ⟨4, d⟩) off size inb).emb y))
      = fun y => g (o₀ + (y 0 : ℕ)) (o₁ + (y 1 : ℕ)) (o₂ + (y 2 : ℕ)) (o₃ + (y 3 : ℕ)) :=
  funext fun y => by
    show g _ _ _ _ = g _ _ _ _
    rw [emb_val (s := ⟨4, d⟩) ho y 0, emb_val (s := ⟨4, d⟩) ho y 1, emb_val (s := ⟨4, d⟩) ho y 2, emb_val (s := ⟨4, d⟩) ho y 3]; rfl

end Rects

section Rules

variable {nD : Nat} {τ : Topo} {sig : RefSig} {Val : EltTy → Type} {U : Type} [URA U]

local notation "𝕄" => MT nD τ sig Unit Val ℕ U ℕ

variable {ℓ : Loc nD τ sig} {q : PosShare TreeShare} {f g : Buf Val ℓ}

/-- A numbered interval held is its two parts held. -/
theorem pt_cut {κ : Idx ℓ → ℕ} {a b c : ℕ} (h₁ : a ≤ b) (h₂ : b ≤ c) :
    (ℓ ↦[Btw κ a c]{q} f : sProp 𝕄) ⊢ iprop((ℓ ↦[Btw κ a b]{q} f) ∗ ℓ ↦[Btw κ b c]{q} f) := by
  classical
  rw [← Btw_union κ h₁ h₂]; exact (pointsTo_union (Btw_disj κ le_rfl)).1

theorem pt_glue {κ : Idx ℓ → ℕ} {a b c : ℕ} (h₁ : a ≤ b) (h₂ : b ≤ c) :
    iprop((ℓ ↦[Btw κ a b]{q} f) ∗ ℓ ↦[Btw κ b c]{q} f) ⊢ (ℓ ↦[Btw κ a c]{q} f : sProp 𝕄) := by
  classical
  rw [← Btw_union κ h₁ h₂]; exact (pointsTo_union (Btw_disj κ le_rfl)).2

theorem pt_congr {S : Finset (Idx ℓ)} (h : ∀ i ∈ S, f i = g i) : (ℓ ↦[S]{q} f : sProp 𝕄) ⊢ ℓ ↦[S]{q} g :=
  Entails.of_eq (pointsTo_congr h)

theorem pt_set {S T : Finset (Idx ℓ)} (h : S = T) : (ℓ ↦[S]{q} f : sProp 𝕄) ⊢ ℓ ↦[T]{q} f := by rw [h]

/-- A held buffer in halves, and back. -/
theorem pt_halve {S : Finset (Idx ℓ)} :
    (ℓ ↦[S]{fullShare} f : sProp 𝕄) ⊢ iprop((ℓ ↦[S]{fullShare.left} f) ∗ ℓ ↦[S]{fullShare.right} f) :=
  (pointsTo_share (PosShare.mem_left_op_right _)).1

theorem pt_unhalve {S : Finset (Idx ℓ)} :
    iprop((ℓ ↦[S]{fullShare.left} f) ∗ ℓ ↦[S]{fullShare.right} f) ⊢ (ℓ ↦[S]{fullShare} f : sProp 𝕄) :=
  (pointsTo_share (PosShare.mem_left_op_right _)).2

/-! ## Families over an interval of naturals -/

theorem ico_pop {a b : ℕ} (h : a < b) (Φ : ℕ → sProp 𝕄) :
    bigSep (Finset.Ico a b) Φ ⊢ iprop(Φ a ∗ bigSep (Finset.Ico (a + 1) b) Φ) := by
  rw [show Finset.Ico a b = insert a (Finset.Ico (a + 1) b) by ext; simp; omega]
  exact Entails.of_eq (bigSep_insert (by simp))

theorem ico_push {a b : ℕ} (h : a ≤ b) (Φ : ℕ → sProp 𝕄) :
    iprop(Φ b ∗ bigSep (Finset.Ico a b) Φ) ⊢ bigSep (Finset.Ico a (b + 1)) Φ := by
  rw [show Finset.Ico a (b + 1) = insert b (Finset.Ico a b) by ext; simp; omega]
  exact Entails.of_eq (bigSep_insert (by simp)).symm

theorem ico_nil (a : ℕ) (Φ : ℕ → sProp 𝕄) : (BI.emp : sProp 𝕄) ⊢ bigSep (Finset.Ico a a) Φ := by
  rw [Finset.Ico_self]; exact Entails.of_eq bigSep_empty.symm

/-! ## The operations at the head of a program -/

variable {Λ : Labels} {defs : Defs nD τ sig Val Λ} {c : Dev nD}
variable {α : Type}

/-- Elements of a whole buffer of the core. -/
abbrev held (c : Dev nD) (b : Ref sig .tc) (S : Finset (Idx ((Memref.whole b).view.loc (c : Thread nD τ)))) (q : PosShare TreeShare)
    (f : Buf Val ((Memref.whole b).view.loc (c : Thread nD τ))) : sProp 𝕄 :=
  (Memref.whole b).view.loc (c : Thread nD τ) ↦[S]{q} f

/-- A program of the core run to a postcondition. -/
abbrev run (defs : Defs nD τ sig Val Λ) (c : Dev nD) (p : Prog (TpuEff nD τ sig Val Λ .tc) α) (Q : α → sProp 𝕄) : sProp 𝕄 :=
  wp (frame (Ix := Unit) (Lvl := ℕ)) (wpE (Name := ℕ) (Ix := Unit) (U := U) (Lvl := ℕ) defs Variants.none (c : Thread nD τ) none) Set.univ p Q

/-- A buffer of the core's vector memory. -/
abbrev VB (i₀ : Fin (sig.nNear .tc (.core .vmem))) (h₀ : sig.names .tc (.core .vmem) i₀ = true) : Ref sig .tc := ⟨.core .vmem, i₀, h₀⟩

theorem set_access (b : Ref sig .tc) (r : Rect b.ty.shape) : ((Memref.whole b).access r).set = r.set :=
  View.set_slice_whole b r

/-- A load of a rectangle: the program goes on at the contents of the rectangle's elements. -/
theorem rule_load (i₀ : Fin (sig.nNear .tc (.core .vmem))) (h₀ : sig.names .tc (.core .vmem) i₀ = true) {r : Rect (VB i₀ h₀).ty.shape}
    {hl : (Memref.whole (VB i₀ h₀)).view.LoadsAt r.toLoadRect} {k : (r.shape.Idx → Val (VB i₀ h₀).ty.elt) → Prog (TpuEff nD τ sig Val Λ .tc) α} {Q : α → sProp 𝕄}
    {S : Finset (Idx ((Memref.whole (VB i₀ h₀)).view.loc (c : Thread nD τ)))} {q : PosShare TreeShare}
    {f : Buf Val ((Memref.whole (VB i₀ h₀)).view.loc (c : Thread nD τ))} (hS : ∀ i ∈ r.set, i ∈ S) :
    held (U := U) c (VB i₀ h₀) S q f
      ⊢ iprop((held (U := U) c (VB i₀ h₀) S q f -∗ run (U := U) defs c (k (fun x => f (r.emb x))) Q)
        -∗ run (U := U) defs c (Prog.lift (.load (Memref.whole (VB i₀ h₀)) r.toLoadRect hl) >>= k) Q) :=
  wp_load_rect (c := (c : Thread nD τ)) Variants.none none Set.univ (m := Memref.whole (VB i₀ h₀)) (r := r) (hl := hl) (k := k)
    (fun i hi => hS i (by rwa [set_access] at hi))

/-- A store of a rectangle: what the elements hold after it. -/
theorem rule_store (i₀ : Fin (sig.nNear .tc (.core .vmem))) (h₀ : sig.names .tc (.core .vmem) i₀ = true) {r : Rect (VB i₀ h₀).ty.shape} {w : r.shape.Idx → Val (VB i₀ h₀).ty.elt}
    {hx : ((Memref.whole (VB i₀ h₀)).access r).Stores Finset.univ} {hm : Finset.univ = Finset.univ ∨ ∀ a, r.stride a = 1}
    {k : PUnit → Prog (TpuEff nD τ sig Val Λ .tc) α} {Q : α → sProp 𝕄}
    {S : Finset (Idx ((Memref.whole (VB i₀ h₀)).view.loc (c : Thread nD τ)))}
    {f : Buf Val ((Memref.whole (VB i₀ h₀)).view.loc (c : Thread nD τ))} (hS : ∀ i ∈ r.set, i ∈ S) :
    held (U := U) c (VB i₀ h₀) S fullShare f
      ⊢ iprop((∀ f', ⌜(∀ x, f' (r.emb x) = w x) ∧ ∀ i, i ∉ r.set → f' i = f i⌝ -∗ held (U := U) c (VB i₀ h₀) S fullShare f' -∗ run (U := U) defs c (k ⟨⟩) Q)
        -∗ run (U := U) defs c (Prog.lift (.store (Memref.whole (VB i₀ h₀)) r w Finset.univ hx hm) >>= k) Q) := by
  iintro H Hk
  iapply (wp_store (c := (c : Thread nD τ)) Variants.none none Set.univ (m := Memref.whole (VB i₀ h₀)) (r := r) (hx := hx) (hm := hm) (k := k) (S := S)
    (fun i hi => hS i (by rwa [View.setOn_univ, set_access] at hi))) $$ H
  iintro H
  iapply Hk $$ [] H
  ipureintro
  constructor
  · intro x
    exact View.write_emb_of_mem (v := (Memref.whole (VB i₀ h₀)).access r) f w (Finset.mem_univ x)
  · intro i hi
    exact View.write_of_not_mem (v := (Memref.whole (VB i₀ h₀)).access r) f w _ (by rwa [View.setOn_univ, set_access])

/-- A store that fills the next numbered piece: the elements numbered in `[a, n)` hold `G`, those numbered in `[n, e)` anything,
    the rectangle stored is the elements numbered `n`, and what is stored is `G` there. -/
theorem rule_fill (i₀ : Fin (sig.nNear .tc (.core .vmem))) (h₀ : sig.names .tc (.core .vmem) i₀ = true) {r : Rect (VB i₀ h₀).ty.shape}
    {w : r.shape.Idx → Val (VB i₀ h₀).ty.elt}
    {hx : ((Memref.whole (VB i₀ h₀)).access r).Stores Finset.univ} {hm : Finset.univ = Finset.univ ∨ ∀ a, r.stride a = 1}
    {k : PUnit → Prog (TpuEff nD τ sig Val Λ .tc) α} {Q : α → sProp 𝕄}
    {κ : Idx ((Memref.whole (VB i₀ h₀)).view.loc (c : Thread nD τ)) → ℕ} {a n e : ℕ}
    {G : Buf Val ((Memref.whole (VB i₀ h₀)).view.loc (c : Thread nD τ))}
    (hκ : ∀ i, i ∈ r.set ↔ κ i = n) (hw : ∀ x, w x = G (r.emb x)) (ha : a ≤ n) (hn : n < e) :
    iprop(held (U := U) c (VB i₀ h₀) (Btw κ a n) fullShare G ∗ (∃ f, held (U := U) c (VB i₀ h₀) (Btw κ n e) fullShare f))
      ⊢ iprop((held (U := U) c (VB i₀ h₀) (Btw κ a (n + 1)) fullShare G ∗ (∃ f, held (U := U) c (VB i₀ h₀) (Btw κ (n + 1) e) fullShare f)
          -∗ run (U := U) defs c (k ⟨⟩) Q)
        -∗ run (U := U) defs c (Prog.lift (.store (Memref.whole (VB i₀ h₀)) r w Finset.univ hx hm) >>= k) Q) := by
  iintro ⟨HG, %f, Hf⟩ Hk
  ihave ⟨H1, H2⟩ := (pt_cut (κ := κ) (Nat.le_succ n) hn) $$ Hf
  iapply (rule_store i₀ h₀ (fun i hi => by rw [mem_Btw]; have := (hκ i).1 hi; omega)) $$ H1
  iintro %f' %hf' H1
  ihave H1 := (pt_congr (g := G) (fun i hi => by
    rw [mem_Btw] at hi
    obtain ⟨x, rfl⟩ := r.exists_idx_of_mem ((hκ i).2 (by omega))
    exact (hf'.1 x).trans (hw x))) $$ H1
  iapply Hk
  isplitr [H2]
  · iapply (pt_glue ha (Nat.le_succ n))
    isplitl [HG] <;> iassumption
  · iexists f; iexact H2

/-- A transfer on the core started: the destination comes back, when it is waited for, as `G`. -/
theorem rule_dma [CountersIn U] {sp sp' : Space} {s : Shape} {e : EltTy} {src : Memref sig .tc sp s e} {dst : Memref sig .tc sp' s e}
    {sem : DmaSem sig} {hsrc : src.view.WordExact} {hdst : dst.view.WordExact} {hsem : DmaTarget.Typed (nD := nD) sp (.dma sem) (.here (p := .tc) dst)}
    {k : PUnit → Prog (TpuEff nD τ sig Val Λ .tc) α} {Q : α → sProp 𝕄} {q : PosShare TreeShare} {fs : Buf Val (src.view.loc (c : Thread nD τ))}
    {Ss : Finset (Idx (src.view.loc (c : Thread nD τ)))} {Sd : Finset (Idx (dst.view.loc (c : Thread nD τ)))}
    {fd G : Buf Val (dst.view.loc (c : Thread nD τ))}
    (N : ℕ) (hN : dst.view.dmaCredit = N) (hN0 : 0 < s.numel) (hSs : src.view.set = Ss) (hSd : dst.view.set = Sd)
    (hG : ∀ x, dst.view.read Val G x = src.view.read Val fs x) :
    iprop((src.view.loc (c : Thread nD τ) ↦[Ss]{q} fs) ∗ (dst.view.loc (c : Thread nD τ) ↦[Sd]{fullShare} fd) ∗ semVal ((c : Thread nD τ), .dma sem) 0)
      ⊢ iprop((Flight (countersEmb (U := U)) (c : Thread nD τ) (.dma sem) () N
            iprop((dst.view.loc (c : Thread nD τ) ↦[Sd]{fullShare} G) ∗ (src.view.loc (c : Thread nD τ) ↦[Ss]{q} fs)) -∗ run (U := U) defs c (k ⟨⟩) Q)
          -∗ run (U := U) defs c (Prog.lift (.enqueueDma src (.here dst) (.dma sem) hsrc hdst hsem) >>= k) Q) := by
  subst hSs hSd
  iintro H Hk
  iapply (wp_dmaLocal (countersEmb (U := U)) (c := (c : Thread nD τ)) Variants.none none (sm := .dma sem) () N hN (hN ▸ dst.view.dmaCredit_pos hN0)
    (Finset.Subset.refl _)) $$ H
  iintro H
  iapply Hk
  iapply (Flight_mono (countersEmb (U := U)) _ (sep_mono_left (pt_congr (fun i hi => ?_)))) $$ H
  obtain ⟨x, -, rfl⟩ := Finset.mem_map.mp hi
  have h := hG x
  rw [View.read_apply] at h
  rw [View.write_emb_of_mem _ _ (Finset.mem_univ x), ReadAs.apply_same, ← h]
  simp

/-- A wait for a transfer started before. -/
theorem rule_wait [CountersIn U] {sp sp' : Space} {s s' : Shape} {e e' : EltTy} {src : Memref sig .tc sp' s' e'} {dst : Memref sig .tc sp s e}
    {sem : DmaSem sig} {hsrc : src.view.WordExact} {hdst : dst.view.WordExact}
    {k : PUnit → Prog (TpuEff nD τ sig Val Λ .tc) α} {Q : α → sProp 𝕄} {N : ℕ} {D : sProp 𝕄} (hN : dst.view.dmaCredit = N) :
    iprop(Flight (countersEmb (U := U)) (c : Thread nD τ) (.dma sem) () N D ∗ (∃ W, owes (c : Thread nD τ) 0 W))
      ⊢ iprop((D ∗ semVal ((c : Thread nD τ), .dma sem) 0 ∗ (∃ W, owes (c : Thread nD τ) 0 W) -∗ run (U := U) defs c (k ⟨⟩) Q)
          -∗ run (U := U) defs c (Prog.lift (.waitDma2 sem src dst hsrc hdst) >>= k) Q) := by
  iintro ⟨HF, %W, HO⟩ Hk
  iapply (wp_waitLocal (countersEmb (U := U)) (c := (c : Thread nD τ)) Variants.none none () hN) $$ [HF HO]
  · isplitl [HF] <;> iassumption
  iintro ⟨HD, HV, HO⟩
  iapply Hk
  isplitl [HD]; · iexact HD
  isplitl [HV]; · iexact HV
  iexists _; iexact HO

/-- A counted loop at the head of a program, by an invariant. -/
theorem rule_for {σ β : Type} {w : Nat} (l : Scf.Loop w) {hok : l.OK} {init : σ} {body : Fin l.trips → σ → Prog (TpuEff nD τ sig Val Λ .tc) σ}
    (I : ℕ → σ → sProp 𝕄) (hbody : ∀ (k : Fin l.trips) (acc : σ), I k.val acc ⊢ run (U := U) defs c (body k acc) (I (k.val + 1)))
    {kk : σ → Prog (TpuEff nD τ sig Val Λ .tc) β} {Q : β → sProp 𝕄} :
    I 0 init ⊢ iprop((∀ acc, I l.trips acc -∗ run (U := U) defs c (kk acc) Q) -∗ run (U := U) defs c (Scf.Loop.for l hok init body >>= kk) Q) :=
  Scf.wp_for_bind _ _ _ l.lb l.ub l.st hok init body I hbody

/-- A value returned. -/
theorem rule_ret {a : α} {Q : α → sProp 𝕄} : Q a ⊢ run (U := U) defs c (pure a : Prog (TpuEff nD τ sig Val Λ .tc) α) Q := by
  unfold run; rw [wp_pure]; iintro H; imodintro; iexact H

/-- A program run for its value, the rest after it. -/
theorem rule_bind {β : Type} {p : Prog (TpuEff nD τ sig Val Λ .tc) β} {k : β → Prog (TpuEff nD τ sig Val Λ .tc) α} {Q : α → sProp 𝕄} :
    run (U := U) defs c p (fun x => run (U := U) defs c (k x) Q) ⊢ (run (U := U) defs c (p >>= k) Q : sProp 𝕄) := by
  unfold run; rw [wp_bind]

end Rules

end Cert.Disp

end
-- ==== Proof.KVals.lean ====
/-
  What the kernel computes, buffer by buffer, as functions of its four inputs.

  A tensor is read at natural coordinates (`atN`, reduced modulo the sizes, so that no bound has to be carried); every buffer the
  kernel fills is a function of the coordinates of its elements.
-/
module

public import proofs.«01_k».proof.Proof.Gen.Kernel.Skeleton
public import proofs.«01_k».proof.Proof.Base

@[expose] public section

noncomputable section

namespace Cert.Kernel.Disp

open Cert.Disp Cert.Kernel Cert.Kernel.Gen
open Idealize.ShloMosaic

/-- A tensor at natural coordinates. -/
def atN {s : Shape} {α : Type} (h : ∀ a, 0 < s.size a) (f : s.Idx → α) (v : Fin s.rank → ℕ) : α :=
  f fun a => ⟨v a % s.size a, Nat.mod_lt _ (h a)⟩

theorem atN_eq {s : Shape} {α : Type} (h : ∀ a, 0 < s.size a) (f : s.Idx → α) {v : Fin s.rank → ℕ} {i : s.Idx} (hv : ∀ a, v a = i a) :
    atN h f v = f i := by
  unfold atN
  congr 1
  funext a
  exact Fin.ext ((congrArg (· % s.size a) (hv a)).trans (Nat.mod_eq_of_lt (i a).isLt))

variable {F : FTy → Type} [FloatOps F]

/-- The four inputs as the kernel reads them: tokens in groups of eight, routing indices and gates with the two choices as rows,
    and the norm weights as a row. -/
structure Ins (F : FTy → Type) where
  x : Vec F S192x8x5120 .bf16
  ix : Vec F S6x2x256 .i32
  ga : Vec F S6x2x256 .f32
  w : Vec F S1x5120 .f32

variable (I : Ins F)

/-! ## The inputs on the core -/

/-- Token row `r` of group `G` at column `c`. -/
def xN (G r c : ℕ) : Elt F .bf16 := atN (by decide) I.x ![G, r, c]
def wN (c : ℕ) : Elt F .f32 := atN (by decide) I.w ![0, c]
def ixN (b j t : ℕ) : Elt F .i32 := atN (by decide) I.ix ![b, j, t]
def gaN (b j t : ℕ) : Elt F .f32 := atN (by decide) I.ga ![b, j, t]

/-- The tokens in the core's memory: 24 blocks of 8 groups. -/
def XV : Vec F S24x8x8x5120 .bf16 := fun i => xN I (8 * (i 0 : ℕ) + i 1) (i 2) (i 3)

/-- The norm weights, the routing indices and the gates by coordinates. -/
def WV : Vec F S1x5120 .f32 := fun i => wN I (i 1)
def IXV : Vec F S6x2x256 .i32 := fun i => ixN I (i 0) (i 1) (i 2)
def GAV : Vec F S6x2x256 .f32 := fun i => gaN I (i 0) (i 1) (i 2)

theorem WV_eq : WV I = I.w := funext fun i => atN_eq (by decide) _ fun a => by
  have h : (i 0 : ℕ) < 1 := (i 0).isLt
  fin_cases a
  · show 0 = (i 0 : ℕ); omega
  · rfl
theorem IXV_eq : IXV I = I.ix := funext fun i => atN_eq (by decide) _ fun a => by fin_cases a <;> rfl
theorem GAV_eq : GAV I = I.ga := funext fun i => atN_eq (by decide) _ fun a => by fin_cases a <;> rfl

def xT (G k : ℕ) : Vec F S1x1x8x256 .bf16 := fun y => xN I G (y 2) (256 * k + y 3)
def wT (k : ℕ) : Vec F S1x256 .f32 := fun y => wN I (256 * k + y 1)
def xT4 (G n : ℕ) : Vec F S1x4x8x256 .bf16 := fun y => xN I (G + y 1) (y 2) (256 * n + y 3)
def wT2 (m : ℕ) : Vec F S1x128 .f32 := fun y => wN I (128 * m + y 1)
def ixR (b j : ℕ) : Vec F S1x1x256 .i32 := fun y => ixN I b j (y 2)
def gaR (b j : ℕ) : Vec F S1x1x256 .f32 := fun y => gaN I b j (y 2)

/-! ## A group's statistics -/

/-- Sum of squares and largest weighted magnitude, lane by lane, after `k` column tiles. -/
def stat (G : ℕ) : ℕ → FVec F S8x128 .f32 × FVec F S8x128 .f32
  | 0 => (k0_pay21, k0_pay21)
  | k + 1 => (k0_pay23 (stat G k).1 (xT I G k), k0_pay24 (stat G k).2 (xT I G k) (wT I k))

/-- The factor each row of a group is multiplied by. -/
def rG (G : ℕ) : FVec F S1x8x128 .f32 :=
  k0_pay35 (k0_pay25 (stat I G 20).1) (k0_pay27 (stat I G 20).1 (stat I G 20).2) (k0_pay28 (stat I G 20).1 (stat I G 20).2) k0_pay29
def rN (G r l : ℕ) : Elt F .f32 := atN (by decide) (rG I G) ![0, r, l]
/-- The factors of block `i`'s eight groups. -/
def RV (i : ℕ) : Vec F S8x8x128 .f32 := fun y => rN I (8 * i + (y 0 : ℕ)) (y 1) (y 2)
def rT4 (G : ℕ) : Vec F S4x8x128 .f32 := fun y => rN I (G + (y 0 : ℕ)) (y 1) (y 2)

/-- A block's number within its sequence. -/
def blk (k : ℕ) : Fin k0_t3_loop.trips := ⟨k % k0_t3_loop.trips, Nat.mod_lt _ (by decide)⟩

/-- The scales laid out over lanes, after `g` groups of block `k` of sequence `b`. -/
def lane (b k : ℕ) (acc : FVec F S8x128 .f32) : ℕ → FVec F S8x128 .f32
  | 0 => k0_pay33 0#32 1#32 (blk k) acc
  | g + 1 => k0_pay36 0#32 1#32 (blk k) (lane b k acc g) (Scf.iv 0#32 1#32 g)
      (k0_pay27 (stat I (8 * (4 * b + k) + g) 20).1 (stat I (8 * (4 * b + k) + g) 20).2)
      (k0_pay28 (stat I (8 * (4 * b + k) + g) 20).1 (stat I (8 * (4 * b + k) + g) 20).2) k0_pay29
/-- The same after `k` blocks of sequence `b`. -/
def accB (b : ℕ) : ℕ → FVec F S8x128 .f32
  | 0 => k0_pay67
  | k + 1 => lane I b k (accB b k) 8

/-! ## Token scales -/

/-- Token `c` of sequence `b`'s scale. -/
def tsN (b c : ℕ) : Elt F .f32 :=
  atN (s := S6x128) (by decide) (k0_pay37 (accB I b (2 * (c / 128) + 2)) (fun _ => atN (by decide) (k0_pay66 (F := F)) ![0, 0])) ![0, c % 128]
/-- The scales as stored after `m` half sequences. -/
def TSat (m : ℕ) : Vec F S6x256 .f32 := fun i => if 2 * (i 0 : ℕ) + (i 1 : ℕ) / 128 < m then tsN I (i 0) (i 1) else k0_pay66 i

/-! ## Token codes -/

/-- Four groups' codes for 128 columns. -/
def codeT (G m : ℕ) : FVec F S1x32x128 .fp8e4m3 :=
  if m % 2 = 0 then k0_pay31 (xT4 I G (m / 2)) (wT2 I m) (rT4 I G)
  else k0_pay38 (wT2 I m) (k0_pay32 (xT4 I G (m / 2))) (rT4 I G)
def codeN (b r c : ℕ) : Elt F .fp8e4m3 := atN (by decide) (codeT I (4 * (8 * b + r / 32)) (c / 128)) ![0, r % 32, c % 128]
def CODES : Vec F S6x256x5120 .fp8e4m3 := fun i => codeN I (i 0) (i 1) (i 2)
def codeR (b n : ℕ) : Vec F S1x256x256 .fp8e4m3 := fun y => codeN I b (y 1) (256 * n + y 2)

/-! ## Routing -/

def pos0 (b : ℕ) : IVec S1x256 32 := k0_pay6 (F := F) k0_pay64 (ixR I b 0) (ixR I b 1)
def pos1 (b : ℕ) : IVec S1x256 32 := k0_pay7 (F := F) k0_pay64 (ixR I b 0) (ixR I b 1)
def kp0 (b : ℕ) : IVec S1x256 1 := k0_pay8 (F := F) k0_pay64 (ixR I b 0) (ixR I b 1)
def kp1 (b : ℕ) : IVec S1x256 1 := k0_pay9 (F := F) k0_pay64 (ixR I b 0) (ixR I b 1)

def posN (b j t : ℕ) : Elt F .i32 := atN (s := S1x1x256) (by decide) (if j = 0 then k0_pay10 (pos0 I b) else k0_pay11 (pos1 I b)) ![0, 0, t]
def POS : Vec F S6x2x256 .i32 := fun i => posN I (i 0) (i 1) (i 2)
def posR (b j : ℕ) : Vec F S1x1x256 .i32 := fun y => posN I b j (y 2)

def keepN (j b t : ℕ) : Elt F .i32 := atN (s := S1x1x256) (by decide) (if j = 0 then k0_pay12 (kp0 I b) else k0_pay13 (kp1 I b)) ![0, 0, t]
def KEEP : Vec F S2x6x256 .i32 := fun i => keepN I (i 0) (i 1) (i 2)

def combN (b j t : ℕ) : Elt F .f32 :=
  atN (s := S1x1x256) (by decide) (if j = 0 then k0_pay17 (kp0 I b) (gaR I b 0) (gaR I b 1) else k0_pay19 (k0_pay18 (kp1 I b) (gaR I b 0) (gaR I b 1))) ![0, 0, t]
def COMB : Vec F S6x2x256 .f32 := fun i => combN I (i 0) (i 1) (i 2)

def pickN (b p t : ℕ) : Elt F .i32 :=
  atN (s := S1x160x256) (by decide)
    (k0_pay65 (k0_pay20 (k0_pay1 (F := F) (ixR I b 0)) (k0_pay2 (F := F) (ixR I b 1)) (pos0 I b) (pos1 I b) (kp0 I b) (kp1 I b))) ![0, p, t]
def PICK : Vec F S6x160x256 .i32 := fun i => pickN I (i 0) (i 1) (i 2)
def pickR (b : ℕ) : Vec F S1x160x256 .i32 := fun y => pickN I b (y 1) (y 2)

/-! ## The expert buffers -/

/-- Sequence `b`'s buffers, 256 columns. -/
def bufT (b n : ℕ) : FVec F S1x16x40x256 .fp8e4m3 := k0_pay59 (k0_pay57 (F := F) (pickR I b)) (codeR I b n)
def bufN (b e s c : ℕ) : Elt F .fp8e4m3 := atN (by decide) (bufT I b (c / 256)) ![0, e, s, c % 256]
def BUF : Vec F S6x16x40x5120 .fp8e4m3 := fun i => bufN I (i 0) (i 1) (i 2) (i 3)

def seq8 (b : ℕ) : Fin k0_t8_loop.trips := ⟨b % k0_t8_loop.trips, Nat.mod_lt _ (by decide)⟩

def bsT (b : ℕ) : FVec F S1x16x40 .f32 :=
  if b = 0 then
    k0_pay70 (k0_pay68 (iota .tc S16x256 32 [0] iota_S16x256_d0_w32) (TSat I 2) (ixR I 0 0) (ixR I 0 1))
      (k0_pay69 (iota .tc S40x256 32 [0] iota_S40x256_d0_w32) (posR I 0 0) (posR I 0 1)) (constant S16x40 .f32 0x00000000#32)
  else
    k0_pay71 (iota .tc S40x256 32 [0] iota_S40x256_d0_w32) (k0_pay61 1#32 1#32 (seq8 (b - 1)) (TSat I (2 * b + 2)) (ixR I b 0))
      (k0_pay62 (F := F) (posR I b 0)) (k0_pay63 1#32 1#32 (seq8 (b - 1)) (TSat I (2 * b + 2)) (ixR I b 1)) (posR I b 1)
def bsN (b e s : ℕ) : Elt F .f32 := atN (by decide) (bsT I b) ![0, e, s]
def BS : Vec F S6x16x40 .f32 := fun i => bsN I (i 0) (i 1) (i 2)

/-- The token scales once every sequence is done. -/
abbrev TS : Vec F S6x256 .f32 := TSat I 12

/-- A piece of the kernel on the buffers and semaphores it is launched on. -/
abbrev app {β : Type _} (f : ∀ (arg0 : Memref sig .tc .hbm S192x8x5120 .bf16) (harg0 : arg0.IsWhole) (arg1 : Memref sig .tc .hbm S6x2x256 .i32) (harg1 : arg1.IsWhole) (arg2 : Memref sig .tc .hbm S6x2x256 .f32) (harg2 : arg2.IsWhole) (arg3 : Memref sig .tc .hbm S1x5120 .f32) (harg3 : arg3.IsWhole) (arg4 : Memref sig .tc .hbm S6x16x40x5120 .fp8e4m3) (harg4 : arg4.IsWhole) (arg5 : Memref sig .tc .hbm S6x16x40 .f32) (harg5 : arg5.IsWhole) (arg6 : Memref sig .tc .hbm S6x2x256 .f32) (harg6 : arg6.IsWhole) (arg7 : Memref sig .tc .hbm S6x2x256 .i32) (harg7 : arg7.IsWhole) (arg8 : Memref sig .tc .hbm S2x6x256 .i32) (harg8 : arg8.IsWhole) (arg9 : Memref sig .tc .hbm S6x256x5120 .fp8e4m3) (harg9 : arg9.IsWhole) (arg10 : Memref sig .tc .hbm S6x256 .f32) (harg10 : arg10.IsWhole) (arg11 : Memref sig .tc .vmem S24x8x8x5120 .bf16) (harg11 : arg11.IsWhole) (arg12 : Memref sig .tc .vmem S6x2x256 .i32) (harg12 : arg12.IsWhole) (arg13 : Memref sig .tc .vmem S6x2x256 .f32) (harg13 : arg13.IsWhole) (arg14 : Memref sig .tc .vmem S1x5120 .f32) (harg14 : arg14.IsWhole) (arg15 : Memref sig .tc .vmem S6x160x256 .i32) (harg15 : arg15.IsWhole) (arg16 : Memref sig .tc .vmem S8x8x128 .f32) (harg16 : arg16.IsWhole) (arg17 : Memref sig .tc .vmem S6x256x5120 .fp8e4m3) (harg17 : arg17.IsWhole) (arg18 : Memref sig .tc .vmem S6x16x40x5120 .fp8e4m3) (harg18 : arg18.IsWhole) (arg19 : Memref sig .tc .vmem S6x16x40 .f32) (harg19 : arg19.IsWhole) (arg20 : Memref sig .tc .vmem S6x2x256 .f32) (harg20 : arg20.IsWhole) (arg21 : Memref sig .tc .vmem S6x2x256 .i32) (harg21 : arg21.IsWhole) (arg22 : Memref sig .tc .vmem S2x6x256 .i32) (harg22 : arg22.IsWhole) (arg23 : Memref sig .tc .vmem S6x256 .f32) (harg23 : arg23.IsWhole) (arg24 : DmaSems sig S24) (arg25 : DmaSems sig S3) (arg26 : DmaSems sig S24) (arg27 : DmaSems sig S24) (arg28 : DmaSems sig S5), β) : β :=
  f (Memref.whole main_v0) (Memref.isWhole_whole _) (Memref.whole main_v1) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole main_v4_5) (Memref.isWhole_whole _) (Memref.whole main_v4_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17

/-! ## The buffers of the core -/

/-- The tokens. -/
abbrev bX : Ref sig .tc := VB 0 rfl
/-- The routing indices. -/
abbrev bIx : Ref sig .tc := VB 1 rfl
/-- The gates. -/
abbrev bGa : Ref sig .tc := VB 2 rfl
/-- The norm weights. -/
abbrev bW : Ref sig .tc := VB 3 rfl
/-- The slot of each buffer row. -/
abbrev bPick : Ref sig .tc := VB 4 rfl
/-- The row factors. -/
abbrev bR : Ref sig .tc := VB 5 rfl
/-- The codes. -/
abbrev bCode : Ref sig .tc := VB 6 rfl
/-- The expert buffers. -/
abbrev bBuf : Ref sig .tc := VB 7 rfl
/-- The buffer scales. -/
abbrev bBs : Ref sig .tc := VB 8 rfl
/-- The combine weights. -/
abbrev bComb : Ref sig .tc := VB 9 rfl
/-- The positions. -/
abbrev bPos : Ref sig .tc := VB 10 rfl
/-- The kept flags. -/
abbrev bKeep : Ref sig .tc := VB 11 rfl
/-- The token scales. -/
abbrev bTs : Ref sig .tc := VB 12 rfl

end Cert.Kernel.Disp

end
-- ==== Proof.KStat.lean ====
/-
  A group's statistics: the loop over its column tiles.
-/
module

public import proofs.«01_k».proof.Proof.KVals

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Elements of a buffer of the core. -/
abbrev own (c : Dev nD) (b : Ref sig .tc) (S : Finset (Idx ((Memref.whole b).view.loc (c : Thread nD τ)))) (q : PosShare TreeShare)
    (f : Buf (Elt F) ((Memref.whole b).view.loc (c : Thread nD τ))) : sProp 𝕄 := held (U := Pipeline.UD sig nD τ) c b S q f

/-- A piece of the kernel run on the core. -/
abbrev kr {α : Type} (c : Dev nD) (p : Prog (TpuEff nD τ sig (Elt F) Λ₀ .tc) α) (Q : α → sProp 𝕄) : sProp 𝕄 :=
  run (U := Pipeline.UD sig nD τ) (defs₀ (F := F)) c p Q

/-- The block a group of the token buffer belongs to. -/
def κx (i : S24x8x8x5120.Idx) : ℕ := i 0

variable (I : Ins F) (c : Dev nD)

theorem xT_load (t3 : Fin k0_t3_loop.trips) (t4 : Fin k0_t4_loop.trips) (t5 : Fin k0_t5_loop.trips) :
    (fun y => XV I ((Rect.unit (s := S24x8x8x5120) (k0_off12 t3 t4 t5) S1x1x8x256.size (k0_off12_inb t3 t4 t5)).emb y)) = xT I (8 * t3.val + t4.val) t5.val :=
  (rd4 (k0_off12_eq t3 t4 t5) fun a b r c => xN I (8 * a + b) r c).trans <| funext fun y => by
    have y0 : (y 0 : ℕ) < 1 := (y 0).isLt
    have y1 : (y 1 : ℕ) < 1 := (y 1).isLt
    unfold xT; congr 1 <;> omega

theorem wT_load (t5 : Fin k0_t5_loop.trips) :
    (fun y => WV I ((Rect.unit (s := S1x5120) (k0_off13 t5) S1x256.size (k0_off13_inb t5)).emb y)) = wT I t5.val :=
  (rd2 (k0_off13_eq t5) fun _ c => wN I c)

theorem t5_body_run (t3 : Fin k0_t3_loop.trips) (t4 : Fin k0_t4_loop.trips) (v96 c0 c1 : BitVec 32) (t5 : Fin k0_t5_loop.trips)
    (acc : FVec F S8x128 .f32 × FVec F S8x128 .f32) :
    iprop(⌜acc = stat I (8 * t3.val + t4.val) t5.val⌝ ∗ own c bX (Btw κx 0 (t3.val + 1)) fullShare (XV I) ∗ own c bW Finset.univ fullShare (WV I))
      ⊢ kr c (app (k0_t5_body (F := F)) t3 v96 c0 c1 t4 t5 acc) fun acc' =>
        iprop(⌜acc' = stat I (8 * t3.val + t4.val) (t5.val + 1)⌝ ∗ own c bX (Btw κx 0 (t3.val + 1)) fullShare (XV I) ∗ own c bW Finset.univ fullShare (WV I)) := by
  obtain ⟨a₁, a₂⟩ := acc
  iintro ⟨%h, HX, HW⟩
  unfold app k0_t5_body
  iapply (rule_load 0 rfl (fun i hi => by
    have := (mem_unit (k0_off12_eq t3 t4 t5)).1 hi 0
    rw [mem_Btw]; dsimp [κx] at *; omega)) $$ HX
  iintro HX
  iapply (rule_load 3 rfl (fun i hi => Finset.mem_univ i)) $$ HW
  iintro HW
  iapply rule_ret
  isplitr
  · ipureintro
    exact congrArg₂ Prod.mk (congrArg₂ k0_pay23 (congrArg Prod.fst h) (xT_load I t3 t4 t5))
      (congr (congrArg₂ k0_pay24 (congrArg Prod.snd h) (xT_load I t3 t4 t5)) (wT_load I t5))
  isplitl [HX] <;> iassumption

/-- The loop over the 20 column tiles leaves the group's statistics. -/
theorem t5_run (t3 : Fin k0_t3_loop.trips) (t4 : Fin k0_t4_loop.trips) (v96 c0 c1 : BitVec 32)
    {α : Type} {kk : FVec F S8x128 .f32 × FVec F S8x128 .f32 → Prog (TpuEff nD τ sig (Elt F) Λ₀ .tc) α} {Q : α → sProp 𝕄} :
    iprop(own c bX (Btw κx 0 (t3.val + 1)) fullShare (XV I) ∗ own c bW Finset.univ fullShare (WV I))
      ⊢ iprop((own c bX (Btw κx 0 (t3.val + 1)) fullShare (XV I) ∗ own c bW Finset.univ fullShare (WV I) -∗ kr c (kk (stat I (8 * t3.val + t4.val) 20)) Q)
        -∗ kr c (Scf.Loop.for k0_t5_loop k0_t5_ok (k0_pay21, k0_pay21) (app (k0_t5_body (F := F)) t3 v96 c0 c1 t4) >>= kk) Q) := by
  iintro H Hk
  iapply (rule_for k0_t5_loop (fun k acc => iprop(⌜acc = stat I (8 * t3.val + t4.val) k⌝ ∗ own c bX (Btw κx 0 (t3.val + 1)) fullShare (XV I) ∗ own c bW Finset.univ fullShare (WV I)))
    (fun k acc => t5_body_run I c t3 t4 v96 c0 c1 k acc)) $$ [H]
  · isplitr
    · ipureintro; rfl
    · iexact H
  iintro %acc ⟨%h, H⟩
  subst h
  iapply Hk; iexact H

end Cert.Kernel.Disp

end
-- ==== Proof.KDma.lean ====
/-
  The transfers of the kernel: which elements each moves, and what arrives.
-/
module

public import proofs.«01_k».proof.Proof.KStat

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-- DMA semaphore `n` of the core. -/
def sm (n : ℕ) : DmaSem sig := ⟨n % sig.nDmaSem, Nat.mod_lt _ (by decide)⟩

/-- A semaphore of the core at zero. -/
abbrev sem0 (c : Dev nD) (n : ℕ) : sProp 𝕄 := semVal ((c : Thread nD τ), .dma (sm n)) 0

/-- A transfer under way on semaphore `n`, with what its wait returns. -/
abbrev fly (c : Dev nD) (n N : ℕ) (D : sProp 𝕄) : sProp 𝕄 := Flight (countersEmb (U := Pipeline.UD sig nD τ)) (c : Thread nD τ) (.dma (sm n)) () N D

/-- The semaphore at an offset of an array of 24. -/
abbrev sem24 (a : DmaSems sig S24) (off : Fin 1 → ℕ) (inb : ∀ i, off i + S1.size i ≤ S24.size i) : DmaSem sig :=
  ((a.slice (Rect.unit (s := S24) off S1.size inb)).squeeze S_ squeezes_S1_S_).sem

theorem sem24_eq {a : DmaSems sig S24} {n₀ : ℕ} (h : ∀ j : Fin 24, sem24 a ![j.val] (fun i => by fin_cases i; show j.val + 1 ≤ 24; omega) = sm (n₀ + j.val))
    {off : Fin 1 → ℕ} {inb} {j : ℕ} (ho : off = ![j]) : sem24 a off inb = sm (n₀ + j) := by
  subst ho
  have hj : j < 24 := by have := inb 0; simp at this; omega
  exact h ⟨j, hj⟩

theorem sem_x {off : Fin 1 → ℕ} {inb} {j : ℕ} (ho : off = ![j]) : sem24 cc0_scratch13 off inb = sm (0 + j) :=
  sem24_eq (by decide +kernel) ho
theorem sem_tok {off : Fin 1 → ℕ} {inb} {j : ℕ} (ho : off = ![j]) : sem24 cc0_scratch15 off inb = sm (27 + j) :=
  sem24_eq (by decide +kernel) ho
theorem sem_buf {off : Fin 1 → ℕ} {inb} {j : ℕ} (ho : off = ![j]) : sem24 cc0_scratch16 off inb = sm (51 + j) :=
  sem24_eq (by decide +kernel) ho

/-! ## Tokens in -/

/-- The block a group of tokens belongs to, in the array outside the core. -/
def κh (i : S192x8x5120.Idx) : ℕ := (i 0 : ℕ) / 8

abbrev xDst (off : Fin 4 → ℕ) (inb : ∀ i, off i + S1x8x8x5120.size i ≤ S24x8x8x5120.size i) : Memref sig .tc .vmem S8x8x5120 .bf16 :=
  ((Memref.whole cc0_scratch0).slice (Rect.unit (s := S24x8x8x5120) off S1x8x8x5120.size inb) (fun _ => rfl)).squeeze S8x8x5120 squeezes_S1x8x8x5120_S8x8x5120
abbrev xSrc (off : Fin 3 → ℕ) (inb : ∀ i, off i + S8x8x5120.size i ≤ S192x8x5120.size i) : Memref sig .tc .hbm S8x8x5120 .bf16 :=
  (Memref.whole main_v0).slice (Rect.unit (s := S192x8x5120) off S8x8x5120.size inb) (fun _ => rfl)

/-- The credit of a block of tokens. -/
def Nx : ℕ := (xDst ![0, 0, 0, 0] (by decide)).view.dmaCredit

/-- Block `j` on its way in. -/
abbrev flyX (j : ℕ) : sProp 𝕄 :=
  fly c (0 + j) Nx iprop(own c bX (Btw κx j (j + 1)) fullShare (XV I) ∗ own c main_v0 (Btw κh j (j + 1)) fullShare I.x)

theorem xDst_set {off : Fin 4 → ℕ} {inb} {j : ℕ} (ho : off = ![j, 0, 0, 0]) : (xDst off inb).view.set = Btw κx j (j + 1) := by
  refine (View.set_reshape _ _).trans ((View.set_slice_whole _ _).trans (Finset.ext fun i => ?_))
  refine (mem4 ho).trans (Iff.trans ?_ mem_Btw.symm)
  have h1 : (i 1 : ℕ) < 8 := (i 1).isLt
  have h2 : (i 2 : ℕ) < 8 := (i 2).isLt
  have h3 : (i 3 : ℕ) < 5120 := (i 3).isLt
  show (j ≤ (i 0 : ℕ) ∧ (i 0 : ℕ) < j + 1) ∧ (0 ≤ (i 1 : ℕ) ∧ (i 1 : ℕ) < 0 + 8) ∧ (0 ≤ (i 2 : ℕ) ∧ (i 2 : ℕ) < 0 + 8) ∧ (0 ≤ (i 3 : ℕ) ∧ (i 3 : ℕ) < 0 + 5120)
    ↔ j ≤ (i 0 : ℕ) ∧ (i 0 : ℕ) < j + 1
  omega

theorem xSrc_set {off : Fin 3 → ℕ} {inb} {j : ℕ} (ho : off = ![8 * j, 0, 0]) : (xSrc off inb).view.set = Btw κh j (j + 1) := by
  refine (View.set_slice_whole _ _).trans (Finset.ext fun i => ?_)
  refine (mem3 ho).trans (Iff.trans ?_ mem_Btw.symm)
  have h1 : (i 1 : ℕ) < 8 := (i 1).isLt
  have h2 : (i 2 : ℕ) < 5120 := (i 2).isLt
  show (8 * j ≤ (i 0 : ℕ) ∧ (i 0 : ℕ) < 8 * j + 8) ∧ (0 ≤ (i 1 : ℕ) ∧ (i 1 : ℕ) < 0 + 8) ∧ (0 ≤ (i 2 : ℕ) ∧ (i 2 : ℕ) < 0 + 5120)
    ↔ j ≤ (i 0 : ℕ) / 8 ∧ (i 0 : ℕ) / 8 < j + 1
  omega

theorem x_val {off : Fin 4 → ℕ} {off' : Fin 3 → ℕ} {inb inb'} {j : ℕ} (ho : off = ![j, 0, 0, 0]) (ho' : off' = ![8 * j, 0, 0]) (y : S8x8x5120.Idx) :
    (xDst off inb).view.read (Elt F) (XV I) y = (xSrc off' inb').view.read (Elt F) I.x y := by
  show XV I ((Rect.unit (s := S24x8x8x5120) off S1x8x8x5120.size inb).emb (Shape.reshapeEquiv _ y)) = I.x ((Rect.unit (s := S192x8x5120) off' S8x8x5120.size inb').emb y)
  rw [Shape.reshapeEquiv_cons_one]
  refine (congrFun (rd4 ho fun a b r q => xN I (8 * a + b) r q) _).trans (atN_eq (by decide) _ fun a => ?_)
  rw [emb_val ho']
  match a with
  | 0 => show 8 * (j + 0) + (0 + (y 0 : ℕ)) = 8 * j + y 0; omega
  | 1 => rfl
  | 2 => rfl

/-- A block of tokens started on its way in. -/
theorem x_start {off : Fin 4 → ℕ} {off' : Fin 3 → ℕ} {offs : Fin 1 → ℕ} {inb inb' inbs} {j : ℕ} (hs : offs = ![j]) (ho : off = ![j, 0, 0, 0])
    (ho' : off' = ![8 * j, 0, 0]) {hsrc : (xSrc off' inb').view.WordExact} {hdst : (xDst off inb).view.WordExact}
    {hsem : DmaTarget.Typed (nD := nD) .hbm (.dma (sem24 cc0_scratch13 offs inbs)) (.here (p := .tc) (xDst off inb))}
    {α : Type} {kk : PUnit → Prog (TpuEff nD τ sig (Elt F) Λ₀ .tc) α} {Q : α → sProp 𝕄} :
    iprop(own c main_v0 (Btw κh j (j + 1)) fullShare I.x ∗ (∃ f, own c bX (Btw κx j (j + 1)) fullShare f) ∗ sem0 (F := F) c (0 + j))
      ⊢ iprop((flyX I c j -∗ kr c (kk ⟨⟩) Q)
        -∗ kr c (Prog.lift (.enqueueDma (xSrc off' inb') (.here (xDst off inb)) (.dma (sem24 cc0_scratch13 offs inbs)) hsrc hdst hsem) >>= kk) Q) := by
  generalize hm : sem24 cc0_scratch13 offs inbs = m at hsem
  obtain rfl : m = sm (0 + j) := hm.symm.trans (sem_x hs)
  iintro ⟨H1, ⟨%f, H2⟩, H3⟩
  iapply (rule_dma (U := Pipeline.UD sig nD τ) (c := c) (src := xSrc off' inb') (dst := xDst off inb) (fd := f) (G := XV I) (fs := I.x) (q := fullShare) Nx (by subst ho; rfl)
    (by decide) (xSrc_set ho') (xDst_set ho) (fun y => x_val I ho ho' y)) $$ [H1 H2 H3]
  isplitl [H1]; · iexact H1
  isplitl [H2]; · iexact H2
  iexact H3

/-- The wait for a block of tokens. -/
theorem x_wait {off : Fin 4 → ℕ} {off' : Fin 3 → ℕ} {offs : Fin 1 → ℕ} {inb inb' inbs} {j : ℕ} (hs : offs = ![j])
    {hsrc : (xSrc off' inb').view.WordExact} {hdst : (xDst off inb).view.WordExact}
    {α : Type} {kk : PUnit → Prog (TpuEff nD τ sig (Elt F) Λ₀ .tc) α} {Q : α → sProp 𝕄} :
    iprop(flyX I c j ∗ (∃ W, owes (c : Thread nD τ) 0 W))
      ⊢ iprop(((own c bX (Btw κx j (j + 1)) fullShare (XV I) ∗ own c main_v0 (Btw κh j (j + 1)) fullShare I.x) ∗ sem0 (F := F) c (0 + j) ∗ (∃ W, owes (c : Thread nD τ) 0 W)
          -∗ kr c (kk ⟨⟩) Q)
        -∗ kr c (Prog.lift (.waitDma2 (sem24 cc0_scratch13 offs inbs) (xSrc off' inb') (xDst off inb) hsrc hdst) >>= kk) Q) := by
  rw [sem_x hs]
  exact rule_wait (U := Pipeline.UD sig nD τ) (c := c) (src := xSrc off' inb') (dst := xDst off inb) rfl

/-! ## Token codes out -/

/-- A code's number: which four groups and which 128 columns, in the order they are computed. -/
def κc (i : S6x256x5120.Idx) : ℕ := (8 * (i 0 : ℕ) + (i 1 : ℕ) / 32) * 40 + (i 2 : ℕ) / 128
/-- The block a code belongs to. -/
def κt (i : S6x256x5120.Idx) : ℕ := 4 * (i 0 : ℕ) + (i 1 : ℕ) / 64

abbrev tDst (off : Fin 3 → ℕ) (inb : ∀ i, off i + S1x64x5120.size i ≤ S6x256x5120.size i) : Memref sig .tc .hbm S64x5120 .fp8e4m3 :=
  ((Memref.whole main_v4_5).slice (Rect.unit (s := S6x256x5120) off S1x64x5120.size inb) (fun _ => rfl)).squeeze S64x5120 squeezes_S1x64x5120_S64x5120
abbrev tSrc (off : Fin 3 → ℕ) (inb : ∀ i, off i + S1x64x5120.size i ≤ S6x256x5120.size i) : Memref sig .tc .vmem S64x5120 .fp8e4m3 :=
  ((Memref.whole cc0_scratch6).slice (Rect.unit (s := S6x256x5120) off S1x64x5120.size inb) (fun _ => rfl)).squeeze S64x5120 squeezes_S1x64x5120_S64x5120

def Nt : ℕ := (tDst ![0, 0, 0] (by decide)).view.dmaCredit

/-- Block `j`'s codes on their way out. -/
abbrev flyT (j : ℕ) : sProp 𝕄 :=
  fly c (27 + j) Nt iprop(own c main_v4_5 (Btw κt j (j + 1)) fullShare (CODES I) ∗ own c bCode (Btw κc (80 * j) (80 * (j + 1))) fullShare.right (CODES I))

theorem tBox {b k : ℕ} {off : Fin 3 → ℕ} {inb : ∀ i, off i + S1x64x5120.size i ≤ S6x256x5120.size i} (ho : off = ![b, 64 * k, 0]) (hk : k < 4) {i : S6x256x5120.Idx} :
    i ∈ (Rect.unit (s := S6x256x5120) off S1x64x5120.size inb).set ↔ (i 0 : ℕ) = b ∧ (i 1 : ℕ) / 64 = k := by
  refine (mem3 ho).trans ?_
  have h1 : (i 1 : ℕ) < 256 := (i 1).isLt
  have h2 : (i 2 : ℕ) < 5120 := (i 2).isLt
  show (b ≤ (i 0 : ℕ) ∧ (i 0 : ℕ) < b + 1) ∧ (64 * k ≤ (i 1 : ℕ) ∧ (i 1 : ℕ) < 64 * k + 64) ∧ (0 ≤ (i 2 : ℕ) ∧ (i 2 : ℕ) < 0 + 5120) ↔ _
  omega

theorem tDst_set {b k : ℕ} {off : Fin 3 → ℕ} {inb} (ho : off = ![b, 64 * k, 0]) (hk : k < 4) :
    (tDst off inb).view.set = Btw κt (4 * b + k) (4 * b + k + 1) := by
  refine (View.set_reshape _ _).trans ((View.set_slice_whole _ _).trans (Finset.ext fun i => (tBox ho hk).trans (Iff.trans ?_ mem_Btw.symm)))
  have h1 : (i 1 : ℕ) < 256 := (i 1).isLt
  show _ ↔ 4 * b + k ≤ 4 * (i 0 : ℕ) + (i 1 : ℕ) / 64 ∧ 4 * (i 0 : ℕ) + (i 1 : ℕ) / 64 < 4 * b + k + 1
  omega

theorem tSrc_set {b k : ℕ} {off : Fin 3 → ℕ} {inb} (ho : off = ![b, 64 * k, 0]) (hk : k < 4) :
    (tSrc off inb).view.set = Btw κc (80 * (4 * b + k)) (80 * (4 * b + k + 1)) := by
  refine (View.set_reshape _ _).trans ((View.set_slice_whole _ _).trans (Finset.ext fun i => (tBox ho hk).trans (Iff.trans ?_ mem_Btw.symm)))
  have h1 : (i 1 : ℕ) < 256 := (i 1).isLt
  have h2 : (i 2 : ℕ) < 5120 := (i 2).isLt
  show _ ↔ 80 * (4 * b + k) ≤ (8 * (i 0 : ℕ) + (i 1 : ℕ) / 32) * 40 + (i 2 : ℕ) / 128 ∧ (8 * (i 0 : ℕ) + (i 1 : ℕ) / 32) * 40 + (i 2 : ℕ) / 128 < 80 * (4 * b + k + 1)
  omega

/-- A block's codes started on their way out. -/
theorem t_start {off : Fin 3 → ℕ} {offs : Fin 1 → ℕ} {inb inbs} {b k : ℕ} (hs : offs = ![4 * b + k]) (ho : off = ![b, 64 * k, 0]) (hk : k < 4)
    {hsrc : (tSrc off inb).view.WordExact} {hdst : (tDst off inb).view.WordExact}
    {hsem : DmaTarget.Typed (nD := nD) .vmem (.dma (sem24 cc0_scratch15 offs inbs)) (.here (p := .tc) (tDst off inb))}
    {α : Type} {kk : PUnit → Prog (TpuEff nD τ sig (Elt F) Λ₀ .tc) α} {Q : α → sProp 𝕄} :
    iprop(own c bCode (Btw κc (80 * (4 * b + k)) (80 * (4 * b + k + 1))) fullShare.right (CODES I)
        ∗ (∃ f, own c main_v4_5 (Btw κt (4 * b + k) (4 * b + k + 1)) fullShare f) ∗ sem0 (F := F) c (27 + (4 * b + k)))
      ⊢ iprop((flyT I c (4 * b + k) -∗ kr c (kk ⟨⟩) Q)
        -∗ kr c (Prog.lift (.enqueueDma (tSrc off inb) (.here (tDst off inb)) (.dma (sem24 cc0_scratch15 offs inbs)) hsrc hdst hsem) >>= kk) Q) := by
  generalize hm : sem24 cc0_scratch15 offs inbs = m at hsem
  obtain rfl : m = sm (27 + (4 * b + k)) := hm.symm.trans (sem_tok hs)
  iintro ⟨H1, ⟨%f, H2⟩, H3⟩
  iapply (rule_dma (U := Pipeline.UD sig nD τ) (c := c) (src := tSrc off inb) (dst := tDst off inb) (fd := f) (G := CODES I) (fs := CODES I) (q := fullShare.right) Nt
    (by subst ho; rfl) (by decide) (tSrc_set ho hk) (tDst_set ho hk) (fun y => rfl)) $$ [H1 H2 H3]
  isplitl [H1]; · iexact H1
  isplitl [H2]; · iexact H2
  iexact H3

/-- The wait for a block's codes. -/
theorem t_wait {off : Fin 3 → ℕ} {offs : Fin 1 → ℕ} {inb inbs} {j : ℕ} (hs : offs = ![j])
    {hsrc : (tSrc off inb).view.WordExact} {hdst : (tDst off inb).view.WordExact}
    {α : Type} {kk : PUnit → Prog (TpuEff nD τ sig (Elt F) Λ₀ .tc) α} {Q : α → sProp 𝕄} :
    iprop(flyT I c j ∗ (∃ W, owes (c : Thread nD τ) 0 W))
      ⊢ iprop(((own c main_v4_5 (Btw κt j (j + 1)) fullShare (CODES I) ∗ own c bCode (Btw κc (80 * j) (80 * (j + 1))) fullShare.right (CODES I))
            ∗ sem0 (F := F) c (27 + j) ∗ (∃ W, owes (c : Thread nD τ) 0 W) -∗ kr c (kk ⟨⟩) Q)
        -∗ kr c (Prog.lift (.waitDma2 (sem24 cc0_scratch15 offs inbs) (tSrc off inb) (tDst off inb) hsrc hdst) >>= kk) Q) := by
  rw [sem_tok hs]
  exact rule_wait (U := Pipeline.UD sig nD τ) (c := c) (src := tSrc off inb) (dst := tDst off inb) rfl

/-! ## Expert buffers out -/

/-- An expert buffer element's number: its sequence and its 256 columns. -/
def κb (i : S6x16x40x5120.Idx) : ℕ := 20 * (i 0 : ℕ) + (i 3 : ℕ) / 256
/-- Its sequence and its 1280 columns. -/
def κo (i : S6x16x40x5120.Idx) : ℕ := 4 * (i 0 : ℕ) + (i 3 : ℕ) / 1280

abbrev bDst (off : Fin 4 → ℕ) (inb : ∀ i, off i + S1x16x40x1280.size i ≤ S6x16x40x5120.size i) : Memref sig .tc .hbm S16x40x1280 .fp8e4m3 :=
  ((Memref.whole main_v4_0).slice (Rect.unit (s := S6x16x40x5120) off S1x16x40x1280.size inb) (fun _ => rfl)).squeeze S16x40x1280 squeezes_S1x16x40x1280_S16x40x1280
abbrev bSrc (off : Fin 4 → ℕ) (inb : ∀ i, off i + S1x16x40x1280.size i ≤ S6x16x40x5120.size i) : Memref sig .tc .vmem S16x40x1280 .fp8e4m3 :=
  ((Memref.whole cc0_scratch7).slice (Rect.unit (s := S6x16x40x5120) off S1x16x40x1280.size inb) (fun _ => rfl)).squeeze S16x40x1280 squeezes_S1x16x40x1280_S16x40x1280

def Nb : ℕ := (bDst ![0, 0, 0, 0] (by decide)).view.dmaCredit

/-- Chunk `j` of the expert buffers on its way out. -/
abbrev flyB (G : Vec F S6x16x40x5120 .fp8e4m3) (j : ℕ) : sProp 𝕄 :=
  fly c (51 + j) Nb iprop(own c main_v4_0 (Btw κo j (j + 1)) fullShare G ∗ own c bBuf (Btw κb (5 * j) (5 * (j + 1))) fullShare G)

theorem bBox {b k : ℕ} {off : Fin 4 → ℕ} {inb : ∀ i, off i + S1x16x40x1280.size i ≤ S6x16x40x5120.size i} (ho : off = ![b, 0, 0, 1280 * k]) {i : S6x16x40x5120.Idx} :
    i ∈ (Rect.unit (s := S6x16x40x5120) off S1x16x40x1280.size inb).set ↔ (i 0 : ℕ) = b ∧ (i 3 : ℕ) / 1280 = k := by
  refine (mem4 ho).trans ?_
  have h1 : (i 1 : ℕ) < 16 := (i 1).isLt
  have h2 : (i 2 : ℕ) < 40 := (i 2).isLt
  show (b ≤ (i 0 : ℕ) ∧ (i 0 : ℕ) < b + 1) ∧ (0 ≤ (i 1 : ℕ) ∧ (i 1 : ℕ) < 0 + 16) ∧ (0 ≤ (i 2 : ℕ) ∧ (i 2 : ℕ) < 0 + 40) ∧ (1280 * k ≤ (i 3 : ℕ) ∧ (i 3 : ℕ) < 1280 * k + 1280) ↔ _
  omega

theorem bDst_set {b k : ℕ} {off : Fin 4 → ℕ} {inb} (ho : off = ![b, 0, 0, 1280 * k]) (hk : k < 4) :
    (bDst off inb).view.set = Btw κo (4 * b + k) (4 * b + k + 1) := by
  refine (View.set_reshape _ _).trans ((View.set_slice_whole _ _).trans (Finset.ext fun i => (bBox ho).trans (Iff.trans ?_ mem_Btw.symm)))
  have h1 : (i 3 : ℕ) < 5120 := (i 3).isLt
  show _ ↔ 4 * b + k ≤ 4 * (i 0 : ℕ) + (i 3 : ℕ) / 1280 ∧ 4 * (i 0 : ℕ) + (i 3 : ℕ) / 1280 < 4 * b + k + 1
  omega

theorem bSrc_set {b k : ℕ} {off : Fin 4 → ℕ} {inb} (ho : off = ![b, 0, 0, 1280 * k]) (hk : k < 4) :
    (bSrc off inb).view.set = Btw κb (5 * (4 * b + k)) (5 * (4 * b + k + 1)) := by
  refine (View.set_reshape _ _).trans ((View.set_slice_whole _ _).trans (Finset.ext fun i => (bBox ho).trans (Iff.trans ?_ mem_Btw.symm)))
  have h1 : (i 3 : ℕ) < 5120 := (i 3).isLt
  show _ ↔ 5 * (4 * b + k) ≤ 20 * (i 0 : ℕ) + (i 3 : ℕ) / 256 ∧ 20 * (i 0 : ℕ) + (i 3 : ℕ) / 256 < 5 * (4 * b + k + 1)
  omega

/-- A chunk of the expert buffers started on its way out. -/
theorem b_start (G : Vec F S6x16x40x5120 .fp8e4m3) {off : Fin 4 → ℕ} {offs : Fin 1 → ℕ} {inb inbs} {b k : ℕ} (hs : offs = ![4 * b + k]) (ho : off = ![b, 0, 0, 1280 * k]) (hk : k < 4)
    {hsrc : (bSrc off inb).view.WordExact} {hdst : (bDst off inb).view.WordExact}
    {hsem : DmaTarget.Typed (nD := nD) .vmem (.dma (sem24 cc0_scratch16 offs inbs)) (.here (p := .tc) (bDst off inb))}
    {α : Type} {kk : PUnit → Prog (TpuEff nD τ sig (Elt F) Λ₀ .tc) α} {Q : α → sProp 𝕄} :
    iprop(own c bBuf (Btw κb (5 * (4 * b + k)) (5 * (4 * b + k + 1))) fullShare G
        ∗ (∃ f, own c main_v4_0 (Btw κo (4 * b + k) (4 * b + k + 1)) fullShare f) ∗ sem0 (F := F) c (51 + (4 * b + k)))
      ⊢ iprop((flyB c G (4 * b + k) -∗ kr c (kk ⟨⟩) Q)
        -∗ kr c (Prog.lift (.enqueueDma (bSrc off inb) (.here (bDst off inb)) (.dma (sem24 cc0_scratch16 offs inbs)) hsrc hdst hsem) >>= kk) Q) := by
  generalize hm : sem24 cc0_scratch16 offs inbs = m at hsem
  obtain rfl : m = sm (51 + (4 * b + k)) := hm.symm.trans (sem_buf hs)
  iintro ⟨H1, ⟨%f, H2⟩, H3⟩
  iapply (rule_dma (U := Pipeline.UD sig nD τ) (c := c) (src := bSrc off inb) (dst := bDst off inb) (fd := f) (G := G) (fs := G) (q := fullShare) Nb
    (by subst ho; rfl) (by decide) (bSrc_set ho hk) (bDst_set ho hk) (fun y => rfl)) $$ [H1 H2 H3]
  isplitl [H1]; · iexact H1
  isplitl [H2]; · iexact H2
  iexact H3

/-- The wait for a chunk of the expert buffers. -/
theorem b_wait (G : Vec F S6x16x40x5120 .fp8e4m3) {off : Fin 4 → ℕ} {offs : Fin 1 → ℕ} {inb inbs} {j : ℕ} (hs : offs = ![j])
    {hsrc : (bSrc off inb).view.WordExact} {hdst : (bDst off inb).view.WordExact}
    {α : Type} {kk : PUnit → Prog (TpuEff nD τ sig (Elt F) Λ₀ .tc) α} {Q : α → sProp 𝕄} :
    iprop(flyB c G j ∗ (∃ W, owes (c : Thread nD τ) 0 W))
      ⊢ iprop(((own c main_v4_0 (Btw κo j (j + 1)) fullShare G ∗ own c bBuf (Btw κb (5 * j) (5 * (j + 1))) fullShare G)
            ∗ sem0 (F := F) c (51 + j) ∗ (∃ W, owes (c : Thread nD τ) 0 W) -∗ kr c (kk ⟨⟩) Q)
        -∗ kr c (Prog.lift (.waitDma2 (sem24 cc0_scratch16 offs inbs) (bSrc off inb) (bDst off inb) hsrc hdst) >>= kk) Q) := by
  rw [sem_buf hs]
  exact rule_wait (U := Pipeline.UD sig nD τ) (c := c) (src := bSrc off inb) (dst := bDst off inb) rfl

end Cert.Kernel.Disp

end
-- ==== Proof.KBlock.lean ====
/-
  A block of the first sequence: its eight groups' factors, its scales and its codes.
-/
module

public import proofs.«01_k».proof.Proof.KDma
public import Idealize.ShloMosaic.Lib.ValueLayout

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The row factors -/

/-- The group an element of the row factors belongs to. -/
def κr (i : S8x8x128.Idx) : ℕ := i 0

/-- The row factors of block `i`'s first `g` groups. -/
abbrev haveR (i g : ℕ) : sProp 𝕄 := iprop(own c bR (Btw κr 0 g) fullShare (RV I i) ∗ (∃ f, own c bR (Btw κr g 8) fullShare f))
/-- Tokens and norm weights on the core, blocks `0..i`. -/
abbrev haveX (i : ℕ) : sProp 𝕄 := iprop(own c bX (Btw κx 0 (i + 1)) fullShare (XV I) ∗ own c bW Finset.univ fullShare (WV I))

theorem blk_val (t3 : Fin k0_t3_loop.trips) : blk t3.val = t3 := Fin.ext (Nat.mod_eq_of_lt t3.isLt)

theorem r_store {g i : ℕ} {off : Fin 3 → ℕ} {inb : ∀ a, off a + S1x8x128.size a ≤ S8x8x128.size a} (ho : off = ![g, 0, 0]) (y : S1x8x128.Idx) :
    rG I (8 * i + g) y = RV I i ((Rect.unit (s := S8x8x128) off S1x8x128.size inb).emb y) := by
  have h0 : (y 0 : ℕ) < 1 := (y 0).isLt
  refine Eq.trans ?_ (congrFun (rd3 ho fun a r l => rN I (8 * i + a) r l) y).symm
  show _ = rN I (8 * i + (g + (y 0 : ℕ))) (0 + (y 1 : ℕ)) (0 + (y 2 : ℕ))
  rw [show g + (y 0 : ℕ) = g by omega]
  exact (atN_eq (by decide) _ fun a => by
    match a with
    | 0 => show 0 = (y 0 : ℕ); omega
    | 1 => show 0 + (y 1 : ℕ) = y 1; omega
    | 2 => show 0 + (y 2 : ℕ) = y 2; omega).symm

theorem r_box {g : ℕ} {off : Fin 3 → ℕ} {inb : ∀ a, off a + S1x8x128.size a ≤ S8x8x128.size a} (ho : off = ![g, 0, 0]) (i : S8x8x128.Idx) :
    i ∈ (Rect.unit (s := S8x8x128) off S1x8x128.size inb).set ↔ κr i = g := by
  refine (mem3 ho).trans ?_
  have h1 : (i 1 : ℕ) < 8 := (i 1).isLt
  have h2 : (i 2 : ℕ) < 128 := (i 2).isLt
  show (g ≤ (i 0 : ℕ) ∧ (i 0 : ℕ) < g + 1) ∧ (0 ≤ (i 1 : ℕ) ∧ (i 1 : ℕ) < 0 + 8) ∧ (0 ≤ (i 2 : ℕ) ∧ (i 2 : ℕ) < 0 + 128) ↔ (i 0 : ℕ) = g
  omega

theorem t4_body_run (t3 : Fin k0_t3_loop.trips) (acc₀ arg30 : FVec F S8x128 .f32) (v96 : BitVec 32) (t4 : Fin k0_t4_loop.trips) (acc : FVec F S8x128 .f32) :
    iprop(⌜acc = lane I 0 t3.val acc₀ t4.val⌝ ∗ haveX I c t3.val ∗ haveR I c t3.val t4.val)
      ⊢ kr c (app (k0_t4_body (F := F)) 0#32 1#32 t3 arg30 v96 t4 acc) fun acc' =>
        iprop(⌜acc' = lane I 0 t3.val acc₀ (t4.val + 1)⌝ ∗ haveX I c t3.val ∗ haveR I c t3.val (t4.val + 1)) := by
  have hlt : t4.val < 8 := t4.isLt
  iintro ⟨%h, HX, HR, %f, HN⟩
  unfold app k0_t4_body
  rw [k0_part4_eq_skeleton]
  iapply rule_bind
  unfold k0_part4_skel
  iapply (t5_run I c t3 t4 v96 0#32 1#32) $$ HX
  iintro HX
  iapply rule_ret
  iapply (rule_load 5 rfl (fun i hi => by have := (r_box (k0_off14_eq t4) i).1 hi; rw [mem_Btw]; omega)) $$ HN
  iintro HN
  iapply (rule_fill 5 rfl (κ := κr) (a := 0) (n := t4.val) (e := 8) (G := RV I t3.val) (r_box (k0_off14_eq t4)) (r_store I (k0_off14_eq t4)) (Nat.zero_le _) hlt) $$ [HR HN]
  · isplitl [HR]; · iexact HR
    iexists f; iexact HN
  iintro HR
  iapply rule_ret
  isplitr
  · ipureintro
    subst h
    show _ = k0_pay36 0#32 1#32 (blk t3.val) _ _ _ _ _
    rw [blk_val]
    simp
  isplitl [HX]; · iexact HX
  iexact HR

/-- The loop over a block's eight groups. -/
theorem t4_run (t3 : Fin k0_t3_loop.trips) (acc₀ arg30 : FVec F S8x128 .f32) (v96 : BitVec 32)
    {α : Type} {kk : FVec F S8x128 .f32 → Prog (TpuEff nD τ sig (Elt F) Λ₀ .tc) α} {Q : α → sProp 𝕄} :
    iprop(haveX I c t3.val ∗ (∃ f, own c bR (Btw κr 0 8) fullShare f))
      ⊢ iprop((haveX I c t3.val ∗ haveR I c t3.val 8 -∗ kr c (kk (lane I 0 t3.val acc₀ 8)) Q)
        -∗ kr c (Scf.Loop.for k0_t4_loop k0_t4_ok (k0_pay33 0#32 1#32 t3 acc₀) (app (k0_t4_body (F := F)) 0#32 1#32 t3 arg30 v96) >>= kk) Q) := by
  iintro ⟨HX, %f, HR⟩ Hk
  ihave ⟨HR0, HR⟩ := (pt_cut (κ := κr) (le_refl 0) (Nat.zero_le 8)) $$ HR
  ihave HR0 := (pt_congr (g := RV I t3.val) (fun i hi => by rw [mem_Btw] at hi; omega)) $$ HR0
  iapply (rule_for k0_t4_loop (fun g acc => iprop(⌜acc = lane I 0 t3.val acc₀ g⌝ ∗ haveX I c t3.val ∗ haveR I c t3.val g))
    (fun g acc => t4_body_run I c t3 acc₀ arg30 v96 g acc)) $$ [HX HR0 HR]
  · isplitr
    · ipureintro
      show _ = k0_pay33 0#32 1#32 (blk t3.val) acc₀
      rw [blk_val]
    isplitl [HX]; · iexact HX
    isplitl [HR0]; · iexact HR0
    iexists f; iexact HR
  iintro %acc ⟨%h, H⟩
  subst h
  iapply Hk; iexact H

/-! ## The codes -/

/-- The codes numbered from `a` to `n` are there; those above `n` are the core's to write. -/
abbrev haveC (a n : ℕ) : sProp 𝕄 := iprop(own c bCode (Btw κc a n) fullShare (CODES I) ∗ (∃ f, own c bCode (Btw κc n 1920) fullShare f))

theorem codeT_even (G n : ℕ) : k0_pay31 (xT4 I G n) (wT2 I (2 * n)) (rT4 I G) = codeT I G (2 * n + 0) := by
  unfold codeT; rw [if_pos (by omega), show (2 * n + 0) / 2 = n by omega]; rfl
theorem codeT_odd (G n : ℕ) : k0_pay38 (wT2 I (2 * n + 1)) (k0_pay32 (xT4 I G n)) (rT4 I G) = codeT I G (2 * n + 1) := by
  unfold codeT; rw [if_neg (by omega), show (2 * n + 1) / 2 = n by omega]

theorem code_store {b k q n h : ℕ} (hq : q < 2) (hh : h < 2) {off : Fin 3 → ℕ} {inb : ∀ a, off a + S1x32x128.size a ≤ S6x256x5120.size a}
    (ho : off = ![b, 64 * k + 32 * q, 256 * n + 128 * h]) (y : S1x32x128.Idx) :
    codeT I (8 * (4 * b + k) + 4 * q) (2 * n + h) y = CODES I ((Rect.unit (s := S6x256x5120) off S1x32x128.size inb).emb y) := by
  have h0 : (y 0 : ℕ) < 1 := (y 0).isLt
  have h1 : (y 1 : ℕ) < 32 := (y 1).isLt
  have h2 : (y 2 : ℕ) < 128 := (y 2).isLt
  have hk : 64 * k + 32 * q + 32 ≤ 256 := by have := inb 1; subst ho; exact this
  refine Eq.trans ?_ (congrFun (rd3 ho fun a r l => codeN I a r l) y).symm
  show _ = codeN I (b + (y 0 : ℕ)) (64 * k + 32 * q + (y 1 : ℕ)) (256 * n + 128 * h + (y 2 : ℕ))
  unfold codeN
  rw [show 4 * (8 * (b + (y 0 : ℕ)) + (64 * k + 32 * q + (y 1 : ℕ)) / 32) = 8 * (4 * b + k) + 4 * q by omega,
    show (256 * n + 128 * h + (y 2 : ℕ)) / 128 = 2 * n + h by omega]
  exact (atN_eq (by decide) _ fun a => by
    match a with
    | 0 => show 0 = (y 0 : ℕ); omega
    | 1 => show (64 * k + 32 * q + (y 1 : ℕ)) % 32 = y 1; omega
    | 2 => show (256 * n + 128 * h + (y 2 : ℕ)) % 128 = y 2; omega).symm

theorem code_box {b k q n h : ℕ} (hq : q < 2) (hh : h < 2) (hn : n < 20) {off : Fin 3 → ℕ} {inb : ∀ a, off a + S1x32x128.size a ≤ S6x256x5120.size a}
    (ho : off = ![b, 64 * k + 32 * q, 256 * n + 128 * h]) (i : S6x256x5120.Idx) :
    i ∈ (Rect.unit (s := S6x256x5120) off S1x32x128.size inb).set ↔ κc i = 80 * (4 * b + k) + 40 * q + (2 * n + h) := by
  have hk : 64 * k + 32 * q + 32 ≤ 256 := by have := inb 1; subst ho; exact this
  refine (mem3 ho).trans ?_
  have h1 : (i 1 : ℕ) < 256 := (i 1).isLt
  have h2 : (i 2 : ℕ) < 5120 := (i 2).isLt
  show (b ≤ (i 0 : ℕ) ∧ (i 0 : ℕ) < b + 1) ∧ (64 * k + 32 * q ≤ (i 1 : ℕ) ∧ (i 1 : ℕ) < 64 * k + 32 * q + 32)
      ∧ (256 * n + 128 * h ≤ (i 2 : ℕ) ∧ (i 2 : ℕ) < 256 * n + 128 * h + 128)
    ↔ (8 * (i 0 : ℕ) + (i 1 : ℕ) / 32) * 40 + (i 2 : ℕ) / 128 = 80 * (4 * b + k) + 40 * q + (2 * n + h)
  omega

theorem xT4_load {i q n : ℕ} {off : Fin 4 → ℕ} {inb : ∀ a, off a + S1x4x8x256.size a ≤ S24x8x8x5120.size a} (ho : off = ![i, 4 * q, 0, 256 * n]) :
    (fun y => XV I ((Rect.unit (s := S24x8x8x5120) off S1x4x8x256.size inb).emb y)) = xT4 I (8 * i + 4 * q) n :=
  (rd4 ho fun a b r c => xN I (8 * a + b) r c).trans <| funext fun y => by
    have y0 : (y 0 : ℕ) < 1 := (y 0).isLt
    unfold xT4; congr 1 <;> omega

theorem wT2_load {m : ℕ} {off : Fin 2 → ℕ} {inb : ∀ a, off a + S1x128.size a ≤ S1x5120.size a} (ho : off = ![0, 128 * m]) :
    (fun y => WV I ((Rect.unit (s := S1x5120) off S1x128.size inb).emb y)) = wT2 I m :=
  rd2 ho fun _ c => wN I c

theorem rT4_load {i q : ℕ} {off : Fin 3 → ℕ} {inb : ∀ a, off a + S4x8x128.size a ≤ S8x8x128.size a} (ho : off = ![4 * q, 0, 0]) :
    (fun y => RV I i ((Rect.unit (s := S8x8x128) off S4x8x128.size inb).emb y)) = rT4 I (8 * i + 4 * q) :=
  (rd3 ho fun a r l => rN I (8 * i + a) r l).trans <| funext fun y => by
    unfold rT4; congr 1 <;> omega

theorem t7_body_run (t3 : Fin k0_t3_loop.trips) (arg30 : FVec F S8x128 .f32) (v96 v115 arg31 : BitVec 32) (t6 : Fin k0_t6_loop.trips) (t7 : Fin k0_t7_loop.trips)
    (u : Unit) :
    iprop(haveX I c t3.val ∗ own c bR (Btw κr 0 8) fullShare (RV I t3.val) ∗ haveC I c (80 * t3.val) (80 * t3.val + 40 * t6.val + 2 * t7.val))
      ⊢ kr c (app (k0_t7_body (F := F)) 0#32 1#32 t3 arg30 v96 v115 t6 arg31 t7 u) fun _ =>
        iprop(haveX I c t3.val ∗ own c bR (Btw κr 0 8) fullShare (RV I t3.val) ∗ haveC I c (80 * t3.val) (80 * t3.val + 40 * t6.val + 2 * (t7.val + 1))) := by
  have hi : t3.val < 4 := t3.isLt
  have hq : t6.val < 2 := t6.isLt
  have hn : t7.val < 20 := t7.isLt
  have ho0 : k0_off19 t3 t6 t7 0#32 = ![0, 64 * t3.val + 32 * t6.val, 256 * t7.val + 128 * 0] := k0_off19_eq t3 t6 t7 0
  have ho1 : k0_off19 t3 t6 t7 128#32 = ![0, 64 * t3.val + 32 * t6.val, 256 * t7.val + 128 * 1] := k0_off19_eq t3 t6 t7 1
  have hw0 : k0_off17 t7 0#32 = ![0, 128 * (2 * t7.val)] := (k0_off17_eq t7 0).trans (by congr 2; show 256 * t7.val + 128 * 0 = _; omega)
  have hw1 : k0_off17 t7 128#32 = ![0, 128 * (2 * t7.val + 1)] := (k0_off17_eq t7 1).trans (by congr 2; show 256 * t7.val + 128 * 1 = _; omega)
  have hb0 : ∀ i, i ∈ (Rect.unit (s := S6x256x5120) (k0_off19 t3 t6 t7 0#32) S1x32x128.size (k0_off19_inb t3 t6 t7 0)).set
      ↔ κc i = 80 * t3.val + 40 * t6.val + 2 * t7.val := fun i =>
    (code_box (b := 0) (k := t3.val) (q := t6.val) (n := t7.val) (h := 0) hq (by omega) hn ho0 i).trans
      (by rw [show 80 * (4 * 0 + t3.val) + 40 * t6.val + (2 * t7.val + 0) = 80 * t3.val + 40 * t6.val + 2 * t7.val by omega])
  have hb1 : ∀ i, i ∈ (Rect.unit (s := S6x256x5120) (k0_off19 t3 t6 t7 128#32) S1x32x128.size (k0_off19_inb t3 t6 t7 1)).set
      ↔ κc i = 80 * t3.val + 40 * t6.val + 2 * t7.val + 1 := fun i =>
    (code_box (b := 0) (k := t3.val) (q := t6.val) (n := t7.val) (h := 1) hq (by omega) hn ho1 i).trans
      (by rw [show 80 * (4 * 0 + t3.val) + 40 * t6.val + (2 * t7.val + 1) = 80 * t3.val + 40 * t6.val + 2 * t7.val + 1 by omega])
  iintro ⟨⟨HX, HW⟩, HR, HC, %f, HN⟩
  unfold app k0_t7_body
  rw [k0_part5_eq_skeleton]
  iapply rule_bind
  unfold k0_part5_skel
  iapply (rule_load 0 rfl (fun i h => by
    have := ((mem4 (k0_off16_eq t3 t6 t7)).1 h).1
    rw [mem_Btw]; exact ⟨Nat.zero_le _, this.2⟩)) $$ HX
  iintro HX
  iapply (rule_load 3 rfl (fun i _ => Finset.mem_univ i)) $$ HW
  iintro HW
  iapply (rule_load 5 rfl (fun i h => by rw [mem_Btw]; exact ⟨Nat.zero_le _, (i 0).isLt⟩)) $$ HR
  iintro HR
  iapply (rule_load 6 rfl (fun i h => by have := (hb0 i).1 h; rw [mem_Btw]; have h0 : (i 0 : ℕ) < 6 := (i 0).isLt; omega)) $$ HN
  iintro HN
  iapply (rule_fill 6 rfl (κ := κc) (a := 80 * t3.val) (n := 80 * t3.val + 40 * t6.val + 2 * t7.val) (e := 1920) (G := CODES I)
    hb0
    (fun y => (congrFun ((congr (congrArg₂ k0_pay31 (xT4_load I (k0_off16_eq t3 t6 t7)) (wT2_load I hw0)) (rT4_load I (k0_off18_eq t6))).trans (codeT_even I _ _)) y).trans
      ((congrFun (congrArg (fun G => codeT I (8 * G + 4 * t6.val) (2 * t7.val + 0)) (show t3.val = 4 * 0 + t3.val by omega)) y).trans (code_store I hq (by omega) ho0 y)))
    (by omega) (by omega)) $$ [HC HN]
  · isplitl [HC]; · iexact HC
    iexists f; iexact HN
  iintro ⟨HC, %f', HN⟩
  iapply (rule_load 3 rfl (fun i _ => Finset.mem_univ i)) $$ HW
  iintro HW
  iapply rule_ret
  iapply (rule_load 5 rfl (fun i h => by rw [mem_Btw]; exact ⟨Nat.zero_le _, (i 0).isLt⟩)) $$ HR
  iintro HR
  iapply (rule_load 6 rfl (fun i h => by have := (hb1 i).1 h; rw [mem_Btw]; have h0 : (i 0 : ℕ) < 6 := (i 0).isLt; omega)) $$ HN
  iintro HN
  iapply (rule_fill 6 rfl (κ := κc) (a := 80 * t3.val) (n := 80 * t3.val + 40 * t6.val + 2 * t7.val + 1) (e := 1920) (G := CODES I)
    hb1
    (fun y => (congrFun ((congr (congrArg₂ k0_pay38 (wT2_load I hw1) (congrArg k0_pay32 (xT4_load I (k0_off16_eq t3 t6 t7)))) (rT4_load I (k0_off18_eq t6))).trans (codeT_odd I _ _)) y).trans
      ((congrFun (congrArg (fun G => codeT I (8 * G + 4 * t6.val) (2 * t7.val + 1)) (show t3.val = 4 * 0 + t3.val by omega)) y).trans (code_store I hq (by omega) ho1 y)))
    (by omega) (by omega)) $$ [HC HN]
  · isplitl [HC]; · iexact HC
    iexists f'; iexact HN
  iintro HC
  iapply rule_ret
  isplitl [HX HW]
  · isplitl [HX] <;> iassumption
  isplitl [HR]; · iexact HR
  iexact HC

/-- The loop over a block's 20 column tiles for four groups. -/
theorem t7_run (t3 : Fin k0_t3_loop.trips) (arg30 : FVec F S8x128 .f32) (v96 v115 arg31 : BitVec 32) (t6 : Fin k0_t6_loop.trips) (u : Unit) :
    iprop(haveX I c t3.val ∗ own c bR (Btw κr 0 8) fullShare (RV I t3.val) ∗ haveC I c (80 * t3.val) (80 * t3.val + 40 * t6.val))
      ⊢ kr c (app (k0_t6_body (F := F)) 0#32 1#32 t3 arg30 v96 v115 t6 u) fun _ =>
        iprop(haveX I c t3.val ∗ own c bR (Btw κr 0 8) fullShare (RV I t3.val) ∗ haveC I c (80 * t3.val) (80 * t3.val + 40 * (t6.val + 1))) := by
  iintro H
  unfold app k0_t6_body
  iapply (rule_for k0_t7_loop (fun n _ => iprop(haveX I c t3.val ∗ own c bR (Btw κr 0 8) fullShare (RV I t3.val)
      ∗ haveC I c (80 * t3.val) (80 * t3.val + 40 * t6.val + 2 * n)))
    (fun n u => t7_body_run I c t3 arg30 v96 v115 (Scf.iv 0#32 1#32 t6) t6 n u)) $$ [H]
  · iexact H
  iintro %acc H
  iapply rule_ret
  iexact H

theorem t6_run (t3 : Fin k0_t3_loop.trips) (arg30 : FVec F S8x128 .f32) (v96 v115 : BitVec 32)
    {α : Type} {kk : Unit → Prog (TpuEff nD τ sig (Elt F) Λ₀ .tc) α} {Q : α → sProp 𝕄} :
    iprop(haveX I c t3.val ∗ own c bR (Btw κr 0 8) fullShare (RV I t3.val) ∗ (∃ f, own c bCode (Btw κc (80 * t3.val) 1920) fullShare f))
      ⊢ iprop((haveX I c t3.val ∗ own c bR (Btw κr 0 8) fullShare (RV I t3.val) ∗ haveC I c (80 * t3.val) (80 * (t3.val + 1)) -∗ kr c (kk ⟨⟩) Q)
        -∗ kr c (Scf.Loop.for k0_t6_loop k0_t6_ok ⟨⟩ (app (k0_t6_body (F := F)) 0#32 1#32 t3 arg30 v96 v115) >>= kk) Q) := by
  have hi : t3.val < 4 := t3.isLt
  iintro ⟨HX, HR, %f, HN⟩ Hk
  ihave ⟨H0, HN⟩ := (pt_cut (κ := κc) (le_refl (80 * t3.val)) (show 80 * t3.val ≤ 1920 by omega)) $$ HN
  ihave H0 := (pt_congr (g := CODES I) (fun i hi => by rw [mem_Btw] at hi; omega)) $$ H0
  iapply (rule_for k0_t6_loop (fun q _ => iprop(haveX I c t3.val ∗ own c bR (Btw κr 0 8) fullShare (RV I t3.val)
      ∗ haveC I c (80 * t3.val) (80 * t3.val + 40 * q))) (fun q u => t7_run I c t3 arg30 v96 v115 0#32 q u)) $$ [HX HR H0 HN]
  · isplitl [HX]; · iexact HX
    isplitl [HR]; · iexact HR
    isplitl [H0]; · iexact H0
    iexists f; iexact HN
  iintro %acc H
  iapply Hk
  iexact H

/-! ## The token scales -/

theorem row_eq : ∀ m n : Fin 6, IntOp.cmpi .eq (BitVec.ofNat 32 m.val) (BitVec.ofNat 32 n.val) = if m.val = n.val then 1#1 else 0#1 := by decide +kernel

/-- The row of scales of the eight groups of two blocks. -/
def row (v : FVec F S8x128 .f32) : FVec F S1x128 .f32 :=
  shapeCast S1x128 (shapeCast S1x128 (multiReduction .add [0] S128 v 0x00000000#32 reduces_S8x128_S128 (.inl rfl) rfl) shapeCasts_S128_S1x128) shapeCasts_S1x128_S1x128

/-- A row of scales is written into one row of the array, and the other rows stay. -/
theorem pay55_row {b : ℕ} (hb : b < 6) (v : FVec F S8x128 .f32) (old : Vec F S6x128 .f32) (i : S6x128.Idx) :
    k0_pay55 (BitVec.ofNat 32 b) v old i = if (i 0 : ℕ) = b then row v (ValueIdx.ix2 (0 : Fin 1) (i 1)) else old i := by
  have hi : i = ValueIdx.ix2 (i 0) (i 1) := by funext a; match a with | 0 => rfl | 1 => rfl
  have hs : k0_pay55 (BitVec.ofNat 32 b) v old i
      = Scalar.select (IntOp.cmpi .eq (BitVec.ofNat 32 (i 0 : ℕ)) (BitVec.ofNat 32 b)) (broadcastTo S6x128 (row v) broadcasts_S1x128_S6x128 i) (old i) := by
    unfold k0_pay55
    rw [shapeCast_self]
    show Scalar.select (IntOp.cmpi .eq (BitVec.ofNat 32 (0 * 6 + (i 0 : ℕ))) (BitVec.ofNat 32 b)) _ _ = _
    rw [Nat.zero_mul, Nat.zero_add]; rfl
  rw [hs, row_eq (i 0) ⟨b, hb⟩]
  have hr : broadcastTo S6x128 (row v) broadcasts_S1x128_S6x128 i = row v (ValueIdx.ix2 (0 : Fin 1) (i 1)) := by
    conv_lhs => rw [hi]
    exact ValueIdx.broadcastTo_1b_ab_apply (row v) broadcasts_S1x128_S6x128 (i 0) (i 1)
  rw [hr]
  unfold Scalar.select
  by_cases h : (i 0 : ℕ) = b
  · rw [if_pos h, if_pos h]; rfl
  · rw [if_neg h, if_neg h]; rfl

/-- The scales after blocks `4b + k` and the one before it, `k` odd: row `b`, columns `128 (k/2)` on. -/
theorem ts_store {b k : ℕ} (hb : b < 6) (hk : k < 4) (hodd : k % 2 = 1) {off : Fin 2 → ℕ} {inb : ∀ a, off a + S6x128.size a ≤ S6x256.size a}
    (ho : off = ![0, 128 * (k / 2)]) {f : Vec F S6x256 .f32}
    (h1 : ∀ x, f ((Rect.unit (s := S6x256) off S6x128.size inb).emb x)
      = k0_pay55 (BitVec.ofNat 32 b) (accB I b (k + 1)) (fun y => TSat I ((4 * b + k) / 2) ((Rect.unit (s := S6x256) off S6x128.size inb).emb y)) x)
    (h2 : ∀ i, i ∉ (Rect.unit (s := S6x256) off S6x128.size inb).set → f i = TSat I ((4 * b + k) / 2) i) :
    f = TSat I ((4 * b + k + 1) / 2) := by
  have hm : (4 * b + k) / 2 = 2 * b + k / 2 := by omega
  have hm' : (4 * b + k + 1) / 2 = 2 * b + k / 2 + 1 := by omega
  have hk2 : k / 2 < 2 := by omega
  funext i
  have i0 : (i 0 : ℕ) < 6 := (i 0).isLt
  have i1 : (i 1 : ℕ) < 256 := (i 1).isLt
  rw [hm']
  rw [hm] at h1 h2
  by_cases hi : i ∈ (Rect.unit (s := S6x256) off S6x128.size inb).set
  · have hi' := (mem2 ho).1 hi
    change (0 ≤ (i 0 : ℕ) ∧ (i 0 : ℕ) < 0 + 6) ∧ (128 * (k / 2) ≤ (i 1 : ℕ) ∧ (i 1 : ℕ) < 128 * (k / 2) + 128) at hi'
    obtain ⟨x, rfl⟩ : ∃ x, (Rect.unit (s := S6x256) off S6x128.size inb).emb x = i := by
      obtain ⟨x, hx⟩ := (Rect.unit (s := S6x256) off S6x128.size inb).exists_idx_of_mem hi; exact ⟨x, hx⟩
    have e0 : (((Rect.unit (s := S6x256) off S6x128.size inb).emb x 0 : ℕ)) = 0 + x 0 := emb_val ho x 0
    have e1 : (((Rect.unit (s := S6x256) off S6x128.size inb).emb x 1 : ℕ)) = 128 * (k / 2) + x 1 := emb_val ho x 1
    have x1 : (x 1 : ℕ) < 128 := (x 1).isLt
    rw [h1, pay55_row hb]
    unfold TSat
    by_cases hx : (x 0 : ℕ) = b
    · rw [if_pos hx, if_pos (by omega)]
      unfold tsN
      rw [e0, e1, show 0 + (x 0 : ℕ) = b by omega, show (128 * (k / 2) + (x 1 : ℕ)) / 128 = k / 2 by omega, show 2 * (k / 2) + 2 = k + 1 by omega,
        show (128 * (k / 2) + (x 1 : ℕ)) % 128 = x 1 by omega,
        atN_eq (s := S6x128) (i := ValueIdx.ix2 (0 : Fin 6) (x 1)) (by decide) _ (fun a => by match a with | 0 => rfl | 1 => rfl)]
      exact (pay55_row (b := 0) (by omega) (accB I b (k + 1)) _ (ValueIdx.ix2 (0 : Fin 6) (x 1))).symm
    · rw [if_neg hx]
      show (if 2 * _ + _ < _ then _ else _) = _
      by_cases h : 2 * (x 0 : ℕ) + (128 * (k / 2) + (x 1 : ℕ)) / 128 < 2 * b + k / 2
      · rw [if_pos (by omega), if_pos (by omega)]
      · rw [if_neg (by omega), if_neg (by omega)]
  · have hi' : ¬ ((0 ≤ (i 0 : ℕ) ∧ (i 0 : ℕ) < 0 + 6) ∧ (128 * (k / 2) ≤ (i 1 : ℕ) ∧ (i 1 : ℕ) < 128 * (k / 2) + 128)) := fun h => hi ((mem2 ho).2 h)
    rw [h2 i hi]
    unfold TSat
    by_cases h : 2 * (i 0 : ℕ) + (i 1 : ℕ) / 128 < 2 * b + k / 2
    · rw [if_pos h, if_pos (by omega)]
    · rw [if_neg h, if_neg (fun h2 => by omega)]

/-- The scales after block `i`. -/
abbrev haveTs (i : ℕ) : sProp 𝕄 := own c bTs Finset.univ fullShare (TSat I (i / 2))

theorem cond1_iff : ∀ t3 : Fin k0_t3_loop.trips, k0_cond1 t3 = 1#1 ↔ t3.val % 2 = 1 := by decide +kernel
theorem off15_eq : ∀ t3 : Fin k0_t3_loop.trips, t3.val % 2 = 1 → k0_off15 t3 = ![0, 128 * (t3.val / 2)] := by decide +kernel

end Cert.Kernel.Disp

end
-- ==== Proof.KSeq0.lean ====
/-
  The eight groups of a block: its tokens awaited, its codes sent out.
-/
module

public import proofs.«01_k».proof.Proof.KBlock

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The state between two blocks -/

/-- Tokens: the first `i` blocks arrived, the others on their way. -/
abbrev stX (i : ℕ) : sProp 𝕄 :=
  iprop(own c bX (Btw κx 0 i) fullShare (XV I) ∗ own c main_v0 (Btw κh 0 i) fullShare I.x
    ∗ bigSep (Finset.Ico 0 i) (fun j => sem0 (F := F) c (0 + j)) ∗ bigSep (Finset.Ico i 24) (flyX I c))
/-- Codes on their way out: the first `i` blocks' started. -/
abbrev stF (i : ℕ) : sProp 𝕄 :=
  iprop(bigSep (Finset.Ico 0 i) (flyT I c) ∗ bigSep (Finset.Ico i 24) (fun j => sem0 (F := F) c (27 + j)) ∗ (∃ f, own c main_v4_5 (Btw κt i 24) fullShare f))
/-- Codes on the core: the first `i` blocks' written. -/
abbrev stC (i : ℕ) : sProp 𝕄 :=
  iprop(own c bCode (Btw κc 0 (80 * i)) fullShare.left (CODES I) ∗ (∃ f, own c bCode (Btw κc (80 * i) 1920) fullShare f))
abbrev stR : sProp 𝕄 := iprop(∃ f, own c bR (Btw κr 0 8) fullShare f)
abbrev stO : sProp 𝕄 := iprop(∃ W, owes (Ix := Unit) (Val := Elt F) (Name := ℕ) (U := Pipeline.UD sig nD τ) (Lvl := ℕ) (c : Thread nD τ) 0 W)
/-- Everything a block of tokens reads and writes, after `i` blocks. -/
abbrev stB (i : ℕ) : sProp 𝕄 := iprop(stX I c i ∗ stC I c i ∗ stF I c i ∗ stR (F := F) c ∗ haveTs I c i ∗ own c bW Finset.univ fullShare (WV I) ∗ stO (F := F) c)

/-- The next block of tokens awaited. -/
theorem x_step {off : Fin 4 → ℕ} {off' : Fin 3 → ℕ} {offs : Fin 1 → ℕ} {inb inb' inbs} {i : ℕ} (hi : i < 24) (hs : offs = ![i])
    {hsrc : (xSrc off' inb').view.WordExact} {hdst : (xDst off inb).view.WordExact}
    {α : Type} {kk : PUnit → Prog (TpuEff nD τ sig (Elt F) Λ₀ .tc) α} {Q : α → sProp 𝕄} :
    iprop(stX I c i ∗ stO (F := F) c)
      ⊢ iprop((stX I c (i + 1) ∗ stO (F := F) c -∗ kr c (kk ⟨⟩) Q)
        -∗ kr c (Prog.lift (.waitDma2 (sem24 cc0_scratch13 offs inbs) (xSrc off' inb') (xDst off inb) hsrc hdst) >>= kk) Q) := by
  iintro ⟨⟨HX, HH, HS, HF⟩, HO⟩ Hk
  ihave ⟨H1, HF⟩ := (ico_pop hi (flyX I c)) $$ HF
  iapply (x_wait I c hs) $$ [H1 HO]
  · isplitl [H1] <;> iassumption
  iintro ⟨⟨H1, H2⟩, H3, HO⟩
  iapply Hk
  isplitr [HO]
  · isplitl [HX H1]
    · iapply (pt_glue (Nat.zero_le i) (Nat.le_succ i)); isplitl [HX] <;> iassumption
    isplitl [HH H2]
    · iapply (pt_glue (Nat.zero_le i) (Nat.le_succ i)); isplitl [HH] <;> iassumption
    isplitl [HS H3]
    · iapply (ico_push (Nat.zero_le i) (fun j => sem0 (F := F) c (0 + j))); isplitl [H3] <;> iassumption
    iexact HF
  · iexact HO

/-- A finished block's codes started on their way out. -/
theorem t_step {off : Fin 3 → ℕ} {offs : Fin 1 → ℕ} {inb inbs} {b k : ℕ} (hb : b < 6) (hk : k < 4) (hs : offs = ![4 * b + k]) (ho : off = ![b, 64 * k, 0])
    {hsrc : (tSrc off inb).view.WordExact} {hdst : (tDst off inb).view.WordExact}
    {hsem : DmaTarget.Typed (nD := nD) .vmem (.dma (sem24 cc0_scratch15 offs inbs)) (.here (p := .tc) (tDst off inb))}
    {α : Type} {kk : PUnit → Prog (TpuEff nD τ sig (Elt F) Λ₀ .tc) α} {Q : α → sProp 𝕄} :
    iprop(own c bCode (Btw κc 0 (80 * (4 * b + k))) fullShare.left (CODES I) ∗ haveC I c (80 * (4 * b + k)) (80 * (4 * b + k + 1)) ∗ stF I c (4 * b + k))
      ⊢ iprop((stC I c (4 * b + k + 1) ∗ stF I c (4 * b + k + 1) -∗ kr c (kk ⟨⟩) Q)
        -∗ kr c (Prog.lift (.enqueueDma (tSrc off inb) (.here (tDst off inb)) (.dma (sem24 cc0_scratch15 offs inbs)) hsrc hdst hsem) >>= kk) Q) := by
  iintro ⟨HL, ⟨HC, HN⟩, HT, HS, %f, HD⟩ Hk
  ihave ⟨HCl, HCr⟩ := pt_halve $$ HC
  ihave ⟨HS1, HS⟩ := (ico_pop (show 4 * b + k < 24 by omega) (fun j => sem0 (F := F) c (27 + j))) $$ HS
  ihave ⟨HD1, HD⟩ := (pt_cut (κ := κt) (Nat.le_succ (4 * b + k)) (show 4 * b + k + 1 ≤ 24 by omega)) $$ HD
  iapply (t_start I c hs ho hk) $$ [HCr HD1 HS1]
  · isplitl [HCr]; · iexact HCr
    isplitl [HD1]; · iexists f; iexact HD1
    iexact HS1
  iintro HF
  iapply Hk
  isplitl [HL HCl HN]
  · isplitl [HL HCl]
    · iapply (pt_glue (Nat.zero_le _) (show 80 * (4 * b + k) ≤ 80 * (4 * b + k + 1) by omega)); isplitl [HL] <;> iassumption
    iexact HN
  isplitl [HT HF]
  · iapply (ico_push (Nat.zero_le (4 * b + k)) (flyT I c)); isplitl [HF] <;> iassumption
  isplitl [HS]; · iexact HS
  iexists f; iexact HD

/-! ## The blocks of the first sequence -/

theorem ts_run {C : Prop} [Decidable C] {b k : ℕ} (hb : b < 6) (hk : k < 4) (hC : C ↔ k % 2 = 1) {off : Fin 2 → ℕ} (ho : k % 2 = 1 → off = ![0, 128 * (k / 2)])
    {inb : C → ∀ a, off a + S6x128.size a ≤ S6x256.size a} {v : FVec F S8x128 .f32} (hv : v = accB I b (k + 1)) {w : Vec F S6x128 .f32 → FVec F S6x128 .f32}
    (hw : ∀ old, w old = k0_pay55 (BitVec.ofNat 32 b) v old)
    {α : Type} {P : Prog (TpuEff nD τ sig (Elt F) Λ₀ .tc) α} {Q : α → sProp 𝕄} :
    haveTs I c (4 * b + k)
      ⊢ iprop((haveTs I c (4 * b + k + 1) -∗ kr c P Q)
        -∗ kr c (if h : C then do
            let old : Vec F S6x128 .f32 ← Prog.lift (.load (Memref.whole bTs) (Rect.unit (s := S6x256) off S6x128.size (inb h)).toLoadRect (View.loadsAt_vmem h_S6x128))
            let _ : Vec F S6x128 .f32 ← Prog.lift (.load (Memref.whole bTs) (Rect.unit (s := S6x256) off S6x128.size (inb h)).toLoadRect (View.loadsAt_vmem h_S6x128))
            Prog.lift (.store (Memref.whole bTs) (Rect.unit (s := S6x256) off S6x128.size (inb h)) (w old) Finset.univ (View.stores_vmem_bits_univ h_S6x128 rfl) (.inl rfl))
            P
          else P) Q) := by
  iintro H Hk
  by_cases h : C
  · have hodd := hC.1 h
    rw [dif_pos h]
    iapply (rule_load 12 rfl (fun i _ => Finset.mem_univ i)) $$ H
    iintro H
    iapply (rule_load 12 rfl (fun i _ => Finset.mem_univ i)) $$ H
    iintro H
    iapply (rule_store 12 rfl (fun i _ => Finset.mem_univ i)) $$ H
    iintro %f %hf H
    have hf' : f = TSat I ((4 * b + k + 1) / 2) :=
      ts_store I hb hk hodd (ho hodd) (inb := inb h) (fun x => (hf.1 x).trans (congrFun (by rw [hw, hv]; rfl) x)) hf.2
    subst hf'
    iapply Hk; iexact H
  · rw [dif_neg h]
    have he : (4 * b + k + 1) / 2 = (4 * b + k) / 2 := by have : ¬ k % 2 = 1 := fun h' => h (hC.2 h'); omega
    iapply Hk
    unfold haveTs
    rw [he]
    iexact H

theorem t3_body_run (t3 : Fin k0_t3_loop.trips) (acc : FVec F S8x128 .f32) :
    iprop(⌜acc = accB I 0 t3.val⌝ ∗ stB I c t3.val)
      ⊢ kr c (app (k0_t3_body (F := F)) t3 acc) fun acc' => iprop(⌜acc' = accB I 0 (t3.val + 1)⌝ ∗ stB I c (t3.val + 1)) := by
  have hi : t3.val < 4 := t3.isLt
  iintro ⟨%h, ⟨HX, ⟨HCl, HN⟩, HT, HR, HTs, HW, HO⟩⟩
  unfold app k0_t3_body
  rw [k0_part6_eq_skeleton]
  iapply rule_bind
  unfold k0_part6_skel
  iapply (x_step I c (i := t3.val) (by omega) (k0_off9_eq t3)) $$ [HX HO]
  · isplitl [HX] <;> iassumption
  iintro ⟨⟨HX, HXr⟩, HO⟩
  iapply (t4_run I c t3 acc acc (Scalar.addi 0#32 (Scf.iv 0#32 1#32 t3))) $$ [HX HW HR]
  · isplitr [HR]
    · isplitl [HX] <;> iassumption
    iexact HR
  iintro ⟨⟨HX, HW⟩, HR, -⟩
  have hacc : lane I 0 t3.val acc 8 = accB I 0 (t3.val + 1) := by subst h; rfl
  rw [hacc]
  dsimp only
  iapply (ts_run I c (b := 0) (k := t3.val) (by omega) hi (cond1_iff t3) (off15_eq t3) (v := accB I 0 (t3.val + 1)) rfl (w := k0_pay37 (accB I 0 (t3.val + 1)))
    (fun _ => rfl)) $$ [HTs]
  · rw [show 4 * 0 + t3.val = t3.val by omega]; iexact HTs
  iintro HTs
  iapply (t6_run I c t3 acc (Scalar.addi 0#32 (Scf.iv 0#32 1#32 t3)) (Scalar.muli (Scf.iv 0#32 1#32 t3) 64#32)) $$ [HX HW HR HN]
  · isplitl [HX HW]
    · isplitl [HX] <;> iassumption
    isplitl [HR]; · iexact HR
    iexact HN
  iintro ⟨⟨HX, HW⟩, HR, HC⟩
  iapply rule_ret
  iapply (t_step I c (b := 0) (k := t3.val) (by omega) hi ((k0_off9_eq t3).trans (by rw [show 4 * 0 + t3.val = t3.val by omega])) (k0_off20_eq t3)) $$ [HCl HC HT]
  · rw [show 4 * 0 + t3.val = t3.val by omega]
    isplitl [HCl]; · iexact HCl
    isplitl [HC]; · iexact HC
    iexact HT
  rw [show 4 * 0 + t3.val = t3.val by omega]
  iintro ⟨HC, HT⟩
  iapply rule_ret
  isplitr
  · ipureintro; rfl
  isplitl [HX HXr]
  · isplitl [HX]; · iexact HX
    iexact HXr
  isplitl [HC]; · iexact HC
  isplitl [HT]; · iexact HT
  isplitl [HR]; · iexists _; iexact HR
  isplitl [HTs]; · iexact HTs
  isplitl [HW]; · iexact HW
  iexact HO

/-- The four blocks of the first sequence. -/
theorem t3_run {α : Type} {kk : FVec F S8x128 .f32 → Prog (TpuEff nD τ sig (Elt F) Λ₀ .tc) α} {Q : α → sProp 𝕄} :
    stB I c 0 ⊢ iprop((stB I c 4 -∗ kr c (kk (accB I 0 4)) Q)
        -∗ kr c (Scf.Loop.for k0_t3_loop k0_t3_ok (k0_pay67 (F := F)) (app (k0_t3_body (F := F))) >>= kk) Q) := by
  iintro H Hk
  iapply (rule_for k0_t3_loop (fun k acc => iprop(⌜acc = accB I 0 k⌝ ∗ stB I c k)) (fun k acc => t3_body_run I c k acc)) $$ [H]
  · isplitr
    · ipureintro; rfl
    · iexact H
  iintro %acc ⟨%h, H⟩
  subst h
  iapply Hk; iexact H

end Cert.Kernel.Disp

end
-- ==== Proof.KSeq1.lean ====
/-
  The blocks of the later sequences.
-/
module

public import proofs.«01_k».proof.Proof.KSeq0

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The same operations, in the loop over the later sequences -/

theorem pay51_eq (t9 : Fin k0_t9_loop.trips) (acc : FVec F S8x128 .f32) : k0_pay51 0#32 1#32 t9 acc = k0_pay33 0#32 1#32 (blk t9.val) acc := by
  have h : blk t9.val = (⟨t9.val, t9.isLt⟩ : Fin k0_t3_loop.trips) := Fin.ext (Nat.mod_eq_of_lt t9.isLt)
  rw [h]; rfl

theorem pay54_eq (t9 : Fin k0_t9_loop.trips) (acc : FVec F S8x128 .f32) (g : BitVec 32) (p : IVec S8x1 1) (q r : IVec S8x1 32) :
    k0_pay54 0#32 1#32 t9 acc g p q r = k0_pay36 0#32 1#32 (blk t9.val) acc g p q r := by
  have h : blk t9.val = (⟨t9.val, t9.isLt⟩ : Fin k0_t3_loop.trips) := Fin.ext (Nat.mod_eq_of_lt t9.isLt)
  rw [h]; rfl

/-! ## The statistics of a group -/

theorem xT_load' {i g k : ℕ} {off : Fin 4 → ℕ} {inb : ∀ a, off a + S1x1x8x256.size a ≤ S24x8x8x5120.size a} (ho : off = ![i, g, 0, 256 * k]) :
    (fun y => XV I ((Rect.unit (s := S24x8x8x5120) off S1x1x8x256.size inb).emb y)) = xT I (8 * i + g) k :=
  (rd4 ho fun a b r c => xN I (8 * a + b) r c).trans <| funext fun y => by
    have y0 : (y 0 : ℕ) < 1 := (y 0).isLt
    have y1 : (y 1 : ℕ) < 1 := (y 1).isLt
    unfold xT; congr 1 <;> omega

theorem wT_load' {k : ℕ} {off : Fin 2 → ℕ} {inb : ∀ a, off a + S1x256.size a ≤ S1x5120.size a} (ho : off = ![0, 256 * k]) :
    (fun y => WV I ((Rect.unit (s := S1x5120) off S1x256.size inb).emb y)) = wT I k :=
  (rd2 ho fun _ c => wN I c)

theorem t11_body_run (t8 : Fin k0_t8_loop.trips) (t9 : Fin k0_t9_loop.trips) {i : ℕ} (hi : i = 4 * (t8.val + 1) + t9.val) (v151 c0 c1 : BitVec 32)
    (t10 : Fin k0_t10_loop.trips) (t11 : Fin k0_t11_loop.trips) (acc : FVec F S8x128 .f32 × FVec F S8x128 .f32) :
    iprop(⌜acc = stat I (8 * i + t10.val) t11.val⌝ ∗ haveX I c i)
      ⊢ kr c (app (k0_t11_body (F := F)) t8 t9 v151 c0 c1 t10 t11 acc) fun acc' => iprop(⌜acc' = stat I (8 * i + t10.val) (t11.val + 1)⌝ ∗ haveX I c i) := by
  obtain ⟨a₁, a₂⟩ := acc
  have ho : k0_off24 t8 t9 t10 t11 = ![i, t10.val, 0, 256 * t11.val] := (k0_off24_eq t8 t9 t10 t11).trans (by rw [show 4 * t8.val + t9.val + 4 = i by omega])
  iintro ⟨%h, HX, HW⟩
  unfold app k0_t11_body
  iapply (rule_load 0 rfl (fun j hj => by
    have := ((mem4 ho).1 hj).1
    rw [mem_Btw]; exact ⟨Nat.zero_le _, this.2⟩)) $$ HX
  iintro HX
  iapply (rule_load 3 rfl (fun j _ => Finset.mem_univ j)) $$ HW
  iintro HW
  iapply rule_ret
  isplitr
  · ipureintro
    exact congrArg₂ Prod.mk (congrArg₂ k0_pay41 (congrArg Prod.fst h) (xT_load' I ho))
      (congr (congrArg₂ k0_pay42 (congrArg Prod.snd h) (xT_load' I ho)) (wT_load' I (k0_off25_eq t11)))
  isplitl [HX] <;> iassumption

theorem t10_body_run (t8 : Fin k0_t8_loop.trips) (t9 : Fin k0_t9_loop.trips) {i : ℕ} (hi : i = 4 * (t8.val + 1) + t9.val) (acc₀ arg31 : FVec F S8x128 .f32)
    (arg29 v151 : BitVec 32) (t10 : Fin k0_t10_loop.trips) (acc : FVec F S8x128 .f32) :
    iprop(⌜acc = lane I (t8.val + 1) t9.val acc₀ t10.val⌝ ∗ haveX I c i ∗ haveR I c i t10.val)
      ⊢ kr c (app (k0_t10_body (F := F)) t8 arg29 0#32 1#32 t9 arg31 v151 t10 acc) fun acc' =>
        iprop(⌜acc' = lane I (t8.val + 1) t9.val acc₀ (t10.val + 1)⌝ ∗ haveX I c i ∗ haveR I c i (t10.val + 1)) := by
  have hlt : t10.val < 8 := t10.isLt
  iintro ⟨%h, HX, HR, %f, HN⟩
  unfold app k0_t10_body
  rw [k0_part7_eq_skeleton]
  iapply rule_bind
  unfold k0_part7_skel
  iapply (rule_for k0_t11_loop (fun k acc => iprop(⌜acc = stat I (8 * i + t10.val) k⌝ ∗ haveX I c i))
    (fun k acc => t11_body_run I c t8 t9 hi v151 0#32 1#32 t10 k acc)) $$ [HX]
  · isplitr
    · ipureintro; rfl
    · iexact HX
  iintro %st ⟨%hst, HX⟩
  subst hst
  iapply rule_ret
  iapply (rule_load 5 rfl (fun j hj => by have := (r_box (k0_off26_eq t10) j).1 hj; rw [mem_Btw]; omega)) $$ HN
  iintro HN
  iapply (rule_fill 5 rfl (κ := κr) (a := 0) (n := t10.val) (e := 8) (G := RV I i) (r_box (k0_off26_eq t10)) (r_store I (k0_off26_eq t10)) (Nat.zero_le _) hlt) $$ [HR HN]
  · isplitl [HR]; · iexact HR
    iexists f; iexact HN
  iintro HR
  iapply rule_ret
  isplitr
  · ipureintro
    subst h hi
    exact pay54_eq t9 _ _ _ _ _
  isplitl [HX]; · iexact HX
  iexact HR

/-! ## The codes -/

theorem t13_body_run (t8 : Fin k0_t8_loop.trips) (t9 : Fin k0_t9_loop.trips) {i : ℕ} (hi : i = 4 * (t8.val + 1) + t9.val) (arg31 : FVec F S8x128 .f32)
    (arg29 v151 v170 arg32 : BitVec 32) (t12 : Fin k0_t12_loop.trips) (t13 : Fin k0_t13_loop.trips) (u : Unit) :
    iprop(haveX I c i ∗ own c bR (Btw κr 0 8) fullShare (RV I i) ∗ haveC I c (80 * i) (80 * i + 40 * t12.val + 2 * t13.val))
      ⊢ kr c (app (k0_t13_body (F := F)) t8 arg29 0#32 1#32 t9 arg31 v151 v170 t12 arg32 t13 u) fun _ =>
        iprop(haveX I c i ∗ own c bR (Btw κr 0 8) fullShare (RV I i) ∗ haveC I c (80 * i) (80 * i + 40 * t12.val + 2 * (t13.val + 1))) := by
  have h8 : t8.val < 5 := t8.isLt
  have h9 : t9.val < 4 := t9.isLt
  have hq : t12.val < 2 := t12.isLt
  have hn : t13.val < 20 := t13.isLt
  have hx : k0_off28 t8 t9 t12 t13 = ![i, 4 * t12.val, 0, 256 * t13.val] :=
    (k0_off28_eq t8 t9 t12 t13).trans (by rw [show 4 * t8.val + t9.val + 4 = i by omega])
  have ho0 : k0_off31 t8 t9 t12 t13 0#32 = ![t8.val + 1, 64 * t9.val + 32 * t12.val, 256 * t13.val + 128 * 0] := k0_off31_eq t8 t9 t12 t13 0
  have ho1 : k0_off31 t8 t9 t12 t13 128#32 = ![t8.val + 1, 64 * t9.val + 32 * t12.val, 256 * t13.val + 128 * 1] := k0_off31_eq t8 t9 t12 t13 1
  have hw0 : k0_off29 t13 0#32 = ![0, 128 * (2 * t13.val)] := (k0_off29_eq t13 0).trans (by congr 2; show 256 * t13.val + 128 * 0 = _; omega)
  have hw1 : k0_off29 t13 128#32 = ![0, 128 * (2 * t13.val + 1)] := (k0_off29_eq t13 1).trans (by congr 2; show 256 * t13.val + 128 * 1 = _; omega)
  have hb0 : ∀ j, j ∈ (Rect.unit (s := S6x256x5120) (k0_off31 t8 t9 t12 t13 0#32) S1x32x128.size (k0_off31_inb t8 t9 t12 t13 0)).set
      ↔ κc j = 80 * i + 40 * t12.val + 2 * t13.val := fun j =>
    (code_box (b := t8.val + 1) (k := t9.val) (q := t12.val) (n := t13.val) (h := 0) hq (by omega) hn ho0 j).trans (by rw [← hi]; rfl)
  have hb1 : ∀ j, j ∈ (Rect.unit (s := S6x256x5120) (k0_off31 t8 t9 t12 t13 128#32) S1x32x128.size (k0_off31_inb t8 t9 t12 t13 1)).set
      ↔ κc j = 80 * i + 40 * t12.val + 2 * t13.val + 1 := fun j =>
    (code_box (b := t8.val + 1) (k := t9.val) (q := t12.val) (n := t13.val) (h := 1) hq (by omega) hn ho1 j).trans (by rw [← hi]; rfl)
  have hi24 : i < 24 := by omega
  iintro ⟨⟨HX, HW⟩, HR, HC, %f, HN⟩
  unfold app k0_t13_body
  rw [k0_part8_eq_skeleton]
  iapply rule_bind
  unfold k0_part8_skel
  iapply (rule_load 0 rfl (fun j h => by
    have := ((mem4 hx).1 h).1
    rw [mem_Btw]; exact ⟨Nat.zero_le _, this.2⟩)) $$ HX
  iintro HX
  iapply (rule_load 3 rfl (fun j _ => Finset.mem_univ j)) $$ HW
  iintro HW
  iapply (rule_load 5 rfl (fun j h => by rw [mem_Btw]; exact ⟨Nat.zero_le _, (j 0).isLt⟩)) $$ HR
  iintro HR
  iapply (rule_load 6 rfl (fun j h => by have := (hb0 j).1 h; rw [mem_Btw]; omega)) $$ HN
  iintro HN
  iapply (rule_fill 6 rfl (κ := κc) (a := 80 * i) (n := 80 * i + 40 * t12.val + 2 * t13.val) (e := 1920) (G := CODES I)
    hb0
    (fun y => (congrFun ((congr (congrArg₂ k0_pay31 (xT4_load I hx) (wT2_load I hw0)) (rT4_load I (k0_off30_eq t12))).trans (codeT_even I _ _)) y).trans
      ((congrFun (congrArg (fun G => codeT I (8 * G + 4 * t12.val) (2 * t13.val + 0)) hi) y).trans (code_store I hq (by omega) ho0 y)))
    (by omega) (by omega)) $$ [HC HN]
  · isplitl [HC]; · iexact HC
    iexists f; iexact HN
  iintro ⟨HC, %f', HN⟩
  iapply (rule_load 3 rfl (fun j _ => Finset.mem_univ j)) $$ HW
  iintro HW
  iapply rule_ret
  iapply (rule_load 5 rfl (fun j h => by rw [mem_Btw]; exact ⟨Nat.zero_le _, (j 0).isLt⟩)) $$ HR
  iintro HR
  iapply (rule_load 6 rfl (fun j h => by have := (hb1 j).1 h; rw [mem_Btw]; omega)) $$ HN
  iintro HN
  iapply (rule_fill 6 rfl (κ := κc) (a := 80 * i) (n := 80 * i + 40 * t12.val + 2 * t13.val + 1) (e := 1920) (G := CODES I)
    hb1
    (fun y => (congrFun ((congr (congrArg₂ k0_pay38 (wT2_load I hw1) (congrArg k0_pay32 (xT4_load I hx))) (rT4_load I (k0_off30_eq t12))).trans (codeT_odd I _ _)) y).trans
      ((congrFun (congrArg (fun G => codeT I (8 * G + 4 * t12.val) (2 * t13.val + 1)) hi) y).trans (code_store I hq (by omega) ho1 y)))
    (by omega) (by omega)) $$ [HC HN]
  · isplitl [HC]; · iexact HC
    iexists f'; iexact HN
  iintro HC
  iapply rule_ret
  isplitl [HX HW]
  · isplitl [HX] <;> iassumption
  isplitl [HR]; · iexact HR
  iexact HC

theorem t12_body_run (t8 : Fin k0_t8_loop.trips) (t9 : Fin k0_t9_loop.trips) {i : ℕ} (hi : i = 4 * (t8.val + 1) + t9.val) (arg31 : FVec F S8x128 .f32)
    (arg29 v151 v170 : BitVec 32) (t12 : Fin k0_t12_loop.trips) (u : Unit) :
    iprop(haveX I c i ∗ own c bR (Btw κr 0 8) fullShare (RV I i) ∗ haveC I c (80 * i) (80 * i + 40 * t12.val))
      ⊢ kr c (app (k0_t12_body (F := F)) t8 arg29 0#32 1#32 t9 arg31 v151 v170 t12 u) fun _ =>
        iprop(haveX I c i ∗ own c bR (Btw κr 0 8) fullShare (RV I i) ∗ haveC I c (80 * i) (80 * i + 40 * (t12.val + 1))) := by
  iintro H
  unfold app k0_t12_body
  iapply (rule_for k0_t13_loop (fun n _ => iprop(haveX I c i ∗ own c bR (Btw κr 0 8) fullShare (RV I i)
      ∗ haveC I c (80 * i) (80 * i + 40 * t12.val + 2 * n)))
    (fun n u => t13_body_run I c t8 t9 hi arg31 arg29 v151 v170 (Scf.iv 0#32 1#32 t12) t12 n u)) $$ [H]
  · iexact H
  iintro %acc H
  iapply rule_ret
  iexact H

/-! ## A block of a later sequence -/

theorem cond2_iff : ∀ t9 : Fin k0_t9_loop.trips, k0_cond2 t9 = 1#1 ↔ t9.val % 2 = 1 := by decide +kernel
theorem off27_eq : ∀ t9 : Fin k0_t9_loop.trips, t9.val % 2 = 1 → k0_off27 t9 = ![0, 128 * (t9.val / 2)] := by decide +kernel
theorem seq_iv : ∀ t8 : Fin k0_t8_loop.trips, Scf.iv 1#32 1#32 t8.val = BitVec.ofNat 32 (t8.val + 1) := by decide +kernel

theorem pick_load {b : ℕ} {off : Fin 3 → ℕ} {inb : ∀ a, off a + S1x160x256.size a ≤ S6x160x256.size a} (ho : off = ![b, 0, 0]) :
    (fun y => PICK I ((Rect.unit (s := S6x160x256) off S1x160x256.size inb).emb y)) = pickR I b :=
  (rd3 ho fun b p t => pickN I b p t).trans <| funext fun y => by
    have y0 : (y 0 : ℕ) < 1 := (y 0).isLt
    unfold pickR; congr 1 <;> omega

/-- Everything a block has when its codes are written but not yet sent. -/
abbrev stM (i : ℕ) : sProp 𝕄 :=
  iprop(stX I c (i + 1) ∗ (own c bCode (Btw κc 0 (80 * i)) fullShare.left (CODES I) ∗ haveC I c (80 * i) (80 * (i + 1))) ∗ stF I c i ∗ stR (F := F) c ∗ haveTs I c (i + 1)
    ∗ own c bW Finset.univ fullShare (WV I) ∗ stO (F := F) c)

theorem part9_run (t8 : Fin k0_t8_loop.trips) (t9 : Fin k0_t9_loop.trips) {i : ℕ} (hi : i = 4 * (t8.val + 1) + t9.val) (acc : FVec F S8x128 .f32)
    (h : acc = accB I (t8.val + 1) t9.val) {Q : _ → sProp 𝕄} :
    iprop(stB I c i ∗ own c bPick Finset.univ fullShare (PICK I))
      ⊢ iprop((∀ a v1 v2 v4 v5, stM I c i ∗ own c bPick Finset.univ fullShare (PICK I) -∗ Q ⟨a, accB I (t8.val + 1) (t9.val + 1), v1, v2, k0_pay57 (F := F) (pickR I t8.val), v4, v5⟩)
        -∗ kr c (app (k0_part9 (F := F)) t8 (Scf.iv 1#32 1#32 t8.val) 0#32 1#32 t9 acc) Q) := by
  have h8 : t8.val < 5 := t8.isLt
  have h9 : t9.val < 4 := t9.isLt
  iintro ⟨⟨HX, ⟨HCl, HN⟩, HT, ⟨%fr, HR⟩, HTs, HW, HO⟩, HP⟩ Hk
  unfold app
  rw [k0_part9_eq_skeleton]
  unfold k0_part9_skel
  iapply (x_step I c (i := i) (by omega) ((k0_off21_eq t8 t9).trans (by rw [show 4 * t8.val + t9.val + 4 = i by omega]))) $$ [HX HO]
  · isplitl [HX] <;> iassumption
  iintro ⟨⟨HX, HXr⟩, HO⟩
  ihave ⟨HR0, HR⟩ := (pt_cut (κ := κr) (le_refl 0) (Nat.zero_le 8)) $$ HR
  ihave HR0 := (pt_congr (g := RV I i) (fun i hi => by rw [mem_Btw] at hi; omega)) $$ HR0
  iapply (rule_for k0_t10_loop (fun g a => iprop(⌜a = lane I (t8.val + 1) t9.val acc g⌝ ∗ haveX I c i ∗ haveR I c i g))
    (fun g a => t10_body_run I c t8 t9 hi acc acc (Scf.iv 1#32 1#32 t8.val) (Scalar.addi (Scalar.muli (Scf.iv 1#32 1#32 t8.val) 4#32) (Scf.iv 0#32 1#32 t9.val)) g a)) $$ [HX HW HR0 HR]
  · isplitr
    · ipureintro; exact pay51_eq t9 acc
    isplitl [HX HW]
    · isplitl [HX] <;> iassumption
    isplitl [HR0]; · iexact HR0
    iexists fr; iexact HR
  iintro %a ⟨%ha, ⟨HX, HW⟩, HR, -⟩
  obtain rfl : a = accB I (t8.val + 1) (t9.val + 1) := by rw [ha, h]; rfl
  dsimp only
  iapply (ts_run I c (b := t8.val + 1) (k := t9.val) (by omega) h9 (cond2_iff t9) (off27_eq t9) (v := accB I (t8.val + 1) (t9.val + 1)) rfl
    (w := k0_pay55 (Scf.iv 1#32 1#32 t8.val) (accB I (t8.val + 1) (t9.val + 1))) (fun _ => by rw [seq_iv])) $$ [HTs]
  · rw [← hi]; iexact HTs
  iintro HTs
  icases HN with ⟨%f, HN⟩
  ihave ⟨H0, HN⟩ := (pt_cut (κ := κc) (le_refl (80 * i)) (show 80 * i ≤ 1920 by omega)) $$ HN
  ihave H0 := (pt_congr (g := CODES I) (fun i hi => by rw [mem_Btw] at hi; omega)) $$ H0
  iapply (rule_for k0_t12_loop (fun q _ => iprop(haveX I c i ∗ own c bR (Btw κr 0 8) fullShare (RV I i)
      ∗ haveC I c (80 * i) (80 * i + 40 * q))) (fun q u => t12_body_run I c t8 t9 hi acc (Scf.iv 1#32 1#32 t8.val)
        (Scalar.addi (Scalar.muli (Scf.iv 1#32 1#32 t8.val) 4#32) (Scf.iv 0#32 1#32 t9.val)) (Scalar.muli (Scf.iv 0#32 1#32 t9.val) 64#32) q u)) $$ [HX HW HR H0 HN]
  · isplitl [HX HW]
    · isplitl [HX] <;> iassumption
    isplitl [HR]; · iexact HR
    isplitl [H0]; · iexact H0
    iexists f; iexact HN
  iintro %u ⟨⟨HX, HW⟩, HR, HC⟩
  iapply (rule_load 4 rfl (fun j _ => Finset.mem_univ j)) $$ HP
  iintro HP
  iapply rule_ret
  rw [pick_load I (k0_off32_eq t8)]
  iapply Hk
  isplitr [HP]
  · isplitl [HX HXr]
    · isplitl [HX]; · iexact HX
      iexact HXr
    isplitl [HCl HC]
    · isplitl [HCl]; · iexact HCl
      iexact HC
    isplitl [HT]; · iexact HT
    isplitl [HR]; · iexists _; iexact HR
    isplitl [HTs]; · rw [← hi]; iexact HTs
    isplitl [HW]; · iexact HW
    iexact HO
  iexact HP

end Cert.Kernel.Disp

end
-- ==== Proof.KSeq2.lean ====
/-
  The loop over the later sequences: a block of tokens, then a chunk of the previous sequence's expert buffers.
-/
module

public import proofs.«01_k».proof.Proof.KSeq1

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The expert buffers -/

/-- The expert buffers: the first `j` chunks on their way out. -/
abbrev stD (j : ℕ) : sProp 𝕄 :=
  iprop((∃ f, own (F := F) c bBuf (Btw κb (5 * j) 120) fullShare f) ∗ bigSep (Finset.Ico 0 j) (flyB c (BUF I))
    ∗ bigSep (Finset.Ico j 24) (fun j => sem0 (F := F) c (51 + j)) ∗ (∃ f, own (F := F) c main_v4_0 (Btw κo j 24) fullShare f))
/-- Chunk `j` being made, `n` of its five pieces. -/
abbrev haveB (j n : ℕ) : sProp 𝕄 :=
  iprop(own (F := F) c bBuf (Btw κb (5 * j) (5 * j + n)) fullShare (BUF I) ∗ (∃ f, own (F := F) c bBuf (Btw κb (5 * j + n) 120) fullShare f))
/-- What a chunk is sent out with. -/
abbrev stS (j : ℕ) : sProp 𝕄 :=
  iprop(bigSep (Finset.Ico 0 j) (flyB c (BUF I)) ∗ bigSep (Finset.Ico j 24) (fun j => sem0 (F := F) c (51 + j)) ∗ (∃ f, own (F := F) c main_v4_0 (Btw κo j 24) fullShare f))

/-- A finished chunk started on its way out. -/
theorem b_step {off : Fin 4 → ℕ} {offs : Fin 1 → ℕ} {inb inbs} {b k : ℕ} (hb : b < 6) (hk : k < 4) (hs : offs = ![4 * b + k]) (ho : off = ![b, 0, 0, 1280 * k])
    {hsrc : (bSrc off inb).view.WordExact} {hdst : (bDst off inb).view.WordExact}
    {hsem : DmaTarget.Typed (nD := nD) .vmem (.dma (sem24 cc0_scratch16 offs inbs)) (.here (p := .tc) (bDst off inb))}
    {α : Type} {kk : PUnit → Prog (TpuEff nD τ sig (Elt F) Λ₀ .tc) α} {Q : α → sProp 𝕄} :
    iprop(haveB I c (4 * b + k) 5 ∗ stS I c (4 * b + k))
      ⊢ iprop((stD I c (4 * b + k + 1) -∗ kr c (kk ⟨⟩) Q)
        -∗ kr c (Prog.lift (.enqueueDma (bSrc off inb) (.here (bDst off inb)) (.dma (sem24 cc0_scratch16 offs inbs)) hsrc hdst hsem) >>= kk) Q) := by
  iintro ⟨⟨HB1, %f', HB⟩, HT, HS, %f, HD⟩ Hk
  ihave ⟨HS1, HS⟩ := (ico_pop (show 4 * b + k < 24 by omega) (fun j => sem0 (F := F) c (51 + j))) $$ HS
  ihave ⟨HD1, HD⟩ := (pt_cut (κ := κo) (Nat.le_succ (4 * b + k)) (show 4 * b + k + 1 ≤ 24 by omega)) $$ HD
  iapply (b_start c (BUF I) hs ho hk) $$ [HB1 HD1 HS1]
  · isplitl [HB1]; · iexact HB1
    isplitl [HD1]; · iexists f; iexact HD1
    iexact HS1
  iintro HF
  iapply Hk
  isplitl [HB]; · iexists f'; iexact HB
  isplitl [HT HF]
  · iapply (ico_push (Nat.zero_le (4 * b + k)) (flyB c (BUF I)))
    isplitl [HF]; · iexact HF
    iexact HT
  isplitl [HS]; · iexact HS
  iexists f; iexact HD

/-- Piece `n` of chunk `4b + k`. -/
theorem buf_box {b k n : ℕ} (hk : k < 4) (hn : n < 5) {off : Fin 4 → ℕ} {inb : ∀ a, off a + S1x16x40x256.size a ≤ S6x16x40x5120.size a}
    (ho : off = ![b, 0, 0, 1280 * k + 256 * n]) (i : S6x16x40x5120.Idx) :
    i ∈ (Rect.unit (s := S6x16x40x5120) off S1x16x40x256.size inb).set ↔ κb i = 5 * (4 * b + k) + n := by
  refine (mem4 ho).trans ?_
  have h1 : (i 1 : ℕ) < 16 := (i 1).isLt
  have h2 : (i 2 : ℕ) < 40 := (i 2).isLt
  have h3 : (i 3 : ℕ) < 5120 := (i 3).isLt
  show (b ≤ (i 0 : ℕ) ∧ (i 0 : ℕ) < b + 1) ∧ (0 ≤ (i 1 : ℕ) ∧ (i 1 : ℕ) < 0 + 16) ∧ (0 ≤ (i 2 : ℕ) ∧ (i 2 : ℕ) < 0 + 40)
      ∧ (1280 * k + 256 * n ≤ (i 3 : ℕ) ∧ (i 3 : ℕ) < 1280 * k + 256 * n + 256)
    ↔ 20 * (i 0 : ℕ) + (i 3 : ℕ) / 256 = 5 * (4 * b + k) + n
  omega

theorem buf_store {b k n : ℕ} {off : Fin 4 → ℕ} {inb : ∀ a, off a + S1x16x40x256.size a ≤ S6x16x40x5120.size a}
    (ho : off = ![b, 0, 0, 1280 * k + 256 * n]) (y : S1x16x40x256.Idx) :
    bufT I b (5 * k + n) y = BUF I ((Rect.unit (s := S6x16x40x5120) off S1x16x40x256.size inb).emb y) := by
  have h0 : (y 0 : ℕ) < 1 := (y 0).isLt
  have h3 : (y 3 : ℕ) < 256 := (y 3).isLt
  refine Eq.trans ?_ (congrFun (rd4 ho fun a r l q => bufN I a r l q) y).symm
  show _ = bufN I (b + (y 0 : ℕ)) (0 + (y 1 : ℕ)) (0 + (y 2 : ℕ)) (1280 * k + 256 * n + (y 3 : ℕ))
  unfold bufN
  rw [show b + (y 0 : ℕ) = b by omega, show (1280 * k + 256 * n + (y 3 : ℕ)) / 256 = 5 * k + n by omega]
  exact (atN_eq (by decide) _ fun a => by
    match a with
    | 0 => show 0 = (y 0 : ℕ); omega
    | 1 => show 0 + (y 1 : ℕ) = y 1; omega
    | 2 => show 0 + (y 2 : ℕ) = y 2; omega
    | 3 => show (1280 * k + 256 * n + (y 3 : ℕ)) % 256 = y 3; omega).symm

theorem codeR_load {b n : ℕ} {off : Fin 3 → ℕ} {inb : ∀ a, off a + S1x256x256.size a ≤ S6x256x5120.size a} (ho : off = ![b, 0, 256 * n]) :
    (fun y => CODES I ((Rect.unit (s := S6x256x5120) off S1x256x256.size inb).emb y)) = codeR I b n :=
  (rd3 ho fun a r l => codeN I a r l).trans <| funext fun y => by
    have y0 : (y 0 : ℕ) < 1 := (y 0).isLt
    unfold codeR; congr 1 <;> omega

/-- The codes of an earlier sequence. -/
theorem code_in {b n i : ℕ} (hb : 4 * (b + 1) ≤ i) {off : Fin 3 → ℕ} {inb : ∀ a, off a + S1x256x256.size a ≤ S6x256x5120.size a}
    (ho : off = ![b, 0, n]) (j : S6x256x5120.Idx) (h : j ∈ (Rect.unit (s := S6x256x5120) off S1x256x256.size inb).set) :
    j ∈ Btw κc 0 (80 * i) := by
  have := ((mem3 ho).1 h).1
  have h1 : (j 1 : ℕ) < 256 := (j 1).isLt
  have h2 : (j 2 : ℕ) < 5120 := (j 2).isLt
  change b ≤ (j 0 : ℕ) ∧ (j 0 : ℕ) < b + 1 at this
  rw [mem_Btw]
  show 0 ≤ (8 * (j 0 : ℕ) + (j 1 : ℕ) / 32) * 40 + (j 2 : ℕ) / 128 ∧ (8 * (j 0 : ℕ) + (j 1 : ℕ) / 32) * 40 + (j 2 : ℕ) / 128 < 80 * i
  omega

theorem t14_body_run (t8 : Fin k0_t8_loop.trips) (t9 : Fin k0_t9_loop.trips) {i j : ℕ} (hi : i = 4 * (t8.val + 1) + t9.val) (hj : j = 4 * t8.val + t9.val)
    (t14 : Fin k0_t14_loop.trips) (u : Unit) :
    iprop(own c bCode (Btw κc 0 (80 * i)) fullShare.left (CODES I) ∗ haveB I c j t14.val)
      ⊢ kr c (app (k0_t14_body (F := F)) 1#32 1#32 t8 t9 (k0_pay57 (F := F) (pickR I t8.val)) t14 u) fun _ =>
        iprop(own c bCode (Btw κc 0 (80 * i)) fullShare.left (CODES I) ∗ haveB I c j (t14.val + 1)) := by
  have h8 : t8.val < 5 := t8.isLt
  have h9 : t9.val < 4 := t9.isLt
  have h14 : t14.val < 5 := t14.isLt
  have hc : k0_off33 t8 t9 t14 = ![t8.val, 0, 256 * (5 * t9.val + t14.val)] :=
    (k0_off33_eq t8 t9 t14).trans (by rw [show 1280 * t9.val + 256 * t14.val = 256 * (5 * t9.val + t14.val) by omega])
  have hb : ∀ x, x ∈ (Rect.unit (s := S6x16x40x5120) (k0_off34 t8 t9 t14) S1x16x40x256.size (k0_off34_inb t8 t9 t14)).set ↔ κb x = 5 * j + t14.val :=
    fun x => (buf_box h9 h14 (k0_off34_eq t8 t9 t14) x).trans (by rw [← hj])
  have hcS : ∀ x, x ∈ (Rect.unit (s := S6x256x5120) (k0_off33 t8 t9 t14) S1x256x256.size (k0_off33_inb t8 t9 t14)).set → x ∈ Btw κc 0 (80 * i) :=
    fun x h => code_in (b := t8.val) (by omega) hc x h
  have hbS : ∀ x, x ∈ (Rect.unit (s := S6x16x40x5120) (k0_off34 t8 t9 t14) S1x16x40x256.size (k0_off34_inb t8 t9 t14)).set → x ∈ Btw κb (5 * j + t14.val) 120 :=
    fun x h => mem_Btw.2 (by rw [(hb x).1 h]; omega)
  have hv : ∀ y, k0_pay59 (k0_pay57 (F := F) (pickR I t8.val)) (fun y => CODES I ((Rect.unit (s := S6x256x5120) (k0_off33 t8 t9 t14) S1x256x256.size (k0_off33_inb t8 t9 t14)).emb y)) y
      = BUF I ((Rect.unit (s := S6x16x40x5120) (k0_off34 t8 t9 t14) S1x16x40x256.size (k0_off34_inb t8 t9 t14)).emb y) :=
    fun y => (congrFun (congrArg (k0_pay59 (k0_pay57 (F := F) (pickR I t8.val))) (codeR_load I hc)) y).trans (buf_store I (k0_off34_eq t8 t9 t14) y)
  iintro ⟨HC, HB, %f, HN⟩
  unfold app k0_t14_body
  iapply (rule_load 6 rfl hcS) $$ HC
  iintro HC
  iapply (rule_load 7 rfl hbS) $$ HN
  iintro HN
  iapply (rule_fill 7 rfl (κ := κb) (a := 5 * j) (n := 5 * j + t14.val) (e := 120) (G := BUF I) hb hv (by omega) (by omega)) $$ [HB HN]
  · isplitl [HB]; · iexact HB
    iexists f; iexact HN
  iintro HB
  iapply rule_ret
  isplitl [HC]; · iexact HC
  iexact HB

/-- A chunk of which nothing is made yet. -/
theorem haveB_zero {j : ℕ} (hj : j ≤ 24) : iprop(∃ f, own (F := F) c bBuf (Btw κb (5 * j) 120) fullShare f) ⊢ haveB I c j 0 := by
  iintro ⟨%f, HB⟩
  ihave ⟨H0, HB⟩ := (pt_cut (κ := κb) (le_refl (5 * j)) (show 5 * j ≤ 120 by omega)) $$ HB
  ihave H0 := (pt_congr (g := BUF I) (fun i hi => by rw [mem_Btw] at hi; omega)) $$ H0
  isplitl [H0]; · iexact H0
  iexists f; iexact HB

theorem t9_body_run (t8 : Fin k0_t8_loop.trips) (t9 : Fin k0_t9_loop.trips) (acc : FVec F S8x128 .f32) :
    iprop(⌜acc = accB I (t8.val + 1) t9.val⌝ ∗ stB I c (4 * (t8.val + 1) + t9.val) ∗ stD I c (4 * t8.val + t9.val) ∗ own c bPick Finset.univ fullShare (PICK I))
      ⊢ kr c (app (k0_t9_body (F := F)) 1#32 1#32 t8 (Scf.iv 1#32 1#32 t8.val) t9 acc) fun acc' =>
        iprop(⌜acc' = accB I (t8.val + 1) (t9.val + 1)⌝ ∗ stB I c (4 * (t8.val + 1) + (t9.val + 1)) ∗ stD I c (4 * t8.val + (t9.val + 1)) ∗ own c bPick Finset.univ fullShare (PICK I)) := by
  have h8 : t8.val < 5 := t8.isLt
  have h9 : t9.val < 4 := t9.isLt
  iintro ⟨%h, HS, ⟨HB, HD⟩, HP⟩
  unfold app k0_t9_body
  iapply rule_bind
  iapply (part9_run I c t8 t9 rfl acc h) $$ [HS HP]
  · isplitl [HS] <;> iassumption
  iintro %a %v1 %v2 %v4 %v5 ⟨⟨HX, ⟨HCl, HC⟩, HT, HR, HTs, HW, HO⟩, HP⟩
  ihave HB := (haveB_zero I c (j := 4 * t8.val + t9.val) (by omega)) $$ HB
  iapply (rule_for k0_t14_loop (fun n _ => iprop(own c bCode (Btw κc 0 (80 * (4 * (t8.val + 1) + t9.val))) fullShare.left (CODES I) ∗ haveB I c (4 * t8.val + t9.val) n))
    (fun n u => t14_body_run I c t8 t9 rfl rfl n u)) $$ [HCl HB]
  · isplitl [HCl]; · iexact HCl
    iexact HB
  iintro %u ⟨HCl, HB⟩
  iapply (b_step I c (b := t8.val) (k := t9.val) (by omega) h9 (k0_off35_eq t8 t9) (k0_off36_eq t8 t9)) $$ [HB HD]
  · isplitl [HB]; · iexact HB
    iexact HD
  iintro HD
  iapply (t_step I c (b := t8.val + 1) (k := t9.val) (by omega) h9 ((k0_off21_eq t8 t9).trans (by rw [show 4 * t8.val + t9.val + 4 = 4 * (t8.val + 1) + t9.val by omega]))
    (k0_off37_eq t8 t9)) $$ [HCl HC HT]
  · isplitl [HCl]; · iexact HCl
    isplitl [HC]; · iexact HC
    iexact HT
  iintro ⟨HC, HT⟩
  iapply rule_ret
  isplitr
  · ipureintro; rfl
  isplitr [HD HP]
  · isplitl [HX]; · iexact HX
    isplitl [HC]; · iexact HC
    isplitl [HT]; · iexact HT
    isplitl [HR]; · iexact HR
    isplitl [HTs]; · iexact HTs
    isplitl [HW]; · iexact HW
    iexact HO
  isplitl [HD]; · iexact HD
  iexact HP

/-! ## The expert scales -/

def κs (i : S6x16x40.Idx) : ℕ := i 0

/-- The expert scales of the first `b` sequences. -/
abbrev haveS (b : ℕ) : sProp 𝕄 := iprop(own c bBs (Btw κs 0 b) fullShare (BS I) ∗ (∃ f, own c bBs (Btw κs b 6) fullShare f))

theorem bs_box {b : ℕ} {off : Fin 3 → ℕ} {inb : ∀ a, off a + S1x16x40.size a ≤ S6x16x40.size a} (ho : off = ![b, 0, 0]) (i : S6x16x40.Idx) :
    i ∈ (Rect.unit (s := S6x16x40) off S1x16x40.size inb).set ↔ κs i = b := by
  refine (mem3 ho).trans ?_
  have h1 : (i 1 : ℕ) < 16 := (i 1).isLt
  have h2 : (i 2 : ℕ) < 40 := (i 2).isLt
  show (b ≤ (i 0 : ℕ) ∧ (i 0 : ℕ) < b + 1) ∧ (0 ≤ (i 1 : ℕ) ∧ (i 1 : ℕ) < 0 + 16) ∧ (0 ≤ (i 2 : ℕ) ∧ (i 2 : ℕ) < 0 + 40) ↔ (i 0 : ℕ) = b
  omega

theorem bs_store {b : ℕ} {off : Fin 3 → ℕ} {inb : ∀ a, off a + S1x16x40.size a ≤ S6x16x40.size a} (ho : off = ![b, 0, 0]) (y : S1x16x40.Idx) :
    bsT I b y = BS I ((Rect.unit (s := S6x16x40) off S1x16x40.size inb).emb y) := by
  have h0 : (y 0 : ℕ) < 1 := (y 0).isLt
  refine Eq.trans ?_ (congrFun (rd3 ho fun a r l => bsN I a r l) y).symm
  show _ = bsN I (b + (y 0 : ℕ)) (0 + (y 1 : ℕ)) (0 + (y 2 : ℕ))
  unfold bsN
  rw [show b + (y 0 : ℕ) = b by omega]
  exact (atN_eq (by decide) _ fun a => by
    match a with
    | 0 => show 0 = (y 0 : ℕ); omega
    | 1 => show 0 + (y 1 : ℕ) = y 1; omega
    | 2 => show 0 + (y 2 : ℕ) = y 2; omega).symm

theorem row3_load {b j : ℕ} {α : Type} (g : ℕ → ℕ → ℕ → α) {off : Fin 3 → ℕ} {inb : ∀ a, off a + S1x1x256.size a ≤ S6x2x256.size a} (ho : off = ![b, j, 0]) :
    (fun y => (fun i : S6x2x256.Idx => g (i 0) (i 1) (i 2)) ((Rect.unit (s := S6x2x256) off S1x1x256.size inb).emb y)) = fun y => g b j (y 2) :=
  (rd3 ho g).trans <| funext fun y => by
    have y0 : (y 0 : ℕ) < 1 := (y 0).isLt
    have y1 : (y 1 : ℕ) < 1 := (y 1).isLt
    congr 1 <;> omega

theorem ts_load {α : Type} (f : S6x256.Idx → α) :
    (fun y => f ((Rect.unit (s := S6x256) ![0, 0] S6x256.size inb_S6x256_S6x256_0_0).emb y)) = f :=
  funext fun y => congrArg f (funext fun a => Fin.ext (by
    rw [emb_val rfl]
    match a with
    | 0 => exact Nat.zero_add _
    | 1 => exact Nat.zero_add _))

theorem bsT_succ (t8 : Fin k0_t8_loop.trips) (m : ℕ) (hm : m = 2 * (t8.val + 1) + 2) :
    k0_pay71 (iota .tc S40x256 32 [0] iota_S40x256_d0_w32) (k0_pay61 1#32 1#32 t8 (TSat I m) (ixR I (t8.val + 1) 0))
      (k0_pay62 (F := F) (posR I (t8.val + 1) 0)) (k0_pay63 1#32 1#32 t8 (TSat I m) (ixR I (t8.val + 1) 1)) (posR I (t8.val + 1) 1) = bsT I (t8.val + 1) := by
  subst hm
  have h : seq8 (t8.val + 1 - 1) = t8 := Fin.ext (Nat.mod_eq_of_lt t8.isLt)
  unfold bsT
  rw [if_neg (Nat.succ_ne_zero _), h]

theorem bs_cong (t8 : Fin k0_t8_loop.trips) {T T' : Vec F S6x256 .f32} {A A' P P' B B' R R' : Vec F S1x1x256 .i32} (hT : T = T') (hA : A = A') (hP : P = P')
    (hB : B = B') (hR : R = R') (y : S1x16x40.Idx) :
    k0_pay71 (iota .tc S40x256 32 [0] iota_S40x256_d0_w32) (k0_pay61 1#32 1#32 t8 T A) (k0_pay62 (F := F) P) (k0_pay63 1#32 1#32 t8 T B) R y
      = k0_pay71 (iota .tc S40x256 32 [0] iota_S40x256_d0_w32) (k0_pay61 1#32 1#32 t8 T' A') (k0_pay62 (F := F) P') (k0_pay63 1#32 1#32 t8 T' B') R' y := by
  subst hT hA hP hB hR; rfl

theorem bs_val (t8 : Fin k0_t8_loop.trips) (y : S1x16x40.Idx) :
    k0_pay71 (iota .tc S40x256 32 [0] iota_S40x256_d0_w32)
      (k0_pay61 1#32 1#32 t8 (fun y => TSat I ((4 * (t8.val + 1) + k0_t9_loop.trips) / 2) ((Rect.unit (s := S6x256) ![0, 0] S6x256.size inb_S6x256_S6x256_0_0).emb y))
        (fun y => IXV I ((Rect.unit (s := S6x2x256) (k0_off38 t8) S1x1x256.size (k0_off38_inb t8)).emb y)))
      (k0_pay62 (F := F) (fun y => POS I ((Rect.unit (s := S6x2x256) (k0_off38 t8) S1x1x256.size (k0_off38_inb t8)).emb y)))
      (k0_pay63 1#32 1#32 t8 (fun y => TSat I ((4 * (t8.val + 1) + k0_t9_loop.trips) / 2) ((Rect.unit (s := S6x256) ![0, 0] S6x256.size inb_S6x256_S6x256_0_0).emb y))
        (fun y => IXV I ((Rect.unit (s := S6x2x256) (k0_off39 t8) S1x1x256.size (k0_off39_inb t8)).emb y)))
      (fun y => POS I ((Rect.unit (s := S6x2x256) (k0_off39 t8) S1x1x256.size (k0_off39_inb t8)).emb y)) y
    = BS I ((Rect.unit (s := S6x16x40) (k0_off40 t8) S1x16x40.size (k0_off40_inb t8)).emb y) := by
  have e1 := ts_load (TSat I ((4 * (t8.val + 1) + k0_t9_loop.trips) / 2))
  have e2 := row3_load (fun b j t => ixN I b j t) (inb := k0_off38_inb t8) (k0_off38_eq t8)
  have e3 := row3_load (fun b j t => posN I b j t) (inb := k0_off38_inb t8) (k0_off38_eq t8)
  have e4 := row3_load (fun b j t => ixN I b j t) (inb := k0_off39_inb t8) (k0_off39_eq t8)
  have e5 := row3_load (fun b j t => posN I b j t) (inb := k0_off39_inb t8) (k0_off39_eq t8)
  have h := bsT_succ I t8 ((4 * (t8.val + 1) + k0_t9_loop.trips) / 2) (by show (4 * (t8.val + 1) + 4) / 2 = _; omega)
  refine Eq.trans ?_ ((congrFun h y).trans (bs_store I (k0_off40_eq t8) y))
  exact bs_cong t8 e1 e2 e3 e4 e5 y

/-- Everything the loop over the later sequences reads and writes, after `n` of them. -/
abbrev stE (n : ℕ) : sProp 𝕄 :=
  iprop(stB I c (4 * (n + 1)) ∗ stD I c (4 * n) ∗ own c bPick Finset.univ fullShare (PICK I) ∗ own c bIx Finset.univ fullShare (IXV I) ∗ own c bPos Finset.univ fullShare.left (POS I) ∗ haveS I c (n + 1))

theorem t8_body_run (v66 : FVec F S16x512 .bf16) (v68 : FVec F S40x512 .bf16) (z : FVec F S16x40 .f32) (t8 : Fin k0_t8_loop.trips) (u : Unit) :
    stE I c t8.val ⊢ kr c (app (k0_t8_body (F := F)) v66 v68 z t8 u) fun _ => stE I c (t8.val + 1) := by
  have h8 : t8.val < 5 := t8.isLt
  have hbS : ∀ i, i ∈ (Rect.unit (s := S6x16x40) (k0_off40 t8) S1x16x40.size (k0_off40_inb t8)).set → i ∈ Btw κs (t8.val + 1) 6 :=
    fun i h => mem_Btw.2 ⟨((bs_box (k0_off40_eq t8) i).1 h).ge, (i 0).isLt⟩
  iintro ⟨HS, HD, HP, HI, HPos, HB, %fb, HBN⟩
  unfold app k0_t8_body
  rw [k0_part10_eq_skeleton]
  iapply rule_bind
  unfold k0_part10_skel
  iapply (rule_for k0_t9_loop (fun k acc => iprop(⌜acc = accB I (t8.val + 1) k⌝ ∗ stB I c (4 * (t8.val + 1) + k) ∗ stD I c (4 * t8.val + k) ∗ own c bPick Finset.univ fullShare (PICK I)))
    (fun k acc => t9_body_run I c t8 k acc)) $$ [HS HD HP]
  · isplitr
    · ipureintro; rfl
    isplitl [HS]; · iexact HS
    isplitl [HD] <;> iassumption
  iintro %acc ⟨-, HS, HD, HP⟩
  icases HS with ⟨HX, HC, HT, HR, HTs, HW, HO⟩
  iapply (rule_load 12 rfl (fun i _ => Finset.mem_univ i)) $$ HTs
  iintro HTs
  iapply (rule_load 1 rfl (fun i _ => Finset.mem_univ i)) $$ HI
  iintro HI
  iapply (rule_load 10 rfl (fun i _ => Finset.mem_univ i)) $$ HPos
  iintro HPos
  iapply (rule_load 1 rfl (fun i _ => Finset.mem_univ i)) $$ HI
  iintro HI
  iapply (rule_load 10 rfl (fun i _ => Finset.mem_univ i)) $$ HPos
  iintro HPos
  iapply rule_ret
  iapply (rule_load 8 rfl hbS) $$ HBN
  iintro HBN
  iapply (rule_fill 8 rfl (κ := κs) (a := 0) (n := t8.val + 1) (e := 6) (G := BS I) (bs_box (k0_off40_eq t8))
    (bs_val I t8)
    (Nat.zero_le _) (by omega)) $$ [HB HBN]
  · isplitl [HB]; · iexact HB
    iexists fb; iexact HBN
  iintro HB
  iapply rule_ret
  isplitr [HD HP HI HPos HB]
  · isplitl [HX]; · iexact HX
    isplitl [HC]; · iexact HC
    isplitl [HT]; · iexact HT
    isplitl [HR]; · iexact HR
    isplitl [HTs]; · iexact HTs
    isplitl [HW]; · iexact HW
    iexact HO
  isplitl [HD]; · iexact HD
  isplitl [HP]; · iexact HP
  isplitl [HI]; · iexact HI
  isplitl [HPos]; · iexact HPos
  iexact HB

end Cert.Kernel.Disp

end
-- ==== Proof.KRoute.lean ====
/-
  The routing: positions, kept flags, combine weights and the slots of the buffer rows, sequence by sequence.
-/
module

public import proofs.«01_k».proof.Proof.KSeq2

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## Buffers filled in order -/

/-- The next numbered piece of a buffer filled in order, read and then written. -/
theorem put (i₀ : Fin (sig.nNear .tc (.core .vmem))) (h₀ : sig.names .tc (.core .vmem) i₀ = true) {r : Rect (VB i₀ h₀).ty.shape}
    {w : r.shape.Idx → Elt F (VB i₀ h₀).ty.elt} {hl : (Memref.whole (VB i₀ h₀)).view.LoadsAt r.toLoadRect}
    {hx : ((Memref.whole (VB i₀ h₀)).access r).Stores Finset.univ} {hm : Finset.univ = Finset.univ ∨ ∀ a, r.stride a = 1}
    {α : Type} {k : PUnit → Prog (TpuEff nD τ sig (Elt F) Λ₀ .tc) α} {Q : α → sProp 𝕄}
    {κ : Idx ((Memref.whole (VB i₀ h₀)).view.loc (c : Thread nD τ)) → ℕ} {n e : ℕ}
    {G : Buf (Elt F) ((Memref.whole (VB i₀ h₀)).view.loc (c : Thread nD τ))}
    (hκ : ∀ i, i ∈ r.set ↔ κ i = n) (hw : ∀ x, w x = G (r.emb x)) (hn : n < e) :
    iprop(own c (VB i₀ h₀) (Btw κ 0 n) fullShare G ∗ (∃ f, own c (VB i₀ h₀) (Btw κ n e) fullShare f))
      ⊢ iprop((own c (VB i₀ h₀) (Btw κ 0 (n + 1)) fullShare G ∗ (∃ f, own c (VB i₀ h₀) (Btw κ (n + 1) e) fullShare f) -∗ kr c (k ⟨⟩) Q)
        -∗ kr c (Prog.lift (.load (Memref.whole (VB i₀ h₀)) r.toLoadRect hl) >>= fun _ =>
            Prog.lift (.store (Memref.whole (VB i₀ h₀)) r w Finset.univ hx hm) >>= k) Q) := by
  have hS : ∀ i, i ∈ r.set → i ∈ Btw κ n e := fun i h => mem_Btw.2 ⟨((hκ i).1 h).ge, ((hκ i).1 h).trans_lt hn⟩
  iintro ⟨HG, %f, HN⟩ Hk
  iapply (rule_load i₀ h₀ hS) $$ HN
  iintro HN
  iapply (rule_fill i₀ h₀ (κ := κ) (a := 0) (n := n) (e := e) (G := G) hκ hw (Nat.zero_le _) hn) $$ [HG HN]
  · isplitl [HG]; · iexact HG
    iexists f; iexact HN
  iexact Hk

/-- The next numbered piece of a buffer filled in order, read. -/
theorem peek (i₀ : Fin (sig.nNear .tc (.core .vmem))) (h₀ : sig.names .tc (.core .vmem) i₀ = true) {r : Rect (VB i₀ h₀).ty.shape}
    {hl : (Memref.whole (VB i₀ h₀)).view.LoadsAt r.toLoadRect}
    {α : Type} {k : (r.shape.Idx → Elt F (VB i₀ h₀).ty.elt) → Prog (TpuEff nD τ sig (Elt F) Λ₀ .tc) α} {Q : α → sProp 𝕄}
    {κ : Idx ((Memref.whole (VB i₀ h₀)).view.loc (c : Thread nD τ)) → ℕ} {n e : ℕ}
    (hκ : ∀ i, i ∈ r.set ↔ κ i = n) (hn : n < e) :
    iprop(∃ f, own (F := F) c (VB i₀ h₀) (Btw κ n e) fullShare f)
      ⊢ iprop((∀ v, (∃ f, own (F := F) c (VB i₀ h₀) (Btw κ n e) fullShare f) -∗ kr c (k v) Q)
        -∗ kr c (Prog.lift (.load (Memref.whole (VB i₀ h₀)) r.toLoadRect hl) >>= k) Q) := by
  have hS : ∀ i, i ∈ r.set → i ∈ Btw κ n e := fun i h => mem_Btw.2 ⟨((hκ i).1 h).ge, ((hκ i).1 h).trans_lt hn⟩
  iintro ⟨%f, HN⟩ Hk
  iapply (rule_load i₀ h₀ hS) $$ HN
  iintro HN
  iapply Hk
  iexists f; iexact HN

/-- A load of a rectangle whose contents are known. -/
theorem look (i₀ : Fin (sig.nNear .tc (.core .vmem))) (h₀ : sig.names .tc (.core .vmem) i₀ = true) {r : Rect (VB i₀ h₀).ty.shape}
    {hl : (Memref.whole (VB i₀ h₀)).view.LoadsAt r.toLoadRect}
    {α : Type} {k : (r.shape.Idx → Elt F (VB i₀ h₀).ty.elt) → Prog (TpuEff nD τ sig (Elt F) Λ₀ .tc) α} {Q : α → sProp 𝕄} {q : PosShare TreeShare}
    {f : Buf (Elt F) ((Memref.whole (VB i₀ h₀)).view.loc (c : Thread nD τ))} {v : r.shape.Idx → Elt F (VB i₀ h₀).ty.elt} (hv : (fun x => f (r.emb x)) = v) :
    own c (VB i₀ h₀) Finset.univ q f
      ⊢ iprop((own c (VB i₀ h₀) Finset.univ q f -∗ kr c (k v) Q)
        -∗ kr c (Prog.lift (.load (Memref.whole (VB i₀ h₀)) r.toLoadRect hl) >>= k) Q) := by
  subst hv
  exact rule_load i₀ h₀ (fun i _ => Finset.mem_univ i)

/-! ## The routing buffers' rows -/

def κp (i : S6x2x256.Idx) : ℕ := 2 * (i 0 : ℕ) + i 1
def κk (i : S2x6x256.Idx) : ℕ := 2 * (i 1 : ℕ) + i 0
def κq (i : S6x160x256.Idx) : ℕ := i 0

theorem p_box {b j : ℕ} (hj : j < 2) {off : Fin 3 → ℕ} {inb : ∀ a, off a + S1x1x256.size a ≤ S6x2x256.size a} (ho : off = ![b, j, 0]) (i : S6x2x256.Idx) :
    i ∈ (Rect.unit (s := S6x2x256) off S1x1x256.size inb).set ↔ κp i = 2 * b + j := by
  refine (mem3 ho).trans ?_
  have h1 : (i 1 : ℕ) < 2 := (i 1).isLt
  have h2 : (i 2 : ℕ) < 256 := (i 2).isLt
  show (b ≤ (i 0 : ℕ) ∧ (i 0 : ℕ) < b + 1) ∧ (j ≤ (i 1 : ℕ) ∧ (i 1 : ℕ) < j + 1) ∧ (0 ≤ (i 2 : ℕ) ∧ (i 2 : ℕ) < 0 + 256) ↔ 2 * (i 0 : ℕ) + (i 1 : ℕ) = 2 * b + j
  omega

theorem k_box {b j : ℕ} (hj : j < 2) {off : Fin 3 → ℕ} {inb : ∀ a, off a + S1x1x256.size a ≤ S2x6x256.size a} (ho : off = ![j, b, 0]) (i : S2x6x256.Idx) :
    i ∈ (Rect.unit (s := S2x6x256) off S1x1x256.size inb).set ↔ κk i = 2 * b + j := by
  refine (mem3 ho).trans ?_
  have h0 : (i 0 : ℕ) < 2 := (i 0).isLt
  have h2 : (i 2 : ℕ) < 256 := (i 2).isLt
  show (j ≤ (i 0 : ℕ) ∧ (i 0 : ℕ) < j + 1) ∧ (b ≤ (i 1 : ℕ) ∧ (i 1 : ℕ) < b + 1) ∧ (0 ≤ (i 2 : ℕ) ∧ (i 2 : ℕ) < 0 + 256) ↔ 2 * (i 1 : ℕ) + (i 0 : ℕ) = 2 * b + j
  omega

theorem q_box {b : ℕ} {off : Fin 3 → ℕ} {inb : ∀ a, off a + S1x160x256.size a ≤ S6x160x256.size a} (ho : off = ![b, 0, 0]) (i : S6x160x256.Idx) :
    i ∈ (Rect.unit (s := S6x160x256) off S1x160x256.size inb).set ↔ κq i = b := by
  refine (mem3 ho).trans ?_
  have h1 : (i 1 : ℕ) < 160 := (i 1).isLt
  have h2 : (i 2 : ℕ) < 256 := (i 2).isLt
  show (b ≤ (i 0 : ℕ) ∧ (i 0 : ℕ) < b + 1) ∧ (0 ≤ (i 1 : ℕ) ∧ (i 1 : ℕ) < 0 + 160) ∧ (0 ≤ (i 2 : ℕ) ∧ (i 2 : ℕ) < 0 + 256) ↔ (i 0 : ℕ) = b
  omega

/-- A row stored: what the buffer given by its coordinates holds there. -/
theorem row_store {b j : ℕ} {α : Type} {d : Fin 3 → ℕ} (g : ℕ → ℕ → ℕ → α) (f : S1x1x256.Idx → α)
    (hg : ∀ t, g b j t = atN (s := S1x1x256) (by decide) f ![0, 0, t]) {off : Fin 3 → ℕ} {inb : ∀ a, off a + S1x1x256.size a ≤ d a} (ho : off = ![b, j, 0]) (y : S1x1x256.Idx) :
    f y = (fun i : (⟨3, d⟩ : Shape).Idx => g (i 0) (i 1) (i 2)) ((Rect.unit (s := ⟨3, d⟩) off S1x1x256.size inb).emb y) := by
  have h0 : (y 0 : ℕ) < 1 := (y 0).isLt
  have h1 : (y 1 : ℕ) < 1 := (y 1).isLt
  refine Eq.trans ?_ (congrFun (rd3 ho g) y).symm
  show _ = g (b + (y 0 : ℕ)) (j + (y 1 : ℕ)) (0 + (y 2 : ℕ))
  rw [show b + (y 0 : ℕ) = b by omega, show j + (y 1 : ℕ) = j by omega, hg]
  exact (atN_eq (by decide) _ fun a => by
    match a with
    | 0 => show 0 = (y 0 : ℕ); omega
    | 1 => show 0 = (y 1 : ℕ); omega
    | 2 => show 0 + (y 2 : ℕ) = y 2; omega).symm

theorem pick_store {b : ℕ} {off : Fin 3 → ℕ} {inb : ∀ a, off a + S1x160x256.size a ≤ S6x160x256.size a} (ho : off = ![b, 0, 0]) (y : S1x160x256.Idx) :
    k0_pay65 (k0_pay20 (k0_pay1 (F := F) (ixR I b 0)) (k0_pay2 (F := F) (ixR I b 1)) (pos0 I b) (pos1 I b) (kp0 I b) (kp1 I b)) y
      = PICK I ((Rect.unit (s := S6x160x256) off S1x160x256.size inb).emb y) := by
  have h0 : (y 0 : ℕ) < 1 := (y 0).isLt
  refine Eq.trans ?_ (congrFun (rd3 ho fun a r l => pickN I a r l) y).symm
  show _ = pickN I (b + (y 0 : ℕ)) (0 + (y 1 : ℕ)) (0 + (y 2 : ℕ))
  unfold pickN
  rw [show b + (y 0 : ℕ) = b by omega]
  exact (atN_eq (by decide) _ fun a => by
    match a with
    | 0 => show 0 = (y 0 : ℕ); omega
    | 1 => show 0 + (y 1 : ℕ) = y 1; omega
    | 2 => show 0 + (y 2 : ℕ) = y 2; omega).symm

theorem ix_load {b j : ℕ} {off : Fin 3 → ℕ} {inb : ∀ a, off a + S1x1x256.size a ≤ S6x2x256.size a} (ho : off = ![b, j, 0]) :
    (fun y => IXV I ((Rect.unit (s := S6x2x256) off S1x1x256.size inb).emb y)) = ixR I b j := row3_load (fun b j t => ixN I b j t) ho
theorem ga_load {b j : ℕ} {off : Fin 3 → ℕ} {inb : ∀ a, off a + S1x1x256.size a ≤ S6x2x256.size a} (ho : off = ![b, j, 0]) :
    (fun y => GAV I ((Rect.unit (s := S6x2x256) off S1x1x256.size inb).emb y)) = gaR I b j := row3_load (fun b j t => gaN I b j t) ho
theorem pos_load {b j : ℕ} {off : Fin 3 → ℕ} {inb : ∀ a, off a + S1x1x256.size a ≤ S6x2x256.size a} (ho : off = ![b, j, 0]) :
    (fun y => POS I ((Rect.unit (s := S6x2x256) off S1x1x256.size inb).emb y)) = posR I b j := row3_load (fun b j t => posN I b j t) ho

/-! ## The routing of a sequence -/

abbrev haveP (n : ℕ) : sProp 𝕄 := iprop(own c bPos (Btw κp 0 n) fullShare (POS I) ∗ (∃ f, own c bPos (Btw κp n 12) fullShare f))
abbrev haveK (n : ℕ) : sProp 𝕄 := iprop(own c bKeep (Btw κk 0 n) fullShare (KEEP I) ∗ (∃ f, own c bKeep (Btw κk n 12) fullShare f))
abbrev haveG (n : ℕ) : sProp 𝕄 := iprop(own c bComb (Btw κp 0 n) fullShare (COMB I) ∗ (∃ f, own c bComb (Btw κp n 12) fullShare f))
abbrev haveQ (n : ℕ) : sProp 𝕄 := iprop(own c bPick (Btw κq 0 n) fullShare (PICK I) ∗ (∃ f, own c bPick (Btw κq n 6) fullShare f))
abbrev stIn : sProp 𝕄 := iprop(own c bIx Finset.univ fullShare (IXV I) ∗ own c bGa Finset.univ fullShare (GAV I))

theorem part1_run (t2 : Fin k0_t2_loop.trips) {Q : _ → sProp 𝕄} :
    iprop(stIn I c ∗ haveP I c (2 * t2.val))
      ⊢ iprop((∀ a v, stIn I c ∗ haveP I c (2 * t2.val)
          -∗ Q ⟨a, k0_pay1 (F := F) (ixR I t2.val 0), k0_pay2 (F := F) (ixR I t2.val 1), pos0 I t2.val, pos1 I t2.val, kp0 I t2.val, kp1 I t2.val, v⟩)
        -∗ kr c (app (k0_part1 (F := F)) (k0_pay64 (F := F)) 0#32 1#32 t2) Q) := by
  have h2 : t2.val < 6 := t2.isLt
  unfold pos0 pos1 kp0 kp1
  iintro ⟨⟨HI, HG⟩, HP, HPN⟩ Hk
  unfold app
  rw [k0_part1_eq_skeleton]
  unfold k0_part1_skel
  iapply (look c 1 rfl (ix_load I (k0_off4_eq t2))) $$ HI
  iintro HI
  iapply (look c 1 rfl (ix_load I (k0_off5_eq t2))) $$ HI
  iintro HI
  iapply (peek c 10 rfl (p_box (j := 0) (by omega) (k0_off4_eq t2)) (by omega)) $$ HPN
  iintro %v HPN
  iapply rule_ret
  iapply Hk
  isplitl [HI HG]
  · isplitl [HI]; · iexact HI
    iexact HG
  isplitl [HP]; · iexact HP
  iexact HPN

theorem part2_run (t2 : Fin k0_t2_loop.trips) (a : BitVec 32) (v : Vec F S1x1x256 .i32) {Q : _ → sProp 𝕄} :
    iprop(stIn I c ∗ haveP I c (2 * t2.val) ∗ haveK I c (2 * t2.val) ∗ haveG I c (2 * t2.val))
      ⊢ iprop((stIn I c ∗ haveP I c (2 * t2.val + 2) ∗ haveK I c (2 * t2.val + 2) ∗ haveG I c (2 * t2.val + 1)
          -∗ Q (k0_pay18 (kp1 I t2.val) (gaR I t2.val 0) (gaR I t2.val 1)))
        -∗ kr c (app (k0_part2 (F := F)) t2 a (pos0 I t2.val) (pos1 I t2.val) (kp0 I t2.val) (kp1 I t2.val) v) Q) := by
  have h2 : t2.val < 6 := t2.isLt
  have hp0 := row_store (fun b j t => posN I b j t) (k0_pay10 (pos0 I t2.val)) (fun t => rfl) (inb := k0_off4_inb t2) (k0_off4_eq t2)
  have hp1 := row_store (fun b j t => posN I b j t) (k0_pay11 (pos1 I t2.val)) (fun t => rfl) (inb := k0_off5_inb t2) (k0_off5_eq t2)
  have hk0 := row_store (fun j b t => keepN I j b t) (k0_pay12 (kp0 I t2.val)) (fun t => rfl) (inb := k0_off6_inb t2) (k0_off6_eq t2)
  have hk1 := row_store (fun j b t => keepN I j b t) (k0_pay13 (kp1 I t2.val)) (fun t => rfl) (inb := k0_off7_inb t2) (k0_off7_eq t2)
  have hg0 := row_store (fun b j t => combN I b j t) (k0_pay17 (kp0 I t2.val) (gaR I t2.val 0) (gaR I t2.val 1)) (fun t => rfl) (inb := k0_off4_inb t2) (k0_off4_eq t2)
  iintro ⟨⟨HI, HG⟩, HP, HK, HC⟩ Hk
  unfold app
  rw [k0_part2_eq_skeleton]
  unfold k0_part2_skel
  iapply (rule_fill 10 rfl (κ := κp) (a := 0) (n := 2 * t2.val) (e := 12) (G := POS I) (p_box (j := 0) (by omega) (k0_off4_eq t2)) hp0 (Nat.zero_le _) (by omega)) $$ HP
  iintro HP
  iapply (put c 10 rfl (κ := κp) (n := 2 * t2.val + 1) (e := 12) (G := POS I) (p_box (j := 1) (by omega) (k0_off5_eq t2)) hp1 (by omega)) $$ HP
  iintro HP
  iapply (put c 11 rfl (κ := κk) (n := 2 * t2.val) (e := 12) (G := KEEP I) (k_box (j := 0) (by omega) (k0_off6_eq t2)) hk0 (by omega)) $$ HK
  iintro HK
  iapply (put c 11 rfl (κ := κk) (n := 2 * t2.val + 1) (e := 12) (G := KEEP I) (k_box (j := 1) (by omega) (k0_off7_eq t2)) hk1 (by omega)) $$ HK
  iintro HK
  iapply (look c 2 rfl (ga_load I (k0_off4_eq t2))) $$ HG
  iintro HG
  iapply (look c 2 rfl (ga_load I (k0_off5_eq t2))) $$ HG
  iintro HG
  iapply (put c 9 rfl (κ := κp) (n := 2 * t2.val) (e := 12) (G := COMB I) (p_box (j := 0) (by omega) (k0_off4_eq t2)) hg0 (by omega)) $$ HC
  iintro HC
  iapply rule_ret
  iapply Hk
  isplitl [HI HG]
  · isplitl [HI]; · iexact HI
    iexact HG
  isplitl [HP]; · iexact HP
  isplitl [HK]; · iexact HK
  iexact HC

theorem part3_run (t2 : Fin k0_t2_loop.trips) (a : BitVec 32) {Q : _ → sProp 𝕄} :
    haveG I c (2 * t2.val + 1)
      ⊢ iprop((haveG I c (2 * t2.val + 2)
          -∗ Q (k0_pay20 (k0_pay1 (F := F) (ixR I t2.val 0)) (k0_pay2 (F := F) (ixR I t2.val 1)) (pos0 I t2.val) (pos1 I t2.val) (kp0 I t2.val) (kp1 I t2.val)))
        -∗ kr c (app (k0_part3 (F := F)) t2 a (k0_pay1 (F := F) (ixR I t2.val 0)) (k0_pay2 (F := F) (ixR I t2.val 1)) (pos0 I t2.val) (pos1 I t2.val) (kp0 I t2.val) (kp1 I t2.val)
            (k0_pay18 (kp1 I t2.val) (gaR I t2.val 0) (gaR I t2.val 1))) Q) := by
  have h2 : t2.val < 6 := t2.isLt
  have hg1 := row_store (fun b j t => combN I b j t) (k0_pay19 (k0_pay18 (kp1 I t2.val) (gaR I t2.val 0) (gaR I t2.val 1))) (fun t => rfl) (inb := k0_off5_inb t2) (k0_off5_eq t2)
  iintro HC Hk
  unfold app
  rw [k0_part3_eq_skeleton]
  unfold k0_part3_skel
  iapply (put c 9 rfl (κ := κp) (n := 2 * t2.val + 1) (e := 12) (G := COMB I) (p_box (j := 1) (by omega) (k0_off5_eq t2)) hg1 (by omega)) $$ HC
  iintro HC
  iapply rule_ret
  iapply Hk
  iexact HC

/-- The routing of the first `n` sequences. -/
abbrev stRt (n : ℕ) : sProp 𝕄 := iprop(stIn I c ∗ haveP I c (2 * n) ∗ haveK I c (2 * n) ∗ haveG I c (2 * n) ∗ haveQ I c n)

theorem t2_body_run (t2 : Fin k0_t2_loop.trips) (u : Unit) :
    stRt I c t2.val ⊢ kr c (app (k0_t2_body (F := F)) t2 u) fun _ => stRt I c (t2.val + 1) := by
  have h2 : t2.val < 6 := t2.isLt
  iintro ⟨HI, HP, HK, HC, HQ⟩
  unfold app k0_t2_body
  iapply rule_bind
  iapply (part1_run I c t2) $$ [HI HP]
  · isplitl [HI]; · iexact HI
    iexact HP
  iintro %a %v ⟨HI, HP⟩
  iapply rule_bind
  iapply (part2_run I c t2 a v) $$ [HI HP HK HC]
  · isplitl [HI]; · iexact HI
    isplitl [HP]; · iexact HP
    isplitl [HK]; · iexact HK
    iexact HC
  iintro ⟨HI, HP, HK, HC⟩
  iapply rule_bind
  iapply (part3_run I c t2 a) $$ HC
  iintro HC
  iapply (put c 4 rfl (κ := κq) (n := t2.val) (e := 6) (G := PICK I) (q_box (k0_off8_eq t2)) (pick_store I (k0_off8_eq t2)) (by omega)) $$ HQ
  iintro HQ
  iapply rule_ret
  isplitl [HI]; · iexact HI
  isplitl [HP]; · iexact HP
  isplitl [HK]; · iexact HK
  isplitl [HC]; · iexact HC
  iexact HQ

end Cert.Kernel.Disp

end
-- ==== Proof.KFirst.lean ====
/-
  The kernel up to the end of its first sequence: inputs in, routing, tokens.
-/
module

public import proofs.«01_k».proof.Proof.KRoute

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## Whole buffers moved -/

abbrev sem3 (a : DmaSems sig S3) (off : Fin 1 → ℕ) (inb : ∀ i, off i + S1.size i ≤ S3.size i) : DmaSem sig :=
  ((a.slice (Rect.unit (s := S3) off S1.size inb)).squeeze S_ squeezes_S1_S_).sem
abbrev sem5 (a : DmaSems sig S5) (off : Fin 1 → ℕ) (inb : ∀ i, off i + S1.size i ≤ S5.size i) : DmaSem sig :=
  ((a.slice (Rect.unit (s := S5) off S1.size inb)).squeeze S_ squeezes_S1_S_).sem

/-- A whole buffer on its way, on semaphore `n`. -/
abbrev flyW {sp sp' : Space} {s : Shape} {e : EltTy} (src : Memref sig .tc sp s e) (dst : Memref sig .tc sp' s e) (q : PosShare TreeShare)
    (fs : Buf (Elt F) (src.view.loc (c : Thread nD τ))) (G : Buf (Elt F) (dst.view.loc (c : Thread nD τ))) (n : ℕ) : sProp 𝕄 :=
  fly c n dst.view.dmaCredit iprop((dst.view.loc (c : Thread nD τ) ↦[Finset.univ]{fullShare} G) ∗ (src.view.loc (c : Thread nD τ) ↦[Finset.univ]{q} fs))

theorem w_start {sp sp' : Space} {s : Shape} {e : EltTy} (src : Memref sig .tc sp s e) (dst : Memref sig .tc sp' s e) {m : DmaSem sig} (n : ℕ) (hm : m = sm n)
    {q : PosShare TreeShare} (fs : Buf (Elt F) (src.view.loc (c : Thread nD τ))) (G : Buf (Elt F) (dst.view.loc (c : Thread nD τ)))
    (h0 : 0 < s.numel) (hs : src.view.set = Finset.univ) (hd : dst.view.set = Finset.univ) (hG : ∀ x, dst.view.read (Elt F) G x = src.view.read (Elt F) fs x)
    {hsrc : src.view.WordExact} {hdst : dst.view.WordExact} {hsem : DmaTarget.Typed (nD := nD) sp (.dma m) (.here (p := .tc) dst)}
    {α : Type} {kk : PUnit → Prog (TpuEff nD τ sig (Elt F) Λ₀ .tc) α} {Q : α → sProp 𝕄} :
    iprop((src.view.loc (c : Thread nD τ) ↦[Finset.univ]{q} fs) ∗ (∃ f, (dst.view.loc (c : Thread nD τ) ↦[Finset.univ]{fullShare} f)) ∗ sem0 (F := F) c n)
      ⊢ iprop((flyW c src dst q fs G n -∗ kr c (kk ⟨⟩) Q)
        -∗ kr c (Prog.lift (.enqueueDma src (.here dst) (.dma m) hsrc hdst hsem) >>= kk) Q) := by
  subst hm
  iintro ⟨H1, ⟨%f, H2⟩, H3⟩
  iapply (rule_dma (U := Pipeline.UD sig nD τ) (c := c) (src := src) (dst := dst) (fd := f) (G := G) (fs := fs) (q := q) dst.view.dmaCredit rfl h0 hs hd hG) $$ [H1 H2 H3]
  isplitl [H1]; · iexact H1
  isplitl [H2]; · iexact H2
  iexact H3

theorem w_wait {sp sp' : Space} {s : Shape} {e : EltTy} (src : Memref sig .tc sp s e) (dst : Memref sig .tc sp' s e) {m : DmaSem sig} (n : ℕ) (hm : m = sm n)
    {q : PosShare TreeShare} (fs : Buf (Elt F) (src.view.loc (c : Thread nD τ))) (G : Buf (Elt F) (dst.view.loc (c : Thread nD τ)))
    {hsrc : src.view.WordExact} {hdst : dst.view.WordExact}
    {α : Type} {kk : PUnit → Prog (TpuEff nD τ sig (Elt F) Λ₀ .tc) α} {Q : α → sProp 𝕄} :
    iprop(flyW c src dst q fs G n ∗ stO (F := F) c)
      ⊢ iprop((((dst.view.loc (c : Thread nD τ) ↦[Finset.univ]{fullShare} G) ∗ (src.view.loc (c : Thread nD τ) ↦[Finset.univ]{q} fs)) ∗ sem0 (F := F) c n ∗ stO (F := F) c -∗ kr c (kk ⟨⟩) Q)
        -∗ kr c (Prog.lift (.waitDma2 m src dst hsrc hdst) >>= kk) Q) := by
  subst hm
  exact rule_wait (U := Pipeline.UD sig nD τ) (c := c) (src := src) (dst := dst) rfl

/-! ## Nothing held -/

theorem pt_nil {b : Ref sig .tc} (κ : Idx ((Memref.whole b).view.loc (c : Thread nD τ)) → ℕ) (a : ℕ) (q : PosShare TreeShare)
    (f : Buf (Elt F) ((Memref.whole b).view.loc (c : Thread nD τ))) : (BI.emp : sProp 𝕄) ⊢ own c b (Btw κ a a) q f := by
  have h : Btw κ a a = ∅ := Finset.eq_empty_of_forall_notMem fun i hi => by rw [mem_Btw] at hi; omega
  unfold own held
  rw [h, pointsTo_empty]; exact .rfl

/-- A whole buffer, nothing of which is filled yet. -/
theorem pt_fresh {b : Ref sig .tc} (κ : Idx ((Memref.whole b).view.loc (c : Thread nD τ)) → ℕ) {n : ℕ} (hn : ∀ i, κ i < n)
    (G : Buf (Elt F) ((Memref.whole b).view.loc (c : Thread nD τ))) :
    iprop(∃ f, own (F := F) c b Finset.univ fullShare f)
      ⊢ iprop(own c b (Btw κ 0 0) fullShare G ∗ (∃ f, own (F := F) c b (Btw κ 0 n) fullShare f)) := by
  rw [← Btw_all hn]
  iintro H
  isplitr
  · iapply (pt_nil c κ 0 fullShare G); iempintro
  iexact H

/-- A buffer filled. -/
theorem pt_done {b : Ref sig .tc} (κ : Idx ((Memref.whole b).view.loc (c : Thread nD τ)) → ℕ) {n : ℕ} (hn : ∀ i, κ i < n) {q : PosShare TreeShare}
    (G : Buf (Elt F) ((Memref.whole b).view.loc (c : Thread nD τ))) : own c b (Btw κ 0 n) q G ⊢ own c b Finset.univ q G := by
  rw [Btw_all hn]

theorem κp_lt (i : S6x2x256.Idx) : κp i < 12 := by
  have h0 : (i 0 : ℕ) < 6 := (i 0).isLt
  have h1 : (i 1 : ℕ) < 2 := (i 1).isLt
  unfold κp; omega
theorem κk_lt (i : S2x6x256.Idx) : κk i < 12 := by
  have h0 : (i 0 : ℕ) < 2 := (i 0).isLt
  have h1 : (i 1 : ℕ) < 6 := (i 1).isLt
  unfold κk; omega
theorem κq_lt (i : S6x160x256.Idx) : κq i < 6 := (i 0).isLt
theorem κs_lt (i : S6x16x40.Idx) : κs i < 6 := (i 0).isLt
theorem κx_lt (i : S24x8x8x5120.Idx) : κx i < 24 := (i 0).isLt
theorem κr_lt (i : S8x8x128.Idx) : κr i < 8 := (i 0).isLt
theorem κh_lt (i : S192x8x5120.Idx) : κh i < 24 := by
  have h0 : (i 0 : ℕ) < 192 := (i 0).isLt
  unfold κh; omega
theorem κt_lt (i : S6x256x5120.Idx) : κt i < 24 := by
  have h0 : (i 0 : ℕ) < 6 := (i 0).isLt
  have h1 : (i 1 : ℕ) < 256 := (i 1).isLt
  unfold κt; omega
theorem κc_lt (i : S6x256x5120.Idx) : κc i < 1920 := by
  have h0 : (i 0 : ℕ) < 6 := (i 0).isLt
  have h1 : (i 1 : ℕ) < 256 := (i 1).isLt
  have h2 : (i 2 : ℕ) < 5120 := (i 2).isLt
  unfold κc; omega
theorem κb_lt (i : S6x16x40x5120.Idx) : κb i < 120 := by
  have h0 : (i 0 : ℕ) < 6 := (i 0).isLt
  have h1 : (i 3 : ℕ) < 5120 := (i 3).isLt
  unfold κb; omega
theorem κo_lt (i : S6x16x40x5120.Idx) : κo i < 24 := by
  have h0 : (i 0 : ℕ) < 6 := (i 0).isLt
  have h1 : (i 3 : ℕ) < 5120 := (i 3).isLt
  unfold κo; omega

/-! ## Tokens started on their way in -/

abbrev stI (n : ℕ) : sProp 𝕄 :=
  iprop(bigSep (Finset.Ico 0 n) (flyX I c) ∗ (∃ f, own (F := F) c bX (Btw κx n 24) fullShare f) ∗ own c main_v0 (Btw κh n 24) fullShare I.x
    ∗ bigSep (Finset.Ico n 24) (fun j => sem0 (F := F) c (0 + j)))

theorem t1_body_run (t1 : Fin k0_t1_loop.trips) (u : Unit) :
    stI I c t1.val ⊢ kr c (app (k0_t1_body (F := F)) t1 u) fun _ => stI I c (t1.val + 1) := by
  have h1 : t1.val < 24 := t1.isLt
  iintro ⟨HF, ⟨%f, HX⟩, HH, HS⟩
  unfold app k0_t1_body
  ihave ⟨H1, HX⟩ := (pt_cut (κ := κx) (Nat.le_succ t1.val) (show t1.val + 1 ≤ 24 by omega)) $$ HX
  ihave ⟨H2, HH⟩ := (pt_cut (κ := κh) (Nat.le_succ t1.val) (show t1.val + 1 ≤ 24 by omega)) $$ HH
  ihave ⟨H3, HS⟩ := (ico_pop h1 (fun j => sem0 (F := F) c (0 + j))) $$ HS
  iapply (x_start I c (k0_off1_eq t1) (k0_off2_eq t1) (k0_off3_eq t1)) $$ [H1 H2 H3]
  · isplitl [H2]; · iexact H2
    isplitl [H1]; · iexists f; iexact H1
    iexact H3
  iintro H
  iapply rule_ret
  isplitl [HF H]
  · iapply (ico_push (Nat.zero_le t1.val) (flyX I c))
    isplitl [H]; · iexact H
    iexact HF
  isplitl [HX]; · iexists f; iexact HX
  isplitl [HH]; · iexact HH
  iexact HS

/-! ## The first sequence -/

/-- What the kernel holds while it routes and while it computes the first sequence. -/
abbrev pre11 : sProp 𝕄 :=
  iprop((own c main_v1 Finset.univ fullShare I.ix ∗ own c main_v2 Finset.univ fullShare I.ga ∗ own c main_v3 Finset.univ fullShare I.w)
    ∗ (sem0 (F := F) c 24 ∗ sem0 (F := F) c 25 ∗ sem0 (F := F) c 26)
    ∗ ((∃ f, own (F := F) c bIx Finset.univ fullShare f) ∗ (∃ f, own (F := F) c bGa Finset.univ fullShare f) ∗ (∃ f, own (F := F) c bW Finset.univ fullShare f))
    ∗ stI I c 0 ∗ haveP I c 0 ∗ haveK I c 0 ∗ haveG I c 0 ∗ haveQ I c 0
    ∗ stC I c 0 ∗ stF I c 0 ∗ stR (F := F) c ∗ (∃ f, own (F := F) c bTs Finset.univ fullShare f) ∗ stO (F := F) c)
abbrev post11 : sProp 𝕄 :=
  iprop((own c main_v1 Finset.univ fullShare I.ix ∗ own c main_v2 Finset.univ fullShare I.ga ∗ own c main_v3 Finset.univ fullShare I.w)
    ∗ (sem0 (F := F) c 24 ∗ sem0 (F := F) c 25 ∗ sem0 (F := F) c 26) ∗ stRt I c 6 ∗ stB I c 4)

theorem ts_zero {f : S6x256.Idx → Elt F .f32} (h : ∀ x, f ((Rect.unit (s := S6x256) ![0, 0] S6x256.size inb_S6x256_S6x256_0_0).emb x) = k0_pay66 (F := F) x) : f = TSat I 0 :=
  (ts_load f).symm.trans ((funext h).trans (funext fun i => (if_neg (Nat.not_lt_zero _)).symm))

theorem part11_run {Q : _ → sProp 𝕄} :
    pre11 I c ⊢ iprop((post11 I c -∗ Q ⟨iota .tc S16x256 32 [0] iota_S16x256_d0_w32, iota .tc S40x256 32 [0] iota_S40x256_d0_w32⟩)
      -∗ kr c (app (k0_part11 (F := F))) Q) := by
  iintro ⟨⟨H1, H2, H3⟩, ⟨S1, S2, S3⟩, ⟨B1, B2, B3⟩, HI, HP, HK, HG, HQ, HC, HF, HR, ⟨%ft, HT⟩, HO⟩ Hk
  unfold app
  rw [k0_part11_eq_skeleton]
  unfold k0_part11_skel
  iapply (w_start c (Memref.whole main_v1) (Memref.whole cc0_scratch1) (m := sem3 cc0_scratch14 ![0] inb_S3_S1_0) 24 (by decide +kernel) I.ix (IXV I) (by decide)
    (View.set_whole _) (View.set_whole _) (fun x => congrFun (IXV_eq I) x)) $$ [H1 B1 S1]
  · isplitl [H1]; · iexact H1
    isplitl [B1]; · iexact B1
    iexact S1
  iintro H1
  iapply (w_start c (Memref.whole main_v2) (Memref.whole cc0_scratch2) (m := sem3 cc0_scratch14 ![1] inb_S3_S1_1) 25 (by decide +kernel) I.ga (GAV I) (by decide)
    (View.set_whole _) (View.set_whole _) (fun x => congrFun (GAV_eq I) x)) $$ [H2 B2 S2]
  · isplitl [H2]; · iexact H2
    isplitl [B2]; · iexact B2
    iexact S2
  iintro H2
  iapply (w_start c (Memref.whole main_v3) (Memref.whole cc0_scratch3) (m := sem3 cc0_scratch14 ![2] inb_S3_S1_2) 26 (by decide +kernel) I.w (WV I) (by decide)
    (View.set_whole _) (View.set_whole _) (fun x => congrFun (WV_eq I) x)) $$ [H3 B3 S3]
  · isplitl [H3]; · iexact H3
    isplitl [B3]; · iexact B3
    iexact S3
  iintro H3
  iapply (rule_for k0_t1_loop (fun n _ => stI I c n) (fun n u => t1_body_run I c n u)) $$ [HI]
  · iexact HI
  iintro %u ⟨HX, -, -, -⟩
  iapply (w_wait c (Memref.whole main_v1) (Memref.whole cc0_scratch1) (m := sem3 cc0_scratch14 ![0] inb_S3_S1_0) 24 (by decide +kernel) I.ix (IXV I)) $$ [H1 HO]
  · isplitl [H1]; · iexact H1
    iexact HO
  iintro ⟨⟨B1, H1⟩, S1, HO⟩
  iapply (w_wait c (Memref.whole main_v2) (Memref.whole cc0_scratch2) (m := sem3 cc0_scratch14 ![1] inb_S3_S1_1) 25 (by decide +kernel) I.ga (GAV I)) $$ [H2 HO]
  · isplitl [H2]; · iexact H2
    iexact HO
  iintro ⟨⟨B2, H2⟩, S2, HO⟩
  iapply (w_wait c (Memref.whole main_v3) (Memref.whole cc0_scratch3) (m := sem3 cc0_scratch14 ![2] inb_S3_S1_2) 26 (by decide +kernel) I.w (WV I)) $$ [H3 HO]
  · isplitl [H3]; · iexact H3
    iexact HO
  iintro ⟨⟨B3, H3⟩, S3, HO⟩
  iapply (rule_for k0_t2_loop (fun n _ => stRt I c n) (fun n u => t2_body_run I c n u)) $$ [B1 B2 HP HK HG HQ]
  · isplitl [B1 B2]
    · isplitl [B1]; · iexact B1
      iexact B2
    isplitl [HP]; · iexact HP
    isplitl [HK]; · iexact HK
    isplitl [HG]; · iexact HG
    iexact HQ
  iintro %u' HRt
  iapply (rule_load 12 rfl (fun i _ => Finset.mem_univ i)) $$ HT
  iintro HT
  iapply (rule_store 12 rfl (fun i _ => Finset.mem_univ i)) $$ HT
  iintro %f' %hf' HT
  have hf := ts_zero I hf'.1
  subst hf
  iapply (t3_run I c) $$ [HX HC HF HR HT B3 HO]
  · isplitl [HX]
    · isplitr
      · iapply (pt_nil c (b := bX) κx 0 fullShare (XV I)); iempintro
      isplitr
      · iapply (pt_nil c (b := main_v0) κh 0 fullShare I.x); iempintro
      isplitr
      · iapply (ico_nil 0 (fun j => sem0 (F := F) c (0 + j))); iempintro
      iexact HX
    isplitl [HC]; · iexact HC
    isplitl [HF]; · iexact HF
    isplitl [HR]; · iexact HR
    isplitl [HT]; · iexact HT
    isplitl [B3]; · iexact B3
    iexact HO
  iintro HB
  iapply rule_ret
  iapply Hk
  isplitl [H1 H2 H3]
  · isplitl [H1]; · iexact H1
    isplitl [H2]; · iexact H2
    iexact H3
  isplitl [S1 S2 S3]
  · isplitl [S1]; · iexact S1
    isplitl [S2]; · iexact S2
    iexact S3
  isplitl [HRt]; · iexact HRt
  iexact HB

end Cert.Kernel.Disp

end
-- ==== Proof.KDrain.lean ====
/-
  The last sequence dispatched, and the waits for everything sent out.
-/
module

public import proofs.«01_k».proof.Proof.KSeq2

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The last sequence's buffers -/

theorem t16_body_run (v66 : FVec F S16x512 .bf16) (v68 : FVec F S40x512 .bf16) (z : FVec F S16x40 .f32) (t15 : Fin k0_t15_loop.trips) {j : ℕ} (hj : j = 20 + t15.val)
    (t16 : Fin k0_t16_loop.trips) (u : Unit) :
    iprop(own c bCode (Btw κc 0 (80 * 24)) fullShare.left (CODES I) ∗ haveB I c j t16.val)
      ⊢ kr c (app (k0_t16_body (F := F)) v66 v68 z t15 (pickR I 5) t16 u) fun _ =>
        iprop(own c bCode (Btw κc 0 (80 * 24)) fullShare.left (CODES I) ∗ haveB I c j (t16.val + 1)) := by
  have h9 : t15.val < 4 := t15.isLt
  have h14 : t16.val < 5 := t16.isLt
  have hc : k0_off41 t15 t16 = ![5, 0, 256 * (5 * t15.val + t16.val)] :=
    (k0_off41_eq t15 t16).trans (by rw [show 1280 * t15.val + 256 * t16.val = 256 * (5 * t15.val + t16.val) by omega])
  have hb : ∀ x, x ∈ (Rect.unit (s := S6x16x40x5120) (k0_off42 t15 t16) S1x16x40x256.size (k0_off42_inb t15 t16)).set ↔ κb x = 5 * j + t16.val :=
    fun x => (buf_box h9 h14 (k0_off42_eq t15 t16) x).trans (by rw [hj])
  have hcS : ∀ x, x ∈ (Rect.unit (s := S6x256x5120) (k0_off41 t15 t16) S1x256x256.size (k0_off41_inb t15 t16)).set → x ∈ Btw κc 0 (80 * 24) :=
    fun x h => code_in (b := 5) (by omega) hc x h
  have hv : ∀ y, k0_pay72 (pickR I 5) (fun y => CODES I ((Rect.unit (s := S6x256x5120) (k0_off41 t15 t16) S1x256x256.size (k0_off41_inb t15 t16)).emb y)) y
      = BUF I ((Rect.unit (s := S6x16x40x5120) (k0_off42 t15 t16) S1x16x40x256.size (k0_off42_inb t15 t16)).emb y) :=
    fun y => (congrFun (congrArg (k0_pay59 (k0_pay57 (F := F) (pickR I 5))) (codeR_load I hc)) y).trans (buf_store I (k0_off42_eq t15 t16) y)
  have hbS : ∀ x, x ∈ (Rect.unit (s := S6x16x40x5120) (k0_off42 t15 t16) S1x16x40x256.size (k0_off42_inb t15 t16)).set → x ∈ Btw κb (5 * j + t16.val) 120 :=
    fun x h => mem_Btw.2 (by rw [(hb x).1 h]; omega)
  iintro ⟨HC, HB, %f, HN⟩
  unfold app k0_t16_body
  iapply (rule_load 6 rfl hcS) $$ HC
  iintro HC
  iapply (rule_load 7 rfl hbS) $$ HN
  iintro HN
  iapply (rule_fill 7 rfl (κ := κb) (a := 5 * j) (n := 5 * j + t16.val) (e := 120) (G := BUF I) hb hv (by omega) (by omega)) $$ [HB HN]
  · isplitl [HB]; · iexact HB
    iexists f; iexact HN
  iintro HB
  iapply rule_ret
  isplitl [HC]; · iexact HC
  iexact HB

/-- The last sequence's chunks, `n` of them on their way out. -/
abbrev stL (n : ℕ) : sProp 𝕄 :=
  iprop(own c bPick Finset.univ fullShare (PICK I) ∗ own c bCode (Btw κc 0 (80 * 24)) fullShare.left (CODES I) ∗ stD I c (20 + n))

theorem t15_body_run (v66 : FVec F S16x512 .bf16) (v68 : FVec F S40x512 .bf16) (z : FVec F S16x40 .f32) (t15 : Fin k0_t15_loop.trips) (u : Unit) :
    stL I c t15.val ⊢ kr c (app (k0_t15_body (F := F)) v66 v68 z t15 u) fun _ => stL I c (t15.val + 1) := by
  have h9 : t15.val < 4 := t15.isLt
  iintro ⟨HP, HC, HB, HD⟩
  unfold app k0_t15_body
  iapply (rule_load 4 rfl (fun i _ => Finset.mem_univ i)) $$ HP
  iintro HP
  rw [pick_load I (b := 5) rfl]
  ihave HB := (haveB_zero I c (j := 20 + t15.val) (by omega)) $$ HB
  iapply (rule_for k0_t16_loop (fun n _ => iprop(own c bCode (Btw κc 0 (80 * 24)) fullShare.left (CODES I) ∗ haveB I c (20 + t15.val) n))
    (fun n u => t16_body_run I c v66 v68 z t15 rfl n u)) $$ [HC HB]
  · isplitl [HC]; · iexact HC
    iexact HB
  iintro %u ⟨HC, HB⟩
  iapply (b_step I c (b := 5) (k := t15.val) (by omega) h9 ((k0_off43_eq t15).trans (by rw [Nat.add_comm])) (k0_off44_eq t15)) $$ [HB HD]
  · isplitl [HB]; · iexact HB
    iexact HD
  iintro HD
  iapply rule_ret
  isplitl [HP]; · iexact HP
  isplitl [HC]; · iexact HC
  iexact HD

/-! ## Every transfer awaited -/

/-- Codes and buffers arrived: the first `j` blocks' and chunks'. -/
abbrev stW (j : ℕ) : sProp 𝕄 :=
  iprop(own c main_v4_5 (Btw κt 0 j) fullShare (CODES I) ∗ own c bCode (Btw κc 0 (80 * j)) fullShare.right (CODES I)
    ∗ bigSep (Finset.Ico 0 j) (fun j => sem0 (F := F) c (27 + j)) ∗ bigSep (Finset.Ico j 24) (flyT I c)
    ∗ own c main_v4_0 (Btw κo 0 j) fullShare (BUF I) ∗ own c bBuf (Btw κb 0 (5 * j)) fullShare (BUF I)
    ∗ bigSep (Finset.Ico 0 j) (fun j => sem0 (F := F) c (51 + j)) ∗ bigSep (Finset.Ico j 24) (flyB c (BUF I)) ∗ stO (F := F) c)

theorem t18_body_run (t17 : Fin k0_t17_loop.trips) (t18 : Fin k0_t18_loop.trips) (u : Unit) :
    stW I c (4 * t17.val + t18.val) ⊢ kr c (app (k0_t18_body (F := F)) t17 t18 u) fun _ => stW I c (4 * t17.val + (t18.val + 1)) := by
  have h17 : t17.val < 6 := t17.isLt
  have h18 : t18.val < 4 := t18.isLt
  iintro ⟨HT, HC, HS, HF, HB, HG, HS', HF', HO⟩
  unfold app k0_t18_body
  ihave ⟨H1, HF⟩ := (ico_pop (show 4 * t17.val + t18.val < 24 by omega) (flyT I c)) $$ HF
  iapply (t_wait I c (k0_off45_eq t17 t18)) $$ [H1 HO]
  · isplitl [H1]; · iexact H1
    iexact HO
  iintro ⟨⟨H1, H2⟩, H3, HO⟩
  ihave ⟨H4, HF'⟩ := (ico_pop (show 4 * t17.val + t18.val < 24 by omega) (flyB c (BUF I))) $$ HF'
  iapply (b_wait c (BUF I) (k0_off45_eq t17 t18)) $$ [H4 HO]
  · isplitl [H4]; · iexact H4
    iexact HO
  iintro ⟨⟨H4, H5⟩, H6, HO⟩
  iapply rule_ret
  isplitl [HT H1]
  · iapply (pt_glue (Nat.zero_le _) (Nat.le_succ _))
    isplitl [HT]; · iexact HT
    iexact H1
  isplitl [HC H2]
  · iapply (pt_glue (b := 80 * (4 * t17.val + t18.val)) (Nat.zero_le _) (by omega))
    isplitl [HC]; · iexact HC
    iexact H2
  isplitl [HS H3]
  · iapply (ico_push (Nat.zero_le _) (fun j => sem0 (F := F) c (27 + j)))
    isplitl [H3]; · iexact H3
    iexact HS
  isplitl [HF]; · iexact HF
  isplitl [HB H4]
  · iapply (pt_glue (Nat.zero_le _) (Nat.le_succ _))
    isplitl [HB]; · iexact HB
    iexact H4
  isplitl [HG H5]
  · iapply (pt_glue (b := 5 * (4 * t17.val + t18.val)) (Nat.zero_le _) (by omega))
    isplitl [HG]; · iexact HG
    iexact H5
  isplitl [HS' H6]
  · iapply (ico_push (Nat.zero_le _) (fun j => sem0 (F := F) c (51 + j)))
    isplitl [H6]; · iexact H6
    iexact HS'
  isplitl [HF']; · iexact HF'
  iexact HO

theorem t17_body_run (t17 : Fin k0_t17_loop.trips) (u : Unit) :
    stW I c (4 * t17.val) ⊢ kr c (app (k0_t17_body (F := F)) t17 u) fun _ => stW I c (4 * (t17.val + 1)) := by
  iintro H
  unfold app k0_t17_body
  iapply (rule_for k0_t18_loop (fun n _ => stW I c (4 * t17.val + n)) (fun n u => t18_body_run I c t17 n u)) $$ [H]
  · iexact H
  iintro %u H
  iapply rule_ret
  iexact H

end Cert.Kernel.Disp

end
-- ==== Proof.KMain.lean ====
/-
  The whole kernel: from its inputs to its seven results.
-/
module

public import proofs.«01_k».proof.Proof.KFirst
public import proofs.«01_k».proof.Proof.KDrain

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-- The first sequence's buffer scales, as the kernel computes them. -/
theorem part12_run {Q : _ → sProp 𝕄} :
    iprop(haveTs I c 4 ∗ own c bIx Finset.univ fullShare (IXV I) ∗ own c bPos Finset.univ fullShare (POS I))
      ⊢ iprop((haveTs I c 4 ∗ own c bIx Finset.univ fullShare (IXV I) ∗ own c bPos Finset.univ fullShare (POS I)
          -∗ Q ⟨k0_pay68 (iota .tc S16x256 32 [0] iota_S16x256_d0_w32) (TSat I 2) (ixR I 0 0) (ixR I 0 1),
                k0_pay69 (iota .tc S40x256 32 [0] iota_S40x256_d0_w32) (posR I 0 0) (posR I 0 1), constant S16x40 .f32 0x00000000#32⟩)
        -∗ kr c (app (k0_part12 (F := F)) (iota .tc S16x256 32 [0] iota_S16x256_d0_w32) (iota .tc S40x256 32 [0] iota_S40x256_d0_w32)) Q) := by
  iintro ⟨HT, HI, HP⟩ Hk
  unfold app
  rw [k0_part12_eq_skeleton]
  unfold k0_part12_skel
  iapply (look c 12 rfl (ts_load (TSat I 2))) $$ HT
  iintro HT
  iapply (look c 1 rfl (ix_load I (b := 0) (j := 0) rfl)) $$ HI
  iintro HI
  iapply (look c 10 rfl (pos_load I (b := 0) (j := 0) rfl)) $$ HP
  iintro HP
  iapply (look c 1 rfl (ix_load I (b := 0) (j := 1) rfl)) $$ HI
  iintro HI
  iapply (look c 10 rfl (pos_load I (b := 0) (j := 1) rfl)) $$ HP
  iintro HP
  iapply rule_ret
  iapply Hk
  isplitl [HT]; · iexact HT
  isplitl [HI]; · iexact HI
  iexact HP

/-- The small results outside the core, at contents nothing names. -/
abbrev outs0 : sProp 𝕄 :=
  iprop((∃ f, own (F := F) c main_v4_1 Finset.univ fullShare f) ∗ (∃ f, own (F := F) c main_v4_2 Finset.univ fullShare f)
    ∗ (∃ f, own (F := F) c main_v4_3 Finset.univ fullShare f) ∗ (∃ f, own (F := F) c main_v4_4 Finset.univ fullShare f) ∗ (∃ f, own (F := F) c main_v4_6 Finset.univ fullShare f))
abbrev outs : sProp 𝕄 :=
  iprop(own c main_v4_1 Finset.univ fullShare (BS I) ∗ own c main_v4_2 Finset.univ fullShare (COMB I)
    ∗ own c main_v4_3 Finset.univ fullShare (POS I) ∗ own c main_v4_4 Finset.univ fullShare (KEEP I) ∗ own c main_v4_6 Finset.univ fullShare (TS I))
abbrev sems5 : sProp 𝕄 := iprop(sem0 (F := F) c 75 ∗ sem0 (F := F) c 76 ∗ sem0 (F := F) c 77 ∗ sem0 (F := F) c 78 ∗ sem0 (F := F) c 79)
/-- The small results on the core. -/
abbrev small : sProp 𝕄 := iprop(own c bPos Finset.univ fullShare (POS I) ∗ own c bKeep Finset.univ fullShare (KEEP I) ∗ own c bComb Finset.univ fullShare (COMB I))

abbrev pre13 : sProp 𝕄 :=
  iprop(stB I c 4 ∗ stD I c 0 ∗ own c bPick Finset.univ fullShare (PICK I) ∗ own c bIx Finset.univ fullShare (IXV I) ∗ small I c
    ∗ (∃ f, own (F := F) c bBs Finset.univ fullShare f) ∗ outs0 (F := F) c ∗ sems5 (F := F) c)
abbrev post13 : sProp 𝕄 :=
  iprop(stX I c 24 ∗ stC I c 24 ∗ stF I c 24 ∗ stR (F := F) c ∗ own c bTs Finset.univ fullShare (TS I) ∗ own c bW Finset.univ fullShare (WV I) ∗ stO (F := F) c
    ∗ stD I c 24 ∗ own c bPick Finset.univ fullShare (PICK I) ∗ own c bIx Finset.univ fullShare (IXV I) ∗ small I c
    ∗ own c bBs Finset.univ fullShare (BS I) ∗ outs I c ∗ sems5 (F := F) c)

theorem bs_zero (y : S1x16x40.Idx) :
    k0_pay70 (k0_pay68 (iota .tc S16x256 32 [0] iota_S16x256_d0_w32) (TSat I 2) (ixR I 0 0) (ixR I 0 1))
      (k0_pay69 (iota .tc S40x256 32 [0] iota_S40x256_d0_w32) (posR I 0 0) (posR I 0 1)) (constant S16x40 .f32 0x00000000#32) y
    = BS I ((Rect.unit (s := S6x16x40) ![0, 0, 0] S1x16x40.size inb_S6x16x40_S1x16x40_0_0_0).emb y) :=
  (congrFun (if_pos rfl).symm y).trans (bs_store I (b := 0) rfl y)

set_option maxHeartbeats 2000000 in
theorem part13_run {Q : _ → sProp 𝕄} :
    pre13 I c ⊢ iprop((post13 I c -∗ Q ⟨⟩)
      -∗ kr c (app (k0_part13 (F := F)) (k0_pay68 (iota .tc S16x256 32 [0] iota_S16x256_d0_w32) (TSat I 2) (ixR I 0 0) (ixR I 0 1))
          (k0_pay69 (iota .tc S40x256 32 [0] iota_S40x256_d0_w32) (posR I 0 0) (posR I 0 1)) (constant S16x40 .f32 0x00000000#32)) Q) := by
  iintro ⟨HB, HD, HP, HI, ⟨HPos, HKeep, HComb⟩, HS, ⟨O1, O2, O3, O4, O6⟩, ⟨S0, S1, S2, S3, S4⟩⟩ Hk
  unfold app
  rw [k0_part13_eq_skeleton]
  unfold k0_part13_skel
  ihave HS := (pt_fresh c (b := bBs) κs κs_lt (BS I)) $$ HS
  iapply (put c 8 rfl (κ := κs) (n := 0) (e := 6) (G := BS I) (bs_box rfl) (bs_zero I) (by omega)) $$ HS
  iintro HS
  ihave ⟨HPl, HPr⟩ := pt_halve $$ HPos
  iapply (w_start c (Memref.whole cc0_scratch10) (Memref.whole main_v4_3) (m := sem5 cc0_scratch17 ![0] inb_S5_S1_0) 75 (by decide +kernel) (POS I) (POS I) (by decide)
    (View.set_whole _) (View.set_whole _) (fun x => rfl)) $$ [HPr O3 S0]
  · isplitl [HPr]; · iexact HPr
    isplitl [O3]; · iexact O3
    iexact S0
  iintro F0
  iapply (w_start c (Memref.whole cc0_scratch11) (Memref.whole main_v4_4) (m := sem5 cc0_scratch17 ![1] inb_S5_S1_1) 76 (by decide +kernel) (KEEP I) (KEEP I) (by decide)
    (View.set_whole _) (View.set_whole _) (fun x => rfl)) $$ [HKeep O4 S1]
  · isplitl [HKeep]; · iexact HKeep
    isplitl [O4]; · iexact O4
    iexact S1
  iintro F1
  iapply (w_start c (Memref.whole cc0_scratch9) (Memref.whole main_v4_2) (m := sem5 cc0_scratch17 ![2] inb_S5_S1_2) 77 (by decide +kernel) (COMB I) (COMB I) (by decide)
    (View.set_whole _) (View.set_whole _) (fun x => rfl)) $$ [HComb O2 S2]
  · isplitl [HComb]; · iexact HComb
    isplitl [O2]; · iexact O2
    iexact S2
  iintro F2
  iapply (rule_for k0_t8_loop (fun n _ => stE I c n) (fun n u => t8_body_run I c _ _ _ n u)) $$ [HB HD HP HI HPl HS]
  · isplitl [HB]; · iexact HB
    isplitl [HD]; · iexact HD
    isplitl [HP]; · iexact HP
    isplitl [HI]; · iexact HI
    isplitl [HPl]; · iexact HPl
    iexact HS
  iintro %u ⟨⟨HX, ⟨HCl, HC⟩, HF, HR, HT, HW, HO⟩, HD, HP, HI, HPl, HS, -⟩
  ihave HS := (show own c bBs (Btw κs 0 (k0_t8_loop.trips + 1)) fullShare (BS I) ⊢ own c bBs Finset.univ fullShare (BS I) from pt_done c (b := bBs) κs κs_lt (BS I)) $$ HS
  iapply (w_start c (Memref.whole cc0_scratch12) (Memref.whole main_v4_6) (m := sem5 cc0_scratch17 ![3] inb_S5_S1_3) 78 (by decide +kernel) (TS I) (TS I) (by decide)
    (View.set_whole _) (View.set_whole _) (fun x => rfl)) $$ [HT O6 S3]
  · isplitl [HT]; · iexact HT
    isplitl [O6]; · iexact O6
    iexact S3
  iintro F3
  iapply (w_start c (Memref.whole cc0_scratch8) (Memref.whole main_v4_1) (m := sem5 cc0_scratch17 ![4] inb_S5_S1_4) 79 (by decide +kernel) (BS I) (BS I) (by decide)
    (View.set_whole _) (View.set_whole _) (fun x => rfl)) $$ [HS O1 S4]
  · isplitl [HS]; · iexact HS
    isplitl [O1]; · iexact O1
    iexact S4
  iintro F4
  iapply (rule_for k0_t15_loop (fun n _ => stL I c n) (fun n u => t15_body_run I c _ _ _ n u)) $$ [HP HCl HD]
  · isplitl [HP]; · iexact HP
    isplitl [HCl]; · iexact HCl
    iexact HD
  iintro %u' ⟨HP, HCl, HD⟩
  iapply (w_wait c (Memref.whole cc0_scratch10) (Memref.whole main_v4_3) (m := sem5 cc0_scratch17 ![0] inb_S5_S1_0) 75 (by decide +kernel) (POS I) (POS I)) $$ [F0 HO]
  · isplitl [F0]; · iexact F0
    iexact HO
  iintro ⟨⟨O3, HPr⟩, S0, HO⟩
  iapply (w_wait c (Memref.whole cc0_scratch11) (Memref.whole main_v4_4) (m := sem5 cc0_scratch17 ![1] inb_S5_S1_1) 76 (by decide +kernel) (KEEP I) (KEEP I)) $$ [F1 HO]
  · isplitl [F1]; · iexact F1
    iexact HO
  iintro ⟨⟨O4, HKeep⟩, S1, HO⟩
  iapply (w_wait c (Memref.whole cc0_scratch9) (Memref.whole main_v4_2) (m := sem5 cc0_scratch17 ![2] inb_S5_S1_2) 77 (by decide +kernel) (COMB I) (COMB I)) $$ [F2 HO]
  · isplitl [F2]; · iexact F2
    iexact HO
  iintro ⟨⟨O2, HComb⟩, S2, HO⟩
  iapply (w_wait c (Memref.whole cc0_scratch12) (Memref.whole main_v4_6) (m := sem5 cc0_scratch17 ![3] inb_S5_S1_3) 78 (by decide +kernel) (TS I) (TS I)) $$ [F3 HO]
  · isplitl [F3]; · iexact F3
    iexact HO
  iintro ⟨⟨O6, HT⟩, S3, HO⟩
  iapply (w_wait c (Memref.whole cc0_scratch8) (Memref.whole main_v4_1) (m := sem5 cc0_scratch17 ![4] inb_S5_S1_4) 79 (by decide +kernel) (BS I) (BS I)) $$ [F4 HO]
  · isplitl [F4]; · iexact F4
    iexact HO
  iintro ⟨⟨O1, HS⟩, S4, HO⟩
  ihave HPos := (pt_unhalve (ℓ := (Memref.whole bPos).view.loc (c : Thread nD τ)) (f := POS I) (S := Finset.univ)) $$ [HPl HPr]
  · isplitl [HPl]; · iexact HPl
    iexact HPr
  iapply rule_ret
  iapply Hk
  isplitl [HX]; · iexact HX
  isplitl [HCl HC]
  · isplitl [HCl]; · iexact HCl
    iexact HC
  isplitl [HF]; · iexact HF
  isplitl [HR]; · iexact HR
  isplitl [HT]; · iexact HT
  isplitl [HW]; · iexact HW
  isplitl [HO]; · iexact HO
  isplitl [HD]; · iexact HD
  isplitl [HP]; · iexact HP
  isplitl [HI]; · iexact HI
  isplitl [HPos HKeep HComb]
  · isplitl [HPos]; · iexact HPos
    isplitl [HKeep]; · iexact HKeep
    iexact HComb
  isplitl [HS]; · iexact HS
  isplitl [O1 O2 O3 O4 O6]
  · isplitl [O1]; · iexact O1
    isplitl [O2]; · iexact O2
    isplitl [O3]; · iexact O3
    isplitl [O4]; · iexact O4
    iexact O6
  isplitl [S0]; · iexact S0
  isplitl [S1]; · iexact S1
  isplitl [S2]; · iexact S2
  isplitl [S3]; · iexact S3
  iexact S4

/-! ## The whole kernel -/

abbrev some' (b : Ref sig .tc) : sProp 𝕄 := iprop(∃ f, own (F := F) c b Finset.univ fullShare f)

/-- The core's buffers, at contents nothing names. -/
abbrev core : sProp 𝕄 :=
  iprop(some' (F := F) c bX ∗ some' (F := F) c bIx ∗ some' (F := F) c bGa ∗ some' (F := F) c bW ∗ some' (F := F) c bPick ∗ some' (F := F) c bR ∗ some' (F := F) c bCode
    ∗ some' (F := F) c bBuf ∗ some' (F := F) c bBs ∗ some' (F := F) c bComb ∗ some' (F := F) c bPos ∗ some' (F := F) c bKeep ∗ some' (F := F) c bTs)
/-- The inputs. -/
abbrev ins : sProp 𝕄 :=
  iprop(own c main_v0 Finset.univ fullShare I.x ∗ own c main_v1 Finset.univ fullShare I.ix ∗ own c main_v2 Finset.univ fullShare I.ga ∗ own c main_v3 Finset.univ fullShare I.w)
/-- The semaphores, all at zero. -/
abbrev sems : sProp 𝕄 :=
  iprop(bigSep (Finset.Ico 0 24) (fun j => sem0 (F := F) c (0 + j)) ∗ (sem0 (F := F) c 24 ∗ sem0 (F := F) c 25 ∗ sem0 (F := F) c 26)
    ∗ bigSep (Finset.Ico 0 24) (fun j => sem0 (F := F) c (27 + j)) ∗ bigSep (Finset.Ico 0 24) (fun j => sem0 (F := F) c (51 + j)) ∗ sems5 (F := F) c)

set_option maxHeartbeats 2000000 in
theorem kernel_run :
    iprop(core (F := F) c ∗ ins I c ∗ sems (F := F) c ∗ some' (F := F) c main_v4_0 ∗ some' (F := F) c main_v4_5 ∗ outs0 (F := F) c ∗ stO (F := F) c)
      ⊢ kr c (app (cc0_dispatch (F := F))) fun _ =>
        iprop(core (F := F) c ∗ ins I c ∗ sems (F := F) c ∗ own c main_v4_0 Finset.univ fullShare (BUF I) ∗ own c main_v4_5 Finset.univ fullShare (CODES I) ∗ outs I c ∗ stO (F := F) c) := by
  iintro ⟨⟨BX, BIx, BGa, BW, BPick, BR, BCode, BBuf, BBs, BComb, BPos, BKeep, BTs⟩, ⟨H0, H1, H2, H3⟩, ⟨S0, S24, S27, S51, S75⟩, D0, D5, DO, HO⟩
  unfold app
  rw [cc0_dispatch_eq_skeleton]
  unfold cc0_dispatch_skel
  iapply rule_bind
  ihave ⟨-, BX⟩ := (pt_fresh c (b := bX) κx κx_lt (XV I)) $$ BX
  ihave H0 := (pt_set (Btw_all κh_lt).symm) $$ H0
  ihave HP := (pt_fresh c (b := bPos) κp κp_lt (POS I)) $$ BPos
  ihave HK := (pt_fresh c (b := bKeep) κk κk_lt (KEEP I)) $$ BKeep
  ihave HG := (pt_fresh c (b := bComb) κp κp_lt (COMB I)) $$ BComb
  ihave HQ := (pt_fresh c (b := bPick) κq κq_lt (PICK I)) $$ BPick
  ihave ⟨HCf, HC⟩ := (pt_fresh c (b := bCode) κc κc_lt (CODES I)) $$ BCode
  ihave ⟨HCl, HCr⟩ := pt_halve $$ HCf
  ihave ⟨HT0, HT⟩ := (pt_fresh c (b := main_v4_5) κt κt_lt (CODES I)) $$ D5
  ihave ⟨HB0, HB⟩ := (pt_fresh c (b := bBuf) κb κb_lt (BUF I)) $$ BBuf
  ihave ⟨HD0, HD⟩ := (pt_fresh c (b := main_v4_0) κo κo_lt (BUF I)) $$ D0
  ihave ⟨-, HR⟩ := (pt_fresh c (b := bR) κr κr_lt (RV I 0)) $$ BR
  iapply (part11_run I c) $$ [H1 H2 H3 S24 BIx BGa BW BX H0 S0 HP HK HG HQ HCl HC HT S27 HR BTs HO]
  · isplitl [H1 H2 H3]
    · isplitl [H1]; · iexact H1
      isplitl [H2]; · iexact H2
      iexact H3
    isplitl [S24]; · iexact S24
    isplitl [BIx BGa BW]
    · isplitl [BIx]; · iexact BIx
      isplitl [BGa]; · iexact BGa
      iexact BW
    isplitl [BX H0 S0]
    · isplitr
      · iapply (ico_nil 0 (flyX I c)); iempintro
      isplitl [BX]; · iexact BX
      isplitl [H0]; · iexact H0
      iexact S0
    isplitl [HP]; · iexact HP
    isplitl [HK]; · iexact HK
    isplitl [HG]; · iexact HG
    isplitl [HQ]; · iexact HQ
    isplitl [HCl HC]
    · isplitl [HCl]; · iexact HCl
      iexact HC
    isplitl [HT S27]
    · isplitr
      · iapply (ico_nil 0 (flyT I c)); iempintro
      isplitl [S27]; · iexact S27
      iexact HT
    isplitl [HR]; · iexact HR
    isplitl [BTs]; · iexact BTs
    iexact HO
  iintro ⟨H, S24, ⟨⟨HIx, HGa⟩, ⟨HP, -⟩, ⟨HK, -⟩, ⟨HG, -⟩, ⟨HQ, -⟩⟩, HX, HC, HF, HR, HTs, HW, HO⟩
  ihave HP := (pt_done c (b := bPos) κp κp_lt (POS I)) $$ HP
  ihave HK := (pt_done c (b := bKeep) κk κk_lt (KEEP I)) $$ HK
  ihave HG := (pt_done c (b := bComb) κp κp_lt (COMB I)) $$ HG
  ihave HQ := (pt_done c (b := bPick) κq κq_lt (PICK I)) $$ HQ
  iapply rule_bind
  iapply (part12_run I c) $$ [HTs HIx HP]
  · isplitl [HTs]; · iexact HTs
    isplitl [HIx]; · iexact HIx
    iexact HP
  iintro ⟨HTs, HIx, HP⟩
  iapply rule_bind
  iapply (part13_run I c) $$ [HX HC HF HR HTs HW HO HB S51 HD HQ HIx HP HK HG BBs DO S75]
  · isplitl [HX HC HF HR HTs HW HO]
    · isplitl [HX]; · iexact HX
      isplitl [HC]; · iexact HC
      isplitl [HF]; · iexact HF
      isplitl [HR]; · iexact HR
      isplitl [HTs]; · iexact HTs
      isplitl [HW]; · iexact HW
      iexact HO
    isplitl [HB S51 HD]
    · isplitl [HB]; · iexact HB
      isplitr
      · iapply (ico_nil 0 (flyB c (BUF I))); iempintro
      isplitl [S51]; · iexact S51
      iexact HD
    isplitl [HQ]; · iexact HQ
    isplitl [HIx]; · iexact HIx
    isplitl [HP HK HG]
    · isplitl [HP]; · iexact HP
      isplitl [HK]; · iexact HK
      iexact HG
    isplitl [BBs]; · iexact BBs
    isplitl [DO]; · iexact DO
    iexact S75
  iintro ⟨⟨HX, H0, S0, -⟩, ⟨HCl, -⟩, ⟨HF, -, -⟩, HR, HTs, HW, HO, ⟨-, HF', -, -⟩, HQ, HIx, ⟨HP, HK, HG⟩, HBs, DO, S75⟩
  iapply (rule_for k0_t17_loop (fun n _ => stW I c (4 * n)) (fun n u => t17_body_run I c n u)) $$ [HT0 HCr HF HD0 HB0 HF' HO]
  · isplitl [HT0]; · iexact HT0
    isplitl [HCr]; · iexact HCr
    isplitr
    · iapply (ico_nil 0 (fun j => sem0 (F := F) c (27 + j))); iempintro
    isplitl [HF]; · iexact HF
    isplitl [HD0]; · iexact HD0
    isplitl [HB0]; · iexact HB0
    isplitr
    · iapply (ico_nil 0 (fun j => sem0 (F := F) c (51 + j))); iempintro
    isplitl [HF']; · iexact HF'
    iexact HO
  iintro %u ⟨HT, HCr, S27, -, HD, HB, S51, -, HO⟩
  ihave HC := (pt_unhalve (ℓ := (Memref.whole bCode).view.loc (c : Thread nD τ)) (f := CODES I) (S := Btw κc 0 1920)) $$ [HCl HCr]
  · isplitl [HCl]; · iexact HCl
    iexact HCr
  ihave HC := (pt_done c (b := bCode) κc κc_lt (CODES I)) $$ HC
  ihave HT := (show own c main_v4_5 (Btw κt 0 (4 * k0_t17_loop.trips)) fullShare (CODES I) ⊢ own c main_v4_5 Finset.univ fullShare (CODES I) from pt_done c (b := main_v4_5) κt κt_lt (CODES I)) $$ HT
  ihave HD := (show own c main_v4_0 (Btw κo 0 (4 * k0_t17_loop.trips)) fullShare (BUF I) ⊢ own c main_v4_0 Finset.univ fullShare (BUF I) from pt_done c (b := main_v4_0) κo κo_lt (BUF I)) $$ HD
  ihave HB := (show own c bBuf (Btw κb 0 (5 * (4 * k0_t17_loop.trips))) fullShare (BUF I) ⊢ own c bBuf Finset.univ fullShare (BUF I) from pt_done c (b := bBuf) κb κb_lt (BUF I)) $$ HB
  ihave HX := (pt_done c (b := bX) κx κx_lt (XV I)) $$ HX
  ihave H0 := (pt_done c (b := main_v0) κh κh_lt I.x) $$ H0
  icases HR with ⟨%fr, HR⟩
  ihave HR := (pt_done c (b := bR) κr κr_lt fr) $$ HR
  icases H with ⟨H1, H2, H3⟩
  iapply rule_ret
  isplitl [HX HIx HGa HW HQ HR HC HB HBs HG HP HK HTs]
  · isplitl [HX]; · iexists (XV I); iexact HX
    isplitl [HIx]; · iexists (IXV I); iexact HIx
    isplitl [HGa]; · iexists (GAV I); iexact HGa
    isplitl [HW]; · iexists (WV I); iexact HW
    isplitl [HQ]; · iexists (PICK I); iexact HQ
    isplitl [HR]; · iexists fr; iexact HR
    isplitl [HC]; · iexists (CODES I); iexact HC
    isplitl [HB]; · iexists (BUF I); iexact HB
    isplitl [HBs]; · iexists (BS I); iexact HBs
    isplitl [HG]; · iexists (COMB I); iexact HG
    isplitl [HP]; · iexists (POS I); iexact HP
    isplitl [HK]; · iexists (KEEP I); iexact HK
    iexists (TS I); iexact HTs
  isplitl [H0 H1 H2 H3]
  · isplitl [H0]; · iexact H0
    isplitl [H1]; · iexact H1
    isplitl [H2]; · iexact H2
    iexact H3
  isplitl [S0 S24 S27 S51 S75]
  · isplitl [S0]; · iexact S0
    isplitl [S24]; · iexact S24
    isplitl [S27]; · iexact S27
    isplitl [S51]; · iexact S51
    iexact S75
  isplitl [HD]; · iexact HD
  isplitl [HT]; · iexact HT
  isplitl [DO]; · iexact DO
  iexact HO

end Cert.Kernel.Disp

end
-- ==== Proof.KLaunch.lean ====
/-
  The program around the kernel: what the region hands it, and what every buffer holds when the program ends.
-/
module

public import proofs.«01_k».proof.Proof.KMain
public import proofs.«01_k».proof.Proof.Gen.Kernel.Frame

@[expose] public section

noncomputable section

namespace Cert.Kernel.Disp

open Cert.Disp Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The kernel's inputs and its results, as whole buffers -/

/-- What the region finds in the four arrays the kernel reads. -/
def In (c : Dev nD) : Ins F := ⟨Gen.V m c main_v0, Gen.V m c main_v1, Gen.V m c main_v2, Gen.V m c main_v3⟩

/-- The contents of every buffer after the region: the seven results at the values the kernel computes. -/
def Gout (c : Dev nD) : (b : Ref sig .tc) → Buf (Elt F) ((c.tc : Thread nD τ).loc b) :=
  Function.update (Function.update (Function.update (Function.update (Function.update (Function.update (Function.update (Gen.V m c)
    main_v4_0 (BUF (In m c))) main_v4_1 (BS (In m c))) main_v4_2 (COMB (In m c))) main_v4_3 (POS (In m c))) main_v4_4 (KEEP (In m c)))
    main_v4_5 (CODES (In m c))) main_v4_6 (TS (In m c))

theorem Gout_0 (c : Dev nD) : Gout m c main_v4_0 = BUF (In m c) := by
  unfold Gout
  rw [Function.update_of_ne (by decide), Function.update_of_ne (by decide), Function.update_of_ne (by decide), Function.update_of_ne (by decide),
    Function.update_of_ne (by decide), Function.update_of_ne (by decide), Function.update_self]
theorem Gout_1 (c : Dev nD) : Gout m c main_v4_1 = BS (In m c) := by
  unfold Gout
  rw [Function.update_of_ne (by decide), Function.update_of_ne (by decide), Function.update_of_ne (by decide), Function.update_of_ne (by decide),
    Function.update_of_ne (by decide), Function.update_self]
theorem Gout_2 (c : Dev nD) : Gout m c main_v4_2 = COMB (In m c) := by
  unfold Gout
  rw [Function.update_of_ne (by decide), Function.update_of_ne (by decide), Function.update_of_ne (by decide), Function.update_of_ne (by decide),
    Function.update_self]
theorem Gout_3 (c : Dev nD) : Gout m c main_v4_3 = POS (In m c) := by
  unfold Gout
  rw [Function.update_of_ne (by decide), Function.update_of_ne (by decide), Function.update_of_ne (by decide), Function.update_self]
theorem Gout_4 (c : Dev nD) : Gout m c main_v4_4 = KEEP (In m c) := by
  unfold Gout
  rw [Function.update_of_ne (by decide), Function.update_of_ne (by decide), Function.update_self]
theorem Gout_5 (c : Dev nD) : Gout m c main_v4_5 = CODES (In m c) := by
  unfold Gout
  rw [Function.update_of_ne (by decide), Function.update_self]
theorem Gout_6 (c : Dev nD) : Gout m c main_v4_6 = TS (In m c) := by
  unfold Gout
  rw [Function.update_self]

/-! ## What the region hands the kernel -/

/-- The kernel's eighty semaphores. -/
abbrev osem0 : Fin 80 → SemLoc sig := fun j => .dma (sm j)
theorem ownSemFacts0 : Pipeline.OwnSemFacts cfg0.spec osem0 := by decide +kernel

theorem bigSep_shift (a b n : ℕ) (Φ : ℕ → sProp 𝕄) : bigSep (Finset.Ico a b) (fun j => Φ (n + j)) = bigSep (Finset.Ico (n + a) (n + b)) Φ := by
  rw [show Finset.Ico (n + a) (n + b) = (Finset.Ico a b).map (addLeftEmbedding n) by
    ext x; simp only [Finset.mem_Ico, Finset.mem_map, addLeftEmbedding_apply]; exact ⟨fun h => ⟨x - n, by omega, by omega⟩, fun ⟨y, h, e⟩ => by omega⟩, bigSep_map]; rfl

theorem bigSep_split {a b e : ℕ} (h₁ : a ≤ b) (h₂ : b ≤ e) (Φ : ℕ → sProp 𝕄) :
    bigSep (Finset.Ico a e) Φ = iprop(bigSep (Finset.Ico a b) Φ ∗ bigSep (Finset.Ico b e) Φ) := by
  rw [← Finset.Ico_union_Ico_eq_Ico h₁ h₂]
  exact bigSep_union (Finset.Ico_disjoint_Ico_consecutive a b e)

theorem bigSep_head {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) by ext; simp; omega]
  exact bigSep_insert (by simp)

theorem bigSep_last {a : ℕ} (Φ : ℕ → sProp 𝕄) : bigSep (Finset.Ico a (a + 1)) Φ = Φ a := by
  rw [show Finset.Ico a (a + 1) = {a} by ext; simp]
  exact bigSep_singleton

theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep (Finset.Ico 0 24) (fun j => sem0 (F := F) c (0 + j)) ∗ (sem0 (F := F) c 24 ∗ sem0 (F := F) c 25 ∗ sem0 (F := F) c 26)
        ∗ bigSep (Finset.Ico 0 24) (fun j => sem0 (F := F) c (27 + j)) ∗ bigSep (Finset.Ico 0 24) (fun j => sem0 (F := F) c (51 + j)) ∗ sems5 (F := F) c) := by
  rw [bigSep_shift 0 24 0 (fun j => sem0 (F := F) c j), bigSep_shift 0 24 27 (fun j => sem0 (F := F) c j), bigSep_shift 0 24 51 (fun j => sem0 (F := F) c j)]
  have e : (Pipeline.ownSems0 (Ix := Unit) (Name := ℕ) (U := Pipeline.UD sig nD τ) (Lvl := ℕ) (Val := Elt F) (τ := τ) osem0 c : sProp 𝕄)
      = bigSep (Finset.Ico 0 80) (fun j => sem0 (F := F) c j) := by
    have hs : (Finset.univ : Finset (Fin 80)).map Fin.valEmbedding = Finset.Ico 0 80 := by decide +kernel
    rw [← hs, bigSep_map]; rfl
  rw [e, bigSep_split (a := 0) (b := 24) (e := 80) (by omega) (by omega), bigSep_split (a := 24) (b := 27) (e := 80) (by omega) (by omega),
    bigSep_split (a := 27) (b := 51) (e := 80) (by omega) (by omega), bigSep_split (a := 51) (b := 75) (e := 80) (by omega) (by omega),
    bigSep_head (a := 24) (b := 27) (by omega), bigSep_head (a := 25) (b := 27) (by omega), bigSep_last (a := 26),
    bigSep_head (a := 75) (b := 80) (by omega), bigSep_head (a := 76) (b := 80) (by omega), bigSep_head (a := 77) (b := 80) (by omega),
    bigSep_head (a := 78) (b := 80) (by omega), bigSep_last (a := 79)]

/-- The arrays the kernel reads, and those it writes. -/
def H0 : Finset (Ref sig .tc) := {main_v0, main_v1, main_v2, main_v3}
def R0 : Finset (Ref sig .tc) := {main_v4_0, main_v4_1, main_v4_2, main_v4_3, main_v4_4, main_v4_5, main_v4_6}
theorem H0_sub : H0 ⊆ Pipeline.restRefs sig cfg0.spec := by decide
theorem R0_sub : R0 ⊆ Pipeline.restRefs sig cfg0.spec \ H0 := by decide

theorem inPts_eq (c : Dev nD) : (bigSep H0 (fun b => ((c.tc : Thread nD τ).loc b) ↦{fullShare} Gen.V m c b) : sProp 𝕄) = ins (In m c) c := by
  rw [BI.bigSep_eq_bigSepL_of_eq [main_v0, main_v1, main_v2, main_v3] (by decide) (by decide)]; rfl

theorem outPts_eq (c : Dev nD) (G : (b : Ref sig .tc) → Buf (Elt F) ((c.tc : Thread nD τ).loc b)) :
    (bigSep R0 (fun b => ((c.tc : Thread nD τ).loc b) ↦{fullShare} G b) : sProp 𝕄)
      = iprop(own c main_v4_0 Finset.univ fullShare (G main_v4_0) ∗ own c main_v4_1 Finset.univ fullShare (G main_v4_1) ∗ own c main_v4_2 Finset.univ fullShare (G main_v4_2)
          ∗ own c main_v4_3 Finset.univ fullShare (G main_v4_3) ∗ own c main_v4_4 Finset.univ fullShare (G main_v4_4) ∗ own c main_v4_5 Finset.univ fullShare (G main_v4_5)
          ∗ own c main_v4_6 Finset.univ fullShare (G main_v4_6)) := by
  rw [BI.bigSep_eq_bigSepL_of_eq [main_v4_0, main_v4_1, main_v4_2, main_v4_3, main_v4_4, main_v4_5, main_v4_6] (by decide) (by decide)]; rfl

theorem rest_eq (c : Dev nD) :
    (Pipeline.scopedRest (Ix := Unit) (Name := ℕ) (U := Pipeline.UD sig nD τ) (Lvl := ℕ) (Val := Elt F) cfg0.spec c : sProp 𝕄) = core (F := F) c :=
  Gen.scopedRest0_eq c

/-- What the region holds with the results at `G`. -/
abbrev Phi (c : Dev nD) (G : (c : Dev nD) → (b : Ref sig .tc) → Buf (Elt F) ((c.tc : Thread nD τ).loc b)) : sProp 𝕄 :=
  Pipeline.ΦDRV osem0 cfg0.spec H0 R0 (fun c b => Gen.V0 m c (Proc.devRef .tc b)) G c

/-! ## The region's body -/

def dats (_ : Fin 1) (c : Dev nD) : Dat τ (Elt F) Unit ℕ (Pipeline.UD sig nD τ) ℕ cfg0 c where
  A w := w.elim0
  after w _ := w.elim0
  Φ t := Phi m c (if t.val = 0 then fun c b => Gen.V0 m c (Proc.devRef .tc b) else Gout m)
  q _ := fullShare
  owed _ := 0

theorem body_run (c : Dev nD) :
    iprop(Phi m c (fun c b => Gen.V0 m c (Proc.devRef .tc b)) ∗ stO (F := F) c)
      ⊢ kr c (app (cc0_dispatch (F := F))) fun _ => iprop(Phi m c (Gout m) ∗ stO (F := F) c) := by
  unfold Phi Pipeline.ΦDRV
  rw [rest_eq, ownSems00_eq, outPts_eq, outPts_eq, inPts_eq, Gout_0, Gout_1, Gout_2, Gout_3, Gout_4, Gout_5, Gout_6]
  refine triple_restated (kernel_run (In m c) c) rfl ?_ fun _ => ?_
  · iintro ⟨⟨HC, HS, HI, O0, O1, O2, O3, O4, O5, O6⟩, HO⟩
    isplitl [HC]; · iexact HC
    isplitl [HI]; · iexact HI
    isplitl [HS]; · iexact HS
    isplitl [O0]; · iexists _; iexact O0
    isplitl [O5]; · iexists _; iexact O5
    isplitl [O1 O2 O3 O4 O6]
    · isplitl [O1]; · iexists _; iexact O1
      isplitl [O2]; · iexists _; iexact O2
      isplitl [O3]; · iexists _; iexact O3
      isplitl [O4]; · iexists _; iexact O4
      iexists _; iexact O6
    iexact HO
  · iintro ⟨HC, HI, HS, O0, O5, ⟨O1, O2, O3, O4, O6⟩, HO⟩
    isplitl [HC HI HS O0 O1 O2 O3 O4 O5 O6]
    · isplitl [HC]; · iexact HC
      isplitl [HS]; · iexact HS
      isplitl [HI]; · iexact HI
      isplitl [O0]; · iexact O0
      isplitl [O1]; · iexact O1
      isplitl [O2]; · iexact O2
      isplitl [O3]; · iexact O3
      isplitl [O4]; · iexact O4
      isplitl [O5]; · iexact O5
      iexact O6
    iexact HO

theorem sound_body (c : Dev nD) (t : Fin cfg0.N) :
    iprop((dats m 0 c).Φ t.castSucc ∗ (dats m 0 c).owesAt () t.castSucc ∗ BI.emp)
      ⊢ wp frame (wpE (defs₀ (F := F)) Variants.none c none) Set.univ (bodyAt0 t) fun _ => iprop((dats m 0 c).Φ t.succ ∗ (dats m 0 c).owesAt () t.succ ∗ BI.emp) := by
  rw [fin_N0 t, show (dats m 0 c).Φ t0_0.castSucc = Phi m c (fun c b => Gen.V0 m c (Proc.devRef .tc b)) from rfl,
    show (dats m 0 c).Φ t0_0.succ = Phi m c (Gout m) from rfl]
  unfold Dat.owesAt Pipeline.owesWithin
  rw [show (dats m 0 c).owed t0_0.castSucc = 0 from rfl, show (dats m 0 c).owed t0_0.succ = 0 from rfl]
  refine triple_restated (body_run m c) rfl ?_ fun _ => ?_
  · iintro ⟨HP, ⟨%W, -, HW⟩, -⟩
    isplitl [HP]; · iexact HP
    iexists W; iexact HW
  · iintro ⟨HP, ⟨%W', HW'⟩⟩
    isplitl [HP]; · iexact HP
    isplitl [HW']
    · iexists W'; isplitr; · ipureintro; exact fun _ _ => Or.inl trivial
      iexact HW'
    iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have hW : (Finset.univ : Finset (Fin cfg0.W)) = ∅ := rfl
  rw [hW, bigSep_empty, bigSep_empty, defs₀_row]
  exact triple_restated (sound_body m c t) rfl .rfl fun _ => .rfl

/-! ## The run -/

theorem hmain (𝒱₀ : Variants) : Pipeline.HMainK (Ix := Unit) (Name := ℕ) (U := Pipeline.UD sig nD τ) (Lvl := ℕ) cfgs 0 defs₀ 𝒱₀ m (main (F := F))
    (fun c b => Gen.V0 m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact Gen.hostOps0_fresh) main_chain

/-- What every buffer of the program holds when it ends: the host's lines after the region, run on the kernel's results. -/
abbrev Ends (c : Dev nD) : Valuation τ sig (Elt F) :=
  StableHlo.after (List.flatten [hostOps1]) (Pipeline.withArrays cfg0.spec c (Pipeline.withR (Gen.V0 m c) R0 c (Gout m c)) fun w => (dats m 0 c).arrAt w cfg0.N)

set_option backward.isDefEq.respectTransparency.types false in
theorem run_main : θ_run defs (onTc (τ := τ) (main (F := F))) (s₀ m ρ)
    (fun r => (∀ c : Dev nD, ∀ b ∈ Pipeline.restRefs sig cfg0.spec, r.2.mem ((c.tc : Thread nD τ).loc b) = Ends m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := Gen.V0 m) (opss := [hostOps1]) (hsub := Gen.sfx_sub) (hfresh := Gen.sfx_fresh) (hkeep := Gen.sfx_keeps)
    (G := Gout m) (hmain := hmain m Variants.none) (hA := fun c w => w.elim0)
    (hin := fun _ => .rfl) (hout := fun _ => .rfl) (hQ' := fun r h => ⟨fun c => (h.1 c).2, h.2⟩)

/-! ## The frame -/

/-- A buffer no host line writes and the kernel does not write ends as it started. -/
theorem Ends_of (c : Dev nD) (b : Ref sig .tc) (h₁ : ∀ op ∈ (List.flatten [hostOps1] : List (HloOp τ sig (Elt F))), Proc.devRef .tc b ∉ op.writes) (h₂ : b ∉ R0) :
    Ends m c (Proc.devRef .tc b) = Gen.V m c b := by
  unfold Ends
  rw [StableHlo.after_of_forall_not_mem _ _ h₁, Pipeline.withArrays_of_ne _ c _ _ b (fun w => w.elim0), Pipeline.withR_of_not_mem _ _ _ _ _ h₂]

theorem Ends_arg0 (c : Dev nD) : Ends m c (Proc.devRef .tc main_arg0) = m ((c.tc : Thread nD τ).loc main_arg0) :=
  (Ends_of m c main_arg0 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg0 m c)
theorem Ends_arg1 (c : Dev nD) : Ends m c (Proc.devRef .tc main_arg1) = m ((c.tc : Thread nD τ).loc main_arg1) :=
  (Ends_of m c main_arg1 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg1 m c)
theorem Ends_arg2 (c : Dev nD) : Ends m c (Proc.devRef .tc main_arg2) = m ((c.tc : Thread nD τ).loc main_arg2) :=
  (Ends_of m c main_arg2 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg2 m c)
theorem Ends_arg3 (c : Dev nD) : Ends m c (Proc.devRef .tc main_arg3) = m ((c.tc : Thread nD τ).loc main_arg3) :=
  (Ends_of m c main_arg3 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg3 m c)

/-- Every run ends, the four arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0 (Pipeline.mem_restRefs_of main_arg0 (by decide) (by decide))).trans (Ends_arg0 m c),
    (h.1 c main_arg1 (Pipeline.mem_restRefs_of main_arg1 (by decide) (by decide))).trans (Ends_arg1 m c),
    (h.1 c main_arg2 (Pipeline.mem_restRefs_of main_arg2 (by decide) (by decide))).trans (Ends_arg2 m c),
    (h.1 c main_arg3 (Pipeline.mem_restRefs_of main_arg3 (by decide) (by decide))).trans (Ends_arg3 m c)⟩, h.2⟩) (run_main m ρ)

end Cert.Kernel.Disp

end
-- ==== Proof.KIVals.lean ====
/-
  What the kernel computes, buffer by buffer, as functions of its four inputs.

  A tensor is read at natural coordinates (`atN`, reduced modulo the sizes, so that no bound has to be carried); every buffer the
  kernel fills is a function of the coordinates of its elements.
-/
module

public import proofs.«01_k».proof.Proof.Gen.KernelIdeal.Skeleton
public import proofs.«01_k».proof.Proof.Base

@[expose] public section

noncomputable section

namespace Cert.KernelIdeal.Disp

open Cert.Disp Cert.KernelIdeal Cert.KernelIdeal.Gen
open Idealize.ShloMosaic

/-- A tensor at natural coordinates. -/
def atN {s : Shape} {α : Type} (h : ∀ a, 0 < s.size a) (f : s.Idx → α) (v : Fin s.rank → ℕ) : α :=
  f fun a => ⟨v a % s.size a, Nat.mod_lt _ (h a)⟩

theorem atN_eq {s : Shape} {α : Type} (h : ∀ a, 0 < s.size a) (f : s.Idx → α) {v : Fin s.rank → ℕ} {i : s.Idx} (hv : ∀ a, v a = i a) :
    atN h f v = f i := by
  unfold atN
  congr 1
  funext a
  exact Fin.ext ((congrArg (· % s.size a) (hv a)).trans (Nat.mod_eq_of_lt (i a).isLt))

variable {F : FTy → Type} [FloatOps F]

/-- The four inputs as the kernel reads them: tokens in groups of eight, routing indices and gates with the two choices as rows,
    and the norm weights as a row. -/
structure Ins (F : FTy → Type) where
  x : Vec F S192x8x5120 .bf16
  ix : Vec F S6x2x256 .i32
  ga : Vec F S6x2x256 .f32
  w : Vec F S1x5120 .f32

variable (I : Ins F)

/-! ## The inputs on the core -/

/-- Token row `r` of group `G` at column `c`. -/
def xN (G r c : ℕ) : Elt F .bf16 := atN (by decide) I.x ![G, r, c]
def wN (c : ℕ) : Elt F .f32 := atN (by decide) I.w ![0, c]
def ixN (b j t : ℕ) : Elt F .i32 := atN (by decide) I.ix ![b, j, t]
def gaN (b j t : ℕ) : Elt F .f32 := atN (by decide) I.ga ![b, j, t]

/-- The tokens in the core's memory: 24 blocks of 8 groups. -/
def XV : Vec F S24x8x8x5120 .bf16 := fun i => xN I (8 * (i 0 : ℕ) + i 1) (i 2) (i 3)

/-- The norm weights, the routing indices and the gates by coordinates. -/
def WV : Vec F S1x5120 .f32 := fun i => wN I (i 1)
def IXV : Vec F S6x2x256 .i32 := fun i => ixN I (i 0) (i 1) (i 2)
def GAV : Vec F S6x2x256 .f32 := fun i => gaN I (i 0) (i 1) (i 2)

theorem WV_eq : WV I = I.w := funext fun i => atN_eq (by decide) _ fun a => by
  have h : (i 0 : ℕ) < 1 := (i 0).isLt
  fin_cases a
  · show 0 = (i 0 : ℕ); omega
  · rfl
theorem IXV_eq : IXV I = I.ix := funext fun i => atN_eq (by decide) _ fun a => by fin_cases a <;> rfl
theorem GAV_eq : GAV I = I.ga := funext fun i => atN_eq (by decide) _ fun a => by fin_cases a <;> rfl

def xT (G k : ℕ) : Vec F S1x1x8x256 .bf16 := fun y => xN I G (y 2) (256 * k + y 3)
def wT (k : ℕ) : Vec F S1x256 .f32 := fun y => wN I (256 * k + y 1)
def xT4 (G n : ℕ) : Vec F S1x4x8x256 .bf16 := fun y => xN I (G + y 1) (y 2) (256 * n + y 3)
def wT2 (m : ℕ) : Vec F S1x128 .f32 := fun y => wN I (128 * m + y 1)
def ixR (b j : ℕ) : Vec F S1x1x256 .i32 := fun y => ixN I b j (y 2)
def gaR (b j : ℕ) : Vec F S1x1x256 .f32 := fun y => gaN I b j (y 2)

/-! ## A group's statistics -/

/-- Sum of squares and largest weighted magnitude, lane by lane, after `k` column tiles. -/
def stat (G : ℕ) : ℕ → FVec F S8x128 .f32 × FVec F S8x128 .f32
  | 0 => (k0_pay21, k0_pay21)
  | k + 1 => (k0_pay23 (stat G k).1 (xT I G k), k0_pay24 (stat G k).2 (xT I G k) (wT I k))

/-- The factor each row of a group is multiplied by. -/
def rG (G : ℕ) : FVec F S1x8x128 .f32 :=
  k0_pay35 (k0_pay25 (stat I G 20).1) (k0_pay27 (stat I G 20).1 (stat I G 20).2) (k0_pay28 (stat I G 20).1 (stat I G 20).2) k0_pay29
def rN (G r l : ℕ) : Elt F .f32 := atN (by decide) (rG I G) ![0, r, l]
/-- The factors of block `i`'s eight groups. -/
def RV (i : ℕ) : Vec F S8x8x128 .f32 := fun y => rN I (8 * i + (y 0 : ℕ)) (y 1) (y 2)
def rT4 (G : ℕ) : Vec F S4x8x128 .f32 := fun y => rN I (G + (y 0 : ℕ)) (y 1) (y 2)

/-- A block's number within its sequence. -/
def blk (k : ℕ) : Fin k0_t3_loop.trips := ⟨k % k0_t3_loop.trips, Nat.mod_lt _ (by decide)⟩

/-- The scales laid out over lanes, after `g` groups of block `k` of sequence `b`. -/
def lane (b k : ℕ) (acc : FVec F S8x128 .f32) : ℕ → FVec F S8x128 .f32
  | 0 => k0_pay33 0#32 1#32 (blk k) acc
  | g + 1 => k0_pay36 0#32 1#32 (blk k) (lane b k acc g) (Scf.iv 0#32 1#32 g)
      (k0_pay27 (stat I (8 * (4 * b + k) + g) 20).1 (stat I (8 * (4 * b + k) + g) 20).2)
      (k0_pay28 (stat I (8 * (4 * b + k) + g) 20).1 (stat I (8 * (4 * b + k) + g) 20).2) k0_pay29
/-- The same after `k` blocks of sequence `b`. -/
def accB (b : ℕ) : ℕ → FVec F S8x128 .f32
  | 0 => k0_pay67
  | k + 1 => lane I b k (accB b k) 8

/-! ## Token scales -/

/-- Token `c` of sequence `b`'s scale. -/
def tsN (b c : ℕ) : Elt F .f32 :=
  atN (s := S6x128) (by decide) (k0_pay37 (accB I b (2 * (c / 128) + 2)) (fun _ => atN (by decide) (k0_pay66 (F := F)) ![0, 0])) ![0, c % 128]
/-- The scales as stored after `m` half sequences. -/
def TSat (m : ℕ) : Vec F S6x256 .f32 := fun i => if 2 * (i 0 : ℕ) + (i 1 : ℕ) / 128 < m then tsN I (i 0) (i 1) else k0_pay66 i

/-! ## Token codes -/

/-- Four groups' codes for 128 columns. -/
def codeT (G m : ℕ) : FVec F S1x32x128 .fp8e4m3 :=
  if m % 2 = 0 then k0_pay31 (xT4 I G (m / 2)) (wT2 I m) (rT4 I G)
  else k0_pay38 (wT2 I m) (k0_pay32 (xT4 I G (m / 2))) (rT4 I G)
def codeN (b r c : ℕ) : Elt F .fp8e4m3 := atN (by decide) (codeT I (4 * (8 * b + r / 32)) (c / 128)) ![0, r % 32, c % 128]
def CODES : Vec F S6x256x5120 .fp8e4m3 := fun i => codeN I (i 0) (i 1) (i 2)
def codeR (b n : ℕ) : Vec F S1x256x256 .fp8e4m3 := fun y => codeN I b (y 1) (256 * n + y 2)

/-! ## Routing -/

def pos0 (b : ℕ) : IVec S1x256 32 := k0_pay6 (F := F) k0_pay64 (ixR I b 0) (ixR I b 1)
def pos1 (b : ℕ) : IVec S1x256 32 := k0_pay7 (F := F) k0_pay64 (ixR I b 0) (ixR I b 1)
def kp0 (b : ℕ) : IVec S1x256 1 := k0_pay8 (F := F) k0_pay64 (ixR I b 0) (ixR I b 1)
def kp1 (b : ℕ) : IVec S1x256 1 := k0_pay9 (F := F) k0_pay64 (ixR I b 0) (ixR I b 1)

def posN (b j t : ℕ) : Elt F .i32 := atN (s := S1x1x256) (by decide) (if j = 0 then k0_pay10 (pos0 I b) else k0_pay11 (pos1 I b)) ![0, 0, t]
def POS : Vec F S6x2x256 .i32 := fun i => posN I (i 0) (i 1) (i 2)
def posR (b j : ℕ) : Vec F S1x1x256 .i32 := fun y => posN I b j (y 2)

def keepN (j b t : ℕ) : Elt F .i32 := atN (s := S1x1x256) (by decide) (if j = 0 then k0_pay12 (kp0 I b) else k0_pay13 (kp1 I b)) ![0, 0, t]
def KEEP : Vec F S2x6x256 .i32 := fun i => keepN I (i 0) (i 1) (i 2)

def combN (b j t : ℕ) : Elt F .f32 :=
  atN (s := S1x1x256) (by decide) (if j = 0 then k0_pay17 (kp0 I b) (gaR I b 0) (gaR I b 1) else k0_pay19 (k0_pay18 (kp1 I b) (gaR I b 0) (gaR I b 1))) ![0, 0, t]
def COMB : Vec F S6x2x256 .f32 := fun i => combN I (i 0) (i 1) (i 2)

def pickN (b p t : ℕ) : Elt F .i32 :=
  atN (s := S1x160x256) (by decide)
    (k0_pay65 (k0_pay20 (k0_pay1 (F := F) (ixR I b 0)) (k0_pay2 (F := F) (ixR I b 1)) (pos0 I b) (pos1 I b) (kp0 I b) (kp1 I b))) ![0, p, t]
def PICK : Vec F S6x160x256 .i32 := fun i => pickN I (i 0) (i 1) (i 2)
def pickR (b : ℕ) : Vec F S1x160x256 .i32 := fun y => pickN I b (y 1) (y 2)

/-! ## The expert buffers -/

/-- Sequence `b`'s buffers, 256 columns. -/
def bufT (b n : ℕ) : FVec F S1x16x40x256 .fp8e4m3 := k0_pay59 (k0_pay57 (F := F) (pickR I b)) (codeR I b n)
def bufN (b e s c : ℕ) : Elt F .fp8e4m3 := atN (by decide) (bufT I b (c / 256)) ![0, e, s, c % 256]
def BUF : Vec F S6x16x40x5120 .fp8e4m3 := fun i => bufN I (i 0) (i 1) (i 2) (i 3)

def seq8 (b : ℕ) : Fin k0_t8_loop.trips := ⟨b % k0_t8_loop.trips, Nat.mod_lt _ (by decide)⟩

def bsT (b : ℕ) : FVec F S1x16x40 .f32 :=
  if b = 0 then
    k0_pay70 (k0_pay68 (iota .tc S16x256 32 [0] iota_S16x256_d0_w32) (TSat I 2) (ixR I 0 0) (ixR I 0 1))
      (k0_pay69 (iota .tc S40x256 32 [0] iota_S40x256_d0_w32) (posR I 0 0) (posR I 0 1)) (constant S16x40 .f32 0x00000000#32)
  else
    k0_pay71 (iota .tc S40x256 32 [0] iota_S40x256_d0_w32) (k0_pay61 1#32 1#32 (seq8 (b - 1)) (TSat I (2 * b + 2)) (ixR I b 0))
      (k0_pay62 (F := F) (posR I b 0)) (k0_pay63 1#32 1#32 (seq8 (b - 1)) (TSat I (2 * b + 2)) (ixR I b 1)) (posR I b 1)
def bsN (b e s : ℕ) : Elt F .f32 := atN (by decide) (bsT I b) ![0, e, s]
def BS : Vec F S6x16x40 .f32 := fun i => bsN I (i 0) (i 1) (i 2)

/-- The token scales once every sequence is done. -/
abbrev TS : Vec F S6x256 .f32 := TSat I 12

/-- A piece of the kernel on the buffers and semaphores it is launched on. -/
abbrev app {β : Type _} (f : ∀ (arg0 : Memref sig .tc .hbm S192x8x5120 .bf16) (harg0 : arg0.IsWhole) (arg1 : Memref sig .tc .hbm S6x2x256 .i32) (harg1 : arg1.IsWhole) (arg2 : Memref sig .tc .hbm S6x2x256 .f32) (harg2 : arg2.IsWhole) (arg3 : Memref sig .tc .hbm S1x5120 .f32) (harg3 : arg3.IsWhole) (arg4 : Memref sig .tc .hbm S6x16x40x5120 .fp8e4m3) (harg4 : arg4.IsWhole) (arg5 : Memref sig .tc .hbm S6x16x40 .f32) (harg5 : arg5.IsWhole) (arg6 : Memref sig .tc .hbm S6x2x256 .f32) (harg6 : arg6.IsWhole) (arg7 : Memref sig .tc .hbm S6x2x256 .i32) (harg7 : arg7.IsWhole) (arg8 : Memref sig .tc .hbm S2x6x256 .i32) (harg8 : arg8.IsWhole) (arg9 : Memref sig .tc .hbm S6x256x5120 .fp8e4m3) (harg9 : arg9.IsWhole) (arg10 : Memref sig .tc .hbm S6x256 .f32) (harg10 : arg10.IsWhole) (arg11 : Memref sig .tc .vmem S24x8x8x5120 .bf16) (harg11 : arg11.IsWhole) (arg12 : Memref sig .tc .vmem S6x2x256 .i32) (harg12 : arg12.IsWhole) (arg13 : Memref sig .tc .vmem S6x2x256 .f32) (harg13 : arg13.IsWhole) (arg14 : Memref sig .tc .vmem S1x5120 .f32) (harg14 : arg14.IsWhole) (arg15 : Memref sig .tc .vmem S6x160x256 .i32) (harg15 : arg15.IsWhole) (arg16 : Memref sig .tc .vmem S8x8x128 .f32) (harg16 : arg16.IsWhole) (arg17 : Memref sig .tc .vmem S6x256x5120 .fp8e4m3) (harg17 : arg17.IsWhole) (arg18 : Memref sig .tc .vmem S6x16x40x5120 .fp8e4m3) (harg18 : arg18.IsWhole) (arg19 : Memref sig .tc .vmem S6x16x40 .f32) (harg19 : arg19.IsWhole) (arg20 : Memref sig .tc .vmem S6x2x256 .f32) (harg20 : arg20.IsWhole) (arg21 : Memref sig .tc .vmem S6x2x256 .i32) (harg21 : arg21.IsWhole) (arg22 : Memref sig .tc .vmem S2x6x256 .i32) (harg22 : arg22.IsWhole) (arg23 : Memref sig .tc .vmem S6x256 .f32) (harg23 : arg23.IsWhole) (arg24 : DmaSems sig S24) (arg25 : DmaSems sig S3) (arg26 : DmaSems sig S24) (arg27 : DmaSems sig S24) (arg28 : DmaSems sig S5), β) : β :=
  f (Memref.whole main_v0) (Memref.isWhole_whole _) (Memref.whole main_v1) (Memref.isWhole_whole _) (Memref.whole main_v2) (Memref.isWhole_whole _) (Memref.whole main_v3) (Memref.isWhole_whole _) (Memref.whole main_v4_0) (Memref.isWhole_whole _) (Memref.whole main_v4_1) (Memref.isWhole_whole _) (Memref.whole main_v4_2) (Memref.isWhole_whole _) (Memref.whole main_v4_3) (Memref.isWhole_whole _) (Memref.whole main_v4_4) (Memref.isWhole_whole _) (Memref.whole main_v4_5) (Memref.isWhole_whole _) (Memref.whole main_v4_6) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) cc0_scratch13 cc0_scratch14 cc0_scratch15 cc0_scratch16 cc0_scratch17

/-! ## The buffers of the core -/

/-- The tokens. -/
abbrev bX : Ref sig .tc := VB 0 rfl
/-- The routing indices. -/
abbrev bIx : Ref sig .tc := VB 1 rfl
/-- The gates. -/
abbrev bGa : Ref sig .tc := VB 2 rfl
/-- The norm weights. -/
abbrev bW : Ref sig .tc := VB 3 rfl
/-- The slot of each buffer row. -/
abbrev bPick : Ref sig .tc := VB 4 rfl
/-- The row factors. -/
abbrev bR : Ref sig .tc := VB 5 rfl
/-- The codes. -/
abbrev bCode : Ref sig .tc := VB 6 rfl
/-- The expert buffers. -/
abbrev bBuf : Ref sig .tc := VB 7 rfl
/-- The buffer scales. -/
abbrev bBs : Ref sig .tc := VB 8 rfl
/-- The combine weights. -/
abbrev bComb : Ref sig .tc := VB 9 rfl
/-- The positions. -/
abbrev bPos : Ref sig .tc := VB 10 rfl
/-- The kept flags. -/
abbrev bKeep : Ref sig .tc := VB 11 rfl
/-- The token scales. -/
abbrev bTs : Ref sig .tc := VB 12 rfl

end Cert.KernelIdeal.Disp

end
-- ==== Proof.KIStat.lean ====
/-
  A group's statistics: the loop over its column tiles.
-/
module

public import proofs.«01_k».proof.Proof.KIVals

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Elements of a buffer of the core. -/
abbrev own (c : Dev nD) (b : Ref sig .tc) (S : Finset (Idx ((Memref.whole b).view.loc (c : Thread nD τ)))) (q : PosShare TreeShare)
    (f : Buf (Elt F) ((Memref.whole b).view.loc (c : Thread nD τ))) : sProp 𝕄 := held (U := Pipeline.UD sig nD τ) c b S q f

/-- A piece of the kernel run on the core. -/
abbrev kr {α : Type} (c : Dev nD) (p : Prog (TpuEff nD τ sig (Elt F) Λ₀ .tc) α) (Q : α → sProp 𝕄) : sProp 𝕄 :=
  run (U := Pipeline.UD sig nD τ) (defs₀ (F := F)) c p Q

/-- The block a group of the token buffer belongs to. -/
def κx (i : S24x8x8x5120.Idx) : ℕ := i 0

variable (I : Ins F) (c : Dev nD)

theorem xT_load (t3 : Fin k0_t3_loop.trips) (t4 : Fin k0_t4_loop.trips) (t5 : Fin k0_t5_loop.trips) :
    (fun y => XV I ((Rect.unit (s := S24x8x8x5120) (k0_off12 t3 t4 t5) S1x1x8x256.size (k0_off12_inb t3 t4 t5)).emb y)) = xT I (8 * t3.val + t4.val) t5.val :=
  (rd4 (k0_off12_eq t3 t4 t5) fun a b r c => xN I (8 * a + b) r c).trans <| funext fun y => by
    have y0 : (y 0 : ℕ) < 1 := (y 0).isLt
    have y1 : (y 1 : ℕ) < 1 := (y 1).isLt
    unfold xT; congr 1 <;> omega

theorem wT_load (t5 : Fin k0_t5_loop.trips) :
    (fun y => WV I ((Rect.unit (s := S1x5120) (k0_off13 t5) S1x256.size (k0_off13_inb t5)).emb y)) = wT I t5.val :=
  (rd2 (k0_off13_eq t5) fun _ c => wN I c)

theorem t5_body_run (t3 : Fin k0_t3_loop.trips) (t4 : Fin k0_t4_loop.trips) (v96 c0 c1 : BitVec 32) (t5 : Fin k0_t5_loop.trips)
    (acc : FVec F S8x128 .f32 × FVec F S8x128 .f32) :
    iprop(⌜acc = stat I (8 * t3.val + t4.val) t5.val⌝ ∗ own c bX (Btw κx 0 (t3.val + 1)) fullShare (XV I) ∗ own c bW Finset.univ fullShare (WV I))
      ⊢ kr c (app (k0_t5_body (F := F)) t3 v96 c0 c1 t4 t5 acc) fun acc' =>
        iprop(⌜acc' = stat I (8 * t3.val + t4.val) (t5.val + 1)⌝ ∗ own c bX (Btw κx 0 (t3.val + 1)) fullShare (XV I) ∗ own c bW Finset.univ fullShare (WV I)) := by
  obtain ⟨a₁, a₂⟩ := acc
  iintro ⟨%h, HX, HW⟩
  unfold app k0_t5_body
  iapply (rule_load 0 rfl (fun i hi => by
    have := (mem_unit (k0_off12_eq t3 t4 t5)).1 hi 0
    rw [mem_Btw]; dsimp [κx] at *; omega)) $$ HX
  iintro HX
  iapply (rule_load 3 rfl (fun i hi => Finset.mem_univ i)) $$ HW
  iintro HW
  iapply rule_ret
  isplitr
  · ipureintro
    exact congrArg₂ Prod.mk (congrArg₂ k0_pay23 (congrArg Prod.fst h) (xT_load I t3 t4 t5))
      (congr (congrArg₂ k0_pay24 (congrArg Prod.snd h) (xT_load I t3 t4 t5)) (wT_load I t5))
  isplitl [HX] <;> iassumption

/-- The loop over the 20 column tiles leaves the group's statistics. -/
theorem t5_run (t3 : Fin k0_t3_loop.trips) (t4 : Fin k0_t4_loop.trips) (v96 c0 c1 : BitVec 32)
    {α : Type} {kk : FVec F S8x128 .f32 × FVec F S8x128 .f32 → Prog (TpuEff nD τ sig (Elt F) Λ₀ .tc) α} {Q : α → sProp 𝕄} :
    iprop(own c bX (Btw κx 0 (t3.val + 1)) fullShare (XV I) ∗ own c bW Finset.univ fullShare (WV I))
      ⊢ iprop((own c bX (Btw κx 0 (t3.val + 1)) fullShare (XV I) ∗ own c bW Finset.univ fullShare (WV I) -∗ kr c (kk (stat I (8 * t3.val + t4.val) 20)) Q)
        -∗ kr c (Scf.Loop.for k0_t5_loop k0_t5_ok (k0_pay21, k0_pay21) (app (k0_t5_body (F := F)) t3 v96 c0 c1 t4) >>= kk) Q) := by
  iintro H Hk
  iapply (rule_for k0_t5_loop (fun k acc => iprop(⌜acc = stat I (8 * t3.val + t4.val) k⌝ ∗ own c bX (Btw κx 0 (t3.val + 1)) fullShare (XV I) ∗ own c bW Finset.univ fullShare (WV I)))
    (fun k acc => t5_body_run I c t3 t4 v96 c0 c1 k acc)) $$ [H]
  · isplitr
    · ipureintro; rfl
    · iexact H
  iintro %acc ⟨%h, H⟩
  subst h
  iapply Hk; iexact H

end Cert.KernelIdeal.Disp

end
-- ==== Proof.KIDma.lean ====
/-
  The transfers of the kernel: which elements each moves, and what arrives.
-/
module

public import proofs.«01_k».proof.Proof.KIStat

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-- DMA semaphore `n` of the core. -/
def sm (n : ℕ) : DmaSem sig := ⟨n % sig.nDmaSem, Nat.mod_lt _ (by decide)⟩

/-- A semaphore of the core at zero. -/
abbrev sem0 (c : Dev nD) (n : ℕ) : sProp 𝕄 := semVal ((c : Thread nD τ), .dma (sm n)) 0

/-- A transfer under way on semaphore `n`, with what its wait returns. -/
abbrev fly (c : Dev nD) (n N : ℕ) (D : sProp 𝕄) : sProp 𝕄 := Flight (countersEmb (U := Pipeline.UD sig nD τ)) (c : Thread nD τ) (.dma (sm n)) () N D

/-- The semaphore at an offset of an array of 24. -/
abbrev sem24 (a : DmaSems sig S24) (off : Fin 1 → ℕ) (inb : ∀ i, off i + S1.size i ≤ S24.size i) : DmaSem sig :=
  ((a.slice (Rect.unit (s := S24) off S1.size inb)).squeeze S_ squeezes_S1_S_).sem

theorem sem24_eq {a : DmaSems sig S24} {n₀ : ℕ} (h : ∀ j : Fin 24, sem24 a ![j.val] (fun i => by fin_cases i; show j.val + 1 ≤ 24; omega) = sm (n₀ + j.val))
    {off : Fin 1 → ℕ} {inb} {j : ℕ} (ho : off = ![j]) : sem24 a off inb = sm (n₀ + j) := by
  subst ho
  have hj : j < 24 := by have := inb 0; simp at this; omega
  exact h ⟨j, hj⟩

theorem sem_x {off : Fin 1 → ℕ} {inb} {j : ℕ} (ho : off = ![j]) : sem24 cc0_scratch13 off inb = sm (0 + j) :=
  sem24_eq (by decide +kernel) ho
theorem sem_tok {off : Fin 1 → ℕ} {inb} {j : ℕ} (ho : off = ![j]) : sem24 cc0_scratch15 off inb = sm (27 + j) :=
  sem24_eq (by decide +kernel) ho
theorem sem_buf {off : Fin 1 → ℕ} {inb} {j : ℕ} (ho : off = ![j]) : sem24 cc0_scratch16 off inb = sm (51 + j) :=
  sem24_eq (by decide +kernel) ho

/-! ## Tokens in -/

/-- The block a group of tokens belongs to, in the array outside the core. -/
def κh (i : S192x8x5120.Idx) : ℕ := (i 0 : ℕ) / 8

abbrev xDst (off : Fin 4 → ℕ) (inb : ∀ i, off i + S1x8x8x5120.size i ≤ S24x8x8x5120.size i) : Memref sig .tc .vmem S8x8x5120 .bf16 :=
  ((Memref.whole cc0_scratch0).slice (Rect.unit (s := S24x8x8x5120) off S1x8x8x5120.size inb) (fun _ => rfl)).squeeze S8x8x5120 squeezes_S1x8x8x5120_S8x8x5120
abbrev xSrc (off : Fin 3 → ℕ) (inb : ∀ i, off i + S8x8x5120.size i ≤ S192x8x5120.size i) : Memref sig .tc .hbm S8x8x5120 .bf16 :=
  (Memref.whole main_v0).slice (Rect.unit (s := S192x8x5120) off S8x8x5120.size inb) (fun _ => rfl)

/-- The credit of a block of tokens. -/
def Nx : ℕ := (xDst ![0, 0, 0, 0] (by decide)).view.dmaCredit

/-- Block `j` on its way in. -/
abbrev flyX (j : ℕ) : sProp 𝕄 :=
  fly c (0 + j) Nx iprop(own c bX (Btw κx j (j + 1)) fullShare (XV I) ∗ own c main_v0 (Btw κh j (j + 1)) fullShare I.x)

theorem xDst_set {off : Fin 4 → ℕ} {inb} {j : ℕ} (ho : off = ![j, 0, 0, 0]) : (xDst off inb).view.set = Btw κx j (j + 1) := by
  refine (View.set_reshape _ _).trans ((View.set_slice_whole _ _).trans (Finset.ext fun i => ?_))
  refine (mem4 ho).trans (Iff.trans ?_ mem_Btw.symm)
  have h1 : (i 1 : ℕ) < 8 := (i 1).isLt
  have h2 : (i 2 : ℕ) < 8 := (i 2).isLt
  have h3 : (i 3 : ℕ) < 5120 := (i 3).isLt
  show (j ≤ (i 0 : ℕ) ∧ (i 0 : ℕ) < j + 1) ∧ (0 ≤ (i 1 : ℕ) ∧ (i 1 : ℕ) < 0 + 8) ∧ (0 ≤ (i 2 : ℕ) ∧ (i 2 : ℕ) < 0 + 8) ∧ (0 ≤ (i 3 : ℕ) ∧ (i 3 : ℕ) < 0 + 5120)
    ↔ j ≤ (i 0 : ℕ) ∧ (i 0 : ℕ) < j + 1
  omega

theorem xSrc_set {off : Fin 3 → ℕ} {inb} {j : ℕ} (ho : off = ![8 * j, 0, 0]) : (xSrc off inb).view.set = Btw κh j (j + 1) := by
  refine (View.set_slice_whole _ _).trans (Finset.ext fun i => ?_)
  refine (mem3 ho).trans (Iff.trans ?_ mem_Btw.symm)
  have h1 : (i 1 : ℕ) < 8 := (i 1).isLt
  have h2 : (i 2 : ℕ) < 5120 := (i 2).isLt
  show (8 * j ≤ (i 0 : ℕ) ∧ (i 0 : ℕ) < 8 * j + 8) ∧ (0 ≤ (i 1 : ℕ) ∧ (i 1 : ℕ) < 0 + 8) ∧ (0 ≤ (i 2 : ℕ) ∧ (i 2 : ℕ) < 0 + 5120)
    ↔ j ≤ (i 0 : ℕ) / 8 ∧ (i 0 : ℕ) / 8 < j + 1
  omega

theorem x_val {off : Fin 4 → ℕ} {off' : Fin 3 → ℕ} {inb inb'} {j : ℕ} (ho : off = ![j, 0, 0, 0]) (ho' : off' = ![8 * j, 0, 0]) (y : S8x8x5120.Idx) :
    (xDst off inb).view.read (Elt F) (XV I) y = (xSrc off' inb').view.read (Elt F) I.x y := by
  show XV I ((Rect.unit (s := S24x8x8x5120) off S1x8x8x5120.size inb).emb (Shape.reshapeEquiv _ y)) = I.x ((Rect.unit (s := S192x8x5120) off' S8x8x5120.size inb').emb y)
  rw [Shape.reshapeEquiv_cons_one]
  refine (congrFun (rd4 ho fun a b r q => xN I (8 * a + b) r q) _).trans (atN_eq (by decide) _ fun a => ?_)
  rw [emb_val ho']
  match a with
  | 0 => show 8 * (j + 0) + (0 + (y 0 : ℕ)) = 8 * j + y 0; omega
  | 1 => rfl
  | 2 => rfl

/-- A block of tokens started on its way in. -/
theorem x_start {off : Fin 4 → ℕ} {off' : Fin 3 → ℕ} {offs : Fin 1 → ℕ} {inb inb' inbs} {j : ℕ} (hs : offs = ![j]) (ho : off = ![j, 0, 0, 0])
    (ho' : off' = ![8 * j, 0, 0]) {hsrc : (xSrc off' inb').view.WordExact} {hdst : (xDst off inb).view.WordExact}
    {hsem : DmaTarget.Typed (nD := nD) .hbm (.dma (sem24 cc0_scratch13 offs inbs)) (.here (p := .tc) (xDst off inb))}
    {α : Type} {kk : PUnit → Prog (TpuEff nD τ sig (Elt F) Λ₀ .tc) α} {Q : α → sProp 𝕄} :
    iprop(own c main_v0 (Btw κh j (j + 1)) fullShare I.x ∗ (∃ f, own c bX (Btw κx j (j + 1)) fullShare f) ∗ sem0 (F := F) c (0 + j))
      ⊢ iprop((flyX I c j -∗ kr c (kk ⟨⟩) Q)
        -∗ kr c (Prog.lift (.enqueueDma (xSrc off' inb') (.here (xDst off inb)) (.dma (sem24 cc0_scratch13 offs inbs)) hsrc hdst hsem) >>= kk) Q) := by
  generalize hm : sem24 cc0_scratch13 offs inbs = m at hsem
  obtain rfl : m = sm (0 + j) := hm.symm.trans (sem_x hs)
  iintro ⟨H1, ⟨%f, H2⟩, H3⟩
  iapply (rule_dma (U := Pipeline.UD sig nD τ) (c := c) (src := xSrc off' inb') (dst := xDst off inb) (fd := f) (G := XV I) (fs := I.x) (q := fullShare) Nx (by subst ho; rfl)
    (by decide) (xSrc_set ho') (xDst_set ho) (fun y => x_val I ho ho' y)) $$ [H1 H2 H3]
  isplitl [H1]; · iexact H1
  isplitl [H2]; · iexact H2
  iexact H3

/-- The wait for a block of tokens. -/
theorem x_wait {off : Fin 4 → ℕ} {off' : Fin 3 → ℕ} {offs : Fin 1 → ℕ} {inb inb' inbs} {j : ℕ} (hs : offs = ![j])
    {hsrc : (xSrc off' inb').view.WordExact} {hdst : (xDst off inb).view.WordExact}
    {α : Type} {kk : PUnit → Prog (TpuEff nD τ sig (Elt F) Λ₀ .tc) α} {Q : α → sProp 𝕄} :
    iprop(flyX I c j ∗ (∃ W, owes (c : Thread nD τ) 0 W))
      ⊢ iprop(((own c bX (Btw κx j (j + 1)) fullShare (XV I) ∗ own c main_v0 (Btw κh j (j + 1)) fullShare I.x) ∗ sem0 (F := F) c (0 + j) ∗ (∃ W, owes (c : Thread nD τ) 0 W)
          -∗ kr c (kk ⟨⟩) Q)
        -∗ kr c (Prog.lift (.waitDma2 (sem24 cc0_scratch13 offs inbs) (xSrc off' inb') (xDst off inb) hsrc hdst) >>= kk) Q) := by
  rw [sem_x hs]
  exact rule_wait (U := Pipeline.UD sig nD τ) (c := c) (src := xSrc off' inb') (dst := xDst off inb) rfl

/-! ## Token codes out -/

/-- A code's number: which four groups and which 128 columns, in the order they are computed. -/
def κc (i : S6x256x5120.Idx) : ℕ := (8 * (i 0 : ℕ) + (i 1 : ℕ) / 32) * 40 + (i 2 : ℕ) / 128
/-- The block a code belongs to. -/
def κt (i : S6x256x5120.Idx) : ℕ := 4 * (i 0 : ℕ) + (i 1 : ℕ) / 64

abbrev tDst (off : Fin 3 → ℕ) (inb : ∀ i, off i + S1x64x5120.size i ≤ S6x256x5120.size i) : Memref sig .tc .hbm S64x5120 .fp8e4m3 :=
  ((Memref.whole main_v4_5).slice (Rect.unit (s := S6x256x5120) off S1x64x5120.size inb) (fun _ => rfl)).squeeze S64x5120 squeezes_S1x64x5120_S64x5120
abbrev tSrc (off : Fin 3 → ℕ) (inb : ∀ i, off i + S1x64x5120.size i ≤ S6x256x5120.size i) : Memref sig .tc .vmem S64x5120 .fp8e4m3 :=
  ((Memref.whole cc0_scratch6).slice (Rect.unit (s := S6x256x5120) off S1x64x5120.size inb) (fun _ => rfl)).squeeze S64x5120 squeezes_S1x64x5120_S64x5120

def Nt : ℕ := (tDst ![0, 0, 0] (by decide)).view.dmaCredit

/-- Block `j`'s codes on their way out. -/
abbrev flyT (j : ℕ) : sProp 𝕄 :=
  fly c (27 + j) Nt iprop(own c main_v4_5 (Btw κt j (j + 1)) fullShare (CODES I) ∗ own c bCode (Btw κc (80 * j) (80 * (j + 1))) fullShare.right (CODES I))

theorem tBox {b k : ℕ} {off : Fin 3 → ℕ} {inb : ∀ i, off i + S1x64x5120.size i ≤ S6x256x5120.size i} (ho : off = ![b, 64 * k, 0]) (hk : k < 4) {i : S6x256x5120.Idx} :
    i ∈ (Rect.unit (s := S6x256x5120) off S1x64x5120.size inb).set ↔ (i 0 : ℕ) = b ∧ (i 1 : ℕ) / 64 = k := by
  refine (mem3 ho).trans ?_
  have h1 : (i 1 : ℕ) < 256 := (i 1).isLt
  have h2 : (i 2 : ℕ) < 5120 := (i 2).isLt
  show (b ≤ (i 0 : ℕ) ∧ (i 0 : ℕ) < b + 1) ∧ (64 * k ≤ (i 1 : ℕ) ∧ (i 1 : ℕ) < 64 * k + 64) ∧ (0 ≤ (i 2 : ℕ) ∧ (i 2 : ℕ) < 0 + 5120) ↔ _
  omega

theorem tDst_set {b k : ℕ} {off : Fin 3 → ℕ} {inb} (ho : off = ![b, 64 * k, 0]) (hk : k < 4) :
    (tDst off inb).view.set = Btw κt (4 * b + k) (4 * b + k + 1) := by
  refine (View.set_reshape _ _).trans ((View.set_slice_whole _ _).trans (Finset.ext fun i => (tBox ho hk).trans (Iff.trans ?_ mem_Btw.symm)))
  have h1 : (i 1 : ℕ) < 256 := (i 1).isLt
  show _ ↔ 4 * b + k ≤ 4 * (i 0 : ℕ) + (i 1 : ℕ) / 64 ∧ 4 * (i 0 : ℕ) + (i 1 : ℕ) / 64 < 4 * b + k + 1
  omega

theorem tSrc_set {b k : ℕ} {off : Fin 3 → ℕ} {inb} (ho : off = ![b, 64 * k, 0]) (hk : k < 4) :
    (tSrc off inb).view.set = Btw κc (80 * (4 * b + k)) (80 * (4 * b + k + 1)) := by
  refine (View.set_reshape _ _).trans ((View.set_slice_whole _ _).trans (Finset.ext fun i => (tBox ho hk).trans (Iff.trans ?_ mem_Btw.symm)))
  have h1 : (i 1 : ℕ) < 256 := (i 1).isLt
  have h2 : (i 2 : ℕ) < 5120 := (i 2).isLt
  show _ ↔ 80 * (4 * b + k) ≤ (8 * (i 0 : ℕ) + (i 1 : ℕ) / 32) * 40 + (i 2 : ℕ) / 128 ∧ (8 * (i 0 : ℕ) + (i 1 : ℕ) / 32) * 40 + (i 2 : ℕ) / 128 < 80 * (4 * b + k + 1)
  omega

/-- A block's codes started on their way out. -/
theorem t_start {off : Fin 3 → ℕ} {offs : Fin 1 → ℕ} {inb inbs} {b k : ℕ} (hs : offs = ![4 * b + k]) (ho : off = ![b, 64 * k, 0]) (hk : k < 4)
    {hsrc : (tSrc off inb).view.WordExact} {hdst : (tDst off inb).view.WordExact}
    {hsem : DmaTarget.Typed (nD := nD) .vmem (.dma (sem24 cc0_scratch15 offs inbs)) (.here (p := .tc) (tDst off inb))}
    {α : Type} {kk : PUnit → Prog (TpuEff nD τ sig (Elt F) Λ₀ .tc) α} {Q : α → sProp 𝕄} :
    iprop(own c bCode (Btw κc (80 * (4 * b + k)) (80 * (4 * b + k + 1))) fullShare.right (CODES I)
        ∗ (∃ f, own c main_v4_5 (Btw κt (4 * b + k) (4 * b + k + 1)) fullShare f) ∗ sem0 (F := F) c (27 + (4 * b + k)))
      ⊢ iprop((flyT I c (4 * b + k) -∗ kr c (kk ⟨⟩) Q)
        -∗ kr c (Prog.lift (.enqueueDma (tSrc off inb) (.here (tDst off inb)) (.dma (sem24 cc0_scratch15 offs inbs)) hsrc hdst hsem) >>= kk) Q) := by
  generalize hm : sem24 cc0_scratch15 offs inbs = m at hsem
  obtain rfl : m = sm (27 + (4 * b + k)) := hm.symm.trans (sem_tok hs)
  iintro ⟨H1, ⟨%f, H2⟩, H3⟩
  iapply (rule_dma (U := Pipeline.UD sig nD τ) (c := c) (src := tSrc off inb) (dst := tDst off inb) (fd := f) (G := CODES I) (fs := CODES I) (q := fullShare.right) Nt
    (by subst ho; rfl) (by decide) (tSrc_set ho hk) (tDst_set ho hk) (fun y => rfl)) $$ [H1 H2 H3]
  isplitl [H1]; · iexact H1
  isplitl [H2]; · iexact H2
  iexact H3

/-- The wait for a block's codes. -/
theorem t_wait {off : Fin 3 → ℕ} {offs : Fin 1 → ℕ} {inb inbs} {j : ℕ} (hs : offs = ![j])
    {hsrc : (tSrc off inb).view.WordExact} {hdst : (tDst off inb).view.WordExact}
    {α : Type} {kk : PUnit → Prog (TpuEff nD τ sig (Elt F) Λ₀ .tc) α} {Q : α → sProp 𝕄} :
    iprop(flyT I c j ∗ (∃ W, owes (c : Thread nD τ) 0 W))
      ⊢ iprop(((own c main_v4_5 (Btw κt j (j + 1)) fullShare (CODES I) ∗ own c bCode (Btw κc (80 * j) (80 * (j + 1))) fullShare.right (CODES I))
            ∗ sem0 (F := F) c (27 + j) ∗ (∃ W, owes (c : Thread nD τ) 0 W) -∗ kr c (kk ⟨⟩) Q)
        -∗ kr c (Prog.lift (.waitDma2 (sem24 cc0_scratch15 offs inbs) (tSrc off inb) (tDst off inb) hsrc hdst) >>= kk) Q) := by
  rw [sem_tok hs]
  exact rule_wait (U := Pipeline.UD sig nD τ) (c := c) (src := tSrc off inb) (dst := tDst off inb) rfl

/-! ## Expert buffers out -/

/-- An expert buffer element's number: its sequence and its 256 columns. -/
def κb (i : S6x16x40x5120.Idx) : ℕ := 20 * (i 0 : ℕ) + (i 3 : ℕ) / 256
/-- Its sequence and its 1280 columns. -/
def κo (i : S6x16x40x5120.Idx) : ℕ := 4 * (i 0 : ℕ) + (i 3 : ℕ) / 1280

abbrev bDst (off : Fin 4 → ℕ) (inb : ∀ i, off i + S1x16x40x1280.size i ≤ S6x16x40x5120.size i) : Memref sig .tc .hbm S16x40x1280 .fp8e4m3 :=
  ((Memref.whole main_v4_0).slice (Rect.unit (s := S6x16x40x5120) off S1x16x40x1280.size inb) (fun _ => rfl)).squeeze S16x40x1280 squeezes_S1x16x40x1280_S16x40x1280
abbrev bSrc (off : Fin 4 → ℕ) (inb : ∀ i, off i + S1x16x40x1280.size i ≤ S6x16x40x5120.size i) : Memref sig .tc .vmem S16x40x1280 .fp8e4m3 :=
  ((Memref.whole cc0_scratch7).slice (Rect.unit (s := S6x16x40x5120) off S1x16x40x1280.size inb) (fun _ => rfl)).squeeze S16x40x1280 squeezes_S1x16x40x1280_S16x40x1280

def Nb : ℕ := (bDst ![0, 0, 0, 0] (by decide)).view.dmaCredit

/-- Chunk `j` of the expert buffers on its way out. -/
abbrev flyB (G : Vec F S6x16x40x5120 .fp8e4m3) (j : ℕ) : sProp 𝕄 :=
  fly c (51 + j) Nb iprop(own c main_v4_0 (Btw κo j (j + 1)) fullShare G ∗ own c bBuf (Btw κb (5 * j) (5 * (j + 1))) fullShare G)

theorem bBox {b k : ℕ} {off : Fin 4 → ℕ} {inb : ∀ i, off i + S1x16x40x1280.size i ≤ S6x16x40x5120.size i} (ho : off = ![b, 0, 0, 1280 * k]) {i : S6x16x40x5120.Idx} :
    i ∈ (Rect.unit (s := S6x16x40x5120) off S1x16x40x1280.size inb).set ↔ (i 0 : ℕ) = b ∧ (i 3 : ℕ) / 1280 = k := by
  refine (mem4 ho).trans ?_
  have h1 : (i 1 : ℕ) < 16 := (i 1).isLt
  have h2 : (i 2 : ℕ) < 40 := (i 2).isLt
  show (b ≤ (i 0 : ℕ) ∧ (i 0 : ℕ) < b + 1) ∧ (0 ≤ (i 1 : ℕ) ∧ (i 1 : ℕ) < 0 + 16) ∧ (0 ≤ (i 2 : ℕ) ∧ (i 2 : ℕ) < 0 + 40) ∧ (1280 * k ≤ (i 3 : ℕ) ∧ (i 3 : ℕ) < 1280 * k + 1280) ↔ _
  omega

theorem bDst_set {b k : ℕ} {off : Fin 4 → ℕ} {inb} (ho : off = ![b, 0, 0, 1280 * k]) (hk : k < 4) :
    (bDst off inb).view.set = Btw κo (4 * b + k) (4 * b + k + 1) := by
  refine (View.set_reshape _ _).trans ((View.set_slice_whole _ _).trans (Finset.ext fun i => (bBox ho).trans (Iff.trans ?_ mem_Btw.symm)))
  have h1 : (i 3 : ℕ) < 5120 := (i 3).isLt
  show _ ↔ 4 * b + k ≤ 4 * (i 0 : ℕ) + (i 3 : ℕ) / 1280 ∧ 4 * (i 0 : ℕ) + (i 3 : ℕ) / 1280 < 4 * b + k + 1
  omega

theorem bSrc_set {b k : ℕ} {off : Fin 4 → ℕ} {inb} (ho : off = ![b, 0, 0, 1280 * k]) (hk : k < 4) :
    (bSrc off inb).view.set = Btw κb (5 * (4 * b + k)) (5 * (4 * b + k + 1)) := by
  refine (View.set_reshape _ _).trans ((View.set_slice_whole _ _).trans (Finset.ext fun i => (bBox ho).trans (Iff.trans ?_ mem_Btw.symm)))
  have h1 : (i 3 : ℕ) < 5120 := (i 3).isLt
  show _ ↔ 5 * (4 * b + k) ≤ 20 * (i 0 : ℕ) + (i 3 : ℕ) / 256 ∧ 20 * (i 0 : ℕ) + (i 3 : ℕ) / 256 < 5 * (4 * b + k + 1)
  omega

/-- A chunk of the expert buffers started on its way out. -/
theorem b_start (G : Vec F S6x16x40x5120 .fp8e4m3) {off : Fin 4 → ℕ} {offs : Fin 1 → ℕ} {inb inbs} {b k : ℕ} (hs : offs = ![4 * b + k]) (ho : off = ![b, 0, 0, 1280 * k]) (hk : k < 4)
    {hsrc : (bSrc off inb).view.WordExact} {hdst : (bDst off inb).view.WordExact}
    {hsem : DmaTarget.Typed (nD := nD) .vmem (.dma (sem24 cc0_scratch16 offs inbs)) (.here (p := .tc) (bDst off inb))}
    {α : Type} {kk : PUnit → Prog (TpuEff nD τ sig (Elt F) Λ₀ .tc) α} {Q : α → sProp 𝕄} :
    iprop(own c bBuf (Btw κb (5 * (4 * b + k)) (5 * (4 * b + k + 1))) fullShare G
        ∗ (∃ f, own c main_v4_0 (Btw κo (4 * b + k) (4 * b + k + 1)) fullShare f) ∗ sem0 (F := F) c (51 + (4 * b + k)))
      ⊢ iprop((flyB c G (4 * b + k) -∗ kr c (kk ⟨⟩) Q)
        -∗ kr c (Prog.lift (.enqueueDma (bSrc off inb) (.here (bDst off inb)) (.dma (sem24 cc0_scratch16 offs inbs)) hsrc hdst hsem) >>= kk) Q) := by
  generalize hm : sem24 cc0_scratch16 offs inbs = m at hsem
  obtain rfl : m = sm (51 + (4 * b + k)) := hm.symm.trans (sem_buf hs)
  iintro ⟨H1, ⟨%f, H2⟩, H3⟩
  iapply (rule_dma (U := Pipeline.UD sig nD τ) (c := c) (src := bSrc off inb) (dst := bDst off inb) (fd := f) (G := G) (fs := G) (q := fullShare) Nb
    (by subst ho; rfl) (by decide) (bSrc_set ho hk) (bDst_set ho hk) (fun y => rfl)) $$ [H1 H2 H3]
  isplitl [H1]; · iexact H1
  isplitl [H2]; · iexact H2
  iexact H3

/-- The wait for a chunk of the expert buffers. -/
theorem b_wait (G : Vec F S6x16x40x5120 .fp8e4m3) {off : Fin 4 → ℕ} {offs : Fin 1 → ℕ} {inb inbs} {j : ℕ} (hs : offs = ![j])
    {hsrc : (bSrc off inb).view.WordExact} {hdst : (bDst off inb).view.WordExact}
    {α : Type} {kk : PUnit → Prog (TpuEff nD τ sig (Elt F) Λ₀ .tc) α} {Q : α → sProp 𝕄} :
    iprop(flyB c G j ∗ (∃ W, owes (c : Thread nD τ) 0 W))
      ⊢ iprop(((own c main_v4_0 (Btw κo j (j + 1)) fullShare G ∗ own c bBuf (Btw κb (5 * j) (5 * (j + 1))) fullShare G)
            ∗ sem0 (F := F) c (51 + j) ∗ (∃ W, owes (c : Thread nD τ) 0 W) -∗ kr c (kk ⟨⟩) Q)
        -∗ kr c (Prog.lift (.waitDma2 (sem24 cc0_scratch16 offs inbs) (bSrc off inb) (bDst off inb) hsrc hdst) >>= kk) Q) := by
  rw [sem_buf hs]
  exact rule_wait (U := Pipeline.UD sig nD τ) (c := c) (src := bSrc off inb) (dst := bDst off inb) rfl

end Cert.KernelIdeal.Disp

end
-- ==== Proof.KIBlock.lean ====
/-
  A block of the first sequence: its eight groups' factors, its scales and its codes.
-/
module

public import proofs.«01_k».proof.Proof.KIDma
public import Idealize.ShloMosaic.Lib.ValueLayout

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The row factors -/

/-- The group an element of the row factors belongs to. -/
def κr (i : S8x8x128.Idx) : ℕ := i 0

/-- The row factors of block `i`'s first `g` groups. -/
abbrev haveR (i g : ℕ) : sProp 𝕄 := iprop(own c bR (Btw κr 0 g) fullShare (RV I i) ∗ (∃ f, own c bR (Btw κr g 8) fullShare f))
/-- Tokens and norm weights on the core, blocks `0..i`. -/
abbrev haveX (i : ℕ) : sProp 𝕄 := iprop(own c bX (Btw κx 0 (i + 1)) fullShare (XV I) ∗ own c bW Finset.univ fullShare (WV I))

theorem blk_val (t3 : Fin k0_t3_loop.trips) : blk t3.val = t3 := Fin.ext (Nat.mod_eq_of_lt t3.isLt)

theorem r_store {g i : ℕ} {off : Fin 3 → ℕ} {inb : ∀ a, off a + S1x8x128.size a ≤ S8x8x128.size a} (ho : off = ![g, 0, 0]) (y : S1x8x128.Idx) :
    rG I (8 * i + g) y = RV I i ((Rect.unit (s := S8x8x128) off S1x8x128.size inb).emb y) := by
  have h0 : (y 0 : ℕ) < 1 := (y 0).isLt
  refine Eq.trans ?_ (congrFun (rd3 ho fun a r l => rN I (8 * i + a) r l) y).symm
  show _ = rN I (8 * i + (g + (y 0 : ℕ))) (0 + (y 1 : ℕ)) (0 + (y 2 : ℕ))
  rw [show g + (y 0 : ℕ) = g by omega]
  exact (atN_eq (by decide) _ fun a => by
    match a with
    | 0 => show 0 = (y 0 : ℕ); omega
    | 1 => show 0 + (y 1 : ℕ) = y 1; omega
    | 2 => show 0 + (y 2 : ℕ) = y 2; omega).symm

theorem r_box {g : ℕ} {off : Fin 3 → ℕ} {inb : ∀ a, off a + S1x8x128.size a ≤ S8x8x128.size a} (ho : off = ![g, 0, 0]) (i : S8x8x128.Idx) :
    i ∈ (Rect.unit (s := S8x8x128) off S1x8x128.size inb).set ↔ κr i = g := by
  refine (mem3 ho).trans ?_
  have h1 : (i 1 : ℕ) < 8 := (i 1).isLt
  have h2 : (i 2 : ℕ) < 128 := (i 2).isLt
  show (g ≤ (i 0 : ℕ) ∧ (i 0 : ℕ) < g + 1) ∧ (0 ≤ (i 1 : ℕ) ∧ (i 1 : ℕ) < 0 + 8) ∧ (0 ≤ (i 2 : ℕ) ∧ (i 2 : ℕ) < 0 + 128) ↔ (i 0 : ℕ) = g
  omega

theorem t4_body_run (t3 : Fin k0_t3_loop.trips) (acc₀ arg30 : FVec F S8x128 .f32) (v96 : BitVec 32) (t4 : Fin k0_t4_loop.trips) (acc : FVec F S8x128 .f32) :
    iprop(⌜acc = lane I 0 t3.val acc₀ t4.val⌝ ∗ haveX I c t3.val ∗ haveR I c t3.val t4.val)
      ⊢ kr c (app (k0_t4_body (F := F)) 0#32 1#32 t3 arg30 v96 t4 acc) fun acc' =>
        iprop(⌜acc' = lane I 0 t3.val acc₀ (t4.val + 1)⌝ ∗ haveX I c t3.val ∗ haveR I c t3.val (t4.val + 1)) := by
  have hlt : t4.val < 8 := t4.isLt
  iintro ⟨%h, HX, HR, %f, HN⟩
  unfold app k0_t4_body
  rw [k0_part4_eq_skeleton]
  iapply rule_bind
  unfold k0_part4_skel
  iapply (t5_run I c t3 t4 v96 0#32 1#32) $$ HX
  iintro HX
  iapply rule_ret
  iapply (rule_load 5 rfl (fun i hi => by have := (r_box (k0_off14_eq t4) i).1 hi; rw [mem_Btw]; omega)) $$ HN
  iintro HN
  iapply (rule_fill 5 rfl (κ := κr) (a := 0) (n := t4.val) (e := 8) (G := RV I t3.val) (r_box (k0_off14_eq t4)) (r_store I (k0_off14_eq t4)) (Nat.zero_le _) hlt) $$ [HR HN]
  · isplitl [HR]; · iexact HR
    iexists f; iexact HN
  iintro HR
  iapply rule_ret
  isplitr
  · ipureintro
    subst h
    show _ = k0_pay36 0#32 1#32 (blk t3.val) _ _ _ _ _
    rw [blk_val]
    simp
  isplitl [HX]; · iexact HX
  iexact HR

/-- The loop over a block's eight groups. -/
theorem t4_run (t3 : Fin k0_t3_loop.trips) (acc₀ arg30 : FVec F S8x128 .f32) (v96 : BitVec 32)
    {α : Type} {kk : FVec F S8x128 .f32 → Prog (TpuEff nD τ sig (Elt F) Λ₀ .tc) α} {Q : α → sProp 𝕄} :
    iprop(haveX I c t3.val ∗ (∃ f, own c bR (Btw κr 0 8) fullShare f))
      ⊢ iprop((haveX I c t3.val ∗ haveR I c t3.val 8 -∗ kr c (kk (lane I 0 t3.val acc₀ 8)) Q)
        -∗ kr c (Scf.Loop.for k0_t4_loop k0_t4_ok (k0_pay33 0#32 1#32 t3 acc₀) (app (k0_t4_body (F := F)) 0#32 1#32 t3 arg30 v96) >>= kk) Q) := by
  iintro ⟨HX, %f, HR⟩ Hk
  ihave ⟨HR0, HR⟩ := (pt_cut (κ := κr) (le_refl 0) (Nat.zero_le 8)) $$ HR
  ihave HR0 := (pt_congr (g := RV I t3.val) (fun i hi => by rw [mem_Btw] at hi; omega)) $$ HR0
  iapply (rule_for k0_t4_loop (fun g acc => iprop(⌜acc = lane I 0 t3.val acc₀ g⌝ ∗ haveX I c t3.val ∗ haveR I c t3.val g))
    (fun g acc => t4_body_run I c t3 acc₀ arg30 v96 g acc)) $$ [HX HR0 HR]
  · isplitr
    · ipureintro
      show _ = k0_pay33 0#32 1#32 (blk t3.val) acc₀
      rw [blk_val]
    isplitl [HX]; · iexact HX
    isplitl [HR0]; · iexact HR0
    iexists f; iexact HR
  iintro %acc ⟨%h, H⟩
  subst h
  iapply Hk; iexact H

/-! ## The codes -/

/-- The codes numbered from `a` to `n` are there; those above `n` are the core's to write. -/
abbrev haveC (a n : ℕ) : sProp 𝕄 := iprop(own c bCode (Btw κc a n) fullShare (CODES I) ∗ (∃ f, own c bCode (Btw κc n 1920) fullShare f))

theorem codeT_even (G n : ℕ) : k0_pay31 (xT4 I G n) (wT2 I (2 * n)) (rT4 I G) = codeT I G (2 * n + 0) := by
  unfold codeT; rw [if_pos (by omega), show (2 * n + 0) / 2 = n by omega]; rfl
theorem codeT_odd (G n : ℕ) : k0_pay38 (wT2 I (2 * n + 1)) (k0_pay32 (xT4 I G n)) (rT4 I G) = codeT I G (2 * n + 1) := by
  unfold codeT; rw [if_neg (by omega), show (2 * n + 1) / 2 = n by omega]

theorem code_store {b k q n h : ℕ} (hq : q < 2) (hh : h < 2) {off : Fin 3 → ℕ} {inb : ∀ a, off a + S1x32x128.size a ≤ S6x256x5120.size a}
    (ho : off = ![b, 64 * k + 32 * q, 256 * n + 128 * h]) (y : S1x32x128.Idx) :
    codeT I (8 * (4 * b + k) + 4 * q) (2 * n + h) y = CODES I ((Rect.unit (s := S6x256x5120) off S1x32x128.size inb).emb y) := by
  have h0 : (y 0 : ℕ) < 1 := (y 0).isLt
  have h1 : (y 1 : ℕ) < 32 := (y 1).isLt
  have h2 : (y 2 : ℕ) < 128 := (y 2).isLt
  have hk : 64 * k + 32 * q + 32 ≤ 256 := by have := inb 1; subst ho; exact this
  refine Eq.trans ?_ (congrFun (rd3 ho fun a r l => codeN I a r l) y).symm
  show _ = codeN I (b + (y 0 : ℕ)) (64 * k + 32 * q + (y 1 : ℕ)) (256 * n + 128 * h + (y 2 : ℕ))
  unfold codeN
  rw [show 4 * (8 * (b + (y 0 : ℕ)) + (64 * k + 32 * q + (y 1 : ℕ)) / 32) = 8 * (4 * b + k) + 4 * q by omega,
    show (256 * n + 128 * h + (y 2 : ℕ)) / 128 = 2 * n + h by omega]
  exact (atN_eq (by decide) _ fun a => by
    match a with
    | 0 => show 0 = (y 0 : ℕ); omega
    | 1 => show (64 * k + 32 * q + (y 1 : ℕ)) % 32 = y 1; omega
    | 2 => show (256 * n + 128 * h + (y 2 : ℕ)) % 128 = y 2; omega).symm

theorem code_box {b k q n h : ℕ} (hq : q < 2) (hh : h < 2) (hn : n < 20) {off : Fin 3 → ℕ} {inb : ∀ a, off a + S1x32x128.size a ≤ S6x256x5120.size a}
    (ho : off = ![b, 64 * k + 32 * q, 256 * n + 128 * h]) (i : S6x256x5120.Idx) :
    i ∈ (Rect.unit (s := S6x256x5120) off S1x32x128.size inb).set ↔ κc i = 80 * (4 * b + k) + 40 * q + (2 * n + h) := by
  have hk : 64 * k + 32 * q + 32 ≤ 256 := by have := inb 1; subst ho; exact this
  refine (mem3 ho).trans ?_
  have h1 : (i 1 : ℕ) < 256 := (i 1).isLt
  have h2 : (i 2 : ℕ) < 5120 := (i 2).isLt
  show (b ≤ (i 0 : ℕ) ∧ (i 0 : ℕ) < b + 1) ∧ (64 * k + 32 * q ≤ (i 1 : ℕ) ∧ (i 1 : ℕ) < 64 * k + 32 * q + 32)
      ∧ (256 * n + 128 * h ≤ (i 2 : ℕ) ∧ (i 2 : ℕ) < 256 * n + 128 * h + 128)
    ↔ (8 * (i 0 : ℕ) + (i 1 : ℕ) / 32) * 40 + (i 2 : ℕ) / 128 = 80 * (4 * b + k) + 40 * q + (2 * n + h)
  omega

theorem xT4_load {i q n : ℕ} {off : Fin 4 → ℕ} {inb : ∀ a, off a + S1x4x8x256.size a ≤ S24x8x8x5120.size a} (ho : off = ![i, 4 * q, 0, 256 * n]) :
    (fun y => XV I ((Rect.unit (s := S24x8x8x5120) off S1x4x8x256.size inb).emb y)) = xT4 I (8 * i + 4 * q) n :=
  (rd4 ho fun a b r c => xN I (8 * a + b) r c).trans <| funext fun y => by
    have y0 : (y 0 : ℕ) < 1 := (y 0).isLt
    unfold xT4; congr 1 <;> omega

theorem wT2_load {m : ℕ} {off : Fin 2 → ℕ} {inb : ∀ a, off a + S1x128.size a ≤ S1x5120.size a} (ho : off = ![0, 128 * m]) :
    (fun y => WV I ((Rect.unit (s := S1x5120) off S1x128.size inb).emb y)) = wT2 I m :=
  rd2 ho fun _ c => wN I c

theorem rT4_load {i q : ℕ} {off : Fin 3 → ℕ} {inb : ∀ a, off a + S4x8x128.size a ≤ S8x8x128.size a} (ho : off = ![4 * q, 0, 0]) :
    (fun y => RV I i ((Rect.unit (s := S8x8x128) off S4x8x128.size inb).emb y)) = rT4 I (8 * i + 4 * q) :=
  (rd3 ho fun a r l => rN I (8 * i + a) r l).trans <| funext fun y => by
    unfold rT4; congr 1 <;> omega

theorem t7_body_run (t3 : Fin k0_t3_loop.trips) (arg30 : FVec F S8x128 .f32) (v96 v115 arg31 : BitVec 32) (t6 : Fin k0_t6_loop.trips) (t7 : Fin k0_t7_loop.trips)
    (u : Unit) :
    iprop(haveX I c t3.val ∗ own c bR (Btw κr 0 8) fullShare (RV I t3.val) ∗ haveC I c (80 * t3.val) (80 * t3.val + 40 * t6.val + 2 * t7.val))
      ⊢ kr c (app (k0_t7_body (F := F)) 0#32 1#32 t3 arg30 v96 v115 t6 arg31 t7 u) fun _ =>
        iprop(haveX I c t3.val ∗ own c bR (Btw κr 0 8) fullShare (RV I t3.val) ∗ haveC I c (80 * t3.val) (80 * t3.val + 40 * t6.val + 2 * (t7.val + 1))) := by
  have hi : t3.val < 4 := t3.isLt
  have hq : t6.val < 2 := t6.isLt
  have hn : t7.val < 20 := t7.isLt
  have ho0 : k0_off19 t3 t6 t7 0#32 = ![0, 64 * t3.val + 32 * t6.val, 256 * t7.val + 128 * 0] := k0_off19_eq t3 t6 t7 0
  have ho1 : k0_off19 t3 t6 t7 128#32 = ![0, 64 * t3.val + 32 * t6.val, 256 * t7.val + 128 * 1] := k0_off19_eq t3 t6 t7 1
  have hw0 : k0_off17 t7 0#32 = ![0, 128 * (2 * t7.val)] := (k0_off17_eq t7 0).trans (by congr 2; show 256 * t7.val + 128 * 0 = _; omega)
  have hw1 : k0_off17 t7 128#32 = ![0, 128 * (2 * t7.val + 1)] := (k0_off17_eq t7 1).trans (by congr 2; show 256 * t7.val + 128 * 1 = _; omega)
  have hb0 : ∀ i, i ∈ (Rect.unit (s := S6x256x5120) (k0_off19 t3 t6 t7 0#32) S1x32x128.size (k0_off19_inb t3 t6 t7 0)).set
      ↔ κc i = 80 * t3.val + 40 * t6.val + 2 * t7.val := fun i =>
    (code_box (b := 0) (k := t3.val) (q := t6.val) (n := t7.val) (h := 0) hq (by omega) hn ho0 i).trans
      (by rw [show 80 * (4 * 0 + t3.val) + 40 * t6.val + (2 * t7.val + 0) = 80 * t3.val + 40 * t6.val + 2 * t7.val by omega])
  have hb1 : ∀ i, i ∈ (Rect.unit (s := S6x256x5120) (k0_off19 t3 t6 t7 128#32) S1x32x128.size (k0_off19_inb t3 t6 t7 1)).set
      ↔ κc i = 80 * t3.val + 40 * t6.val + 2 * t7.val + 1 := fun i =>
    (code_box (b := 0) (k := t3.val) (q := t6.val) (n := t7.val) (h := 1) hq (by omega) hn ho1 i).trans
      (by rw [show 80 * (4 * 0 + t3.val) + 40 * t6.val + (2 * t7.val + 1) = 80 * t3.val + 40 * t6.val + 2 * t7.val + 1 by omega])
  iintro ⟨⟨HX, HW⟩, HR, HC, %f, HN⟩
  unfold app k0_t7_body
  rw [k0_part5_eq_skeleton]
  iapply rule_bind
  unfold k0_part5_skel
  iapply (rule_load 0 rfl (fun i h => by
    have := ((mem4 (k0_off16_eq t3 t6 t7)).1 h).1
    rw [mem_Btw]; exact ⟨Nat.zero_le _, this.2⟩)) $$ HX
  iintro HX
  iapply (rule_load 3 rfl (fun i _ => Finset.mem_univ i)) $$ HW
  iintro HW
  iapply (rule_load 5 rfl (fun i h => by rw [mem_Btw]; exact ⟨Nat.zero_le _, (i 0).isLt⟩)) $$ HR
  iintro HR
  iapply (rule_load 6 rfl (fun i h => by have := (hb0 i).1 h; rw [mem_Btw]; have h0 : (i 0 : ℕ) < 6 := (i 0).isLt; omega)) $$ HN
  iintro HN
  iapply (rule_fill 6 rfl (κ := κc) (a := 80 * t3.val) (n := 80 * t3.val + 40 * t6.val + 2 * t7.val) (e := 1920) (G := CODES I)
    hb0
    (fun y => (congrFun ((congr (congrArg₂ k0_pay31 (xT4_load I (k0_off16_eq t3 t6 t7)) (wT2_load I hw0)) (rT4_load I (k0_off18_eq t6))).trans (codeT_even I _ _)) y).trans
      ((congrFun (congrArg (fun G => codeT I (8 * G + 4 * t6.val) (2 * t7.val + 0)) (show t3.val = 4 * 0 + t3.val by omega)) y).trans (code_store I hq (by omega) ho0 y)))
    (by omega) (by omega)) $$ [HC HN]
  · isplitl [HC]; · iexact HC
    iexists f; iexact HN
  iintro ⟨HC, %f', HN⟩
  iapply (rule_load 3 rfl (fun i _ => Finset.mem_univ i)) $$ HW
  iintro HW
  iapply rule_ret
  iapply (rule_load 5 rfl (fun i h => by rw [mem_Btw]; exact ⟨Nat.zero_le _, (i 0).isLt⟩)) $$ HR
  iintro HR
  iapply (rule_load 6 rfl (fun i h => by have := (hb1 i).1 h; rw [mem_Btw]; have h0 : (i 0 : ℕ) < 6 := (i 0).isLt; omega)) $$ HN
  iintro HN
  iapply (rule_fill 6 rfl (κ := κc) (a := 80 * t3.val) (n := 80 * t3.val + 40 * t6.val + 2 * t7.val + 1) (e := 1920) (G := CODES I)
    hb1
    (fun y => (congrFun ((congr (congrArg₂ k0_pay38 (wT2_load I hw1) (congrArg k0_pay32 (xT4_load I (k0_off16_eq t3 t6 t7)))) (rT4_load I (k0_off18_eq t6))).trans (codeT_odd I _ _)) y).trans
      ((congrFun (congrArg (fun G => codeT I (8 * G + 4 * t6.val) (2 * t7.val + 1)) (show t3.val = 4 * 0 + t3.val by omega)) y).trans (code_store I hq (by omega) ho1 y)))
    (by omega) (by omega)) $$ [HC HN]
  · isplitl [HC]; · iexact HC
    iexists f'; iexact HN
  iintro HC
  iapply rule_ret
  isplitl [HX HW]
  · isplitl [HX] <;> iassumption
  isplitl [HR]; · iexact HR
  iexact HC

/-- The loop over a block's 20 column tiles for four groups. -/
theorem t7_run (t3 : Fin k0_t3_loop.trips) (arg30 : FVec F S8x128 .f32) (v96 v115 arg31 : BitVec 32) (t6 : Fin k0_t6_loop.trips) (u : Unit) :
    iprop(haveX I c t3.val ∗ own c bR (Btw κr 0 8) fullShare (RV I t3.val) ∗ haveC I c (80 * t3.val) (80 * t3.val + 40 * t6.val))
      ⊢ kr c (app (k0_t6_body (F := F)) 0#32 1#32 t3 arg30 v96 v115 t6 u) fun _ =>
        iprop(haveX I c t3.val ∗ own c bR (Btw κr 0 8) fullShare (RV I t3.val) ∗ haveC I c (80 * t3.val) (80 * t3.val + 40 * (t6.val + 1))) := by
  iintro H
  unfold app k0_t6_body
  iapply (rule_for k0_t7_loop (fun n _ => iprop(haveX I c t3.val ∗ own c bR (Btw κr 0 8) fullShare (RV I t3.val)
      ∗ haveC I c (80 * t3.val) (80 * t3.val + 40 * t6.val + 2 * n)))
    (fun n u => t7_body_run I c t3 arg30 v96 v115 (Scf.iv 0#32 1#32 t6) t6 n u)) $$ [H]
  · iexact H
  iintro %acc H
  iapply rule_ret
  iexact H

theorem t6_run (t3 : Fin k0_t3_loop.trips) (arg30 : FVec F S8x128 .f32) (v96 v115 : BitVec 32)
    {α : Type} {kk : Unit → Prog (TpuEff nD τ sig (Elt F) Λ₀ .tc) α} {Q : α → sProp 𝕄} :
    iprop(haveX I c t3.val ∗ own c bR (Btw κr 0 8) fullShare (RV I t3.val) ∗ (∃ f, own c bCode (Btw κc (80 * t3.val) 1920) fullShare f))
      ⊢ iprop((haveX I c t3.val ∗ own c bR (Btw κr 0 8) fullShare (RV I t3.val) ∗ haveC I c (80 * t3.val) (80 * (t3.val + 1)) -∗ kr c (kk ⟨⟩) Q)
        -∗ kr c (Scf.Loop.for k0_t6_loop k0_t6_ok ⟨⟩ (app (k0_t6_body (F := F)) 0#32 1#32 t3 arg30 v96 v115) >>= kk) Q) := by
  have hi : t3.val < 4 := t3.isLt
  iintro ⟨HX, HR, %f, HN⟩ Hk
  ihave ⟨H0, HN⟩ := (pt_cut (κ := κc) (le_refl (80 * t3.val)) (show 80 * t3.val ≤ 1920 by omega)) $$ HN
  ihave H0 := (pt_congr (g := CODES I) (fun i hi => by rw [mem_Btw] at hi; omega)) $$ H0
  iapply (rule_for k0_t6_loop (fun q _ => iprop(haveX I c t3.val ∗ own c bR (Btw κr 0 8) fullShare (RV I t3.val)
      ∗ haveC I c (80 * t3.val) (80 * t3.val + 40 * q))) (fun q u => t7_run I c t3 arg30 v96 v115 0#32 q u)) $$ [HX HR H0 HN]
  · isplitl [HX]; · iexact HX
    isplitl [HR]; · iexact HR
    isplitl [H0]; · iexact H0
    iexists f; iexact HN
  iintro %acc H
  iapply Hk
  iexact H

/-! ## The token scales -/

theorem row_eq : ∀ m n : Fin 6, IntOp.cmpi .eq (BitVec.ofNat 32 m.val) (BitVec.ofNat 32 n.val) = if m.val = n.val then 1#1 else 0#1 := by decide +kernel

/-- The row of scales of the eight groups of two blocks. -/
def row (v : FVec F S8x128 .f32) : FVec F S1x128 .f32 :=
  shapeCast S1x128 (shapeCast S1x128 (multiReduction .add [0] S128 v 0x00000000#32 reduces_S8x128_S128 (.inl rfl) rfl) shapeCasts_S128_S1x128) shapeCasts_S1x128_S1x128

/-- A row of scales is written into one row of the array, and the other rows stay. -/
theorem pay55_row {b : ℕ} (hb : b < 6) (v : FVec F S8x128 .f32) (old : Vec F S6x128 .f32) (i : S6x128.Idx) :
    k0_pay55 (BitVec.ofNat 32 b) v old i = if (i 0 : ℕ) = b then row v (ValueIdx.ix2 (0 : Fin 1) (i 1)) else old i := by
  have hi : i = ValueIdx.ix2 (i 0) (i 1) := by funext a; match a with | 0 => rfl | 1 => rfl
  have hs : k0_pay55 (BitVec.ofNat 32 b) v old i
      = Scalar.select (IntOp.cmpi .eq (BitVec.ofNat 32 (i 0 : ℕ)) (BitVec.ofNat 32 b)) (broadcastTo S6x128 (row v) broadcasts_S1x128_S6x128 i) (old i) := by
    unfold k0_pay55
    rw [shapeCast_self]
    show Scalar.select (IntOp.cmpi .eq (BitVec.ofNat 32 (0 * 6 + (i 0 : ℕ))) (BitVec.ofNat 32 b)) _ _ = _
    rw [Nat.zero_mul, Nat.zero_add]; rfl
  rw [hs, row_eq (i 0) ⟨b, hb⟩]
  have hr : broadcastTo S6x128 (row v) broadcasts_S1x128_S6x128 i = row v (ValueIdx.ix2 (0 : Fin 1) (i 1)) := by
    conv_lhs => rw [hi]
    exact ValueIdx.broadcastTo_1b_ab_apply (row v) broadcasts_S1x128_S6x128 (i 0) (i 1)
  rw [hr]
  unfold Scalar.select
  by_cases h : (i 0 : ℕ) = b
  · rw [if_pos h, if_pos h]; rfl
  · rw [if_neg h, if_neg h]; rfl

/-- The scales after blocks `4b + k` and the one before it, `k` odd: row `b`, columns `128 (k/2)` on. -/
theorem ts_store {b k : ℕ} (hb : b < 6) (hk : k < 4) (hodd : k % 2 = 1) {off : Fin 2 → ℕ} {inb : ∀ a, off a + S6x128.size a ≤ S6x256.size a}
    (ho : off = ![0, 128 * (k / 2)]) {f : Vec F S6x256 .f32}
    (h1 : ∀ x, f ((Rect.unit (s := S6x256) off S6x128.size inb).emb x)
      = k0_pay55 (BitVec.ofNat 32 b) (accB I b (k + 1)) (fun y => TSat I ((4 * b + k) / 2) ((Rect.unit (s := S6x256) off S6x128.size inb).emb y)) x)
    (h2 : ∀ i, i ∉ (Rect.unit (s := S6x256) off S6x128.size inb).set → f i = TSat I ((4 * b + k) / 2) i) :
    f = TSat I ((4 * b + k + 1) / 2) := by
  have hm : (4 * b + k) / 2 = 2 * b + k / 2 := by omega
  have hm' : (4 * b + k + 1) / 2 = 2 * b + k / 2 + 1 := by omega
  have hk2 : k / 2 < 2 := by omega
  funext i
  have i0 : (i 0 : ℕ) < 6 := (i 0).isLt
  have i1 : (i 1 : ℕ) < 256 := (i 1).isLt
  rw [hm']
  rw [hm] at h1 h2
  by_cases hi : i ∈ (Rect.unit (s := S6x256) off S6x128.size inb).set
  · have hi' := (mem2 ho).1 hi
    change (0 ≤ (i 0 : ℕ) ∧ (i 0 : ℕ) < 0 + 6) ∧ (128 * (k / 2) ≤ (i 1 : ℕ) ∧ (i 1 : ℕ) < 128 * (k / 2) + 128) at hi'
    obtain ⟨x, rfl⟩ : ∃ x, (Rect.unit (s := S6x256) off S6x128.size inb).emb x = i := by
      obtain ⟨x, hx⟩ := (Rect.unit (s := S6x256) off S6x128.size inb).exists_idx_of_mem hi; exact ⟨x, hx⟩
    have e0 : (((Rect.unit (s := S6x256) off S6x128.size inb).emb x 0 : ℕ)) = 0 + x 0 := emb_val ho x 0
    have e1 : (((Rect.unit (s := S6x256) off S6x128.size inb).emb x 1 : ℕ)) = 128 * (k / 2) + x 1 := emb_val ho x 1
    have x1 : (x 1 : ℕ) < 128 := (x 1).isLt
    rw [h1, pay55_row hb]
    unfold TSat
    by_cases hx : (x 0 : ℕ) = b
    · rw [if_pos hx, if_pos (by omega)]
      unfold tsN
      rw [e0, e1, show 0 + (x 0 : ℕ) = b by omega, show (128 * (k / 2) + (x 1 : ℕ)) / 128 = k / 2 by omega, show 2 * (k / 2) + 2 = k + 1 by omega,
        show (128 * (k / 2) + (x 1 : ℕ)) % 128 = x 1 by omega,
        atN_eq (s := S6x128) (i := ValueIdx.ix2 (0 : Fin 6) (x 1)) (by decide) _ (fun a => by match a with | 0 => rfl | 1 => rfl)]
      exact (pay55_row (b := 0) (by omega) (accB I b (k + 1)) _ (ValueIdx.ix2 (0 : Fin 6) (x 1))).symm
    · rw [if_neg hx]
      show (if 2 * _ + _ < _ then _ else _) = _
      by_cases h : 2 * (x 0 : ℕ) + (128 * (k / 2) + (x 1 : ℕ)) / 128 < 2 * b + k / 2
      · rw [if_pos (by omega), if_pos (by omega)]
      · rw [if_neg (by omega), if_neg (by omega)]
  · have hi' : ¬ ((0 ≤ (i 0 : ℕ) ∧ (i 0 : ℕ) < 0 + 6) ∧ (128 * (k / 2) ≤ (i 1 : ℕ) ∧ (i 1 : ℕ) < 128 * (k / 2) + 128)) := fun h => hi ((mem2 ho).2 h)
    rw [h2 i hi]
    unfold TSat
    by_cases h : 2 * (i 0 : ℕ) + (i 1 : ℕ) / 128 < 2 * b + k / 2
    · rw [if_pos h, if_pos (by omega)]
    · rw [if_neg h, if_neg (fun h2 => by omega)]

/-- The scales after block `i`. -/
abbrev haveTs (i : ℕ) : sProp 𝕄 := own c bTs Finset.univ fullShare (TSat I (i / 2))

theorem cond1_iff : ∀ t3 : Fin k0_t3_loop.trips, k0_cond1 t3 = 1#1 ↔ t3.val % 2 = 1 := by decide +kernel
theorem off15_eq : ∀ t3 : Fin k0_t3_loop.trips, t3.val % 2 = 1 → k0_off15 t3 = ![0, 128 * (t3.val / 2)] := by decide +kernel

end Cert.KernelIdeal.Disp

end
-- ==== Proof.KISeq0.lean ====
/-
  The eight groups of a block: its tokens awaited, its codes sent out.
-/
module

public import proofs.«01_k».proof.Proof.KIBlock

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The state between two blocks -/

/-- Tokens: the first `i` blocks arrived, the others on their way. -/
abbrev stX (i : ℕ) : sProp 𝕄 :=
  iprop(own c bX (Btw κx 0 i) fullShare (XV I) ∗ own c main_v0 (Btw κh 0 i) fullShare I.x
    ∗ bigSep (Finset.Ico 0 i) (fun j => sem0 (F := F) c (0 + j)) ∗ bigSep (Finset.Ico i 24) (flyX I c))
/-- Codes on their way out: the first `i` blocks' started. -/
abbrev stF (i : ℕ) : sProp 𝕄 :=
  iprop(bigSep (Finset.Ico 0 i) (flyT I c) ∗ bigSep (Finset.Ico i 24) (fun j => sem0 (F := F) c (27 + j)) ∗ (∃ f, own c main_v4_5 (Btw κt i 24) fullShare f))
/-- Codes on the core: the first `i` blocks' written. -/
abbrev stC (i : ℕ) : sProp 𝕄 :=
  iprop(own c bCode (Btw κc 0 (80 * i)) fullShare.left (CODES I) ∗ (∃ f, own c bCode (Btw κc (80 * i) 1920) fullShare f))
abbrev stR : sProp 𝕄 := iprop(∃ f, own c bR (Btw κr 0 8) fullShare f)
abbrev stO : sProp 𝕄 := iprop(∃ W, owes (Ix := Unit) (Val := Elt F) (Name := ℕ) (U := Pipeline.UD sig nD τ) (Lvl := ℕ) (c : Thread nD τ) 0 W)
/-- Everything a block of tokens reads and writes, after `i` blocks. -/
abbrev stB (i : ℕ) : sProp 𝕄 := iprop(stX I c i ∗ stC I c i ∗ stF I c i ∗ stR (F := F) c ∗ haveTs I c i ∗ own c bW Finset.univ fullShare (WV I) ∗ stO (F := F) c)

/-- The next block of tokens awaited. -/
theorem x_step {off : Fin 4 → ℕ} {off' : Fin 3 → ℕ} {offs : Fin 1 → ℕ} {inb inb' inbs} {i : ℕ} (hi : i < 24) (hs : offs = ![i])
    {hsrc : (xSrc off' inb').view.WordExact} {hdst : (xDst off inb).view.WordExact}
    {α : Type} {kk : PUnit → Prog (TpuEff nD τ sig (Elt F) Λ₀ .tc) α} {Q : α → sProp 𝕄} :
    iprop(stX I c i ∗ stO (F := F) c)
      ⊢ iprop((stX I c (i + 1) ∗ stO (F := F) c -∗ kr c (kk ⟨⟩) Q)
        -∗ kr c (Prog.lift (.waitDma2 (sem24 cc0_scratch13 offs inbs) (xSrc off' inb') (xDst off inb) hsrc hdst) >>= kk) Q) := by
  iintro ⟨⟨HX, HH, HS, HF⟩, HO⟩ Hk
  ihave ⟨H1, HF⟩ := (ico_pop hi (flyX I c)) $$ HF
  iapply (x_wait I c hs) $$ [H1 HO]
  · isplitl [H1] <;> iassumption
  iintro ⟨⟨H1, H2⟩, H3, HO⟩
  iapply Hk
  isplitr [HO]
  · isplitl [HX H1]
    · iapply (pt_glue (Nat.zero_le i) (Nat.le_succ i)); isplitl [HX] <;> iassumption
    isplitl [HH H2]
    · iapply (pt_glue (Nat.zero_le i) (Nat.le_succ i)); isplitl [HH] <;> iassumption
    isplitl [HS H3]
    · iapply (ico_push (Nat.zero_le i) (fun j => sem0 (F := F) c (0 + j))); isplitl [H3] <;> iassumption
    iexact HF
  · iexact HO

/-- A finished block's codes started on their way out. -/
theorem t_step {off : Fin 3 → ℕ} {offs : Fin 1 → ℕ} {inb inbs} {b k : ℕ} (hb : b < 6) (hk : k < 4) (hs : offs = ![4 * b + k]) (ho : off = ![b, 64 * k, 0])
    {hsrc : (tSrc off inb).view.WordExact} {hdst : (tDst off inb).view.WordExact}
    {hsem : DmaTarget.Typed (nD := nD) .vmem (.dma (sem24 cc0_scratch15 offs inbs)) (.here (p := .tc) (tDst off inb))}
    {α : Type} {kk : PUnit → Prog (TpuEff nD τ sig (Elt F) Λ₀ .tc) α} {Q : α → sProp 𝕄} :
    iprop(own c bCode (Btw κc 0 (80 * (4 * b + k))) fullShare.left (CODES I) ∗ haveC I c (80 * (4 * b + k)) (80 * (4 * b + k + 1)) ∗ stF I c (4 * b + k))
      ⊢ iprop((stC I c (4 * b + k + 1) ∗ stF I c (4 * b + k + 1) -∗ kr c (kk ⟨⟩) Q)
        -∗ kr c (Prog.lift (.enqueueDma (tSrc off inb) (.here (tDst off inb)) (.dma (sem24 cc0_scratch15 offs inbs)) hsrc hdst hsem) >>= kk) Q) := by
  iintro ⟨HL, ⟨HC, HN⟩, HT, HS, %f, HD⟩ Hk
  ihave ⟨HCl, HCr⟩ := pt_halve $$ HC
  ihave ⟨HS1, HS⟩ := (ico_pop (show 4 * b + k < 24 by omega) (fun j => sem0 (F := F) c (27 + j))) $$ HS
  ihave ⟨HD1, HD⟩ := (pt_cut (κ := κt) (Nat.le_succ (4 * b + k)) (show 4 * b + k + 1 ≤ 24 by omega)) $$ HD
  iapply (t_start I c hs ho hk) $$ [HCr HD1 HS1]
  · isplitl [HCr]; · iexact HCr
    isplitl [HD1]; · iexists f; iexact HD1
    iexact HS1
  iintro HF
  iapply Hk
  isplitl [HL HCl HN]
  · isplitl [HL HCl]
    · iapply (pt_glue (Nat.zero_le _) (show 80 * (4 * b + k) ≤ 80 * (4 * b + k + 1) by omega)); isplitl [HL] <;> iassumption
    iexact HN
  isplitl [HT HF]
  · iapply (ico_push (Nat.zero_le (4 * b + k)) (flyT I c)); isplitl [HF] <;> iassumption
  isplitl [HS]; · iexact HS
  iexists f; iexact HD

/-! ## The blocks of the first sequence -/

theorem ts_run {C : Prop} [Decidable C] {b k : ℕ} (hb : b < 6) (hk : k < 4) (hC : C ↔ k % 2 = 1) {off : Fin 2 → ℕ} (ho : k % 2 = 1 → off = ![0, 128 * (k / 2)])
    {inb : C → ∀ a, off a + S6x128.size a ≤ S6x256.size a} {v : FVec F S8x128 .f32} (hv : v = accB I b (k + 1)) {w : Vec F S6x128 .f32 → FVec F S6x128 .f32}
    (hw : ∀ old, w old = k0_pay55 (BitVec.ofNat 32 b) v old)
    {α : Type} {P : Prog (TpuEff nD τ sig (Elt F) Λ₀ .tc) α} {Q : α → sProp 𝕄} :
    haveTs I c (4 * b + k)
      ⊢ iprop((haveTs I c (4 * b + k + 1) -∗ kr c P Q)
        -∗ kr c (if h : C then do
            let old : Vec F S6x128 .f32 ← Prog.lift (.load (Memref.whole bTs) (Rect.unit (s := S6x256) off S6x128.size (inb h)).toLoadRect (View.loadsAt_vmem h_S6x128))
            let _ : Vec F S6x128 .f32 ← Prog.lift (.load (Memref.whole bTs) (Rect.unit (s := S6x256) off S6x128.size (inb h)).toLoadRect (View.loadsAt_vmem h_S6x128))
            Prog.lift (.store (Memref.whole bTs) (Rect.unit (s := S6x256) off S6x128.size (inb h)) (w old) Finset.univ (View.stores_vmem_bits_univ h_S6x128 rfl) (.inl rfl))
            P
          else P) Q) := by
  iintro H Hk
  by_cases h : C
  · have hodd := hC.1 h
    rw [dif_pos h]
    iapply (rule_load 12 rfl (fun i _ => Finset.mem_univ i)) $$ H
    iintro H
    iapply (rule_load 12 rfl (fun i _ => Finset.mem_univ i)) $$ H
    iintro H
    iapply (rule_store 12 rfl (fun i _ => Finset.mem_univ i)) $$ H
    iintro %f %hf H
    have hf' : f = TSat I ((4 * b + k + 1) / 2) :=
      ts_store I hb hk hodd (ho hodd) (inb := inb h) (fun x => (hf.1 x).trans (congrFun (by rw [hw, hv]; rfl) x)) hf.2
    subst hf'
    iapply Hk; iexact H
  · rw [dif_neg h]
    have he : (4 * b + k + 1) / 2 = (4 * b + k) / 2 := by have : ¬ k % 2 = 1 := fun h' => h (hC.2 h'); omega
    iapply Hk
    unfold haveTs
    rw [he]
    iexact H

theorem t3_body_run (t3 : Fin k0_t3_loop.trips) (acc : FVec F S8x128 .f32) :
    iprop(⌜acc = accB I 0 t3.val⌝ ∗ stB I c t3.val)
      ⊢ kr c (app (k0_t3_body (F := F)) t3 acc) fun acc' => iprop(⌜acc' = accB I 0 (t3.val + 1)⌝ ∗ stB I c (t3.val + 1)) := by
  have hi : t3.val < 4 := t3.isLt
  iintro ⟨%h, ⟨HX, ⟨HCl, HN⟩, HT, HR, HTs, HW, HO⟩⟩
  unfold app k0_t3_body
  rw [k0_part6_eq_skeleton]
  iapply rule_bind
  unfold k0_part6_skel
  iapply (x_step I c (i := t3.val) (by omega) (k0_off9_eq t3)) $$ [HX HO]
  · isplitl [HX] <;> iassumption
  iintro ⟨⟨HX, HXr⟩, HO⟩
  iapply (t4_run I c t3 acc acc (Scalar.addi 0#32 (Scf.iv 0#32 1#32 t3))) $$ [HX HW HR]
  · isplitr [HR]
    · isplitl [HX] <;> iassumption
    iexact HR
  iintro ⟨⟨HX, HW⟩, HR, -⟩
  have hacc : lane I 0 t3.val acc 8 = accB I 0 (t3.val + 1) := by subst h; rfl
  rw [hacc]
  dsimp only
  iapply (ts_run I c (b := 0) (k := t3.val) (by omega) hi (cond1_iff t3) (off15_eq t3) (v := accB I 0 (t3.val + 1)) rfl (w := k0_pay37 (accB I 0 (t3.val + 1)))
    (fun _ => rfl)) $$ [HTs]
  · rw [show 4 * 0 + t3.val = t3.val by omega]; iexact HTs
  iintro HTs
  iapply (t6_run I c t3 acc (Scalar.addi 0#32 (Scf.iv 0#32 1#32 t3)) (Scalar.muli (Scf.iv 0#32 1#32 t3) 64#32)) $$ [HX HW HR HN]
  · isplitl [HX HW]
    · isplitl [HX] <;> iassumption
    isplitl [HR]; · iexact HR
    iexact HN
  iintro ⟨⟨HX, HW⟩, HR, HC⟩
  iapply rule_ret
  iapply (t_step I c (b := 0) (k := t3.val) (by omega) hi ((k0_off9_eq t3).trans (by rw [show 4 * 0 + t3.val = t3.val by omega])) (k0_off20_eq t3)) $$ [HCl HC HT]
  · rw [show 4 * 0 + t3.val = t3.val by omega]
    isplitl [HCl]; · iexact HCl
    isplitl [HC]; · iexact HC
    iexact HT
  rw [show 4 * 0 + t3.val = t3.val by omega]
  iintro ⟨HC, HT⟩
  iapply rule_ret
  isplitr
  · ipureintro; rfl
  isplitl [HX HXr]
  · isplitl [HX]; · iexact HX
    iexact HXr
  isplitl [HC]; · iexact HC
  isplitl [HT]; · iexact HT
  isplitl [HR]; · iexists _; iexact HR
  isplitl [HTs]; · iexact HTs
  isplitl [HW]; · iexact HW
  iexact HO

/-- The four blocks of the first sequence. -/
theorem t3_run {α : Type} {kk : FVec F S8x128 .f32 → Prog (TpuEff nD τ sig (Elt F) Λ₀ .tc) α} {Q : α → sProp 𝕄} :
    stB I c 0 ⊢ iprop((stB I c 4 -∗ kr c (kk (accB I 0 4)) Q)
        -∗ kr c (Scf.Loop.for k0_t3_loop k0_t3_ok (k0_pay67 (F := F)) (app (k0_t3_body (F := F))) >>= kk) Q) := by
  iintro H Hk
  iapply (rule_for k0_t3_loop (fun k acc => iprop(⌜acc = accB I 0 k⌝ ∗ stB I c k)) (fun k acc => t3_body_run I c k acc)) $$ [H]
  · isplitr
    · ipureintro; rfl
    · iexact H
  iintro %acc ⟨%h, H⟩
  subst h
  iapply Hk; iexact H

end Cert.KernelIdeal.Disp

end
-- ==== Proof.KISeq1.lean ====
/-
  The blocks of the later sequences.
-/
module

public import proofs.«01_k».proof.Proof.KISeq0

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The same operations, in the loop over the later sequences -/

theorem pay51_eq (t9 : Fin k0_t9_loop.trips) (acc : FVec F S8x128 .f32) : k0_pay51 0#32 1#32 t9 acc = k0_pay33 0#32 1#32 (blk t9.val) acc := by
  have h : blk t9.val = (⟨t9.val, t9.isLt⟩ : Fin k0_t3_loop.trips) := Fin.ext (Nat.mod_eq_of_lt t9.isLt)
  rw [h]; rfl

theorem pay54_eq (t9 : Fin k0_t9_loop.trips) (acc : FVec F S8x128 .f32) (g : BitVec 32) (p : IVec S8x1 1) (q r : IVec S8x1 32) :
    k0_pay54 0#32 1#32 t9 acc g p q r = k0_pay36 0#32 1#32 (blk t9.val) acc g p q r := by
  have h : blk t9.val = (⟨t9.val, t9.isLt⟩ : Fin k0_t3_loop.trips) := Fin.ext (Nat.mod_eq_of_lt t9.isLt)
  rw [h]; rfl

/-! ## The statistics of a group -/

theorem xT_load' {i g k : ℕ} {off : Fin 4 → ℕ} {inb : ∀ a, off a + S1x1x8x256.size a ≤ S24x8x8x5120.size a} (ho : off = ![i, g, 0, 256 * k]) :
    (fun y => XV I ((Rect.unit (s := S24x8x8x5120) off S1x1x8x256.size inb).emb y)) = xT I (8 * i + g) k :=
  (rd4 ho fun a b r c => xN I (8 * a + b) r c).trans <| funext fun y => by
    have y0 : (y 0 : ℕ) < 1 := (y 0).isLt
    have y1 : (y 1 : ℕ) < 1 := (y 1).isLt
    unfold xT; congr 1 <;> omega

theorem wT_load' {k : ℕ} {off : Fin 2 → ℕ} {inb : ∀ a, off a + S1x256.size a ≤ S1x5120.size a} (ho : off = ![0, 256 * k]) :
    (fun y => WV I ((Rect.unit (s := S1x5120) off S1x256.size inb).emb y)) = wT I k :=
  (rd2 ho fun _ c => wN I c)

theorem t11_body_run (t8 : Fin k0_t8_loop.trips) (t9 : Fin k0_t9_loop.trips) {i : ℕ} (hi : i = 4 * (t8.val + 1) + t9.val) (v151 c0 c1 : BitVec 32)
    (t10 : Fin k0_t10_loop.trips) (t11 : Fin k0_t11_loop.trips) (acc : FVec F S8x128 .f32 × FVec F S8x128 .f32) :
    iprop(⌜acc = stat I (8 * i + t10.val) t11.val⌝ ∗ haveX I c i)
      ⊢ kr c (app (k0_t11_body (F := F)) t8 t9 v151 c0 c1 t10 t11 acc) fun acc' => iprop(⌜acc' = stat I (8 * i + t10.val) (t11.val + 1)⌝ ∗ haveX I c i) := by
  obtain ⟨a₁, a₂⟩ := acc
  have ho : k0_off24 t8 t9 t10 t11 = ![i, t10.val, 0, 256 * t11.val] := (k0_off24_eq t8 t9 t10 t11).trans (by rw [show 4 * t8.val + t9.val + 4 = i by omega])
  iintro ⟨%h, HX, HW⟩
  unfold app k0_t11_body
  iapply (rule_load 0 rfl (fun j hj => by
    have := ((mem4 ho).1 hj).1
    rw [mem_Btw]; exact ⟨Nat.zero_le _, this.2⟩)) $$ HX
  iintro HX
  iapply (rule_load 3 rfl (fun j _ => Finset.mem_univ j)) $$ HW
  iintro HW
  iapply rule_ret
  isplitr
  · ipureintro
    exact congrArg₂ Prod.mk (congrArg₂ k0_pay41 (congrArg Prod.fst h) (xT_load' I ho))
      (congr (congrArg₂ k0_pay42 (congrArg Prod.snd h) (xT_load' I ho)) (wT_load' I (k0_off25_eq t11)))
  isplitl [HX] <;> iassumption

theorem t10_body_run (t8 : Fin k0_t8_loop.trips) (t9 : Fin k0_t9_loop.trips) {i : ℕ} (hi : i = 4 * (t8.val + 1) + t9.val) (acc₀ arg31 : FVec F S8x128 .f32)
    (arg29 v151 : BitVec 32) (t10 : Fin k0_t10_loop.trips) (acc : FVec F S8x128 .f32) :
    iprop(⌜acc = lane I (t8.val + 1) t9.val acc₀ t10.val⌝ ∗ haveX I c i ∗ haveR I c i t10.val)
      ⊢ kr c (app (k0_t10_body (F := F)) t8 arg29 0#32 1#32 t9 arg31 v151 t10 acc) fun acc' =>
        iprop(⌜acc' = lane I (t8.val + 1) t9.val acc₀ (t10.val + 1)⌝ ∗ haveX I c i ∗ haveR I c i (t10.val + 1)) := by
  have hlt : t10.val < 8 := t10.isLt
  iintro ⟨%h, HX, HR, %f, HN⟩
  unfold app k0_t10_body
  rw [k0_part7_eq_skeleton]
  iapply rule_bind
  unfold k0_part7_skel
  iapply (rule_for k0_t11_loop (fun k acc => iprop(⌜acc = stat I (8 * i + t10.val) k⌝ ∗ haveX I c i))
    (fun k acc => t11_body_run I c t8 t9 hi v151 0#32 1#32 t10 k acc)) $$ [HX]
  · isplitr
    · ipureintro; rfl
    · iexact HX
  iintro %st ⟨%hst, HX⟩
  subst hst
  iapply rule_ret
  iapply (rule_load 5 rfl (fun j hj => by have := (r_box (k0_off26_eq t10) j).1 hj; rw [mem_Btw]; omega)) $$ HN
  iintro HN
  iapply (rule_fill 5 rfl (κ := κr) (a := 0) (n := t10.val) (e := 8) (G := RV I i) (r_box (k0_off26_eq t10)) (r_store I (k0_off26_eq t10)) (Nat.zero_le _) hlt) $$ [HR HN]
  · isplitl [HR]; · iexact HR
    iexists f; iexact HN
  iintro HR
  iapply rule_ret
  isplitr
  · ipureintro
    subst h hi
    exact pay54_eq t9 _ _ _ _ _
  isplitl [HX]; · iexact HX
  iexact HR

/-! ## The codes -/

theorem t13_body_run (t8 : Fin k0_t8_loop.trips) (t9 : Fin k0_t9_loop.trips) {i : ℕ} (hi : i = 4 * (t8.val + 1) + t9.val) (arg31 : FVec F S8x128 .f32)
    (arg29 v151 v170 arg32 : BitVec 32) (t12 : Fin k0_t12_loop.trips) (t13 : Fin k0_t13_loop.trips) (u : Unit) :
    iprop(haveX I c i ∗ own c bR (Btw κr 0 8) fullShare (RV I i) ∗ haveC I c (80 * i) (80 * i + 40 * t12.val + 2 * t13.val))
      ⊢ kr c (app (k0_t13_body (F := F)) t8 arg29 0#32 1#32 t9 arg31 v151 v170 t12 arg32 t13 u) fun _ =>
        iprop(haveX I c i ∗ own c bR (Btw κr 0 8) fullShare (RV I i) ∗ haveC I c (80 * i) (80 * i + 40 * t12.val + 2 * (t13.val + 1))) := by
  have h8 : t8.val < 5 := t8.isLt
  have h9 : t9.val < 4 := t9.isLt
  have hq : t12.val < 2 := t12.isLt
  have hn : t13.val < 20 := t13.isLt
  have hx : k0_off28 t8 t9 t12 t13 = ![i, 4 * t12.val, 0, 256 * t13.val] :=
    (k0_off28_eq t8 t9 t12 t13).trans (by rw [show 4 * t8.val + t9.val + 4 = i by omega])
  have ho0 : k0_off31 t8 t9 t12 t13 0#32 = ![t8.val + 1, 64 * t9.val + 32 * t12.val, 256 * t13.val + 128 * 0] := k0_off31_eq t8 t9 t12 t13 0
  have ho1 : k0_off31 t8 t9 t12 t13 128#32 = ![t8.val + 1, 64 * t9.val + 32 * t12.val, 256 * t13.val + 128 * 1] := k0_off31_eq t8 t9 t12 t13 1
  have hw0 : k0_off29 t13 0#32 = ![0, 128 * (2 * t13.val)] := (k0_off29_eq t13 0).trans (by congr 2; show 256 * t13.val + 128 * 0 = _; omega)
  have hw1 : k0_off29 t13 128#32 = ![0, 128 * (2 * t13.val + 1)] := (k0_off29_eq t13 1).trans (by congr 2; show 256 * t13.val + 128 * 1 = _; omega)
  have hb0 : ∀ j, j ∈ (Rect.unit (s := S6x256x5120) (k0_off31 t8 t9 t12 t13 0#32) S1x32x128.size (k0_off31_inb t8 t9 t12 t13 0)).set
      ↔ κc j = 80 * i + 40 * t12.val + 2 * t13.val := fun j =>
    (code_box (b := t8.val + 1) (k := t9.val) (q := t12.val) (n := t13.val) (h := 0) hq (by omega) hn ho0 j).trans (by rw [← hi]; rfl)
  have hb1 : ∀ j, j ∈ (Rect.unit (s := S6x256x5120) (k0_off31 t8 t9 t12 t13 128#32) S1x32x128.size (k0_off31_inb t8 t9 t12 t13 1)).set
      ↔ κc j = 80 * i + 40 * t12.val + 2 * t13.val + 1 := fun j =>
    (code_box (b := t8.val + 1) (k := t9.val) (q := t12.val) (n := t13.val) (h := 1) hq (by omega) hn ho1 j).trans (by rw [← hi]; rfl)
  have hi24 : i < 24 := by omega
  iintro ⟨⟨HX, HW⟩, HR, HC, %f, HN⟩
  unfold app k0_t13_body
  rw [k0_part8_eq_skeleton]
  iapply rule_bind
  unfold k0_part8_skel
  iapply (rule_load 0 rfl (fun j h => by
    have := ((mem4 hx).1 h).1
    rw [mem_Btw]; exact ⟨Nat.zero_le _, this.2⟩)) $$ HX
  iintro HX
  iapply (rule_load 3 rfl (fun j _ => Finset.mem_univ j)) $$ HW
  iintro HW
  iapply (rule_load 5 rfl (fun j h => by rw [mem_Btw]; exact ⟨Nat.zero_le _, (j 0).isLt⟩)) $$ HR
  iintro HR
  iapply (rule_load 6 rfl (fun j h => by have := (hb0 j).1 h; rw [mem_Btw]; omega)) $$ HN
  iintro HN
  iapply (rule_fill 6 rfl (κ := κc) (a := 80 * i) (n := 80 * i + 40 * t12.val + 2 * t13.val) (e := 1920) (G := CODES I)
    hb0
    (fun y => (congrFun ((congr (congrArg₂ k0_pay31 (xT4_load I hx) (wT2_load I hw0)) (rT4_load I (k0_off30_eq t12))).trans (codeT_even I _ _)) y).trans
      ((congrFun (congrArg (fun G => codeT I (8 * G + 4 * t12.val) (2 * t13.val + 0)) hi) y).trans (code_store I hq (by omega) ho0 y)))
    (by omega) (by omega)) $$ [HC HN]
  · isplitl [HC]; · iexact HC
    iexists f; iexact HN
  iintro ⟨HC, %f', HN⟩
  iapply (rule_load 3 rfl (fun j _ => Finset.mem_univ j)) $$ HW
  iintro HW
  iapply rule_ret
  iapply (rule_load 5 rfl (fun j h => by rw [mem_Btw]; exact ⟨Nat.zero_le _, (j 0).isLt⟩)) $$ HR
  iintro HR
  iapply (rule_load 6 rfl (fun j h => by have := (hb1 j).1 h; rw [mem_Btw]; omega)) $$ HN
  iintro HN
  iapply (rule_fill 6 rfl (κ := κc) (a := 80 * i) (n := 80 * i + 40 * t12.val + 2 * t13.val + 1) (e := 1920) (G := CODES I)
    hb1
    (fun y => (congrFun ((congr (congrArg₂ k0_pay38 (wT2_load I hw1) (congrArg k0_pay32 (xT4_load I hx))) (rT4_load I (k0_off30_eq t12))).trans (codeT_odd I _ _)) y).trans
      ((congrFun (congrArg (fun G => codeT I (8 * G + 4 * t12.val) (2 * t13.val + 1)) hi) y).trans (code_store I hq (by omega) ho1 y)))
    (by omega) (by omega)) $$ [HC HN]
  · isplitl [HC]; · iexact HC
    iexists f'; iexact HN
  iintro HC
  iapply rule_ret
  isplitl [HX HW]
  · isplitl [HX] <;> iassumption
  isplitl [HR]; · iexact HR
  iexact HC

theorem t12_body_run (t8 : Fin k0_t8_loop.trips) (t9 : Fin k0_t9_loop.trips) {i : ℕ} (hi : i = 4 * (t8.val + 1) + t9.val) (arg31 : FVec F S8x128 .f32)
    (arg29 v151 v170 : BitVec 32) (t12 : Fin k0_t12_loop.trips) (u : Unit) :
    iprop(haveX I c i ∗ own c bR (Btw κr 0 8) fullShare (RV I i) ∗ haveC I c (80 * i) (80 * i + 40 * t12.val))
      ⊢ kr c (app (k0_t12_body (F := F)) t8 arg29 0#32 1#32 t9 arg31 v151 v170 t12 u) fun _ =>
        iprop(haveX I c i ∗ own c bR (Btw κr 0 8) fullShare (RV I i) ∗ haveC I c (80 * i) (80 * i + 40 * (t12.val + 1))) := by
  iintro H
  unfold app k0_t12_body
  iapply (rule_for k0_t13_loop (fun n _ => iprop(haveX I c i ∗ own c bR (Btw κr 0 8) fullShare (RV I i)
      ∗ haveC I c (80 * i) (80 * i + 40 * t12.val + 2 * n)))
    (fun n u => t13_body_run I c t8 t9 hi arg31 arg29 v151 v170 (Scf.iv 0#32 1#32 t12) t12 n u)) $$ [H]
  · iexact H
  iintro %acc H
  iapply rule_ret
  iexact H

/-! ## A block of a later sequence -/

theorem cond2_iff : ∀ t9 : Fin k0_t9_loop.trips, k0_cond2 t9 = 1#1 ↔ t9.val % 2 = 1 := by decide +kernel
theorem off27_eq : ∀ t9 : Fin k0_t9_loop.trips, t9.val % 2 = 1 → k0_off27 t9 = ![0, 128 * (t9.val / 2)] := by decide +kernel
theorem seq_iv : ∀ t8 : Fin k0_t8_loop.trips, Scf.iv 1#32 1#32 t8.val = BitVec.ofNat 32 (t8.val + 1) := by decide +kernel

theorem pick_load {b : ℕ} {off : Fin 3 → ℕ} {inb : ∀ a, off a + S1x160x256.size a ≤ S6x160x256.size a} (ho : off = ![b, 0, 0]) :
    (fun y => PICK I ((Rect.unit (s := S6x160x256) off S1x160x256.size inb).emb y)) = pickR I b :=
  (rd3 ho fun b p t => pickN I b p t).trans <| funext fun y => by
    have y0 : (y 0 : ℕ) < 1 := (y 0).isLt
    unfold pickR; congr 1 <;> omega

/-- Everything a block has when its codes are written but not yet sent. -/
abbrev stM (i : ℕ) : sProp 𝕄 :=
  iprop(stX I c (i + 1) ∗ (own c bCode (Btw κc 0 (80 * i)) fullShare.left (CODES I) ∗ haveC I c (80 * i) (80 * (i + 1))) ∗ stF I c i ∗ stR (F := F) c ∗ haveTs I c (i + 1)
    ∗ own c bW Finset.univ fullShare (WV I) ∗ stO (F := F) c)

theorem part9_run (t8 : Fin k0_t8_loop.trips) (t9 : Fin k0_t9_loop.trips) {i : ℕ} (hi : i = 4 * (t8.val + 1) + t9.val) (acc : FVec F S8x128 .f32)
    (h : acc = accB I (t8.val + 1) t9.val) {Q : _ → sProp 𝕄} :
    iprop(stB I c i ∗ own c bPick Finset.univ fullShare (PICK I))
      ⊢ iprop((∀ a v1 v2 v4 v5, stM I c i ∗ own c bPick Finset.univ fullShare (PICK I) -∗ Q ⟨a, accB I (t8.val + 1) (t9.val + 1), v1, v2, k0_pay57 (F := F) (pickR I t8.val), v4, v5⟩)
        -∗ kr c (app (k0_part9 (F := F)) t8 (Scf.iv 1#32 1#32 t8.val) 0#32 1#32 t9 acc) Q) := by
  have h8 : t8.val < 5 := t8.isLt
  have h9 : t9.val < 4 := t9.isLt
  iintro ⟨⟨HX, ⟨HCl, HN⟩, HT, ⟨%fr, HR⟩, HTs, HW, HO⟩, HP⟩ Hk
  unfold app
  rw [k0_part9_eq_skeleton]
  unfold k0_part9_skel
  iapply (x_step I c (i := i) (by omega) ((k0_off21_eq t8 t9).trans (by rw [show 4 * t8.val + t9.val + 4 = i by omega]))) $$ [HX HO]
  · isplitl [HX] <;> iassumption
  iintro ⟨⟨HX, HXr⟩, HO⟩
  ihave ⟨HR0, HR⟩ := (pt_cut (κ := κr) (le_refl 0) (Nat.zero_le 8)) $$ HR
  ihave HR0 := (pt_congr (g := RV I i) (fun i hi => by rw [mem_Btw] at hi; omega)) $$ HR0
  iapply (rule_for k0_t10_loop (fun g a => iprop(⌜a = lane I (t8.val + 1) t9.val acc g⌝ ∗ haveX I c i ∗ haveR I c i g))
    (fun g a => t10_body_run I c t8 t9 hi acc acc (Scf.iv 1#32 1#32 t8.val) (Scalar.addi (Scalar.muli (Scf.iv 1#32 1#32 t8.val) 4#32) (Scf.iv 0#32 1#32 t9.val)) g a)) $$ [HX HW HR0 HR]
  · isplitr
    · ipureintro; exact pay51_eq t9 acc
    isplitl [HX HW]
    · isplitl [HX] <;> iassumption
    isplitl [HR0]; · iexact HR0
    iexists fr; iexact HR
  iintro %a ⟨%ha, ⟨HX, HW⟩, HR, -⟩
  obtain rfl : a = accB I (t8.val + 1) (t9.val + 1) := by rw [ha, h]; rfl
  dsimp only
  iapply (ts_run I c (b := t8.val + 1) (k := t9.val) (by omega) h9 (cond2_iff t9) (off27_eq t9) (v := accB I (t8.val + 1) (t9.val + 1)) rfl
    (w := k0_pay55 (Scf.iv 1#32 1#32 t8.val) (accB I (t8.val + 1) (t9.val + 1))) (fun _ => by rw [seq_iv])) $$ [HTs]
  · rw [← hi]; iexact HTs
  iintro HTs
  icases HN with ⟨%f, HN⟩
  ihave ⟨H0, HN⟩ := (pt_cut (κ := κc) (le_refl (80 * i)) (show 80 * i ≤ 1920 by omega)) $$ HN
  ihave H0 := (pt_congr (g := CODES I) (fun i hi => by rw [mem_Btw] at hi; omega)) $$ H0
  iapply (rule_for k0_t12_loop (fun q _ => iprop(haveX I c i ∗ own c bR (Btw κr 0 8) fullShare (RV I i)
      ∗ haveC I c (80 * i) (80 * i + 40 * q))) (fun q u => t12_body_run I c t8 t9 hi acc (Scf.iv 1#32 1#32 t8.val)
        (Scalar.addi (Scalar.muli (Scf.iv 1#32 1#32 t8.val) 4#32) (Scf.iv 0#32 1#32 t9.val)) (Scalar.muli (Scf.iv 0#32 1#32 t9.val) 64#32) q u)) $$ [HX HW HR H0 HN]
  · isplitl [HX HW]
    · isplitl [HX] <;> iassumption
    isplitl [HR]; · iexact HR
    isplitl [H0]; · iexact H0
    iexists f; iexact HN
  iintro %u ⟨⟨HX, HW⟩, HR, HC⟩
  iapply (rule_load 4 rfl (fun j _ => Finset.mem_univ j)) $$ HP
  iintro HP
  iapply rule_ret
  rw [pick_load I (k0_off32_eq t8)]
  iapply Hk
  isplitr [HP]
  · isplitl [HX HXr]
    · isplitl [HX]; · iexact HX
      iexact HXr
    isplitl [HCl HC]
    · isplitl [HCl]; · iexact HCl
      iexact HC
    isplitl [HT]; · iexact HT
    isplitl [HR]; · iexists _; iexact HR
    isplitl [HTs]; · rw [← hi]; iexact HTs
    isplitl [HW]; · iexact HW
    iexact HO
  iexact HP

end Cert.KernelIdeal.Disp

end
-- ==== Proof.KISeq2.lean ====
/-
  The loop over the later sequences: a block of tokens, then a chunk of the previous sequence's expert buffers.
-/
module

public import proofs.«01_k».proof.Proof.KISeq1

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The expert buffers -/

/-- The expert buffers: the first `j` chunks on their way out. -/
abbrev stD (j : ℕ) : sProp 𝕄 :=
  iprop((∃ f, own (F := F) c bBuf (Btw κb (5 * j) 120) fullShare f) ∗ bigSep (Finset.Ico 0 j) (flyB c (BUF I))
    ∗ bigSep (Finset.Ico j 24) (fun j => sem0 (F := F) c (51 + j)) ∗ (∃ f, own (F := F) c main_v4_0 (Btw κo j 24) fullShare f))
/-- Chunk `j` being made, `n` of its five pieces. -/
abbrev haveB (j n : ℕ) : sProp 𝕄 :=
  iprop(own (F := F) c bBuf (Btw κb (5 * j) (5 * j + n)) fullShare (BUF I) ∗ (∃ f, own (F := F) c bBuf (Btw κb (5 * j + n) 120) fullShare f))
/-- What a chunk is sent out with. -/
abbrev stS (j : ℕ) : sProp 𝕄 :=
  iprop(bigSep (Finset.Ico 0 j) (flyB c (BUF I)) ∗ bigSep (Finset.Ico j 24) (fun j => sem0 (F := F) c (51 + j)) ∗ (∃ f, own (F := F) c main_v4_0 (Btw κo j 24) fullShare f))

/-- A finished chunk started on its way out. -/
theorem b_step {off : Fin 4 → ℕ} {offs : Fin 1 → ℕ} {inb inbs} {b k : ℕ} (hb : b < 6) (hk : k < 4) (hs : offs = ![4 * b + k]) (ho : off = ![b, 0, 0, 1280 * k])
    {hsrc : (bSrc off inb).view.WordExact} {hdst : (bDst off inb).view.WordExact}
    {hsem : DmaTarget.Typed (nD := nD) .vmem (.dma (sem24 cc0_scratch16 offs inbs)) (.here (p := .tc) (bDst off inb))}
    {α : Type} {kk : PUnit → Prog (TpuEff nD τ sig (Elt F) Λ₀ .tc) α} {Q : α → sProp 𝕄} :
    iprop(haveB I c (4 * b + k) 5 ∗ stS I c (4 * b + k))
      ⊢ iprop((stD I c (4 * b + k + 1) -∗ kr c (kk ⟨⟩) Q)
        -∗ kr c (Prog.lift (.enqueueDma (bSrc off inb) (.here (bDst off inb)) (.dma (sem24 cc0_scratch16 offs inbs)) hsrc hdst hsem) >>= kk) Q) := by
  iintro ⟨⟨HB1, %f', HB⟩, HT, HS, %f, HD⟩ Hk
  ihave ⟨HS1, HS⟩ := (ico_pop (show 4 * b + k < 24 by omega) (fun j => sem0 (F := F) c (51 + j))) $$ HS
  ihave ⟨HD1, HD⟩ := (pt_cut (κ := κo) (Nat.le_succ (4 * b + k)) (show 4 * b + k + 1 ≤ 24 by omega)) $$ HD
  iapply (b_start c (BUF I) hs ho hk) $$ [HB1 HD1 HS1]
  · isplitl [HB1]; · iexact HB1
    isplitl [HD1]; · iexists f; iexact HD1
    iexact HS1
  iintro HF
  iapply Hk
  isplitl [HB]; · iexists f'; iexact HB
  isplitl [HT HF]
  · iapply (ico_push (Nat.zero_le (4 * b + k)) (flyB c (BUF I)))
    isplitl [HF]; · iexact HF
    iexact HT
  isplitl [HS]; · iexact HS
  iexists f; iexact HD

/-- Piece `n` of chunk `4b + k`. -/
theorem buf_box {b k n : ℕ} (hk : k < 4) (hn : n < 5) {off : Fin 4 → ℕ} {inb : ∀ a, off a + S1x16x40x256.size a ≤ S6x16x40x5120.size a}
    (ho : off = ![b, 0, 0, 1280 * k + 256 * n]) (i : S6x16x40x5120.Idx) :
    i ∈ (Rect.unit (s := S6x16x40x5120) off S1x16x40x256.size inb).set ↔ κb i = 5 * (4 * b + k) + n := by
  refine (mem4 ho).trans ?_
  have h1 : (i 1 : ℕ) < 16 := (i 1).isLt
  have h2 : (i 2 : ℕ) < 40 := (i 2).isLt
  have h3 : (i 3 : ℕ) < 5120 := (i 3).isLt
  show (b ≤ (i 0 : ℕ) ∧ (i 0 : ℕ) < b + 1) ∧ (0 ≤ (i 1 : ℕ) ∧ (i 1 : ℕ) < 0 + 16) ∧ (0 ≤ (i 2 : ℕ) ∧ (i 2 : ℕ) < 0 + 40)
      ∧ (1280 * k + 256 * n ≤ (i 3 : ℕ) ∧ (i 3 : ℕ) < 1280 * k + 256 * n + 256)
    ↔ 20 * (i 0 : ℕ) + (i 3 : ℕ) / 256 = 5 * (4 * b + k) + n
  omega

theorem buf_store {b k n : ℕ} {off : Fin 4 → ℕ} {inb : ∀ a, off a + S1x16x40x256.size a ≤ S6x16x40x5120.size a}
    (ho : off = ![b, 0, 0, 1280 * k + 256 * n]) (y : S1x16x40x256.Idx) :
    bufT I b (5 * k + n) y = BUF I ((Rect.unit (s := S6x16x40x5120) off S1x16x40x256.size inb).emb y) := by
  have h0 : (y 0 : ℕ) < 1 := (y 0).isLt
  have h3 : (y 3 : ℕ) < 256 := (y 3).isLt
  refine Eq.trans ?_ (congrFun (rd4 ho fun a r l q => bufN I a r l q) y).symm
  show _ = bufN I (b + (y 0 : ℕ)) (0 + (y 1 : ℕ)) (0 + (y 2 : ℕ)) (1280 * k + 256 * n + (y 3 : ℕ))
  unfold bufN
  rw [show b + (y 0 : ℕ) = b by omega, show (1280 * k + 256 * n + (y 3 : ℕ)) / 256 = 5 * k + n by omega]
  exact (atN_eq (by decide) _ fun a => by
    match a with
    | 0 => show 0 = (y 0 : ℕ); omega
    | 1 => show 0 + (y 1 : ℕ) = y 1; omega
    | 2 => show 0 + (y 2 : ℕ) = y 2; omega
    | 3 => show (1280 * k + 256 * n + (y 3 : ℕ)) % 256 = y 3; omega).symm

theorem codeR_load {b n : ℕ} {off : Fin 3 → ℕ} {inb : ∀ a, off a + S1x256x256.size a ≤ S6x256x5120.size a} (ho : off = ![b, 0, 256 * n]) :
    (fun y => CODES I ((Rect.unit (s := S6x256x5120) off S1x256x256.size inb).emb y)) = codeR I b n :=
  (rd3 ho fun a r l => codeN I a r l).trans <| funext fun y => by
    have y0 : (y 0 : ℕ) < 1 := (y 0).isLt
    unfold codeR; congr 1 <;> omega

/-- The codes of an earlier sequence. -/
theorem code_in {b n i : ℕ} (hb : 4 * (b + 1) ≤ i) {off : Fin 3 → ℕ} {inb : ∀ a, off a + S1x256x256.size a ≤ S6x256x5120.size a}
    (ho : off = ![b, 0, n]) (j : S6x256x5120.Idx) (h : j ∈ (Rect.unit (s := S6x256x5120) off S1x256x256.size inb).set) :
    j ∈ Btw κc 0 (80 * i) := by
  have := ((mem3 ho).1 h).1
  have h1 : (j 1 : ℕ) < 256 := (j 1).isLt
  have h2 : (j 2 : ℕ) < 5120 := (j 2).isLt
  change b ≤ (j 0 : ℕ) ∧ (j 0 : ℕ) < b + 1 at this
  rw [mem_Btw]
  show 0 ≤ (8 * (j 0 : ℕ) + (j 1 : ℕ) / 32) * 40 + (j 2 : ℕ) / 128 ∧ (8 * (j 0 : ℕ) + (j 1 : ℕ) / 32) * 40 + (j 2 : ℕ) / 128 < 80 * i
  omega

theorem t14_body_run (t8 : Fin k0_t8_loop.trips) (t9 : Fin k0_t9_loop.trips) {i j : ℕ} (hi : i = 4 * (t8.val + 1) + t9.val) (hj : j = 4 * t8.val + t9.val)
    (t14 : Fin k0_t14_loop.trips) (u : Unit) :
    iprop(own c bCode (Btw κc 0 (80 * i)) fullShare.left (CODES I) ∗ haveB I c j t14.val)
      ⊢ kr c (app (k0_t14_body (F := F)) 1#32 1#32 t8 t9 (k0_pay57 (F := F) (pickR I t8.val)) t14 u) fun _ =>
        iprop(own c bCode (Btw κc 0 (80 * i)) fullShare.left (CODES I) ∗ haveB I c j (t14.val + 1)) := by
  have h8 : t8.val < 5 := t8.isLt
  have h9 : t9.val < 4 := t9.isLt
  have h14 : t14.val < 5 := t14.isLt
  have hc : k0_off33 t8 t9 t14 = ![t8.val, 0, 256 * (5 * t9.val + t14.val)] :=
    (k0_off33_eq t8 t9 t14).trans (by rw [show 1280 * t9.val + 256 * t14.val = 256 * (5 * t9.val + t14.val) by omega])
  have hb : ∀ x, x ∈ (Rect.unit (s := S6x16x40x5120) (k0_off34 t8 t9 t14) S1x16x40x256.size (k0_off34_inb t8 t9 t14)).set ↔ κb x = 5 * j + t14.val :=
    fun x => (buf_box h9 h14 (k0_off34_eq t8 t9 t14) x).trans (by rw [← hj])
  have hcS : ∀ x, x ∈ (Rect.unit (s := S6x256x5120) (k0_off33 t8 t9 t14) S1x256x256.size (k0_off33_inb t8 t9 t14)).set → x ∈ Btw κc 0 (80 * i) :=
    fun x h => code_in (b := t8.val) (by omega) hc x h
  have hbS : ∀ x, x ∈ (Rect.unit (s := S6x16x40x5120) (k0_off34 t8 t9 t14) S1x16x40x256.size (k0_off34_inb t8 t9 t14)).set → x ∈ Btw κb (5 * j + t14.val) 120 :=
    fun x h => mem_Btw.2 (by rw [(hb x).1 h]; omega)
  have hv : ∀ y, k0_pay59 (k0_pay57 (F := F) (pickR I t8.val)) (fun y => CODES I ((Rect.unit (s := S6x256x5120) (k0_off33 t8 t9 t14) S1x256x256.size (k0_off33_inb t8 t9 t14)).emb y)) y
      = BUF I ((Rect.unit (s := S6x16x40x5120) (k0_off34 t8 t9 t14) S1x16x40x256.size (k0_off34_inb t8 t9 t14)).emb y) :=
    fun y => (congrFun (congrArg (k0_pay59 (k0_pay57 (F := F) (pickR I t8.val))) (codeR_load I hc)) y).trans (buf_store I (k0_off34_eq t8 t9 t14) y)
  iintro ⟨HC, HB, %f, HN⟩
  unfold app k0_t14_body
  iapply (rule_load 6 rfl hcS) $$ HC
  iintro HC
  iapply (rule_load 7 rfl hbS) $$ HN
  iintro HN
  iapply (rule_fill 7 rfl (κ := κb) (a := 5 * j) (n := 5 * j + t14.val) (e := 120) (G := BUF I) hb hv (by omega) (by omega)) $$ [HB HN]
  · isplitl [HB]; · iexact HB
    iexists f; iexact HN
  iintro HB
  iapply rule_ret
  isplitl [HC]; · iexact HC
  iexact HB

/-- A chunk of which nothing is made yet. -/
theorem haveB_zero {j : ℕ} (hj : j ≤ 24) : iprop(∃ f, own (F := F) c bBuf (Btw κb (5 * j) 120) fullShare f) ⊢ haveB I c j 0 := by
  iintro ⟨%f, HB⟩
  ihave ⟨H0, HB⟩ := (pt_cut (κ := κb) (le_refl (5 * j)) (show 5 * j ≤ 120 by omega)) $$ HB
  ihave H0 := (pt_congr (g := BUF I) (fun i hi => by rw [mem_Btw] at hi; omega)) $$ H0
  isplitl [H0]; · iexact H0
  iexists f; iexact HB

theorem t9_body_run (t8 : Fin k0_t8_loop.trips) (t9 : Fin k0_t9_loop.trips) (acc : FVec F S8x128 .f32) :
    iprop(⌜acc = accB I (t8.val + 1) t9.val⌝ ∗ stB I c (4 * (t8.val + 1) + t9.val) ∗ stD I c (4 * t8.val + t9.val) ∗ own c bPick Finset.univ fullShare (PICK I))
      ⊢ kr c (app (k0_t9_body (F := F)) 1#32 1#32 t8 (Scf.iv 1#32 1#32 t8.val) t9 acc) fun acc' =>
        iprop(⌜acc' = accB I (t8.val + 1) (t9.val + 1)⌝ ∗ stB I c (4 * (t8.val + 1) + (t9.val + 1)) ∗ stD I c (4 * t8.val + (t9.val + 1)) ∗ own c bPick Finset.univ fullShare (PICK I)) := by
  have h8 : t8.val < 5 := t8.isLt
  have h9 : t9.val < 4 := t9.isLt
  iintro ⟨%h, HS, ⟨HB, HD⟩, HP⟩
  unfold app k0_t9_body
  iapply rule_bind
  iapply (part9_run I c t8 t9 rfl acc h) $$ [HS HP]
  · isplitl [HS] <;> iassumption
  iintro %a %v1 %v2 %v4 %v5 ⟨⟨HX, ⟨HCl, HC⟩, HT, HR, HTs, HW, HO⟩, HP⟩
  ihave HB := (haveB_zero I c (j := 4 * t8.val + t9.val) (by omega)) $$ HB
  iapply (rule_for k0_t14_loop (fun n _ => iprop(own c bCode (Btw κc 0 (80 * (4 * (t8.val + 1) + t9.val))) fullShare.left (CODES I) ∗ haveB I c (4 * t8.val + t9.val) n))
    (fun n u => t14_body_run I c t8 t9 rfl rfl n u)) $$ [HCl HB]
  · isplitl [HCl]; · iexact HCl
    iexact HB
  iintro %u ⟨HCl, HB⟩
  iapply (b_step I c (b := t8.val) (k := t9.val) (by omega) h9 (k0_off35_eq t8 t9) (k0_off36_eq t8 t9)) $$ [HB HD]
  · isplitl [HB]; · iexact HB
    iexact HD
  iintro HD
  iapply (t_step I c (b := t8.val + 1) (k := t9.val) (by omega) h9 ((k0_off21_eq t8 t9).trans (by rw [show 4 * t8.val + t9.val + 4 = 4 * (t8.val + 1) + t9.val by omega]))
    (k0_off37_eq t8 t9)) $$ [HCl HC HT]
  · isplitl [HCl]; · iexact HCl
    isplitl [HC]; · iexact HC
    iexact HT
  iintro ⟨HC, HT⟩
  iapply rule_ret
  isplitr
  · ipureintro; rfl
  isplitr [HD HP]
  · isplitl [HX]; · iexact HX
    isplitl [HC]; · iexact HC
    isplitl [HT]; · iexact HT
    isplitl [HR]; · iexact HR
    isplitl [HTs]; · iexact HTs
    isplitl [HW]; · iexact HW
    iexact HO
  isplitl [HD]; · iexact HD
  iexact HP

/-! ## The expert scales -/

def κs (i : S6x16x40.Idx) : ℕ := i 0

/-- The expert scales of the first `b` sequences. -/
abbrev haveS (b : ℕ) : sProp 𝕄 := iprop(own c bBs (Btw κs 0 b) fullShare (BS I) ∗ (∃ f, own c bBs (Btw κs b 6) fullShare f))

theorem bs_box {b : ℕ} {off : Fin 3 → ℕ} {inb : ∀ a, off a + S1x16x40.size a ≤ S6x16x40.size a} (ho : off = ![b, 0, 0]) (i : S6x16x40.Idx) :
    i ∈ (Rect.unit (s := S6x16x40) off S1x16x40.size inb).set ↔ κs i = b := by
  refine (mem3 ho).trans ?_
  have h1 : (i 1 : ℕ) < 16 := (i 1).isLt
  have h2 : (i 2 : ℕ) < 40 := (i 2).isLt
  show (b ≤ (i 0 : ℕ) ∧ (i 0 : ℕ) < b + 1) ∧ (0 ≤ (i 1 : ℕ) ∧ (i 1 : ℕ) < 0 + 16) ∧ (0 ≤ (i 2 : ℕ) ∧ (i 2 : ℕ) < 0 + 40) ↔ (i 0 : ℕ) = b
  omega

theorem bs_store {b : ℕ} {off : Fin 3 → ℕ} {inb : ∀ a, off a + S1x16x40.size a ≤ S6x16x40.size a} (ho : off = ![b, 0, 0]) (y : S1x16x40.Idx) :
    bsT I b y = BS I ((Rect.unit (s := S6x16x40) off S1x16x40.size inb).emb y) := by
  have h0 : (y 0 : ℕ) < 1 := (y 0).isLt
  refine Eq.trans ?_ (congrFun (rd3 ho fun a r l => bsN I a r l) y).symm
  show _ = bsN I (b + (y 0 : ℕ)) (0 + (y 1 : ℕ)) (0 + (y 2 : ℕ))
  unfold bsN
  rw [show b + (y 0 : ℕ) = b by omega]
  exact (atN_eq (by decide) _ fun a => by
    match a with
    | 0 => show 0 = (y 0 : ℕ); omega
    | 1 => show 0 + (y 1 : ℕ) = y 1; omega
    | 2 => show 0 + (y 2 : ℕ) = y 2; omega).symm

theorem row3_load {b j : ℕ} {α : Type} (g : ℕ → ℕ → ℕ → α) {off : Fin 3 → ℕ} {inb : ∀ a, off a + S1x1x256.size a ≤ S6x2x256.size a} (ho : off = ![b, j, 0]) :
    (fun y => (fun i : S6x2x256.Idx => g (i 0) (i 1) (i 2)) ((Rect.unit (s := S6x2x256) off S1x1x256.size inb).emb y)) = fun y => g b j (y 2) :=
  (rd3 ho g).trans <| funext fun y => by
    have y0 : (y 0 : ℕ) < 1 := (y 0).isLt
    have y1 : (y 1 : ℕ) < 1 := (y 1).isLt
    congr 1 <;> omega

theorem ts_load {α : Type} (f : S6x256.Idx → α) :
    (fun y => f ((Rect.unit (s := S6x256) ![0, 0] S6x256.size inb_S6x256_S6x256_0_0).emb y)) = f :=
  funext fun y => congrArg f (funext fun a => Fin.ext (by
    rw [emb_val rfl]
    match a with
    | 0 => exact Nat.zero_add _
    | 1 => exact Nat.zero_add _))

theorem bsT_succ (t8 : Fin k0_t8_loop.trips) (m : ℕ) (hm : m = 2 * (t8.val + 1) + 2) :
    k0_pay71 (iota .tc S40x256 32 [0] iota_S40x256_d0_w32) (k0_pay61 1#32 1#32 t8 (TSat I m) (ixR I (t8.val + 1) 0))
      (k0_pay62 (F := F) (posR I (t8.val + 1) 0)) (k0_pay63 1#32 1#32 t8 (TSat I m) (ixR I (t8.val + 1) 1)) (posR I (t8.val + 1) 1) = bsT I (t8.val + 1) := by
  subst hm
  have h : seq8 (t8.val + 1 - 1) = t8 := Fin.ext (Nat.mod_eq_of_lt t8.isLt)
  unfold bsT
  rw [if_neg (Nat.succ_ne_zero _), h]

theorem bs_cong (t8 : Fin k0_t8_loop.trips) {T T' : Vec F S6x256 .f32} {A A' P P' B B' R R' : Vec F S1x1x256 .i32} (hT : T = T') (hA : A = A') (hP : P = P')
    (hB : B = B') (hR : R = R') (y : S1x16x40.Idx) :
    k0_pay71 (iota .tc S40x256 32 [0] iota_S40x256_d0_w32) (k0_pay61 1#32 1#32 t8 T A) (k0_pay62 (F := F) P) (k0_pay63 1#32 1#32 t8 T B) R y
      = k0_pay71 (iota .tc S40x256 32 [0] iota_S40x256_d0_w32) (k0_pay61 1#32 1#32 t8 T' A') (k0_pay62 (F := F) P') (k0_pay63 1#32 1#32 t8 T' B') R' y := by
  subst hT hA hP hB hR; rfl

theorem bs_val (t8 : Fin k0_t8_loop.trips) (y : S1x16x40.Idx) :
    k0_pay71 (iota .tc S40x256 32 [0] iota_S40x256_d0_w32)
      (k0_pay61 1#32 1#32 t8 (fun y => TSat I ((4 * (t8.val + 1) + k0_t9_loop.trips) / 2) ((Rect.unit (s := S6x256) ![0, 0] S6x256.size inb_S6x256_S6x256_0_0).emb y))
        (fun y => IXV I ((Rect.unit (s := S6x2x256) (k0_off38 t8) S1x1x256.size (k0_off38_inb t8)).emb y)))
      (k0_pay62 (F := F) (fun y => POS I ((Rect.unit (s := S6x2x256) (k0_off38 t8) S1x1x256.size (k0_off38_inb t8)).emb y)))
      (k0_pay63 1#32 1#32 t8 (fun y => TSat I ((4 * (t8.val + 1) + k0_t9_loop.trips) / 2) ((Rect.unit (s := S6x256) ![0, 0] S6x256.size inb_S6x256_S6x256_0_0).emb y))
        (fun y => IXV I ((Rect.unit (s := S6x2x256) (k0_off39 t8) S1x1x256.size (k0_off39_inb t8)).emb y)))
      (fun y => POS I ((Rect.unit (s := S6x2x256) (k0_off39 t8) S1x1x256.size (k0_off39_inb t8)).emb y)) y
    = BS I ((Rect.unit (s := S6x16x40) (k0_off40 t8) S1x16x40.size (k0_off40_inb t8)).emb y) := by
  have e1 := ts_load (TSat I ((4 * (t8.val + 1) + k0_t9_loop.trips) / 2))
  have e2 := row3_load (fun b j t => ixN I b j t) (inb := k0_off38_inb t8) (k0_off38_eq t8)
  have e3 := row3_load (fun b j t => posN I b j t) (inb := k0_off38_inb t8) (k0_off38_eq t8)
  have e4 := row3_load (fun b j t => ixN I b j t) (inb := k0_off39_inb t8) (k0_off39_eq t8)
  have e5 := row3_load (fun b j t => posN I b j t) (inb := k0_off39_inb t8) (k0_off39_eq t8)
  have h := bsT_succ I t8 ((4 * (t8.val + 1) + k0_t9_loop.trips) / 2) (by show (4 * (t8.val + 1) + 4) / 2 = _; omega)
  refine Eq.trans ?_ ((congrFun h y).trans (bs_store I (k0_off40_eq t8) y))
  exact bs_cong t8 e1 e2 e3 e4 e5 y

/-- Everything the loop over the later sequences reads and writes, after `n` of them. -/
abbrev stE (n : ℕ) : sProp 𝕄 :=
  iprop(stB I c (4 * (n + 1)) ∗ stD I c (4 * n) ∗ own c bPick Finset.univ fullShare (PICK I) ∗ own c bIx Finset.univ fullShare (IXV I) ∗ own c bPos Finset.univ fullShare.left (POS I) ∗ haveS I c (n + 1))

theorem t8_body_run (v66 : FVec F S16x512 .bf16) (v68 : FVec F S40x512 .bf16) (z : FVec F S16x40 .f32) (t8 : Fin k0_t8_loop.trips) (u : Unit) :
    stE I c t8.val ⊢ kr c (app (k0_t8_body (F := F)) v66 v68 z t8 u) fun _ => stE I c (t8.val + 1) := by
  have h8 : t8.val < 5 := t8.isLt
  have hbS : ∀ i, i ∈ (Rect.unit (s := S6x16x40) (k0_off40 t8) S1x16x40.size (k0_off40_inb t8)).set → i ∈ Btw κs (t8.val + 1) 6 :=
    fun i h => mem_Btw.2 ⟨((bs_box (k0_off40_eq t8) i).1 h).ge, (i 0).isLt⟩
  iintro ⟨HS, HD, HP, HI, HPos, HB, %fb, HBN⟩
  unfold app k0_t8_body
  rw [k0_part10_eq_skeleton]
  iapply rule_bind
  unfold k0_part10_skel
  iapply (rule_for k0_t9_loop (fun k acc => iprop(⌜acc = accB I (t8.val + 1) k⌝ ∗ stB I c (4 * (t8.val + 1) + k) ∗ stD I c (4 * t8.val + k) ∗ own c bPick Finset.univ fullShare (PICK I)))
    (fun k acc => t9_body_run I c t8 k acc)) $$ [HS HD HP]
  · isplitr
    · ipureintro; rfl
    isplitl [HS]; · iexact HS
    isplitl [HD] <;> iassumption
  iintro %acc ⟨-, HS, HD, HP⟩
  icases HS with ⟨HX, HC, HT, HR, HTs, HW, HO⟩
  iapply (rule_load 12 rfl (fun i _ => Finset.mem_univ i)) $$ HTs
  iintro HTs
  iapply (rule_load 1 rfl (fun i _ => Finset.mem_univ i)) $$ HI
  iintro HI
  iapply (rule_load 10 rfl (fun i _ => Finset.mem_univ i)) $$ HPos
  iintro HPos
  iapply (rule_load 1 rfl (fun i _ => Finset.mem_univ i)) $$ HI
  iintro HI
  iapply (rule_load 10 rfl (fun i _ => Finset.mem_univ i)) $$ HPos
  iintro HPos
  iapply rule_ret
  iapply (rule_load 8 rfl hbS) $$ HBN
  iintro HBN
  iapply (rule_fill 8 rfl (κ := κs) (a := 0) (n := t8.val + 1) (e := 6) (G := BS I) (bs_box (k0_off40_eq t8))
    (bs_val I t8)
    (Nat.zero_le _) (by omega)) $$ [HB HBN]
  · isplitl [HB]; · iexact HB
    iexists fb; iexact HBN
  iintro HB
  iapply rule_ret
  isplitr [HD HP HI HPos HB]
  · isplitl [HX]; · iexact HX
    isplitl [HC]; · iexact HC
    isplitl [HT]; · iexact HT
    isplitl [HR]; · iexact HR
    isplitl [HTs]; · iexact HTs
    isplitl [HW]; · iexact HW
    iexact HO
  isplitl [HD]; · iexact HD
  isplitl [HP]; · iexact HP
  isplitl [HI]; · iexact HI
  isplitl [HPos]; · iexact HPos
  iexact HB

end Cert.KernelIdeal.Disp

end
-- ==== Proof.KIRoute.lean ====
/-
  The routing: positions, kept flags, combine weights and the slots of the buffer rows, sequence by sequence.
-/
module

public import proofs.«01_k».proof.Proof.KISeq2

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## Buffers filled in order -/

/-- The next numbered piece of a buffer filled in order, read and then written. -/
theorem put (i₀ : Fin (sig.nNear .tc (.core .vmem))) (h₀ : sig.names .tc (.core .vmem) i₀ = true) {r : Rect (VB i₀ h₀).ty.shape}
    {w : r.shape.Idx → Elt F (VB i₀ h₀).ty.elt} {hl : (Memref.whole (VB i₀ h₀)).view.LoadsAt r.toLoadRect}
    {hx : ((Memref.whole (VB i₀ h₀)).access r).Stores Finset.univ} {hm : Finset.univ = Finset.univ ∨ ∀ a, r.stride a = 1}
    {α : Type} {k : PUnit → Prog (TpuEff nD τ sig (Elt F) Λ₀ .tc) α} {Q : α → sProp 𝕄}
    {κ : Idx ((Memref.whole (VB i₀ h₀)).view.loc (c : Thread nD τ)) → ℕ} {n e : ℕ}
    {G : Buf (Elt F) ((Memref.whole (VB i₀ h₀)).view.loc (c : Thread nD τ))}
    (hκ : ∀ i, i ∈ r.set ↔ κ i = n) (hw : ∀ x, w x = G (r.emb x)) (hn : n < e) :
    iprop(own c (VB i₀ h₀) (Btw κ 0 n) fullShare G ∗ (∃ f, own c (VB i₀ h₀) (Btw κ n e) fullShare f))
      ⊢ iprop((own c (VB i₀ h₀) (Btw κ 0 (n + 1)) fullShare G ∗ (∃ f, own c (VB i₀ h₀) (Btw κ (n + 1) e) fullShare f) -∗ kr c (k ⟨⟩) Q)
        -∗ kr c (Prog.lift (.load (Memref.whole (VB i₀ h₀)) r.toLoadRect hl) >>= fun _ =>
            Prog.lift (.store (Memref.whole (VB i₀ h₀)) r w Finset.univ hx hm) >>= k) Q) := by
  have hS : ∀ i, i ∈ r.set → i ∈ Btw κ n e := fun i h => mem_Btw.2 ⟨((hκ i).1 h).ge, ((hκ i).1 h).trans_lt hn⟩
  iintro ⟨HG, %f, HN⟩ Hk
  iapply (rule_load i₀ h₀ hS) $$ HN
  iintro HN
  iapply (rule_fill i₀ h₀ (κ := κ) (a := 0) (n := n) (e := e) (G := G) hκ hw (Nat.zero_le _) hn) $$ [HG HN]
  · isplitl [HG]; · iexact HG
    iexists f; iexact HN
  iexact Hk

/-- The next numbered piece of a buffer filled in order, read. -/
theorem peek (i₀ : Fin (sig.nNear .tc (.core .vmem))) (h₀ : sig.names .tc (.core .vmem) i₀ = true) {r : Rect (VB i₀ h₀).ty.shape}
    {hl : (Memref.whole (VB i₀ h₀)).view.LoadsAt r.toLoadRect}
    {α : Type} {k : (r.shape.Idx → Elt F (VB i₀ h₀).ty.elt) → Prog (TpuEff nD τ sig (Elt F) Λ₀ .tc) α} {Q : α → sProp 𝕄}
    {κ : Idx ((Memref.whole (VB i₀ h₀)).view.loc (c : Thread nD τ)) → ℕ} {n e : ℕ}
    (hκ : ∀ i, i ∈ r.set ↔ κ i = n) (hn : n < e) :
    iprop(∃ f, own (F := F) c (VB i₀ h₀) (Btw κ n e) fullShare f)
      ⊢ iprop((∀ v, (∃ f, own (F := F) c (VB i₀ h₀) (Btw κ n e) fullShare f) -∗ kr c (k v) Q)
        -∗ kr c (Prog.lift (.load (Memref.whole (VB i₀ h₀)) r.toLoadRect hl) >>= k) Q) := by
  have hS : ∀ i, i ∈ r.set → i ∈ Btw κ n e := fun i h => mem_Btw.2 ⟨((hκ i).1 h).ge, ((hκ i).1 h).trans_lt hn⟩
  iintro ⟨%f, HN⟩ Hk
  iapply (rule_load i₀ h₀ hS) $$ HN
  iintro HN
  iapply Hk
  iexists f; iexact HN

/-- A load of a rectangle whose contents are known. -/
theorem look (i₀ : Fin (sig.nNear .tc (.core .vmem))) (h₀ : sig.names .tc (.core .vmem) i₀ = true) {r : Rect (VB i₀ h₀).ty.shape}
    {hl : (Memref.whole (VB i₀ h₀)).view.LoadsAt r.toLoadRect}
    {α : Type} {k : (r.shape.Idx → Elt F (VB i₀ h₀).ty.elt) → Prog (TpuEff nD τ sig (Elt F) Λ₀ .tc) α} {Q : α → sProp 𝕄} {q : PosShare TreeShare}
    {f : Buf (Elt F) ((Memref.whole (VB i₀ h₀)).view.loc (c : Thread nD τ))} {v : r.shape.Idx → Elt F (VB i₀ h₀).ty.elt} (hv : (fun x => f (r.emb x)) = v) :
    own c (VB i₀ h₀) Finset.univ q f
      ⊢ iprop((own c (VB i₀ h₀) Finset.univ q f -∗ kr c (k v) Q)
        -∗ kr c (Prog.lift (.load (Memref.whole (VB i₀ h₀)) r.toLoadRect hl) >>= k) Q) := by
  subst hv
  exact rule_load i₀ h₀ (fun i _ => Finset.mem_univ i)

/-! ## The routing buffers' rows -/

def κp (i : S6x2x256.Idx) : ℕ := 2 * (i 0 : ℕ) + i 1
def κk (i : S2x6x256.Idx) : ℕ := 2 * (i 1 : ℕ) + i 0
def κq (i : S6x160x256.Idx) : ℕ := i 0

theorem p_box {b j : ℕ} (hj : j < 2) {off : Fin 3 → ℕ} {inb : ∀ a, off a + S1x1x256.size a ≤ S6x2x256.size a} (ho : off = ![b, j, 0]) (i : S6x2x256.Idx) :
    i ∈ (Rect.unit (s := S6x2x256) off S1x1x256.size inb).set ↔ κp i = 2 * b + j := by
  refine (mem3 ho).trans ?_
  have h1 : (i 1 : ℕ) < 2 := (i 1).isLt
  have h2 : (i 2 : ℕ) < 256 := (i 2).isLt
  show (b ≤ (i 0 : ℕ) ∧ (i 0 : ℕ) < b + 1) ∧ (j ≤ (i 1 : ℕ) ∧ (i 1 : ℕ) < j + 1) ∧ (0 ≤ (i 2 : ℕ) ∧ (i 2 : ℕ) < 0 + 256) ↔ 2 * (i 0 : ℕ) + (i 1 : ℕ) = 2 * b + j
  omega

theorem k_box {b j : ℕ} (hj : j < 2) {off : Fin 3 → ℕ} {inb : ∀ a, off a + S1x1x256.size a ≤ S2x6x256.size a} (ho : off = ![j, b, 0]) (i : S2x6x256.Idx) :
    i ∈ (Rect.unit (s := S2x6x256) off S1x1x256.size inb).set ↔ κk i = 2 * b + j := by
  refine (mem3 ho).trans ?_
  have h0 : (i 0 : ℕ) < 2 := (i 0).isLt
  have h2 : (i 2 : ℕ) < 256 := (i 2).isLt
  show (j ≤ (i 0 : ℕ) ∧ (i 0 : ℕ) < j + 1) ∧ (b ≤ (i 1 : ℕ) ∧ (i 1 : ℕ) < b + 1) ∧ (0 ≤ (i 2 : ℕ) ∧ (i 2 : ℕ) < 0 + 256) ↔ 2 * (i 1 : ℕ) + (i 0 : ℕ) = 2 * b + j
  omega

theorem q_box {b : ℕ} {off : Fin 3 → ℕ} {inb : ∀ a, off a + S1x160x256.size a ≤ S6x160x256.size a} (ho : off = ![b, 0, 0]) (i : S6x160x256.Idx) :
    i ∈ (Rect.unit (s := S6x160x256) off S1x160x256.size inb).set ↔ κq i = b := by
  refine (mem3 ho).trans ?_
  have h1 : (i 1 : ℕ) < 160 := (i 1).isLt
  have h2 : (i 2 : ℕ) < 256 := (i 2).isLt
  show (b ≤ (i 0 : ℕ) ∧ (i 0 : ℕ) < b + 1) ∧ (0 ≤ (i 1 : ℕ) ∧ (i 1 : ℕ) < 0 + 160) ∧ (0 ≤ (i 2 : ℕ) ∧ (i 2 : ℕ) < 0 + 256) ↔ (i 0 : ℕ) = b
  omega

/-- A row stored: what the buffer given by its coordinates holds there. -/
theorem row_store {b j : ℕ} {α : Type} {d : Fin 3 → ℕ} (g : ℕ → ℕ → ℕ → α) (f : S1x1x256.Idx → α)
    (hg : ∀ t, g b j t = atN (s := S1x1x256) (by decide) f ![0, 0, t]) {off : Fin 3 → ℕ} {inb : ∀ a, off a + S1x1x256.size a ≤ d a} (ho : off = ![b, j, 0]) (y : S1x1x256.Idx) :
    f y = (fun i : (⟨3, d⟩ : Shape).Idx => g (i 0) (i 1) (i 2)) ((Rect.unit (s := ⟨3, d⟩) off S1x1x256.size inb).emb y) := by
  have h0 : (y 0 : ℕ) < 1 := (y 0).isLt
  have h1 : (y 1 : ℕ) < 1 := (y 1).isLt
  refine Eq.trans ?_ (congrFun (rd3 ho g) y).symm
  show _ = g (b + (y 0 : ℕ)) (j + (y 1 : ℕ)) (0 + (y 2 : ℕ))
  rw [show b + (y 0 : ℕ) = b by omega, show j + (y 1 : ℕ) = j by omega, hg]
  exact (atN_eq (by decide) _ fun a => by
    match a with
    | 0 => show 0 = (y 0 : ℕ); omega
    | 1 => show 0 = (y 1 : ℕ); omega
    | 2 => show 0 + (y 2 : ℕ) = y 2; omega).symm

theorem pick_store {b : ℕ} {off : Fin 3 → ℕ} {inb : ∀ a, off a + S1x160x256.size a ≤ S6x160x256.size a} (ho : off = ![b, 0, 0]) (y : S1x160x256.Idx) :
    k0_pay65 (k0_pay20 (k0_pay1 (F := F) (ixR I b 0)) (k0_pay2 (F := F) (ixR I b 1)) (pos0 I b) (pos1 I b) (kp0 I b) (kp1 I b)) y
      = PICK I ((Rect.unit (s := S6x160x256) off S1x160x256.size inb).emb y) := by
  have h0 : (y 0 : ℕ) < 1 := (y 0).isLt
  refine Eq.trans ?_ (congrFun (rd3 ho fun a r l => pickN I a r l) y).symm
  show _ = pickN I (b + (y 0 : ℕ)) (0 + (y 1 : ℕ)) (0 + (y 2 : ℕ))
  unfold pickN
  rw [show b + (y 0 : ℕ) = b by omega]
  exact (atN_eq (by decide) _ fun a => by
    match a with
    | 0 => show 0 = (y 0 : ℕ); omega
    | 1 => show 0 + (y 1 : ℕ) = y 1; omega
    | 2 => show 0 + (y 2 : ℕ) = y 2; omega).symm

theorem ix_load {b j : ℕ} {off : Fin 3 → ℕ} {inb : ∀ a, off a + S1x1x256.size a ≤ S6x2x256.size a} (ho : off = ![b, j, 0]) :
    (fun y => IXV I ((Rect.unit (s := S6x2x256) off S1x1x256.size inb).emb y)) = ixR I b j := row3_load (fun b j t => ixN I b j t) ho
theorem ga_load {b j : ℕ} {off : Fin 3 → ℕ} {inb : ∀ a, off a + S1x1x256.size a ≤ S6x2x256.size a} (ho : off = ![b, j, 0]) :
    (fun y => GAV I ((Rect.unit (s := S6x2x256) off S1x1x256.size inb).emb y)) = gaR I b j := row3_load (fun b j t => gaN I b j t) ho
theorem pos_load {b j : ℕ} {off : Fin 3 → ℕ} {inb : ∀ a, off a + S1x1x256.size a ≤ S6x2x256.size a} (ho : off = ![b, j, 0]) :
    (fun y => POS I ((Rect.unit (s := S6x2x256) off S1x1x256.size inb).emb y)) = posR I b j := row3_load (fun b j t => posN I b j t) ho

/-! ## The routing of a sequence -/

abbrev haveP (n : ℕ) : sProp 𝕄 := iprop(own c bPos (Btw κp 0 n) fullShare (POS I) ∗ (∃ f, own c bPos (Btw κp n 12) fullShare f))
abbrev haveK (n : ℕ) : sProp 𝕄 := iprop(own c bKeep (Btw κk 0 n) fullShare (KEEP I) ∗ (∃ f, own c bKeep (Btw κk n 12) fullShare f))
abbrev haveG (n : ℕ) : sProp 𝕄 := iprop(own c bComb (Btw κp 0 n) fullShare (COMB I) ∗ (∃ f, own c bComb (Btw κp n 12) fullShare f))
abbrev haveQ (n : ℕ) : sProp 𝕄 := iprop(own c bPick (Btw κq 0 n) fullShare (PICK I) ∗ (∃ f, own c bPick (Btw κq n 6) fullShare f))
abbrev stIn : sProp 𝕄 := iprop(own c bIx Finset.univ fullShare (IXV I) ∗ own c bGa Finset.univ fullShare (GAV I))

theorem part1_run (t2 : Fin k0_t2_loop.trips) {Q : _ → sProp 𝕄} :
    iprop(stIn I c ∗ haveP I c (2 * t2.val))
      ⊢ iprop((∀ a v, stIn I c ∗ haveP I c (2 * t2.val)
          -∗ Q ⟨a, k0_pay1 (F := F) (ixR I t2.val 0), k0_pay2 (F := F) (ixR I t2.val 1), pos0 I t2.val, pos1 I t2.val, kp0 I t2.val, kp1 I t2.val, v⟩)
        -∗ kr c (app (k0_part1 (F := F)) (k0_pay64 (F := F)) 0#32 1#32 t2) Q) := by
  have h2 : t2.val < 6 := t2.isLt
  unfold pos0 pos1 kp0 kp1
  iintro ⟨⟨HI, HG⟩, HP, HPN⟩ Hk
  unfold app
  rw [k0_part1_eq_skeleton]
  unfold k0_part1_skel
  iapply (look c 1 rfl (ix_load I (k0_off4_eq t2))) $$ HI
  iintro HI
  iapply (look c 1 rfl (ix_load I (k0_off5_eq t2))) $$ HI
  iintro HI
  iapply (peek c 10 rfl (p_box (j := 0) (by omega) (k0_off4_eq t2)) (by omega)) $$ HPN
  iintro %v HPN
  iapply rule_ret
  iapply Hk
  isplitl [HI HG]
  · isplitl [HI]; · iexact HI
    iexact HG
  isplitl [HP]; · iexact HP
  iexact HPN

theorem part2_run (t2 : Fin k0_t2_loop.trips) (a : BitVec 32) (v : Vec F S1x1x256 .i32) {Q : _ → sProp 𝕄} :
    iprop(stIn I c ∗ haveP I c (2 * t2.val) ∗ haveK I c (2 * t2.val) ∗ haveG I c (2 * t2.val))
      ⊢ iprop((stIn I c ∗ haveP I c (2 * t2.val + 2) ∗ haveK I c (2 * t2.val + 2) ∗ haveG I c (2 * t2.val + 1)
          -∗ Q (k0_pay18 (kp1 I t2.val) (gaR I t2.val 0) (gaR I t2.val 1)))
        -∗ kr c (app (k0_part2 (F := F)) t2 a (pos0 I t2.val) (pos1 I t2.val) (kp0 I t2.val) (kp1 I t2.val) v) Q) := by
  have h2 : t2.val < 6 := t2.isLt
  have hp0 := row_store (fun b j t => posN I b j t) (k0_pay10 (pos0 I t2.val)) (fun t => rfl) (inb := k0_off4_inb t2) (k0_off4_eq t2)
  have hp1 := row_store (fun b j t => posN I b j t) (k0_pay11 (pos1 I t2.val)) (fun t => rfl) (inb := k0_off5_inb t2) (k0_off5_eq t2)
  have hk0 := row_store (fun j b t => keepN I j b t) (k0_pay12 (kp0 I t2.val)) (fun t => rfl) (inb := k0_off6_inb t2) (k0_off6_eq t2)
  have hk1 := row_store (fun j b t => keepN I j b t) (k0_pay13 (kp1 I t2.val)) (fun t => rfl) (inb := k0_off7_inb t2) (k0_off7_eq t2)
  have hg0 := row_store (fun b j t => combN I b j t) (k0_pay17 (kp0 I t2.val) (gaR I t2.val 0) (gaR I t2.val 1)) (fun t => rfl) (inb := k0_off4_inb t2) (k0_off4_eq t2)
  iintro ⟨⟨HI, HG⟩, HP, HK, HC⟩ Hk
  unfold app
  rw [k0_part2_eq_skeleton]
  unfold k0_part2_skel
  iapply (rule_fill 10 rfl (κ := κp) (a := 0) (n := 2 * t2.val) (e := 12) (G := POS I) (p_box (j := 0) (by omega) (k0_off4_eq t2)) hp0 (Nat.zero_le _) (by omega)) $$ HP
  iintro HP
  iapply (put c 10 rfl (κ := κp) (n := 2 * t2.val + 1) (e := 12) (G := POS I) (p_box (j := 1) (by omega) (k0_off5_eq t2)) hp1 (by omega)) $$ HP
  iintro HP
  iapply (put c 11 rfl (κ := κk) (n := 2 * t2.val) (e := 12) (G := KEEP I) (k_box (j := 0) (by omega) (k0_off6_eq t2)) hk0 (by omega)) $$ HK
  iintro HK
  iapply (put c 11 rfl (κ := κk) (n := 2 * t2.val + 1) (e := 12) (G := KEEP I) (k_box (j := 1) (by omega) (k0_off7_eq t2)) hk1 (by omega)) $$ HK
  iintro HK
  iapply (look c 2 rfl (ga_load I (k0_off4_eq t2))) $$ HG
  iintro HG
  iapply (look c 2 rfl (ga_load I (k0_off5_eq t2))) $$ HG
  iintro HG
  iapply (put c 9 rfl (κ := κp) (n := 2 * t2.val) (e := 12) (G := COMB I) (p_box (j := 0) (by omega) (k0_off4_eq t2)) hg0 (by omega)) $$ HC
  iintro HC
  iapply rule_ret
  iapply Hk
  isplitl [HI HG]
  · isplitl [HI]; · iexact HI
    iexact HG
  isplitl [HP]; · iexact HP
  isplitl [HK]; · iexact HK
  iexact HC

theorem part3_run (t2 : Fin k0_t2_loop.trips) (a : BitVec 32) {Q : _ → sProp 𝕄} :
    haveG I c (2 * t2.val + 1)
      ⊢ iprop((haveG I c (2 * t2.val + 2)
          -∗ Q (k0_pay20 (k0_pay1 (F := F) (ixR I t2.val 0)) (k0_pay2 (F := F) (ixR I t2.val 1)) (pos0 I t2.val) (pos1 I t2.val) (kp0 I t2.val) (kp1 I t2.val)))
        -∗ kr c (app (k0_part3 (F := F)) t2 a (k0_pay1 (F := F) (ixR I t2.val 0)) (k0_pay2 (F := F) (ixR I t2.val 1)) (pos0 I t2.val) (pos1 I t2.val) (kp0 I t2.val) (kp1 I t2.val)
            (k0_pay18 (kp1 I t2.val) (gaR I t2.val 0) (gaR I t2.val 1))) Q) := by
  have h2 : t2.val < 6 := t2.isLt
  have hg1 := row_store (fun b j t => combN I b j t) (k0_pay19 (k0_pay18 (kp1 I t2.val) (gaR I t2.val 0) (gaR I t2.val 1))) (fun t => rfl) (inb := k0_off5_inb t2) (k0_off5_eq t2)
  iintro HC Hk
  unfold app
  rw [k0_part3_eq_skeleton]
  unfold k0_part3_skel
  iapply (put c 9 rfl (κ := κp) (n := 2 * t2.val + 1) (e := 12) (G := COMB I) (p_box (j := 1) (by omega) (k0_off5_eq t2)) hg1 (by omega)) $$ HC
  iintro HC
  iapply rule_ret
  iapply Hk
  iexact HC

/-- The routing of the first `n` sequences. -/
abbrev stRt (n : ℕ) : sProp 𝕄 := iprop(stIn I c ∗ haveP I c (2 * n) ∗ haveK I c (2 * n) ∗ haveG I c (2 * n) ∗ haveQ I c n)

theorem t2_body_run (t2 : Fin k0_t2_loop.trips) (u : Unit) :
    stRt I c t2.val ⊢ kr c (app (k0_t2_body (F := F)) t2 u) fun _ => stRt I c (t2.val + 1) := by
  have h2 : t2.val < 6 := t2.isLt
  iintro ⟨HI, HP, HK, HC, HQ⟩
  unfold app k0_t2_body
  iapply rule_bind
  iapply (part1_run I c t2) $$ [HI HP]
  · isplitl [HI]; · iexact HI
    iexact HP
  iintro %a %v ⟨HI, HP⟩
  iapply rule_bind
  iapply (part2_run I c t2 a v) $$ [HI HP HK HC]
  · isplitl [HI]; · iexact HI
    isplitl [HP]; · iexact HP
    isplitl [HK]; · iexact HK
    iexact HC
  iintro ⟨HI, HP, HK, HC⟩
  iapply rule_bind
  iapply (part3_run I c t2 a) $$ HC
  iintro HC
  iapply (put c 4 rfl (κ := κq) (n := t2.val) (e := 6) (G := PICK I) (q_box (k0_off8_eq t2)) (pick_store I (k0_off8_eq t2)) (by omega)) $$ HQ
  iintro HQ
  iapply rule_ret
  isplitl [HI]; · iexact HI
  isplitl [HP]; · iexact HP
  isplitl [HK]; · iexact HK
  isplitl [HC]; · iexact HC
  iexact HQ

end Cert.KernelIdeal.Disp

end
-- ==== Proof.KIFirst.lean ====
/-
  The kernel up to the end of its first sequence: inputs in, routing, tokens.
-/
module

public import proofs.«01_k».proof.Proof.KIRoute

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## Whole buffers moved -/

abbrev sem3 (a : DmaSems sig S3) (off : Fin 1 → ℕ) (inb : ∀ i, off i + S1.size i ≤ S3.size i) : DmaSem sig :=
  ((a.slice (Rect.unit (s := S3) off S1.size inb)).squeeze S_ squeezes_S1_S_).sem
abbrev sem5 (a : DmaSems sig S5) (off : Fin 1 → ℕ) (inb : ∀ i, off i + S1.size i ≤ S5.size i) : DmaSem sig :=
  ((a.slice (Rect.unit (s := S5) off S1.size inb)).squeeze S_ squeezes_S1_S_).sem

/-- A whole buffer on its way, on semaphore `n`. -/
abbrev flyW {sp sp' : Space} {s : Shape} {e : EltTy} (src : Memref sig .tc sp s e) (dst : Memref sig .tc sp' s e) (q : PosShare TreeShare)
    (fs : Buf (Elt F) (src.view.loc (c : Thread nD τ))) (G : Buf (Elt F) (dst.view.loc (c : Thread nD τ))) (n : ℕ) : sProp 𝕄 :=
  fly c n dst.view.dmaCredit iprop((dst.view.loc (c : Thread nD τ) ↦[Finset.univ]{fullShare} G) ∗ (src.view.loc (c : Thread nD τ) ↦[Finset.univ]{q} fs))

theorem w_start {sp sp' : Space} {s : Shape} {e : EltTy} (src : Memref sig .tc sp s e) (dst : Memref sig .tc sp' s e) {m : DmaSem sig} (n : ℕ) (hm : m = sm n)
    {q : PosShare TreeShare} (fs : Buf (Elt F) (src.view.loc (c : Thread nD τ))) (G : Buf (Elt F) (dst.view.loc (c : Thread nD τ)))
    (h0 : 0 < s.numel) (hs : src.view.set = Finset.univ) (hd : dst.view.set = Finset.univ) (hG : ∀ x, dst.view.read (Elt F) G x = src.view.read (Elt F) fs x)
    {hsrc : src.view.WordExact} {hdst : dst.view.WordExact} {hsem : DmaTarget.Typed (nD := nD) sp (.dma m) (.here (p := .tc) dst)}
    {α : Type} {kk : PUnit → Prog (TpuEff nD τ sig (Elt F) Λ₀ .tc) α} {Q : α → sProp 𝕄} :
    iprop((src.view.loc (c : Thread nD τ) ↦[Finset.univ]{q} fs) ∗ (∃ f, (dst.view.loc (c : Thread nD τ) ↦[Finset.univ]{fullShare} f)) ∗ sem0 (F := F) c n)
      ⊢ iprop((flyW c src dst q fs G n -∗ kr c (kk ⟨⟩) Q)
        -∗ kr c (Prog.lift (.enqueueDma src (.here dst) (.dma m) hsrc hdst hsem) >>= kk) Q) := by
  subst hm
  iintro ⟨H1, ⟨%f, H2⟩, H3⟩
  iapply (rule_dma (U := Pipeline.UD sig nD τ) (c := c) (src := src) (dst := dst) (fd := f) (G := G) (fs := fs) (q := q) dst.view.dmaCredit rfl h0 hs hd hG) $$ [H1 H2 H3]
  isplitl [H1]; · iexact H1
  isplitl [H2]; · iexact H2
  iexact H3

theorem w_wait {sp sp' : Space} {s : Shape} {e : EltTy} (src : Memref sig .tc sp s e) (dst : Memref sig .tc sp' s e) {m : DmaSem sig} (n : ℕ) (hm : m = sm n)
    {q : PosShare TreeShare} (fs : Buf (Elt F) (src.view.loc (c : Thread nD τ))) (G : Buf (Elt F) (dst.view.loc (c : Thread nD τ)))
    {hsrc : src.view.WordExact} {hdst : dst.view.WordExact}
    {α : Type} {kk : PUnit → Prog (TpuEff nD τ sig (Elt F) Λ₀ .tc) α} {Q : α → sProp 𝕄} :
    iprop(flyW c src dst q fs G n ∗ stO (F := F) c)
      ⊢ iprop((((dst.view.loc (c : Thread nD τ) ↦[Finset.univ]{fullShare} G) ∗ (src.view.loc (c : Thread nD τ) ↦[Finset.univ]{q} fs)) ∗ sem0 (F := F) c n ∗ stO (F := F) c -∗ kr c (kk ⟨⟩) Q)
        -∗ kr c (Prog.lift (.waitDma2 m src dst hsrc hdst) >>= kk) Q) := by
  subst hm
  exact rule_wait (U := Pipeline.UD sig nD τ) (c := c) (src := src) (dst := dst) rfl

/-! ## Nothing held -/

theorem pt_nil {b : Ref sig .tc} (κ : Idx ((Memref.whole b).view.loc (c : Thread nD τ)) → ℕ) (a : ℕ) (q : PosShare TreeShare)
    (f : Buf (Elt F) ((Memref.whole b).view.loc (c : Thread nD τ))) : (BI.emp : sProp 𝕄) ⊢ own c b (Btw κ a a) q f := by
  have h : Btw κ a a = ∅ := Finset.eq_empty_of_forall_notMem fun i hi => by rw [mem_Btw] at hi; omega
  unfold own held
  rw [h, pointsTo_empty]; exact .rfl

/-- A whole buffer, nothing of which is filled yet. -/
theorem pt_fresh {b : Ref sig .tc} (κ : Idx ((Memref.whole b).view.loc (c : Thread nD τ)) → ℕ) {n : ℕ} (hn : ∀ i, κ i < n)
    (G : Buf (Elt F) ((Memref.whole b).view.loc (c : Thread nD τ))) :
    iprop(∃ f, own (F := F) c b Finset.univ fullShare f)
      ⊢ iprop(own c b (Btw κ 0 0) fullShare G ∗ (∃ f, own (F := F) c b (Btw κ 0 n) fullShare f)) := by
  rw [← Btw_all hn]
  iintro H
  isplitr
  · iapply (pt_nil c κ 0 fullShare G); iempintro
  iexact H

/-- A buffer filled. -/
theorem pt_done {b : Ref sig .tc} (κ : Idx ((Memref.whole b).view.loc (c : Thread nD τ)) → ℕ) {n : ℕ} (hn : ∀ i, κ i < n) {q : PosShare TreeShare}
    (G : Buf (Elt F) ((Memref.whole b).view.loc (c : Thread nD τ))) : own c b (Btw κ 0 n) q G ⊢ own c b Finset.univ q G := by
  rw [Btw_all hn]

theorem κp_lt (i : S6x2x256.Idx) : κp i < 12 := by
  have h0 : (i 0 : ℕ) < 6 := (i 0).isLt
  have h1 : (i 1 : ℕ) < 2 := (i 1).isLt
  unfold κp; omega
theorem κk_lt (i : S2x6x256.Idx) : κk i < 12 := by
  have h0 : (i 0 : ℕ) < 2 := (i 0).isLt
  have h1 : (i 1 : ℕ) < 6 := (i 1).isLt
  unfold κk; omega
theorem κq_lt (i : S6x160x256.Idx) : κq i < 6 := (i 0).isLt
theorem κs_lt (i : S6x16x40.Idx) : κs i < 6 := (i 0).isLt
theorem κx_lt (i : S24x8x8x5120.Idx) : κx i < 24 := (i 0).isLt
theorem κr_lt (i : S8x8x128.Idx) : κr i < 8 := (i 0).isLt
theorem κh_lt (i : S192x8x5120.Idx) : κh i < 24 := by
  have h0 : (i 0 : ℕ) < 192 := (i 0).isLt
  unfold κh; omega
theorem κt_lt (i : S6x256x5120.Idx) : κt i < 24 := by
  have h0 : (i 0 : ℕ) < 6 := (i 0).isLt
  have h1 : (i 1 : ℕ) < 256 := (i 1).isLt
  unfold κt; omega
theorem κc_lt (i : S6x256x5120.Idx) : κc i < 1920 := by
  have h0 : (i 0 : ℕ) < 6 := (i 0).isLt
  have h1 : (i 1 : ℕ) < 256 := (i 1).isLt
  have h2 : (i 2 : ℕ) < 5120 := (i 2).isLt
  unfold κc; omega
theorem κb_lt (i : S6x16x40x5120.Idx) : κb i < 120 := by
  have h0 : (i 0 : ℕ) < 6 := (i 0).isLt
  have h1 : (i 3 : ℕ) < 5120 := (i 3).isLt
  unfold κb; omega
theorem κo_lt (i : S6x16x40x5120.Idx) : κo i < 24 := by
  have h0 : (i 0 : ℕ) < 6 := (i 0).isLt
  have h1 : (i 3 : ℕ) < 5120 := (i 3).isLt
  unfold κo; omega

/-! ## Tokens started on their way in -/

abbrev stI (n : ℕ) : sProp 𝕄 :=
  iprop(bigSep (Finset.Ico 0 n) (flyX I c) ∗ (∃ f, own (F := F) c bX (Btw κx n 24) fullShare f) ∗ own c main_v0 (Btw κh n 24) fullShare I.x
    ∗ bigSep (Finset.Ico n 24) (fun j => sem0 (F := F) c (0 + j)))

theorem t1_body_run (t1 : Fin k0_t1_loop.trips) (u : Unit) :
    stI I c t1.val ⊢ kr c (app (k0_t1_body (F := F)) t1 u) fun _ => stI I c (t1.val + 1) := by
  have h1 : t1.val < 24 := t1.isLt
  iintro ⟨HF, ⟨%f, HX⟩, HH, HS⟩
  unfold app k0_t1_body
  ihave ⟨H1, HX⟩ := (pt_cut (κ := κx) (Nat.le_succ t1.val) (show t1.val + 1 ≤ 24 by omega)) $$ HX
  ihave ⟨H2, HH⟩ := (pt_cut (κ := κh) (Nat.le_succ t1.val) (show t1.val + 1 ≤ 24 by omega)) $$ HH
  ihave ⟨H3, HS⟩ := (ico_pop h1 (fun j => sem0 (F := F) c (0 + j))) $$ HS
  iapply (x_start I c (k0_off1_eq t1) (k0_off2_eq t1) (k0_off3_eq t1)) $$ [H1 H2 H3]
  · isplitl [H2]; · iexact H2
    isplitl [H1]; · iexists f; iexact H1
    iexact H3
  iintro H
  iapply rule_ret
  isplitl [HF H]
  · iapply (ico_push (Nat.zero_le t1.val) (flyX I c))
    isplitl [H]; · iexact H
    iexact HF
  isplitl [HX]; · iexists f; iexact HX
  isplitl [HH]; · iexact HH
  iexact HS

/-! ## The first sequence -/

/-- What the kernel holds while it routes and while it computes the first sequence. -/
abbrev pre11 : sProp 𝕄 :=
  iprop((own c main_v1 Finset.univ fullShare I.ix ∗ own c main_v2 Finset.univ fullShare I.ga ∗ own c main_v3 Finset.univ fullShare I.w)
    ∗ (sem0 (F := F) c 24 ∗ sem0 (F := F) c 25 ∗ sem0 (F := F) c 26)
    ∗ ((∃ f, own (F := F) c bIx Finset.univ fullShare f) ∗ (∃ f, own (F := F) c bGa Finset.univ fullShare f) ∗ (∃ f, own (F := F) c bW Finset.univ fullShare f))
    ∗ stI I c 0 ∗ haveP I c 0 ∗ haveK I c 0 ∗ haveG I c 0 ∗ haveQ I c 0
    ∗ stC I c 0 ∗ stF I c 0 ∗ stR (F := F) c ∗ (∃ f, own (F := F) c bTs Finset.univ fullShare f) ∗ stO (F := F) c)
abbrev post11 : sProp 𝕄 :=
  iprop((own c main_v1 Finset.univ fullShare I.ix ∗ own c main_v2 Finset.univ fullShare I.ga ∗ own c main_v3 Finset.univ fullShare I.w)
    ∗ (sem0 (F := F) c 24 ∗ sem0 (F := F) c 25 ∗ sem0 (F := F) c 26) ∗ stRt I c 6 ∗ stB I c 4)

theorem ts_zero {f : S6x256.Idx → Elt F .f32} (h : ∀ x, f ((Rect.unit (s := S6x256) ![0, 0] S6x256.size inb_S6x256_S6x256_0_0).emb x) = k0_pay66 (F := F) x) : f = TSat I 0 :=
  (ts_load f).symm.trans ((funext h).trans (funext fun i => (if_neg (Nat.not_lt_zero _)).symm))

theorem part11_run {Q : _ → sProp 𝕄} :
    pre11 I c ⊢ iprop((post11 I c -∗ Q ⟨iota .tc S16x256 32 [0] iota_S16x256_d0_w32, iota .tc S40x256 32 [0] iota_S40x256_d0_w32⟩)
      -∗ kr c (app (k0_part11 (F := F))) Q) := by
  iintro ⟨⟨H1, H2, H3⟩, ⟨S1, S2, S3⟩, ⟨B1, B2, B3⟩, HI, HP, HK, HG, HQ, HC, HF, HR, ⟨%ft, HT⟩, HO⟩ Hk
  unfold app
  rw [k0_part11_eq_skeleton]
  unfold k0_part11_skel
  iapply (w_start c (Memref.whole main_v1) (Memref.whole cc0_scratch1) (m := sem3 cc0_scratch14 ![0] inb_S3_S1_0) 24 (by decide +kernel) I.ix (IXV I) (by decide)
    (View.set_whole _) (View.set_whole _) (fun x => congrFun (IXV_eq I) x)) $$ [H1 B1 S1]
  · isplitl [H1]; · iexact H1
    isplitl [B1]; · iexact B1
    iexact S1
  iintro H1
  iapply (w_start c (Memref.whole main_v2) (Memref.whole cc0_scratch2) (m := sem3 cc0_scratch14 ![1] inb_S3_S1_1) 25 (by decide +kernel) I.ga (GAV I) (by decide)
    (View.set_whole _) (View.set_whole _) (fun x => congrFun (GAV_eq I) x)) $$ [H2 B2 S2]
  · isplitl [H2]; · iexact H2
    isplitl [B2]; · iexact B2
    iexact S2
  iintro H2
  iapply (w_start c (Memref.whole main_v3) (Memref.whole cc0_scratch3) (m := sem3 cc0_scratch14 ![2] inb_S3_S1_2) 26 (by decide +kernel) I.w (WV I) (by decide)
    (View.set_whole _) (View.set_whole _) (fun x => congrFun (WV_eq I) x)) $$ [H3 B3 S3]
  · isplitl [H3]; · iexact H3
    isplitl [B3]; · iexact B3
    iexact S3
  iintro H3
  iapply (rule_for k0_t1_loop (fun n _ => stI I c n) (fun n u => t1_body_run I c n u)) $$ [HI]
  · iexact HI
  iintro %u ⟨HX, -, -, -⟩
  iapply (w_wait c (Memref.whole main_v1) (Memref.whole cc0_scratch1) (m := sem3 cc0_scratch14 ![0] inb_S3_S1_0) 24 (by decide +kernel) I.ix (IXV I)) $$ [H1 HO]
  · isplitl [H1]; · iexact H1
    iexact HO
  iintro ⟨⟨B1, H1⟩, S1, HO⟩
  iapply (w_wait c (Memref.whole main_v2) (Memref.whole cc0_scratch2) (m := sem3 cc0_scratch14 ![1] inb_S3_S1_1) 25 (by decide +kernel) I.ga (GAV I)) $$ [H2 HO]
  · isplitl [H2]; · iexact H2
    iexact HO
  iintro ⟨⟨B2, H2⟩, S2, HO⟩
  iapply (w_wait c (Memref.whole main_v3) (Memref.whole cc0_scratch3) (m := sem3 cc0_scratch14 ![2] inb_S3_S1_2) 26 (by decide +kernel) I.w (WV I)) $$ [H3 HO]
  · isplitl [H3]; · iexact H3
    iexact HO
  iintro ⟨⟨B3, H3⟩, S3, HO⟩
  iapply (rule_for k0_t2_loop (fun n _ => stRt I c n) (fun n u => t2_body_run I c n u)) $$ [B1 B2 HP HK HG HQ]
  · isplitl [B1 B2]
    · isplitl [B1]; · iexact B1
      iexact B2
    isplitl [HP]; · iexact HP
    isplitl [HK]; · iexact HK
    isplitl [HG]; · iexact HG
    iexact HQ
  iintro %u' HRt
  iapply (rule_load 12 rfl (fun i _ => Finset.mem_univ i)) $$ HT
  iintro HT
  iapply (rule_store 12 rfl (fun i _ => Finset.mem_univ i)) $$ HT
  iintro %f' %hf' HT
  have hf := ts_zero I hf'.1
  subst hf
  iapply (t3_run I c) $$ [HX HC HF HR HT B3 HO]
  · isplitl [HX]
    · isplitr
      · iapply (pt_nil c (b := bX) κx 0 fullShare (XV I)); iempintro
      isplitr
      · iapply (pt_nil c (b := main_v0) κh 0 fullShare I.x); iempintro
      isplitr
      · iapply (ico_nil 0 (fun j => sem0 (F := F) c (0 + j))); iempintro
      iexact HX
    isplitl [HC]; · iexact HC
    isplitl [HF]; · iexact HF
    isplitl [HR]; · iexact HR
    isplitl [HT]; · iexact HT
    isplitl [B3]; · iexact B3
    iexact HO
  iintro HB
  iapply rule_ret
  iapply Hk
  isplitl [H1 H2 H3]
  · isplitl [H1]; · iexact H1
    isplitl [H2]; · iexact H2
    iexact H3
  isplitl [S1 S2 S3]
  · isplitl [S1]; · iexact S1
    isplitl [S2]; · iexact S2
    iexact S3
  isplitl [HRt]; · iexact HRt
  iexact HB

end Cert.KernelIdeal.Disp

end
-- ==== Proof.KIDrain.lean ====
/-
  The last sequence dispatched, and the waits for everything sent out.
-/
module

public import proofs.«01_k».proof.Proof.KISeq2

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-! ## The last sequence's buffers -/

theorem t16_body_run (v66 : FVec F S16x512 .bf16) (v68 : FVec F S40x512 .bf16) (z : FVec F S16x40 .f32) (t15 : Fin k0_t15_loop.trips) {j : ℕ} (hj : j = 20 + t15.val)
    (t16 : Fin k0_t16_loop.trips) (u : Unit) :
    iprop(own c bCode (Btw κc 0 (80 * 24)) fullShare.left (CODES I) ∗ haveB I c j t16.val)
      ⊢ kr c (app (k0_t16_body (F := F)) v66 v68 z t15 (pickR I 5) t16 u) fun _ =>
        iprop(own c bCode (Btw κc 0 (80 * 24)) fullShare.left (CODES I) ∗ haveB I c j (t16.val + 1)) := by
  have h9 : t15.val < 4 := t15.isLt
  have h14 : t16.val < 5 := t16.isLt
  have hc : k0_off41 t15 t16 = ![5, 0, 256 * (5 * t15.val + t16.val)] :=
    (k0_off41_eq t15 t16).trans (by rw [show 1280 * t15.val + 256 * t16.val = 256 * (5 * t15.val + t16.val) by omega])
  have hb : ∀ x, x ∈ (Rect.unit (s := S6x16x40x5120) (k0_off42 t15 t16) S1x16x40x256.size (k0_off42_inb t15 t16)).set ↔ κb x = 5 * j + t16.val :=
    fun x => (buf_box h9 h14 (k0_off42_eq t15 t16) x).trans (by rw [hj])
  have hcS : ∀ x, x ∈ (Rect.unit (s := S6x256x5120) (k0_off41 t15 t16) S1x256x256.size (k0_off41_inb t15 t16)).set → x ∈ Btw κc 0 (80 * 24) :=
    fun x h => code_in (b := 5) (by omega) hc x h
  have hv : ∀ y, k0_pay72 (pickR I 5) (fun y => CODES I ((Rect.unit (s := S6x256x5120) (k0_off41 t15 t16) S1x256x256.size (k0_off41_inb t15 t16)).emb y)) y
      = BUF I ((Rect.unit (s := S6x16x40x5120) (k0_off42 t15 t16) S1x16x40x256.size (k0_off42_inb t15 t16)).emb y) :=
    fun y => (congrFun (congrArg (k0_pay59 (k0_pay57 (F := F) (pickR I 5))) (codeR_load I hc)) y).trans (buf_store I (k0_off42_eq t15 t16) y)
  have hbS : ∀ x, x ∈ (Rect.unit (s := S6x16x40x5120) (k0_off42 t15 t16) S1x16x40x256.size (k0_off42_inb t15 t16)).set → x ∈ Btw κb (5 * j + t16.val) 120 :=
    fun x h => mem_Btw.2 (by rw [(hb x).1 h]; omega)
  iintro ⟨HC, HB, %f, HN⟩
  unfold app k0_t16_body
  iapply (rule_load 6 rfl hcS) $$ HC
  iintro HC
  iapply (rule_load 7 rfl hbS) $$ HN
  iintro HN
  iapply (rule_fill 7 rfl (κ := κb) (a := 5 * j) (n := 5 * j + t16.val) (e := 120) (G := BUF I) hb hv (by omega) (by omega)) $$ [HB HN]
  · isplitl [HB]; · iexact HB
    iexists f; iexact HN
  iintro HB
  iapply rule_ret
  isplitl [HC]; · iexact HC
  iexact HB

/-- The last sequence's chunks, `n` of them on their way out. -/
abbrev stL (n : ℕ) : sProp 𝕄 :=
  iprop(own c bPick Finset.univ fullShare (PICK I) ∗ own c bCode (Btw κc 0 (80 * 24)) fullShare.left (CODES I) ∗ stD I c (20 + n))

theorem t15_body_run (v66 : FVec F S16x512 .bf16) (v68 : FVec F S40x512 .bf16) (z : FVec F S16x40 .f32) (t15 : Fin k0_t15_loop.trips) (u : Unit) :
    stL I c t15.val ⊢ kr c (app (k0_t15_body (F := F)) v66 v68 z t15 u) fun _ => stL I c (t15.val + 1) := by
  have h9 : t15.val < 4 := t15.isLt
  iintro ⟨HP, HC, HB, HD⟩
  unfold app k0_t15_body
  iapply (rule_load 4 rfl (fun i _ => Finset.mem_univ i)) $$ HP
  iintro HP
  rw [pick_load I (b := 5) rfl]
  ihave HB := (haveB_zero I c (j := 20 + t15.val) (by omega)) $$ HB
  iapply (rule_for k0_t16_loop (fun n _ => iprop(own c bCode (Btw κc 0 (80 * 24)) fullShare.left (CODES I) ∗ haveB I c (20 + t15.val) n))
    (fun n u => t16_body_run I c v66 v68 z t15 rfl n u)) $$ [HC HB]
  · isplitl [HC]; · iexact HC
    iexact HB
  iintro %u ⟨HC, HB⟩
  iapply (b_step I c (b := 5) (k := t15.val) (by omega) h9 ((k0_off43_eq t15).trans (by rw [Nat.add_comm])) (k0_off44_eq t15)) $$ [HB HD]
  · isplitl [HB]; · iexact HB
    iexact HD
  iintro HD
  iapply rule_ret
  isplitl [HP]; · iexact HP
  isplitl [HC]; · iexact HC
  iexact HD

/-! ## Every transfer awaited -/

/-- Codes and buffers arrived: the first `j` blocks' and chunks'. -/
abbrev stW (j : ℕ) : sProp 𝕄 :=
  iprop(own c main_v4_5 (Btw κt 0 j) fullShare (CODES I) ∗ own c bCode (Btw κc 0 (80 * j)) fullShare.right (CODES I)
    ∗ bigSep (Finset.Ico 0 j) (fun j => sem0 (F := F) c (27 + j)) ∗ bigSep (Finset.Ico j 24) (flyT I c)
    ∗ own c main_v4_0 (Btw κo 0 j) fullShare (BUF I) ∗ own c bBuf (Btw κb 0 (5 * j)) fullShare (BUF I)
    ∗ bigSep (Finset.Ico 0 j) (fun j => sem0 (F := F) c (51 + j)) ∗ bigSep (Finset.Ico j 24) (flyB c (BUF I)) ∗ stO (F := F) c)

theorem t18_body_run (t17 : Fin k0_t17_loop.trips) (t18 : Fin k0_t18_loop.trips) (u : Unit) :
    stW I c (4 * t17.val + t18.val) ⊢ kr c (app (k0_t18_body (F := F)) t17 t18 u) fun _ => stW I c (4 * t17.val + (t18.val + 1)) := by
  have h17 : t17.val < 6 := t17.isLt
  have h18 : t18.val < 4 := t18.isLt
  iintro ⟨HT, HC, HS, HF, HB, HG, HS', HF', HO⟩
  unfold app k0_t18_body
  ihave ⟨H1, HF⟩ := (ico_pop (show 4 * t17.val + t18.val < 24 by omega) (flyT I c)) $$ HF
  iapply (t_wait I c (k0_off45_eq t17 t18)) $$ [H1 HO]
  · isplitl [H1]; · iexact H1
    iexact HO
  iintro ⟨⟨H1, H2⟩, H3, HO⟩
  ihave ⟨H4, HF'⟩ := (ico_pop (show 4 * t17.val + t18.val < 24 by omega) (flyB c (BUF I))) $$ HF'
  iapply (b_wait c (BUF I) (k0_off45_eq t17 t18)) $$ [H4 HO]
  · isplitl [H4]; · iexact H4
    iexact HO
  iintro ⟨⟨H4, H5⟩, H6, HO⟩
  iapply rule_ret
  isplitl [HT H1]
  · iapply (pt_glue (Nat.zero_le _) (Nat.le_succ _))
    isplitl [HT]; · iexact HT
    iexact H1
  isplitl [HC H2]
  · iapply (pt_glue (b := 80 * (4 * t17.val + t18.val)) (Nat.zero_le _) (by omega))
    isplitl [HC]; · iexact HC
    iexact H2
  isplitl [HS H3]
  · iapply (ico_push (Nat.zero_le _) (fun j => sem0 (F := F) c (27 + j)))
    isplitl [H3]; · iexact H3
    iexact HS
  isplitl [HF]; · iexact HF
  isplitl [HB H4]
  · iapply (pt_glue (Nat.zero_le _) (Nat.le_succ _))
    isplitl [HB]; · iexact HB
    iexact H4
  isplitl [HG H5]
  · iapply (pt_glue (b := 5 * (4 * t17.val + t18.val)) (Nat.zero_le _) (by omega))
    isplitl [HG]; · iexact HG
    iexact H5
  isplitl [HS' H6]
  · iapply (ico_push (Nat.zero_le _) (fun j => sem0 (F := F) c (51 + j)))
    isplitl [H6]; · iexact H6
    iexact HS'
  isplitl [HF']; · iexact HF'
  iexact HO

theorem t17_body_run (t17 : Fin k0_t17_loop.trips) (u : Unit) :
    stW I c (4 * t17.val) ⊢ kr c (app (k0_t17_body (F := F)) t17 u) fun _ => stW I c (4 * (t17.val + 1)) := by
  iintro H
  unfold app k0_t17_body
  iapply (rule_for k0_t18_loop (fun n _ => stW I c (4 * t17.val + n)) (fun n u => t18_body_run I c t17 n u)) $$ [H]
  · iexact H
  iintro %u H
  iapply rule_ret
  iexact H

end Cert.KernelIdeal.Disp

end
-- ==== Proof.KIMain.lean ====
/-
  The whole kernel: from its inputs to its seven results.
-/
module

public import proofs.«01_k».proof.Proof.KIFirst
public import proofs.«01_k».proof.Proof.KIDrain

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

variable (I : Ins F) (c : Dev nD)

/-- The first sequence's buffer scales, as the kernel computes them. -/
theorem part12_run {Q : _ → sProp 𝕄} :
    iprop(haveTs I c 4 ∗ own c bIx Finset.univ fullShare (IXV I) ∗ own c bPos Finset.univ fullShare (POS I))
      ⊢ iprop((haveTs I c 4 ∗ own c bIx Finset.univ fullShare (IXV I) ∗ own c bPos Finset.univ fullShare (POS I)
          -∗ Q ⟨k0_pay68 (iota .tc S16x256 32 [0] iota_S16x256_d0_w32) (TSat I 2) (ixR I 0 0) (ixR I 0 1),
                k0_pay69 (iota .tc S40x256 32 [0] iota_S40x256_d0_w32) (posR I 0 0) (posR I 0 1), constant S16x40 .f32 0x00000000#32⟩)
        -∗ kr c (app (k0_part12 (F := F)) (iota .tc S16x256 32 [0] iota_S16x256_d0_w32) (iota .tc S40x256 32 [0] iota_S40x256_d0_w32)) Q) := by
  iintro ⟨HT, HI, HP⟩ Hk
  unfold app
  rw [k0_part12_eq_skeleton]
  unfold k0_part12_skel
  iapply (look c 12 rfl (ts_load (TSat I 2))) $$ HT
  iintro HT
  iapply (look c 1 rfl (ix_load I (b := 0) (j := 0) rfl)) $$ HI
  iintro HI
  iapply (look c 10 rfl (pos_load I (b := 0) (j := 0) rfl)) $$ HP
  iintro HP
  iapply (look c 1 rfl (ix_load I (b := 0) (j := 1) rfl)) $$ HI
  iintro HI
  iapply (look c 10 rfl (pos_load I (b := 0) (j := 1) rfl)) $$ HP
  iintro HP
  iapply rule_ret
  iapply Hk
  isplitl [HT]; · iexact HT
  isplitl [HI]; · iexact HI
  iexact HP

/-- The small results outside the core, at contents nothing names. -/
abbrev outs0 : sProp 𝕄 :=
  iprop((∃ f, own (F := F) c main_v4_1 Finset.univ fullShare f) ∗ (∃ f, own (F := F) c main_v4_2 Finset.univ fullShare f)
    ∗ (∃ f, own (F := F) c main_v4_3 Finset.univ fullShare f) ∗ (∃ f, own (F := F) c main_v4_4 Finset.univ fullShare f) ∗ (∃ f, own (F := F) c main_v4_6 Finset.univ fullShare f))
abbrev outs : sProp 𝕄 :=
  iprop(own c main_v4_1 Finset.univ fullShare (BS I) ∗ own c main_v4_2 Finset.univ fullShare (COMB I)
    ∗ own c main_v4_3 Finset.univ fullShare (POS I) ∗ own c main_v4_4 Finset.univ fullShare (KEEP I) ∗ own c main_v4_6 Finset.univ fullShare (TS I))
abbrev sems5 : sProp 𝕄 := iprop(sem0 (F := F) c 75 ∗ sem0 (F := F) c 76 ∗ sem0 (F := F) c 77 ∗ sem0 (F := F) c 78 ∗ sem0 (F := F) c 79)
/-- The small results on the core. -/
abbrev small : sProp 𝕄 := iprop(own c bPos Finset.univ fullShare (POS I) ∗ own c bKeep Finset.univ fullShare (KEEP I) ∗ own c bComb Finset.univ fullShare (COMB I))

abbrev pre13 : sProp 𝕄 :=
  iprop(stB I c 4 ∗ stD I c 0 ∗ own c bPick Finset.univ fullShare (PICK I) ∗ own c bIx Finset.univ fullShare (IXV I) ∗ small I c
    ∗ (∃ f, own (F := F) c bBs Finset.univ fullShare f) ∗ outs0 (F := F) c ∗ sems5 (F := F) c)
abbrev post13 : sProp 𝕄 :=
  iprop(stX I c 24 ∗ stC I c 24 ∗ stF I c 24 ∗ stR (F := F) c ∗ own c bTs Finset.univ fullShare (TS I) ∗ own c bW Finset.univ fullShare (WV I) ∗ stO (F := F) c
    ∗ stD I c 24 ∗ own c bPick Finset.univ fullShare (PICK I) ∗ own c bIx Finset.univ fullShare (IXV I) ∗ small I c
    ∗ own c bBs Finset.univ fullShare (BS I) ∗ outs I c ∗ sems5 (F := F) c)

theorem bs_zero (y : S1x16x40.Idx) :
    k0_pay70 (k0_pay68 (iota .tc S16x256 32 [0] iota_S16x256_d0_w32) (TSat I 2) (ixR I 0 0) (ixR I 0 1))
      (k0_pay69 (iota .tc S40x256 32 [0] iota_S40x256_d0_w32) (posR I 0 0) (posR I 0 1)) (constant S16x40 .f32 0x00000000#32) y
    = BS I ((Rect.unit (s := S6x16x40) ![0, 0, 0] S1x16x40.size inb_S6x16x40_S1x16x40_0_0_0).emb y) :=
  (congrFun (if_pos rfl).symm y).trans (bs_store I (b := 0) rfl y)

set_option maxHeartbeats 2000000 in
theorem part13_run {Q : _ → sProp 𝕄} :
    pre13 I c ⊢ iprop((post13 I c -∗ Q ⟨⟩)
      -∗ kr c (app (k0_part13 (F := F)) (k0_pay68 (iota .tc S16x256 32 [0] iota_S16x256_d0_w32) (TSat I 2) (ixR I 0 0) (ixR I 0 1))
          (k0_pay69 (iota .tc S40x256 32 [0] iota_S40x256_d0_w32) (posR I 0 0) (posR I 0 1)) (constant S16x40 .f32 0x00000000#32)) Q) := by
  iintro ⟨HB, HD, HP, HI, ⟨HPos, HKeep, HComb⟩, HS, ⟨O1, O2, O3, O4, O6⟩, ⟨S0, S1, S2, S3, S4⟩⟩ Hk
  unfold app
  rw [k0_part13_eq_skeleton]
  unfold k0_part13_skel
  ihave HS := (pt_fresh c (b := bBs) κs κs_lt (BS I)) $$ HS
  iapply (put c 8 rfl (κ := κs) (n := 0) (e := 6) (G := BS I) (bs_box rfl) (bs_zero I) (by omega)) $$ HS
  iintro HS
  ihave ⟨HPl, HPr⟩ := pt_halve $$ HPos
  iapply (w_start c (Memref.whole cc0_scratch10) (Memref.whole main_v4_3) (m := sem5 cc0_scratch17 ![0] inb_S5_S1_0) 75 (by decide +kernel) (POS I) (POS I) (by decide)
    (View.set_whole _) (View.set_whole _) (fun x => rfl)) $$ [HPr O3 S0]
  · isplitl [HPr]; · iexact HPr
    isplitl [O3]; · iexact O3
    iexact S0
  iintro F0
  iapply (w_start c (Memref.whole cc0_scratch11) (Memref.whole main_v4_4) (m := sem5 cc0_scratch17 ![1] inb_S5_S1_1) 76 (by decide +kernel) (KEEP I) (KEEP I) (by decide)
    (View.set_whole _) (View.set_whole _) (fun x => rfl)) $$ [HKeep O4 S1]
  · isplitl [HKeep]; · iexact HKeep
    isplitl [O4]; · iexact O4
    iexact S1
  iintro F1
  iapply (w_start c (Memref.whole cc0_scratch9) (Memref.whole main_v4_2) (m := sem5 cc0_scratch17 ![2] inb_S5_S1_2) 77 (by decide +kernel) (COMB I) (COMB I) (by decide)
    (View.set_whole _) (View.set_whole _) (fun x => rfl)) $$ [HComb O2 S2]
  · isplitl [HComb]; · iexact HComb
    isplitl [O2]; · iexact O2
    iexact S2
  iintro F2
  iapply (rule_for k0_t8_loop (fun n _ => stE I c n) (fun n u => t8_body_run I c _ _ _ n u)) $$ [HB HD HP HI HPl HS]
  · isplitl [HB]; · iexact HB
    isplitl [HD]; · iexact HD
    isplitl [HP]; · iexact HP
    isplitl [HI]; · iexact HI
    isplitl [HPl]; · iexact HPl
    iexact HS
  iintro %u ⟨⟨HX, ⟨HCl, HC⟩, HF, HR, HT, HW, HO⟩, HD, HP, HI, HPl, HS, -⟩
  ihave HS := (show own c bBs (Btw κs 0 (k0_t8_loop.trips + 1)) fullShare (BS I) ⊢ own c bBs Finset.univ fullShare (BS I) from pt_done c (b := bBs) κs κs_lt (BS I)) $$ HS
  iapply (w_start c (Memref.whole cc0_scratch12) (Memref.whole main_v4_6) (m := sem5 cc0_scratch17 ![3] inb_S5_S1_3) 78 (by decide +kernel) (TS I) (TS I) (by decide)
    (View.set_whole _) (View.set_whole _) (fun x => rfl)) $$ [HT O6 S3]
  · isplitl [HT]; · iexact HT
    isplitl [O6]; · iexact O6
    iexact S3
  iintro F3
  iapply (w_start c (Memref.whole cc0_scratch8) (Memref.whole main_v4_1) (m := sem5 cc0_scratch17 ![4] inb_S5_S1_4) 79 (by decide +kernel) (BS I) (BS I) (by decide)
    (View.set_whole _) (View.set_whole _) (fun x => rfl)) $$ [HS O1 S4]
  · isplitl [HS]; · iexact HS
    isplitl [O1]; · iexact O1
    iexact S4
  iintro F4
  iapply (rule_for k0_t15_loop (fun n _ => stL I c n) (fun n u => t15_body_run I c _ _ _ n u)) $$ [HP HCl HD]
  · isplitl [HP]; · iexact HP
    isplitl [HCl]; · iexact HCl
    iexact HD
  iintro %u' ⟨HP, HCl, HD⟩
  iapply (w_wait c (Memref.whole cc0_scratch10) (Memref.whole main_v4_3) (m := sem5 cc0_scratch17 ![0] inb_S5_S1_0) 75 (by decide +kernel) (POS I) (POS I)) $$ [F0 HO]
  · isplitl [F0]; · iexact F0
    iexact HO
  iintro ⟨⟨O3, HPr⟩, S0, HO⟩
  iapply (w_wait c (Memref.whole cc0_scratch11) (Memref.whole main_v4_4) (m := sem5 cc0_scratch17 ![1] inb_S5_S1_1) 76 (by decide +kernel) (KEEP I) (KEEP I)) $$ [F1 HO]
  · isplitl [F1]; · iexact F1
    iexact HO
  iintro ⟨⟨O4, HKeep⟩, S1, HO⟩
  iapply (w_wait c (Memref.whole cc0_scratch9) (Memref.whole main_v4_2) (m := sem5 cc0_scratch17 ![2] inb_S5_S1_2) 77 (by decide +kernel) (COMB I) (COMB I)) $$ [F2 HO]
  · isplitl [F2]; · iexact F2
    iexact HO
  iintro ⟨⟨O2, HComb⟩, S2, HO⟩
  iapply (w_wait c (Memref.whole cc0_scratch12) (Memref.whole main_v4_6) (m := sem5 cc0_scratch17 ![3] inb_S5_S1_3) 78 (by decide +kernel) (TS I) (TS I)) $$ [F3 HO]
  · isplitl [F3]; · iexact F3
    iexact HO
  iintro ⟨⟨O6, HT⟩, S3, HO⟩
  iapply (w_wait c (Memref.whole cc0_scratch8) (Memref.whole main_v4_1) (m := sem5 cc0_scratch17 ![4] inb_S5_S1_4) 79 (by decide +kernel) (BS I) (BS I)) $$ [F4 HO]
  · isplitl [F4]; · iexact F4
    iexact HO
  iintro ⟨⟨O1, HS⟩, S4, HO⟩
  ihave HPos := (pt_unhalve (ℓ := (Memref.whole bPos).view.loc (c : Thread nD τ)) (f := POS I) (S := Finset.univ)) $$ [HPl HPr]
  · isplitl [HPl]; · iexact HPl
    iexact HPr
  iapply rule_ret
  iapply Hk
  isplitl [HX]; · iexact HX
  isplitl [HCl HC]
  · isplitl [HCl]; · iexact HCl
    iexact HC
  isplitl [HF]; · iexact HF
  isplitl [HR]; · iexact HR
  isplitl [HT]; · iexact HT
  isplitl [HW]; · iexact HW
  isplitl [HO]; · iexact HO
  isplitl [HD]; · iexact HD
  isplitl [HP]; · iexact HP
  isplitl [HI]; · iexact HI
  isplitl [HPos HKeep HComb]
  · isplitl [HPos]; · iexact HPos
    isplitl [HKeep]; · iexact HKeep
    iexact HComb
  isplitl [HS]; · iexact HS
  isplitl [O1 O2 O3 O4 O6]
  · isplitl [O1]; · iexact O1
    isplitl [O2]; · iexact O2
    isplitl [O3]; · iexact O3
    isplitl [O4]; · iexact O4
    iexact O6
  isplitl [S0]; · iexact S0
  isplitl [S1]; · iexact S1
  isplitl [S2]; · iexact S2
  isplitl [S3]; · iexact S3
  iexact S4

/-! ## The whole kernel -/

abbrev some' (b : Ref sig .tc) : sProp 𝕄 := iprop(∃ f, own (F := F) c b Finset.univ fullShare f)

/-- The core's buffers, at contents nothing names. -/
abbrev core : sProp 𝕄 :=
  iprop(some' (F := F) c bX ∗ some' (F := F) c bIx ∗ some' (F := F) c bGa ∗ some' (F := F) c bW ∗ some' (F := F) c bPick ∗ some' (F := F) c bR ∗ some' (F := F) c bCode
    ∗ some' (F := F) c bBuf ∗ some' (F := F) c bBs ∗ some' (F := F) c bComb ∗ some' (F := F) c bPos ∗ some' (F := F) c bKeep ∗ some' (F := F) c bTs)
/-- The inputs. -/
abbrev ins : sProp 𝕄 :=
  iprop(own c main_v0 Finset.univ fullShare I.x ∗ own c main_v1 Finset.univ fullShare I.ix ∗ own c main_v2 Finset.univ fullShare I.ga ∗ own c main_v3 Finset.univ fullShare I.w)
/-- The semaphores, all at zero. -/
abbrev sems : sProp 𝕄 :=
  iprop(bigSep (Finset.Ico 0 24) (fun j => sem0 (F := F) c (0 + j)) ∗ (sem0 (F := F) c 24 ∗ sem0 (F := F) c 25 ∗ sem0 (F := F) c 26)
    ∗ bigSep (Finset.Ico 0 24) (fun j => sem0 (F := F) c (27 + j)) ∗ bigSep (Finset.Ico 0 24) (fun j => sem0 (F := F) c (51 + j)) ∗ sems5 (F := F) c)

set_option maxHeartbeats 2000000 in
theorem kernel_run :
    iprop(core (F := F) c ∗ ins I c ∗ sems (F := F) c ∗ some' (F := F) c main_v4_0 ∗ some' (F := F) c main_v4_5 ∗ outs0 (F := F) c ∗ stO (F := F) c)
      ⊢ kr c (app (cc0_dispatch (F := F))) fun _ =>
        iprop(core (F := F) c ∗ ins I c ∗ sems (F := F) c ∗ own c main_v4_0 Finset.univ fullShare (BUF I) ∗ own c main_v4_5 Finset.univ fullShare (CODES I) ∗ outs I c ∗ stO (F := F) c) := by
  iintro ⟨⟨BX, BIx, BGa, BW, BPick, BR, BCode, BBuf, BBs, BComb, BPos, BKeep, BTs⟩, ⟨H0, H1, H2, H3⟩, ⟨S0, S24, S27, S51, S75⟩, D0, D5, DO, HO⟩
  unfold app
  rw [cc0_dispatch_eq_skeleton]
  unfold cc0_dispatch_skel
  iapply rule_bind
  ihave ⟨-, BX⟩ := (pt_fresh c (b := bX) κx κx_lt (XV I)) $$ BX
  ihave H0 := (pt_set (Btw_all κh_lt).symm) $$ H0
  ihave HP := (pt_fresh c (b := bPos) κp κp_lt (POS I)) $$ BPos
  ihave HK := (pt_fresh c (b := bKeep) κk κk_lt (KEEP I)) $$ BKeep
  ihave HG := (pt_fresh c (b := bComb) κp κp_lt (COMB I)) $$ BComb
  ihave HQ := (pt_fresh c (b := bPick) κq κq_lt (PICK I)) $$ BPick
  ihave ⟨HCf, HC⟩ := (pt_fresh c (b := bCode) κc κc_lt (CODES I)) $$ BCode
  ihave ⟨HCl, HCr⟩ := pt_halve $$ HCf
  ihave ⟨HT0, HT⟩ := (pt_fresh c (b := main_v4_5) κt κt_lt (CODES I)) $$ D5
  ihave ⟨HB0, HB⟩ := (pt_fresh c (b := bBuf) κb κb_lt (BUF I)) $$ BBuf
  ihave ⟨HD0, HD⟩ := (pt_fresh c (b := main_v4_0) κo κo_lt (BUF I)) $$ D0
  ihave ⟨-, HR⟩ := (pt_fresh c (b := bR) κr κr_lt (RV I 0)) $$ BR
  iapply (part11_run I c) $$ [H1 H2 H3 S24 BIx BGa BW BX H0 S0 HP HK HG HQ HCl HC HT S27 HR BTs HO]
  · isplitl [H1 H2 H3]
    · isplitl [H1]; · iexact H1
      isplitl [H2]; · iexact H2
      iexact H3
    isplitl [S24]; · iexact S24
    isplitl [BIx BGa BW]
    · isplitl [BIx]; · iexact BIx
      isplitl [BGa]; · iexact BGa
      iexact BW
    isplitl [BX H0 S0]
    · isplitr
      · iapply (ico_nil 0 (flyX I c)); iempintro
      isplitl [BX]; · iexact BX
      isplitl [H0]; · iexact H0
      iexact S0
    isplitl [HP]; · iexact HP
    isplitl [HK]; · iexact HK
    isplitl [HG]; · iexact HG
    isplitl [HQ]; · iexact HQ
    isplitl [HCl HC]
    · isplitl [HCl]; · iexact HCl
      iexact HC
    isplitl [HT S27]
    · isplitr
      · iapply (ico_nil 0 (flyT I c)); iempintro
      isplitl [S27]; · iexact S27
      iexact HT
    isplitl [HR]; · iexact HR
    isplitl [BTs]; · iexact BTs
    iexact HO
  iintro ⟨H, S24, ⟨⟨HIx, HGa⟩, ⟨HP, -⟩, ⟨HK, -⟩, ⟨HG, -⟩, ⟨HQ, -⟩⟩, HX, HC, HF, HR, HTs, HW, HO⟩
  ihave HP := (pt_done c (b := bPos) κp κp_lt (POS I)) $$ HP
  ihave HK := (pt_done c (b := bKeep) κk κk_lt (KEEP I)) $$ HK
  ihave HG := (pt_done c (b := bComb) κp κp_lt (COMB I)) $$ HG
  ihave HQ := (pt_done c (b := bPick) κq κq_lt (PICK I)) $$ HQ
  iapply rule_bind
  iapply (part12_run I c) $$ [HTs HIx HP]
  · isplitl [HTs]; · iexact HTs
    isplitl [HIx]; · iexact HIx
    iexact HP
  iintro ⟨HTs, HIx, HP⟩
  iapply rule_bind
  iapply (part13_run I c) $$ [HX HC HF HR HTs HW HO HB S51 HD HQ HIx HP HK HG BBs DO S75]
  · isplitl [HX HC HF HR HTs HW HO]
    · isplitl [HX]; · iexact HX
      isplitl [HC]; · iexact HC
      isplitl [HF]; · iexact HF
      isplitl [HR]; · iexact HR
      isplitl [HTs]; · iexact HTs
      isplitl [HW]; · iexact HW
      iexact HO
    isplitl [HB S51 HD]
    · isplitl [HB]; · iexact HB
      isplitr
      · iapply (ico_nil 0 (flyB c (BUF I))); iempintro
      isplitl [S51]; · iexact S51
      iexact HD
    isplitl [HQ]; · iexact HQ
    isplitl [HIx]; · iexact HIx
    isplitl [HP HK HG]
    · isplitl [HP]; · iexact HP
      isplitl [HK]; · iexact HK
      iexact HG
    isplitl [BBs]; · iexact BBs
    isplitl [DO]; · iexact DO
    iexact S75
  iintro ⟨⟨HX, H0, S0, -⟩, ⟨HCl, -⟩, ⟨HF, -, -⟩, HR, HTs, HW, HO, ⟨-, HF', -, -⟩, HQ, HIx, ⟨HP, HK, HG⟩, HBs, DO, S75⟩
  iapply (rule_for k0_t17_loop (fun n _ => stW I c (4 * n)) (fun n u => t17_body_run I c n u)) $$ [HT0 HCr HF HD0 HB0 HF' HO]
  · isplitl [HT0]; · iexact HT0
    isplitl [HCr]; · iexact HCr
    isplitr
    · iapply (ico_nil 0 (fun j => sem0 (F := F) c (27 + j))); iempintro
    isplitl [HF]; · iexact HF
    isplitl [HD0]; · iexact HD0
    isplitl [HB0]; · iexact HB0
    isplitr
    · iapply (ico_nil 0 (fun j => sem0 (F := F) c (51 + j))); iempintro
    isplitl [HF']; · iexact HF'
    iexact HO
  iintro %u ⟨HT, HCr, S27, -, HD, HB, S51, -, HO⟩
  ihave HC := (pt_unhalve (ℓ := (Memref.whole bCode).view.loc (c : Thread nD τ)) (f := CODES I) (S := Btw κc 0 1920)) $$ [HCl HCr]
  · isplitl [HCl]; · iexact HCl
    iexact HCr
  ihave HC := (pt_done c (b := bCode) κc κc_lt (CODES I)) $$ HC
  ihave HT := (show own c main_v4_5 (Btw κt 0 (4 * k0_t17_loop.trips)) fullShare (CODES I) ⊢ own c main_v4_5 Finset.univ fullShare (CODES I) from pt_done c (b := main_v4_5) κt κt_lt (CODES I)) $$ HT
  ihave HD := (show own c main_v4_0 (Btw κo 0 (4 * k0_t17_loop.trips)) fullShare (BUF I) ⊢ own c main_v4_0 Finset.univ fullShare (BUF I) from pt_done c (b := main_v4_0) κo κo_lt (BUF I)) $$ HD
  ihave HB := (show own c bBuf (Btw κb 0 (5 * (4 * k0_t17_loop.trips))) fullShare (BUF I) ⊢ own c bBuf Finset.univ fullShare (BUF I) from pt_done c (b := bBuf) κb κb_lt (BUF I)) $$ HB
  ihave HX := (pt_done c (b := bX) κx κx_lt (XV I)) $$ HX
  ihave H0 := (pt_done c (b := main_v0) κh κh_lt I.x) $$ H0
  icases HR with ⟨%fr, HR⟩
  ihave HR := (pt_done c (b := bR) κr κr_lt fr) $$ HR
  icases H with ⟨H1, H2, H3⟩
  iapply rule_ret
  isplitl [HX HIx HGa HW HQ HR HC HB HBs HG HP HK HTs]
  · isplitl [HX]; · iexists (XV I); iexact HX
    isplitl [HIx]; · iexists (IXV I); iexact HIx
    isplitl [HGa]; · iexists (GAV I); iexact HGa
    isplitl [HW]; · iexists (WV I); iexact HW
    isplitl [HQ]; · iexists (PICK I); iexact HQ
    isplitl [HR]; · iexists fr; iexact HR
    isplitl [HC]; · iexists (CODES I); iexact HC
    isplitl [HB]; · iexists (BUF I); iexact HB
    isplitl [HBs]; · iexists (BS I); iexact HBs
    isplitl [HG]; · iexists (COMB I); iexact HG
    isplitl [HP]; · iexists (POS I); iexact HP
    isplitl [HK]; · iexists (KEEP I); iexact HK
    iexists (TS I); iexact HTs
  isplitl [H0 H1 H2 H3]
  · isplitl [H0]; · iexact H0
    isplitl [H1]; · iexact H1
    isplitl [H2]; · iexact H2
    iexact H3
  isplitl [S0 S24 S27 S51 S75]
  · isplitl [S0]; · iexact S0
    isplitl [S24]; · iexact S24
    isplitl [S27]; · iexact S27
    isplitl [S51]; · iexact S51
    iexact S75
  isplitl [HD]; · iexact HD
  isplitl [HT]; · iexact HT
  isplitl [DO]; · iexact DO
  iexact HO

end Cert.KernelIdeal.Disp

end
-- ==== Proof.KILaunch.lean ====
/-
  The program around the kernel: what the region hands it, and what every buffer holds when the program ends.
-/
module

public import proofs.«01_k».proof.Proof.KIMain
public import proofs.«01_k».proof.Proof.Gen.KernelIdeal.Frame

@[expose] public section

noncomputable section

namespace Cert.KernelIdeal.Disp

open Cert.Disp Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The kernel's inputs and its results, as whole buffers -/

/-- What the region finds in the four arrays the kernel reads. -/
def In (c : Dev nD) : Ins F := ⟨Gen.V m c main_v0, Gen.V m c main_v1, Gen.V m c main_v2, Gen.V m c main_v3⟩

/-- The contents of every buffer after the region: the seven results at the values the kernel computes. -/
def Gout (c : Dev nD) : (b : Ref sig .tc) → Buf (Elt F) ((c.tc : Thread nD τ).loc b) :=
  Function.update (Function.update (Function.update (Function.update (Function.update (Function.update (Function.update (Gen.V m c)
    main_v4_0 (BUF (In m c))) main_v4_1 (BS (In m c))) main_v4_2 (COMB (In m c))) main_v4_3 (POS (In m c))) main_v4_4 (KEEP (In m c)))
    main_v4_5 (CODES (In m c))) main_v4_6 (TS (In m c))

theorem Gout_0 (c : Dev nD) : Gout m c main_v4_0 = BUF (In m c) := by
  unfold Gout
  rw [Function.update_of_ne (by decide), Function.update_of_ne (by decide), Function.update_of_ne (by decide), Function.update_of_ne (by decide),
    Function.update_of_ne (by decide), Function.update_of_ne (by decide), Function.update_self]
theorem Gout_1 (c : Dev nD) : Gout m c main_v4_1 = BS (In m c) := by
  unfold Gout
  rw [Function.update_of_ne (by decide), Function.update_of_ne (by decide), Function.update_of_ne (by decide), Function.update_of_ne (by decide),
    Function.update_of_ne (by decide), Function.update_self]
theorem Gout_2 (c : Dev nD) : Gout m c main_v4_2 = COMB (In m c) := by
  unfold Gout
  rw [Function.update_of_ne (by decide), Function.update_of_ne (by decide), Function.update_of_ne (by decide), Function.update_of_ne (by decide),
    Function.update_self]
theorem Gout_3 (c : Dev nD) : Gout m c main_v4_3 = POS (In m c) := by
  unfold Gout
  rw [Function.update_of_ne (by decide), Function.update_of_ne (by decide), Function.update_of_ne (by decide), Function.update_self]
theorem Gout_4 (c : Dev nD) : Gout m c main_v4_4 = KEEP (In m c) := by
  unfold Gout
  rw [Function.update_of_ne (by decide), Function.update_of_ne (by decide), Function.update_self]
theorem Gout_5 (c : Dev nD) : Gout m c main_v4_5 = CODES (In m c) := by
  unfold Gout
  rw [Function.update_of_ne (by decide), Function.update_self]
theorem Gout_6 (c : Dev nD) : Gout m c main_v4_6 = TS (In m c) := by
  unfold Gout
  rw [Function.update_self]

/-! ## What the region hands the kernel -/

/-- The kernel's eighty semaphores. -/
abbrev osem0 : Fin 80 → SemLoc sig := fun j => .dma (sm j)
theorem ownSemFacts0 : Pipeline.OwnSemFacts cfg0.spec osem0 := by decide +kernel

theorem bigSep_shift (a b n : ℕ) (Φ : ℕ → sProp 𝕄) : bigSep (Finset.Ico a b) (fun j => Φ (n + j)) = bigSep (Finset.Ico (n + a) (n + b)) Φ := by
  rw [show Finset.Ico (n + a) (n + b) = (Finset.Ico a b).map (addLeftEmbedding n) by
    ext x; simp only [Finset.mem_Ico, Finset.mem_map, addLeftEmbedding_apply]; exact ⟨fun h => ⟨x - n, by omega, by omega⟩, fun ⟨y, h, e⟩ => by omega⟩, bigSep_map]; rfl

theorem bigSep_split {a b e : ℕ} (h₁ : a ≤ b) (h₂ : b ≤ e) (Φ : ℕ → sProp 𝕄) :
    bigSep (Finset.Ico a e) Φ = iprop(bigSep (Finset.Ico a b) Φ ∗ bigSep (Finset.Ico b e) Φ) := by
  rw [← Finset.Ico_union_Ico_eq_Ico h₁ h₂]
  exact bigSep_union (Finset.Ico_disjoint_Ico_consecutive a b e)

theorem bigSep_head {a b : ℕ} (h : a < b) (Φ : ℕ → sProp 𝕄) : bigSep (Finset.Ico a b) Φ = iprop(Φ a ∗ bigSep (Finset.Ico (a + 1) b) Φ) := by
  rw [show Finset.Ico a b = insert a (Finset.Ico (a + 1) b) by ext; simp; omega]
  exact bigSep_insert (by simp)

theorem bigSep_last {a : ℕ} (Φ : ℕ → sProp 𝕄) : bigSep (Finset.Ico a (a + 1)) Φ = Φ a := by
  rw [show Finset.Ico a (a + 1) = {a} by ext; simp]
  exact bigSep_singleton

theorem ownSems00_eq (c : Dev nD) :
    (Pipeline.ownSems0 (Ix := Unit) (Name := ℕ) (U := Pipeline.UD sig nD τ) (Lvl := ℕ) (Val := Elt F) (τ := τ) osem0 c : sProp 𝕄)
      = iprop(bigSep (Finset.Ico 0 24) (fun j => sem0 (F := F) c (0 + j)) ∗ (sem0 (F := F) c 24 ∗ sem0 (F := F) c 25 ∗ sem0 (F := F) c 26)
        ∗ bigSep (Finset.Ico 0 24) (fun j => sem0 (F := F) c (27 + j)) ∗ bigSep (Finset.Ico 0 24) (fun j => sem0 (F := F) c (51 + j)) ∗ sems5 (F := F) c) := by
  rw [bigSep_shift 0 24 0 (fun j => sem0 (F := F) c j), bigSep_shift 0 24 27 (fun j => sem0 (F := F) c j), bigSep_shift 0 24 51 (fun j => sem0 (F := F) c j)]
  have e : (Pipeline.ownSems0 (Ix := Unit) (Name := ℕ) (U := Pipeline.UD sig nD τ) (Lvl := ℕ) (Val := Elt F) (τ := τ) osem0 c : sProp 𝕄)
      = bigSep (Finset.Ico 0 80) (fun j => sem0 (F := F) c j) := by
    have hs : (Finset.univ : Finset (Fin 80)).map Fin.valEmbedding = Finset.Ico 0 80 := by decide +kernel
    rw [← hs, bigSep_map]; rfl
  rw [e, bigSep_split (a := 0) (b := 24) (e := 80) (by omega) (by omega), bigSep_split (a := 24) (b := 27) (e := 80) (by omega) (by omega),
    bigSep_split (a := 27) (b := 51) (e := 80) (by omega) (by omega), bigSep_split (a := 51) (b := 75) (e := 80) (by omega) (by omega),
    bigSep_head (a := 24) (b := 27) (by omega), bigSep_head (a := 25) (b := 27) (by omega), bigSep_last (a := 26),
    bigSep_head (a := 75) (b := 80) (by omega), bigSep_head (a := 76) (b := 80) (by omega), bigSep_head (a := 77) (b := 80) (by omega),
    bigSep_head (a := 78) (b := 80) (by omega), bigSep_last (a := 79)]

/-- The arrays the kernel reads, and those it writes. -/
def H0 : Finset (Ref sig .tc) := {main_v0, main_v1, main_v2, main_v3}
def R0 : Finset (Ref sig .tc) := {main_v4_0, main_v4_1, main_v4_2, main_v4_3, main_v4_4, main_v4_5, main_v4_6}
theorem H0_sub : H0 ⊆ Pipeline.restRefs sig cfg0.spec := by decide
theorem R0_sub : R0 ⊆ Pipeline.restRefs sig cfg0.spec \ H0 := by decide

theorem inPts_eq (c : Dev nD) : (bigSep H0 (fun b => ((c.tc : Thread nD τ).loc b) ↦{fullShare} Gen.V m c b) : sProp 𝕄) = ins (In m c) c := by
  rw [BI.bigSep_eq_bigSepL_of_eq [main_v0, main_v1, main_v2, main_v3] (by decide) (by decide)]; rfl

theorem outPts_eq (c : Dev nD) (G : (b : Ref sig .tc) → Buf (Elt F) ((c.tc : Thread nD τ).loc b)) :
    (bigSep R0 (fun b => ((c.tc : Thread nD τ).loc b) ↦{fullShare} G b) : sProp 𝕄)
      = iprop(own c main_v4_0 Finset.univ fullShare (G main_v4_0) ∗ own c main_v4_1 Finset.univ fullShare (G main_v4_1) ∗ own c main_v4_2 Finset.univ fullShare (G main_v4_2)
          ∗ own c main_v4_3 Finset.univ fullShare (G main_v4_3) ∗ own c main_v4_4 Finset.univ fullShare (G main_v4_4) ∗ own c main_v4_5 Finset.univ fullShare (G main_v4_5)
          ∗ own c main_v4_6 Finset.univ fullShare (G main_v4_6)) := by
  rw [BI.bigSep_eq_bigSepL_of_eq [main_v4_0, main_v4_1, main_v4_2, main_v4_3, main_v4_4, main_v4_5, main_v4_6] (by decide) (by decide)]; rfl

theorem rest_eq (c : Dev nD) :
    (Pipeline.scopedRest (Ix := Unit) (Name := ℕ) (U := Pipeline.UD sig nD τ) (Lvl := ℕ) (Val := Elt F) cfg0.spec c : sProp 𝕄) = core (F := F) c :=
  Gen.scopedRest0_eq c

/-- What the region holds with the results at `G`. -/
abbrev Phi (c : Dev nD) (G : (c : Dev nD) → (b : Ref sig .tc) → Buf (Elt F) ((c.tc : Thread nD τ).loc b)) : sProp 𝕄 :=
  Pipeline.ΦDRV osem0 cfg0.spec H0 R0 (fun c b => Gen.V0 m c (Proc.devRef .tc b)) G c

/-! ## The region's body -/

def dats (_ : Fin 1) (c : Dev nD) : Dat τ (Elt F) Unit ℕ (Pipeline.UD sig nD τ) ℕ cfg0 c where
  A w := w.elim0
  after w _ := w.elim0
  Φ t := Phi m c (if t.val = 0 then fun c b => Gen.V0 m c (Proc.devRef .tc b) else Gout m)
  q _ := fullShare
  owed _ := 0

theorem body_run (c : Dev nD) :
    iprop(Phi m c (fun c b => Gen.V0 m c (Proc.devRef .tc b)) ∗ stO (F := F) c)
      ⊢ kr c (app (cc0_dispatch (F := F))) fun _ => iprop(Phi m c (Gout m) ∗ stO (F := F) c) := by
  unfold Phi Pipeline.ΦDRV
  rw [rest_eq, ownSems00_eq, outPts_eq, outPts_eq, inPts_eq, Gout_0, Gout_1, Gout_2, Gout_3, Gout_4, Gout_5, Gout_6]
  refine triple_restated (kernel_run (In m c) c) rfl ?_ fun _ => ?_
  · iintro ⟨⟨HC, HS, HI, O0, O1, O2, O3, O4, O5, O6⟩, HO⟩
    isplitl [HC]; · iexact HC
    isplitl [HI]; · iexact HI
    isplitl [HS]; · iexact HS
    isplitl [O0]; · iexists _; iexact O0
    isplitl [O5]; · iexists _; iexact O5
    isplitl [O1 O2 O3 O4 O6]
    · isplitl [O1]; · iexists _; iexact O1
      isplitl [O2]; · iexists _; iexact O2
      isplitl [O3]; · iexists _; iexact O3
      isplitl [O4]; · iexists _; iexact O4
      iexists _; iexact O6
    iexact HO
  · iintro ⟨HC, HI, HS, O0, O5, ⟨O1, O2, O3, O4, O6⟩, HO⟩
    isplitl [HC HI HS O0 O1 O2 O3 O4 O5 O6]
    · isplitl [HC]; · iexact HC
      isplitl [HS]; · iexact HS
      isplitl [HI]; · iexact HI
      isplitl [O0]; · iexact O0
      isplitl [O1]; · iexact O1
      isplitl [O2]; · iexact O2
      isplitl [O3]; · iexact O3
      isplitl [O4]; · iexact O4
      isplitl [O5]; · iexact O5
      iexact O6
    iexact HO

theorem sound_body (c : Dev nD) (t : Fin cfg0.N) :
    iprop((dats m 0 c).Φ t.castSucc ∗ (dats m 0 c).owesAt () t.castSucc ∗ BI.emp)
      ⊢ wp frame (wpE (defs₀ (F := F)) Variants.none c none) Set.univ (bodyAt0 t) fun _ => iprop((dats m 0 c).Φ t.succ ∗ (dats m 0 c).owesAt () t.succ ∗ BI.emp) := by
  rw [fin_N0 t, show (dats m 0 c).Φ t0_0.castSucc = Phi m c (fun c b => Gen.V0 m c (Proc.devRef .tc b)) from rfl,
    show (dats m 0 c).Φ t0_0.succ = Phi m c (Gout m) from rfl]
  unfold Dat.owesAt Pipeline.owesWithin
  rw [show (dats m 0 c).owed t0_0.castSucc = 0 from rfl, show (dats m 0 c).owed t0_0.succ = 0 from rfl]
  refine triple_restated (body_run m c) rfl ?_ fun _ => ?_
  · iintro ⟨HP, ⟨%W, -, HW⟩, -⟩
    isplitl [HP]; · iexact HP
    iexists W; iexact HW
  · iintro ⟨HP, ⟨%W', HW'⟩⟩
    isplitl [HP]; · iexact HP
    isplitl [HW']
    · iexists W'; isplitr; · ipureintro; exact fun _ _ => Or.inl trivial
      iexact HW'
    iempintro

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have hW : (Finset.univ : Finset (Fin cfg0.W)) = ∅ := rfl
  rw [hW, bigSep_empty, bigSep_empty, defs₀_row]
  exact triple_restated (sound_body m c t) rfl .rfl fun _ => .rfl

/-! ## The run -/

theorem hmain (𝒱₀ : Variants) : Pipeline.HMainK (Ix := Unit) (Name := ℕ) (U := Pipeline.UD sig nD τ) (Lvl := ℕ) cfgs 0 defs₀ 𝒱₀ m (main (F := F))
    (fun c b => Gen.V0 m c (Proc.devRef .tc b)) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact Gen.hostOps0_fresh) main_chain

/-- What every buffer of the program holds when it ends: the host's lines after the region, run on the kernel's results. -/
abbrev Ends (c : Dev nD) : Valuation τ sig (Elt F) :=
  StableHlo.after (List.flatten [hostOps1]) (Pipeline.withArrays cfg0.spec c (Pipeline.withR (Gen.V0 m c) R0 c (Gout m c)) fun w => (dats m 0 c).arrAt w cfg0.N)

set_option backward.isDefEq.respectTransparency.types false in
theorem run_main : θ_run defs (onTc (τ := τ) (main (F := F))) (s₀ m ρ)
    (fun r => (∀ c : Dev nD, ∀ b ∈ Pipeline.restRefs sig cfg0.spec, r.2.mem ((c.tc : Thread nD τ).loc b) = Ends m c (Proc.devRef .tc b)) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := Gen.V0 m) (opss := [hostOps1]) (hsub := Gen.sfx_sub) (hfresh := Gen.sfx_fresh) (hkeep := Gen.sfx_keeps)
    (G := Gout m) (hmain := hmain m Variants.none) (hA := fun c w => w.elim0)
    (hin := fun _ => .rfl) (hout := fun _ => .rfl) (hQ' := fun r h => ⟨fun c => (h.1 c).2, h.2⟩)

/-! ## The frame -/

/-- A buffer no host line writes and the kernel does not write ends as it started. -/
theorem Ends_of (c : Dev nD) (b : Ref sig .tc) (h₁ : ∀ op ∈ (List.flatten [hostOps1] : List (HloOp τ sig (Elt F))), Proc.devRef .tc b ∉ op.writes) (h₂ : b ∉ R0) :
    Ends m c (Proc.devRef .tc b) = Gen.V m c b := by
  unfold Ends
  rw [StableHlo.after_of_forall_not_mem _ _ h₁, Pipeline.withArrays_of_ne _ c _ _ b (fun w => w.elim0), Pipeline.withR_of_not_mem _ _ _ _ _ h₂]

theorem Ends_arg0 (c : Dev nD) : Ends m c (Proc.devRef .tc main_arg0) = m ((c.tc : Thread nD τ).loc main_arg0) :=
  (Ends_of m c main_arg0 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg0 m c)
theorem Ends_arg1 (c : Dev nD) : Ends m c (Proc.devRef .tc main_arg1) = m ((c.tc : Thread nD τ).loc main_arg1) :=
  (Ends_of m c main_arg1 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg1 m c)
theorem Ends_arg2 (c : Dev nD) : Ends m c (Proc.devRef .tc main_arg2) = m ((c.tc : Thread nD τ).loc main_arg2) :=
  (Ends_of m c main_arg2 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg2 m c)
theorem Ends_arg3 (c : Dev nD) : Ends m c (Proc.devRef .tc main_arg3) = m ((c.tc : Thread nD τ).loc main_arg3) :=
  (Ends_of m c main_arg3 (List.forall_iff_forall_mem.mp (by
    simp only [hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gen.V_main_arg3 m c)

/-- Every run ends, the four arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c main_arg0 (Pipeline.mem_restRefs_of main_arg0 (by decide) (by decide))).trans (Ends_arg0 m c),
    (h.1 c main_arg1 (Pipeline.mem_restRefs_of main_arg1 (by decide) (by decide))).trans (Ends_arg1 m c),
    (h.1 c main_arg2 (Pipeline.mem_restRefs_of main_arg2 (by decide) (by decide))).trans (Ends_arg2 m c),
    (h.1 c main_arg3 (Pipeline.mem_restRefs_of main_arg3 (by decide) (by decide))).trans (Ends_arg3 m c)⟩, h.2⟩) (run_main m ρ)

end Cert.KernelIdeal.Disp

end
-- ==== Proof.Num.lean ====
/-
  The numbers of the quantiser over the extended reals: powers of two as bit patterns, how many of them a number reaches, and the
  scale and its inverse that follow.
-/
module

public import Idealize.ShloMosaic.PureOps.Ideal.Laws

@[expose] public section

noncomputable section

namespace Cert.Disp

open Idealize.ShloMosaic

/-- The number whose exponent field is `l` and whose fraction is zero. -/
def pw (l : ℕ) : EReal := Ideal.ofBits .f32 (BitVec.ofNat 32 (l * 8388608))

theorem pw_fields' : ∀ l : Fin 256, ((BitVec.ofNat 32 (l.val * 8388608)).extractLsb' 23 8).toNat = l.val
    ∧ ((BitVec.ofNat 32 (l.val * 8388608)).extractLsb' 0 23).toNat = 0
    ∧ ((BitVec.ofNat 32 (l.val * 8388608)).extractLsb' 31 1 == 1#1) = false := by decide +kernel

theorem pw_fields {l : ℕ} (h : l ≤ 255) : ((BitVec.ofNat 32 (l * 8388608)).extractLsb' 23 8).toNat = l
    ∧ ((BitVec.ofNat 32 (l * 8388608)).extractLsb' 0 23).toNat = 0
    ∧ ((BitVec.ofNat 32 (l * 8388608)).extractLsb' 31 1 == 1#1) = false := pw_fields' ⟨l, by omega⟩

theorem pw_eq {l : ℕ} (h1 : 1 ≤ l) (h2 : l ≤ 254) : pw l = (((2 : ℝ) ^ ((l : ℤ) - 127) : ℝ) : EReal) := by
  obtain ⟨hx, hf, hn⟩ := pw_fields (l := l) (by omega)
  unfold pw
  simp only [Ideal.ofBits, Ideal.ieee, hx, hf, hn]
  rw [if_neg (by omega), if_neg (by omega)]
  congr 1
  have e : ((l : ℤ) - 127) = 23 + ((l : ℤ) - (2 ^ (8 - 1) - 1) - (23 : ℕ)) := by norm_num
  rw [e, zpow_add₀ (by norm_num)]
  norm_num

theorem pw_top : pw 255 = ⊤ := by
  obtain ⟨hx, hf, hn⟩ := pw_fields (l := 255) (by omega)
  unfold pw
  simp only [Ideal.ofBits, Ideal.ieee, hx, hf, hn]
  norm_num

theorem pw_zero : pw 0 = 0 := by
  obtain ⟨hx, hf, hn⟩ := pw_fields (l := 0) (by omega)
  unfold pw
  simp only [Ideal.ofBits, Ideal.ieee, hx, hf, hn]
  norm_num

theorem pw_lt {a b : ℕ} (h : a < b) (hb : b ≤ 255) : pw a < pw b := by
  rcases Nat.eq_or_lt_of_le hb with rfl | hb
  · rw [pw_top]
    rcases Nat.eq_zero_or_pos a with rfl | ha
    · rw [pw_zero]; exact EReal.zero_lt_top
    · rw [pw_eq ha (by omega)]; exact EReal.coe_lt_top _
  · rw [pw_eq (l := b) (by omega) (by omega)]
    rcases Nat.eq_zero_or_pos a with rfl | ha
    · rw [pw_zero]; exact EReal.coe_pos.mpr (by positivity)
    · rw [pw_eq ha (by omega), EReal.coe_lt_coe_iff]
      exact zpow_lt_zpow_right₀ (by norm_num) (by omega)

theorem pw_le {a b : ℕ} (h : a ≤ b) (hb : b ≤ 255) : pw a ≤ pw b := by
  rcases Nat.eq_or_lt_of_le h with rfl | h
  · exact le_rfl
  · exact (pw_lt h hb).le

theorem pw_one : pw 127 = 1 := by rw [pw_eq (by omega) (by omega)]; norm_num

/-- How many of the powers a number reaches: its exponent field. -/
def fld (M : EReal) : ℕ := by
  classical exact Nat.findGreatest (fun k => pw k ≤ M) 255

theorem le_fld {M : EReal} {k : ℕ} (h1 : 1 ≤ k) (h2 : k ≤ 255) : pw k ≤ M ↔ k ≤ fld M := by
  classical
  unfold fld
  constructor
  · intro h
    exact Nat.le_findGreatest h2 h
  · intro h
    have hp := Nat.findGreatest_of_ne_zero (P := fun k => pw k ≤ M) (n := 255) rfl (by omega)
    exact (pw_le h (Nat.findGreatest_le _)).trans hp

theorem fld_lt {M : EReal} (h : M < pw 253) : fld M ≤ 252 := by
  by_contra hc
  exact absurd ((le_fld (k := 253) (by omega) (by omega)).mpr (by omega)) (not_le.mpr h)

theorem count_fld {M : EReal} (h : fld M ≤ 255) :
    (∑ k : Fin 256, if 0 < (k : ℕ) ∧ pw k ≤ M then (1 : EReal) else 0) = ((fld M : ℝ) : EReal) := by
  classical
  have e : ∀ k : Fin 256, (if 0 < (k : ℕ) ∧ pw k ≤ M then (1 : EReal) else 0)
      = (((if 0 < (k : ℕ) ∧ (k : ℕ) ≤ fld M then (1 : ℕ) else 0 : ℕ) : ℝ) : EReal) := fun k => by
    by_cases h0 : 0 < (k : ℕ)
    · by_cases h1 : pw k ≤ M
      · rw [if_pos ⟨h0, h1⟩, if_pos ⟨h0, (le_fld h0 (by omega)).mp h1⟩]; simp
      · rw [if_neg (fun hh => h1 hh.2), if_neg (fun hh => h1 ((le_fld h0 (by omega)).mpr hh.2))]; simp
    · rw [if_neg (fun hh => h0 hh.1), if_neg (fun hh => h0 hh.1)]; simp
  have hc : ∀ n ≤ 255, (∑ k : Fin 256, if 0 < (k : ℕ) ∧ (k : ℕ) ≤ n then (1 : ℕ) else 0) = n := by
    intro n hn
    rw [Fin.sum_univ_eq_sum_range (fun k => if 0 < k ∧ k ≤ n then (1 : ℕ) else 0) 256, ← Finset.sum_filter, Finset.sum_const,
      smul_eq_mul, mul_one]
    have : (Finset.range 256).filter (fun k => 0 < k ∧ k ≤ n) = Finset.Icc 1 n := by
      ext k; simp only [Finset.mem_filter, Finset.mem_range, Finset.mem_Icc]; omega
    rw [this, Nat.card_Icc]; omega
  rw [Finset.sum_congr rfl fun k _ => e k]
  have hs : ∀ (s : Finset (Fin 256)) (f : Fin 256 → ℕ), (∑ k ∈ s, (((f k : ℕ) : ℝ) : EReal)) = (((∑ k ∈ s, f k : ℕ) : ℝ) : EReal) := by
    intro s f
    induction s using Finset.induction_on with
    | empty => simp
    | insert a s ha ih => rw [Finset.sum_insert ha, Finset.sum_insert ha, ih, Nat.cast_add, EReal.coe_add]
  rw [hs, hc _ h]

/-- The scale of a number: the power of two above it, one below the smallest normal. -/
def sc (M : EReal) : EReal := if M < pw 1 then 1 else pw (fld M + 1)
/-- The scale's inverse. -/
def iv (M : EReal) : EReal := if M < pw 1 then 1 else pw (253 - fld M)

theorem one_le_fld {M : EReal} (h : ¬M < pw 1) : 1 ≤ fld M := (le_fld le_rfl (by omega)).mp (not_lt.mp h)

theorem iv_eq {M : EReal} (h : M < pw 253) : Ideal.div 1 (sc M) = iv M := by
  unfold sc iv
  by_cases h1 : M < pw 1
  · rw [if_pos h1, if_pos h1]; unfold Ideal.div; rw [if_neg one_ne_zero]; simp
  · have hl := fld_lt h
    have hl1 := one_le_fld h1
    rw [if_neg h1, if_neg h1, pw_eq (l := fld M + 1) (by omega) (by omega), pw_eq (l := 253 - fld M) (by omega) (by omega)]
    unfold Ideal.div
    rw [if_neg, one_mul, ← EReal.coe_inv, ← zpow_neg]
    · congr 2
      push_cast [Nat.cast_sub (show fld M ≤ 253 by omega)]
      ring
    · rw [EReal.coe_eq_zero]; positivity

theorem sc_eq {M : EReal} (h : M < pw 253) (h1 : ¬M < pw 1) :
    Finset.univ.fold min ⊤ (fun f : Fin 254 => if M < pw (f + 1) then pw (f + 1) else ⊤) = sc M := by
  have hl := fld_lt h
  have hl1 := one_le_fld h1
  have hlt : ∀ f : ℕ, 1 ≤ f → f ≤ 255 → (M < pw f ↔ fld M < f) := fun f a b => by
    rw [← not_le, le_fld a b, not_le]
  unfold sc
  rw [if_neg h1]
  apply le_antisymm
  · rw [Finset.fold_min_le]
    refine .inr ⟨⟨fld M, by omega⟩, Finset.mem_univ _, ?_⟩
    rw [if_pos ((hlt _ (by simp) (by simp; omega)).mpr (by simp))]
  · rw [Finset.le_fold_min]
    refine ⟨le_top, fun f _ => ?_⟩
    have := f.isLt
    split
    · next hf =>
      exact pw_le ((hlt _ (by omega) (by omega)).mp hf) (by omega)
    · exact le_top

/-! ## The exponent word -/

/-- The exponent the kernel takes, from the field: zero for a field of zero. -/
def ew (n : ℕ) : BitVec 32 := if BitVec.ofNat 32 n = 0#32 then 0#32 else BitVec.ofNat 32 n - 126#32

theorem shli_23 (u : ArithUnit) (x : BitVec 32) : IntOp.shli u x 23#32 = x <<< 23#32 := if_pos (by decide)

theorem ew_scale : ∀ n : Fin 253, (127#32 + ew n) <<< 23#32 = BitVec.ofNat 32 ((if n.val = 0 then 127 else n.val + 1) * 8388608) := by decide +kernel
theorem ew_inv : ∀ n : Fin 253, (127#32 - ew n) <<< 23#32 = BitVec.ofNat 32 ((if n.val = 0 then 127 else 253 - n.val) * 8388608) := by decide +kernel
theorem shl_pw' : ∀ n : Fin 256, (BitVec.ofNat 32 n.val) <<< 23#32 = BitVec.ofNat 32 (n.val * 8388608) := by decide +kernel
theorem shl_pw (u : ArithUnit) {n : ℕ} (h : n < 256) : Ideal.ofBits .f32 (IntOp.shli u (BitVec.ofNat 32 n) 23#32) = pw n := by
  rw [shli_23]; exact congrArg (Ideal.ofBits .f32) (shl_pw' ⟨n, h⟩)
theorem sgt_zero : ∀ n : Fin 256, IntOp.cmpi .sgt (BitVec.ofNat 32 n.val) 0#32 = if 0 < n.val then 1#1 else 0#1 := by decide +kernel

theorem fld_zero_iff {M : EReal} : fld M = 0 ↔ M < pw 1 := by
  rw [← not_le, le_fld le_rfl (by omega)]; omega

theorem scale_bits {M : EReal} (h : M < pw 253) (u : ArithUnit) : Ideal.ofBits .f32 (IntOp.shli u (127#32 + ew (fld M)) 23#32) = sc M := by
  have hl := fld_lt h
  have e := ew_scale ⟨fld M, by omega⟩
  have e2 : Ideal.ofBits .f32 (IntOp.shli u (127#32 + ew (fld M)) 23#32) = pw (if fld M = 0 then 127 else fld M + 1) := by
    rw [shli_23]; exact congrArg (Ideal.ofBits .f32) e
  rw [e2]
  unfold sc
  by_cases h1 : M < pw 1
  · rw [if_pos h1, if_pos (fld_zero_iff.mpr h1), pw_one]
  · rw [if_neg h1, if_neg (fun e => h1 (fld_zero_iff.mp e))]

theorem inv_bits {M : EReal} (h : M < pw 253) (u : ArithUnit) : Ideal.ofBits .f32 (IntOp.shli u (127#32 - ew (fld M)) 23#32) = iv M := by
  have hl := fld_lt h
  have e := ew_inv ⟨fld M, by omega⟩
  have e2 : Ideal.ofBits .f32 (IntOp.shli u (127#32 - ew (fld M)) 23#32) = pw (if fld M = 0 then 127 else 253 - fld M) := by
    rw [shli_23]; exact congrArg (Ideal.ofBits .f32) e
  rw [e2]
  unfold iv
  by_cases h1 : M < pw 1
  · rw [if_pos h1, if_pos (fld_zero_iff.mpr h1), pw_one]
  · rw [if_neg h1, if_neg (fun e => h1 (fld_zero_iff.mp e))]

end Cert.Disp

end
-- ==== Proof.Row.lean ====
/-
  One token's row over the extended reals: its factor is a real number, no normalised value exceeds 128, and the largest weighted
  magnitude times the factor is the largest normalised magnitude.
-/
module

public import proofs.«01_k».proof.Proof.Num

@[expose] public section

noncomputable section

namespace Cert.Disp

open Idealize.ShloMosaic

/-- The magnitude. -/
def av (v : EReal) : EReal := max v (-v)

def cMean : EReal := Ideal.ofBits .f32 0x394CCCCD#32
def cEps : EReal := Ideal.ofBits .f32 0x358637BD#32
def cMax : EReal := Ideal.ofBits .f32 0x3B124925#32

theorem cMean_real : ∃ q : ℝ, 1 / 5184 ≤ q ∧ cMean = (q : EReal) :=
  ⟨13421773 * (2 : ℝ) ^ (-36 : ℤ), by norm_num, by
    unfold cMean; simp [Ideal.ofBits, Ideal.ieee, -EReal.coe_mul]⟩
theorem cEps_real : ∃ q : ℝ, 0 < q ∧ cEps = (q : EReal) :=
  ⟨8796093 * (2 : ℝ) ^ (-43 : ℤ), by positivity, by
    unfold cEps; simp [Ideal.ofBits, Ideal.ieee, -EReal.coe_mul]⟩
theorem cMax_real : ∃ q : ℝ, 0 < q ∧ q ≤ 1 / 447 ∧ cMax = (q : EReal) :=
  ⟨9586981 * (2 : ℝ) ^ (-32 : ℤ), by positivity, by norm_num, by
    unfold cMax; simp [Ideal.ofBits, Ideal.ieee, -EReal.coe_mul]⟩

variable (X W : Fin 5120 → EReal)

/-- A row's factor. -/
def rowR : EReal := Ideal.rsqrt ((∑ c, X c * X c) * cMean + cEps)
/-- A row's largest normalised magnitude over the largest code. -/
def rowM : EReal := (Finset.univ.fold max ⊥ fun c => av (X c * rowR X * W c)) * cMax

theorem sq_nonneg' (v : EReal) : 0 ≤ v * v := by
  induction v with
  | bot => simp
  | top => simp
  | coe v => rw [← EReal.coe_mul]; exact EReal.coe_nonneg.mpr (mul_self_nonneg v)

theorem av_nonneg (v : EReal) : 0 ≤ av v := by
  unfold av
  rcases le_total 0 v with h | h
  · exact le_max_of_le_left h
  · exact le_max_of_le_right (EReal.neg_nonneg.mpr h)

theorem av_coe (v : ℝ) : av v = ((|v| : ℝ) : EReal) := by
  unfold av
  rw [← EReal.coe_neg, abs_eq_max_neg]
  exact (EReal.coe_strictMono.monotone.map_max).symm

theorem av_mul (v : EReal) {ρ : ℝ} (h : 0 ≤ ρ) : av (v * ρ) = av v * ρ := by
  have hm : Monotone fun u : EReal => u * (ρ : EReal) := fun a b hab => mul_le_mul_of_nonneg_right hab (EReal.coe_nonneg.mpr h)
  unfold av
  rw [← EReal.neg_mul]
  exact (hm.map_max (a := v) (b := -v)).symm

theorem rowR_real : ∃ ρ : ℝ, 0 ≤ ρ ∧ rowR X = (ρ : EReal) ∧ ∀ c, ∃ y : ℝ, |y| ≤ 72 ∧ X c * (ρ : EReal) = (y : EReal) := by
  obtain ⟨q, hq, eq⟩ := cMean_real
  obtain ⟨e, he, ee⟩ := cEps_real
  have hS : (0 : EReal) ≤ ∑ c, X c * X c := Finset.sum_nonneg fun c _ => sq_nonneg' _
  have hle : ∀ c, X c * X c ≤ ∑ c, X c * X c := fun c => Finset.single_le_sum (f := fun c => X c * X c) (fun c _ => sq_nonneg' _) (Finset.mem_univ c)
  have hq0 : 0 < q := lt_of_lt_of_le (by norm_num) hq
  unfold rowR
  rw [eq, ee]
  generalize (∑ c, X c * X c) = S at hS hle
  induction S with
  | bot => exact absurd hS (by simp)
  | top =>
    refine ⟨0, le_rfl, ?_, fun c => ⟨0, by simp, by simp⟩⟩
    rw [EReal.top_mul_coe_of_pos hq0, EReal.top_add_coe]; rfl
  | coe s =>
    have hs : 0 ≤ s := EReal.coe_nonneg.mp hS
    have ht : 0 < s * q + e := by positivity
    refine ⟨(√(s * q + e))⁻¹, by positivity, ?_, fun c => ?_⟩
    · rw [← EReal.coe_mul, ← EReal.coe_add]
      show (if s * q + e < 0 then (⊥ : EReal) else if s * q + e = 0 then ⊤ else ((√(s * q + e))⁻¹ : ℝ)) = _
      rw [if_neg (not_lt.mpr ht.le), if_neg ht.ne']
    · have hc := hle c
      generalize X c = x at hc
      induction x with
      | bot => simp at hc
      | top => simp at hc
      | coe x =>
        rw [← EReal.coe_mul, EReal.coe_le_coe_iff] at hc
        refine ⟨x * (√(s * q + e))⁻¹, ?_, (EReal.coe_mul _ _).symm⟩
        have h1 : |x / 72| ≤ √(s * q + e) := Real.abs_le_sqrt (by nlinarith)
        have h2 : 0 < √(s * q + e) := Real.sqrt_pos.mpr ht
        rw [abs_mul, abs_of_pos (inv_pos.mpr h2), ← div_eq_mul_inv, div_le_iff₀ h2]
        rw [abs_div] at h1
        norm_num at h1
        linarith

theorem fold_init (g : Fin 5120 → EReal) (h : ∀ c, 0 ≤ g c) : Finset.univ.fold max 0 g = Finset.univ.fold max ⊥ g := by
  apply le_antisymm
  · rw [Finset.fold_max_le]
    exact ⟨(h 0).trans ((Finset.le_fold_max _).mpr (.inr ⟨0, Finset.mem_univ _, le_rfl⟩)),
      fun c _ => (Finset.le_fold_max _).mpr (.inr ⟨c, Finset.mem_univ _, le_rfl⟩)⟩
  · rw [Finset.fold_max_le]
    exact ⟨bot_le, fun c _ => (Finset.le_fold_max _).mpr (.inr ⟨c, Finset.mem_univ _, le_rfl⟩)⟩

/-- The largest weighted magnitude, times the row's factor. -/
theorem rowM_eq {T : EReal} (hT : ∀ b, T ≤ b ↔ 0 ≤ b ∧ ∀ c, av (X c * W c) ≤ b) :
    (if rowR X = 0 then 0 else T * rowR X) * cMax = rowM X W := by
  obtain ⟨ρ, h0, eρ, -⟩ := rowR_real X
  have e1 : (if rowR X = 0 then 0 else T * rowR X) = T * rowR X := by
    split
    · next h => rw [h, mul_zero]
    · rfl
  rw [e1]
  unfold rowM
  refine congrArg (fun u : EReal => u * cMax) ?_
  have eT : T = Finset.univ.fold max 0 fun c => av (X c * W c) := by
    apply le_antisymm
    · exact (hT _).mpr ⟨(Finset.le_fold_max _).mpr (.inl le_rfl), fun c => (Finset.le_fold_max _).mpr (.inr ⟨c, Finset.mem_univ _, le_rfl⟩)⟩
    · rw [Finset.fold_max_le]
      exact ⟨((hT T).mp le_rfl).1, fun c _ => ((hT T).mp le_rfl).2 c⟩
  have hm : Monotone fun u : EReal => u * (ρ : EReal) := fun a b hab => mul_le_mul_of_nonneg_right hab (EReal.coe_nonneg.mpr h0)
  refine Eq.trans ?_ (fold_init _ fun c => av_nonneg _)
  rw [eT, eρ]
  have := Finset.fold_hom (op := max) (op' := max) (s := Finset.univ) (b := (0 : EReal)) (f := fun c => av (X c * W c))
    (m := fun u : EReal => u * (ρ : EReal)) fun x y => hm.map_max
  refine Eq.trans this.symm ?_
  rw [zero_mul]
  refine Finset.fold_congr fun c _ => ?_
  rw [← av_mul _ h0, mul_assoc, mul_comm (W c), ← mul_assoc]

theorem rowM_lt (hW : ∀ c, av (W c) ≤ (((2 : ℝ) ^ 128 : ℝ) : EReal)) : rowM X W < pw 253 := by
  obtain ⟨ρ, h0, eρ, hy⟩ := rowR_real X
  obtain ⟨q, hq, hq1, eq⟩ := cMax_real
  have hb : (Finset.univ.fold max ⊥ fun c => av (X c * rowR X * W c)) ≤ (((72 * 2 ^ 128 : ℝ) : ℝ) : EReal) := by
    rw [Finset.fold_max_le]
    refine ⟨bot_le, fun c _ => ?_⟩
    obtain ⟨y, hy1, ey⟩ := hy c
    have hw := hW c
    rw [eρ, ey]
    generalize W c = w at hw
    induction w with
    | bot => exact absurd ((le_max_right _ _).trans hw) (by rw [EReal.neg_bot]; exact not_le.mpr (EReal.coe_lt_top _))
    | top => exact absurd ((le_max_left _ _).trans hw) (not_le.mpr (EReal.coe_lt_top _))
    | coe w =>
      rw [av_coe, EReal.coe_le_coe_iff] at hw
      rw [← EReal.coe_mul, av_coe, EReal.coe_le_coe_iff, abs_mul]
      exact mul_le_mul hy1 hw (abs_nonneg _) (by norm_num)
  have h1 : rowM X W ≤ (((72 * 2 ^ 128 : ℝ) : ℝ) : EReal) * (q : EReal) := by
    unfold rowM
    rw [eq]
    exact mul_le_mul_of_nonneg_right hb (EReal.coe_nonneg.mpr hq.le)
  refine h1.trans_lt ?_
  rw [pw_eq (by omega) (by omega), ← EReal.coe_mul, EReal.coe_lt_coe_iff]
  calc (72 * 2 ^ 128 : ℝ) * q ≤ 72 * 2 ^ 128 * (1 / 447) := by gcongr
    _ < _ := by norm_num

/-- The codes agree however the factors are grouped. -/
theorem code_assoc (x r i w : EReal) : x * (r * i) * w = x * r * w * i := by
  rw [← mul_assoc, mul_assoc (x * r), mul_comm i, ← mul_assoc]

end Cert.Disp

end
-- ==== Proof.At.lean ====
/-
  Pointwise operations at an index, over the ideal numbers.
-/
module

public import proofs.«01_k».proof.Proof.Row
public import Idealize.ShloMosaic.Lib.ValueIdx
public import Idealize.ShloMosaic.Lib.IdealHost
public import Idealize.ShloMosaic.Lib.ValueLayout

@[expose] public section

noncomputable section

namespace Cert.Disp

open Idealize.ShloMosaic Idealize.ShloMosaic.ValueIdx

variable {s t : Shape} {φ ψ : FTy}

theorem addf_at (x y : FVec Ideal s φ) (i : s.Idx) : addf x y i = (x i + y i : EReal) := rfl
theorem mulf_at (x y : FVec Ideal s φ) (i : s.Idx) : mulf x y i = (x i * y i : EReal) := rfl
theorem maxf_at (x y : FVec Ideal s φ) (i : s.Idx) : maximumf x y i = (max (x i) (y i) : EReal) := rfl
theorem minf_at (x y : FVec Ideal s φ) (i : s.Idx) : minimumf x y i = (min (x i) (y i) : EReal) := rfl
theorem absf_at (x : FVec Ideal s φ) (i : s.Idx) : absf x i = av (x i) := rfl
theorem rsqrt_at (x : FVec Ideal s φ) (i : s.Idx) : rsqrt x i = Ideal.rsqrt (x i) := rfl
theorem hrsqrt_at (x : FVec Ideal s φ) (i : s.Idx) : Host.rsqrt x i = Ideal.rsqrt (x i) := rfl
theorem habsf_at (x : FVec Ideal s φ) (i : s.Idx) : Host.absf x i = av (x i) := rfl
theorem hdivf_at (x y : FVec Ideal s φ) (i : s.Idx) : Host.divf x y i = Ideal.div (x i) (y i) := rfl
theorem hconvertf_at (x : FVec Ideal s φ) (i : s.Idx) : Host.convertf ψ x i = x i := rfl
theorem extf_at (x : FVec Ideal s φ) (h : φ.bits < ψ.bits) (i : s.Idx) : extf ψ x h i = x i := rfl
theorem truncf_at (x : FVec Ideal s φ) (h : ψ.bits < φ.bits) (i : s.Idx) : truncf ψ x h i = x i := rfl
theorem cst_at (b : BitVec φ.bits) (i : s.Idx) : constant (F := Ideal) s φ b i = Ideal.ofBits φ b := rfl
theorem bcs_at (b : BitVec φ.bits) {d : Fin s.rank → Fin t.rank} (h : s.BroadcastsInDim t d) (i : t.Idx) :
    broadcastInDim t d h (constant (F := Ideal) s φ b) i = Ideal.ofBits φ b := rfl
theorem bcsi_at (b : BitVec φ.bits) {d : Fin s.rank → Fin t.rank} (h : s.BroadcastsInDim t d) (i : t.Idx) :
    broadcastInDim t d h (id (constant (F := Ideal) s φ b)) i = Ideal.ofBits φ b := rfl
theorem cmpf_at (p : CmpFPredicate) (x y : FVec Ideal s φ) (i : s.Idx) : cmpf p x y i = Ideal.cmp p (x i) (y i) := rfl
theorem bits_at (x : IVec s 32) (i : s.Idx) : bitcastToFloat (F := Ideal) .f32 x i = Ideal.ofBits .f32 (x i) := rfl
theorem select_at {α : Type} (c : IVec s 1) (x y : s.Idx → α) (i : s.Idx) : select c x y i = Scalar.select (c i) (x i) (y i) := rfl

theorem sel_gt {α : Type} (x y : EReal) (p q : α) : Scalar.select (Ideal.cmp .ogt x y) p q = if y < x then p else q := by
  unfold Scalar.select Ideal.cmp
  by_cases h : y < x <;> simp [h]
theorem sel_lt {α : Type} (x y : EReal) (p q : α) : Scalar.select (Ideal.cmp .olt x y) p q = if x < y then p else q := by
  unfold Scalar.select Ideal.cmp
  by_cases h : x < y <;> simp [h]
theorem sel_eq {α : Type} (x y : EReal) (p q : α) : Scalar.select (Ideal.cmp .oeq x y) p q = if x = y then p else q := by
  unfold Scalar.select Ideal.cmp
  by_cases h : x = y <;> simp [h]

theorem ninf : (Ideal.ofBits .f32 0xFF800000#32 : EReal) = ⊥ := by simp [Ideal.ofBits, Ideal.ieee]
theorem pinf : (Ideal.ofBits .f32 0x7F800000#32 : EReal) = ⊤ := by simp [Ideal.ofBits, Ideal.ieee]
theorem one32 : (Ideal.ofBits .f32 0x3F800000#32 : EReal) = 1 := pw_one
theorem zero32 : (Ideal.ofBits .f32 0x00000000#32 : EReal) = 0 := Ideal.ofBits_zero_f32

/-! ## Reductions over an axis -/

section Red

variable {p q n : ℕ}

theorem lift3 (h : Shape.Reduces ⟨3, ![p, q, n]⟩ [2] ⟨2, ![p, q]⟩) (a : Fin p) (b : Fin q) (k : Fin n) : h.lift (ix2 a b) k = ix3 a b k := by
  funext c; apply Fin.ext; match c with | ⟨0, _⟩ => rfl | ⟨1, _⟩ => rfl | ⟨2, _⟩ => rfl
theorem lift2 (h : Shape.Reduces ⟨2, ![p, n]⟩ [1] ⟨1, ![p]⟩) (a : Fin p) (k : Fin n) : h.lift (ix1 a) k = ix2 a k := by
  funext c; apply Fin.ext; match c with | ⟨0, _⟩ => rfl | ⟨1, _⟩ => rfl
theorem lift1 (h : Shape.Reduces ⟨2, ![n, p]⟩ [0] ⟨1, ![p]⟩) (a : Fin p) (k : Fin n) : h.lift (ix1 a) k = ix2 k a := by
  funext c; apply Fin.ext; match c with | ⟨0, _⟩ => rfl | ⟨1, _⟩ => rfl

theorem hsum_at {u : Shape} (x : FVec Ideal ⟨3, ![p, q, n]⟩ φ) (i : u.Idx → Ideal φ) (h' : Shape.ReducesTo ⟨3, ![p, q, n]⟩ [2] ⟨2, ![p, q]⟩)
    (h : Shape.Reduces ⟨3, ![p, q, n]⟩ [2] ⟨2, ![p, q]⟩) (hu : 0 < u.numel) (a : Fin p) (b : Fin q) :
    Host.reduceAdd x i h' hu (ix2 a b) = (i (Shape.Idx.first hu) + ∑ k : Fin n, x (ix3 a b k) : EReal) := by
  rw [hostReduceAdd_apply, Ideal.hostReduceAdd_single h' h]
  exact congrArg (fun z : EReal => _ + z) (Finset.sum_congr rfl fun k _ => congrArg x (lift3 h a b k))

theorem hfold_at {u : Shape} {α : Type} (f : α → α → α) [Std.Commutative f] [Std.Associative f] (x : Shape.Idx ⟨3, ![p, q, n]⟩ → α) (i : u.Idx → α)
    (h' : Shape.ReducesTo ⟨3, ![p, q, n]⟩ [2] ⟨2, ![p, q]⟩)
    (h : Shape.Reduces ⟨3, ![p, q, n]⟩ [2] ⟨2, ![p, q]⟩) (hu : 0 < u.numel) (a : Fin p) (b : Fin q) :
    Host.reduce f x i h' hu (ix2 a b) = (Finset.univ : Finset (Fin n)).fold f (i (Shape.Idx.first hu)) fun k => x (ix3 a b k) := by
  rw [Host.reduce_eq_fold_single f x i h' h hu]
  exact congrArg (fun g : Fin n → α => (Finset.univ : Finset (Fin n)).fold f (i (Shape.Idx.first hu)) g) (funext fun k => congrArg x (lift3 h a b k))

theorem sum1_at (x : FVec Ideal ⟨2, ![p, n]⟩ φ) (b : BitVec φ.bits) (h : Shape.Reduces ⟨2, ![p, n]⟩ [1] ⟨1, ![p]⟩) (hφ : FKind.Formats φ)
    (hb : b = FKind.add.neutral φ hφ) (a : Fin p) :
    multiReduction .add [1] ⟨1, ![p]⟩ x b h hφ hb (ix1 a) = (∑ k : Fin n, x (ix2 a k) : EReal) := by
  rw [Ideal.multiReduction_add_single x b h hφ hb]
  exact Finset.sum_congr rfl fun k _ => congrArg x (lift2 h a k)

theorem sum0_at (x : FVec Ideal ⟨2, ![n, p]⟩ φ) (b : BitVec φ.bits) (h : Shape.Reduces ⟨2, ![n, p]⟩ [0] ⟨1, ![p]⟩) (hφ : FKind.Formats φ)
    (hb : b = FKind.add.neutral φ hφ) (a : Fin p) :
    multiReduction .add [0] ⟨1, ![p]⟩ x b h hφ hb (ix1 a) = (∑ k : Fin n, x (ix2 k a) : EReal) := by
  rw [Ideal.multiReduction_add_single x b h hφ hb]
  exact Finset.sum_congr rfl fun k _ => congrArg x (lift1 h a k)

theorem max1_at (x : FVec Ideal ⟨2, ![p, n]⟩ φ) (b : BitVec φ.bits) (h : Shape.Reduces ⟨2, ![p, n]⟩ [1] ⟨1, ![p]⟩) (hφ : FKind.Formats φ)
    (hb : b = FKind.maximumf.neutral φ hφ) (a : Fin p) :
    multiReduction .maximumf [1] ⟨1, ![p]⟩ x b h hφ hb (ix1 a)
      = (Finset.univ.fold max (Ideal.ofBits φ b : EReal) fun k : Fin n => (x (ix2 a k) : EReal)) := by
  rw [Ideal.multiReduction_maximumf_single x b h hφ hb]
  exact congrArg (fun g : Fin n → EReal => (Finset.univ : Finset (Fin n)).fold max (Ideal.ofBits φ b : EReal) g) (funext fun k => congrArg x (lift2 h a k))

end Red

/-- The largest code, and its negative. -/
def hi : EReal := Ideal.ofBits .f32 0x43E00000#32
def lo : EReal := Ideal.ofBits .f32 0xC3E00000#32

end Cert.Disp

end
-- ==== Proof.KIRow.lean ====
/-
  A group's statistics and what the kernel makes of them, over the ideal numbers.
-/
module

public import proofs.«01_k».proof.Proof.KIVals
public import proofs.«01_k».proof.Proof.At

@[expose] public section

noncomputable section

namespace Cert.KernelIdeal.Disp

open Cert.Disp Cert.KernelIdeal Cert.KernelIdeal.Gen
open Idealize.ShloMosaic Idealize.ShloMosaic.ValueIdx

theorem splat_at {s : Shape} {α : Type} (v : α) (i : s.Idx) : broadcast s v i = v := rfl
theorem lit_at (b : BitVec 32) : (Scalar.ofBits .f32 b : Ideal .f32) = Ideal.ofBits .f32 b := rfl

/-! ## Sums and maxima over column tiles -/

theorem sum_tiles (f : ℕ → EReal) (n : ℕ) : ∑ l : Fin 128, ∑ j ∈ Finset.range n, f (128 * j + l) = ∑ c ∈ Finset.range (128 * n), f c := by
  rw [Finset.sum_comm]
  induction n with
  | zero => simp
  | succ n ih =>
    rw [Finset.sum_range_succ, ih, Nat.mul_succ, Finset.sum_range_add, Fin.sum_univ_eq_sum_range (fun l => f (128 * n + l))]

variable (I : Ins Ideal) (G : ℕ)

theorem pay22_at (k : ℕ) (r : Fin 8) (l : Fin 256) : k0_pay22 (F := Ideal) (xT I G k) (ix2 r l) = xN I G r (256 * k + l) := by
  unfold k0_pay22
  rw [extf_at, shapeCast_apply _ shapeCasts_S1x1x8x256_S8x256 (ix2 r l) (ix4 (0 : Fin 1) (0 : Fin 1) r l)
    (by rw [Shape.rowMajor_val_four, Shape.rowMajor_val_two]; simp)]
  rfl

theorem sl0 (x : FVec Ideal S8x256 .f32) (r : Fin 8) (l : Fin 128) :
    extractStridedSlice S8x128 ![0, 0] x slices_S8x256_o0_0_S8x128 (ix2 r l) = x (ix2 r (⟨l, by omega⟩ : Fin 256)) :=
  extractStridedSlice_apply _ _ _ _ _ fun a => by match a with | ⟨0, _⟩ => exact (Nat.zero_add _).symm | ⟨1, _⟩ => exact (Nat.zero_add _).symm
theorem sl1 (x : FVec Ideal S8x256 .f32) (r : Fin 8) (l : Fin 128) :
    extractStridedSlice S8x128 ![0, 128] x slices_S8x256_o0_128_S8x128 (ix2 r l) = x (ix2 r (⟨128 + l, by omega⟩ : Fin 256)) :=
  extractStridedSlice_apply _ _ _ _ _ fun a => by match a with | ⟨0, _⟩ => exact (Nat.zero_add _).symm | ⟨1, _⟩ => rfl

theorem pay23_at (acc : FVec Ideal S8x128 .f32) (k : ℕ) (r : Fin 8) (l : Fin 128) :
    k0_pay23 acc (xT I G k) (ix2 r l)
      = (acc (ix2 r l) + xN I G r (128 * (2 * k) + l) * xN I G r (128 * (2 * k) + l)
        + xN I G r (128 * (2 * k + 1) + l) * xN I G r (128 * (2 * k + 1) + l) : EReal) := by
  unfold k0_pay23
  rw [addf_at, addf_at, sl0, sl1, mulf_at, mulf_at, pay22_at, pay22_at]
  rw [show 256 * k + ((⟨l, by omega⟩ : Fin 256) : ℕ) = 128 * (2 * k) + l by show 256 * k + (l : ℕ) = _; omega,
    show 256 * k + ((⟨128 + l, by omega⟩ : Fin 256) : ℕ) = 128 * (2 * k + 1) + l by show 256 * k + (128 + (l : ℕ)) = _; omega]

theorem pay24_at (acc : FVec Ideal S8x128 .f32) (k : ℕ) (r : Fin 8) (l : Fin 128) :
    k0_pay24 acc (xT I G k) (wT I k) (ix2 r l)
      = (max (max (acc (ix2 r l)) (av (xN I G r (128 * (2 * k) + l) * wN I (128 * (2 * k) + l))))
        (av (xN I G r (128 * (2 * k + 1) + l) * wN I (128 * (2 * k + 1) + l))) : EReal) := by
  have hb : ∀ l : Fin 256, broadcastTo S8x256 (wT I k) broadcasts_S1x256_S8x256 (ix2 r l) = wN I (256 * k + l) := fun l =>
    broadcastTo_apply (wT I k) broadcasts_S1x256_S8x256 (ix2 r l) (ix2 (0 : Fin 1) l) fun a => by match a with | ⟨0, _⟩ => rfl | ⟨1, _⟩ => rfl
  unfold k0_pay24
  rw [maxf_at, maxf_at, sl0, sl1, absf_at, absf_at, mulf_at, mulf_at, pay22_at, pay22_at, hb, hb]
  rw [show 256 * k + ((⟨l, by omega⟩ : Fin 256) : ℕ) = 128 * (2 * k) + l by show 256 * k + (l : ℕ) = _; omega,
    show 256 * k + ((⟨128 + l, by omega⟩ : Fin 256) : ℕ) = 128 * (2 * k + 1) + l by show 256 * k + (128 + (l : ℕ)) = _; omega]

theorem pay21_at (i : S8x128.Idx) : (k0_pay21 (F := Ideal) i : EReal) = 0 := zero32

theorem stat_sum (k : ℕ) (r : Fin 8) (l : Fin 128) :
    ((stat I G k).1 (ix2 r l) : EReal) = ∑ j ∈ Finset.range (2 * k), (xN I G r (128 * j + l) * xN I G r (128 * j + l) : EReal) := by
  induction k with
  | zero => exact pay21_at (ix2 r l)
  | succ k ih =>
    rw [show 2 * (k + 1) = 2 * k + 1 + 1 by omega, Finset.sum_range_succ, Finset.sum_range_succ, ← ih]
    exact pay23_at I G (stat I G k).1 k r l

theorem stat_max (k : ℕ) (r : Fin 8) (l : Fin 128) (b : EReal) :
    ((stat I G k).2 (ix2 r l) : EReal) ≤ b ↔ 0 ≤ b ∧ ∀ j < 2 * k, av (xN I G r (128 * j + l) * wN I (128 * j + l)) ≤ b := by
  induction k with
  | zero => rw [show ((stat I G 0).2 (ix2 r l) : EReal) = 0 from pay21_at (ix2 r l)]; simp
  | succ k ih =>
    rw [show ((stat I G (k + 1)).2 (ix2 r l) : EReal) = _ from pay24_at I G (stat I G k).2 k r l, max_le_iff, max_le_iff, ih]
    constructor
    · rintro ⟨⟨⟨h0, h1⟩, h2⟩, h3⟩
      refine ⟨h0, fun j hj => ?_⟩
      rcases Nat.lt_or_ge j (2 * k) with h | h
      · exact h1 j h
      · rcases Nat.lt_or_ge j (2 * k + 1) with h' | h'
        · obtain rfl : j = 2 * k := by omega
          exact h2
        · obtain rfl : j = 2 * k + 1 := by omega
          exact h3
    · rintro ⟨h0, h1⟩
      exact ⟨⟨⟨h0, fun j hj => h1 j (by omega)⟩, h1 _ (by omega)⟩, h1 _ (by omega)⟩

/-! ## The row's factor -/

/-- Row `r` of group `G`, and the weights. -/
abbrev Xk (r : ℕ) : Fin 5120 → EReal := fun c => xN I G r c
abbrev Wk : Fin 5120 → EReal := fun c => wN I c

theorem c81 (x : FVec Ideal S8 .f32) (r : Fin 8) (u : Fin 1) : shapeCast S8x1 x shapeCasts_S8_S8x1 (ix2 r u) = x (ix1 r) :=
  shapeCast_apply _ _ _ _ (by rw [Shape.rowMajor_val_one, Shape.rowMajor_val_two]; simp)

theorem sum128 (x : FVec Ideal S8x128 .f32) (h₁ : FKind.Formats .f32) (h₂ : (0x00000000#32 : BitVec 32) = FKind.add.neutral .f32 h₁) (r : Fin 8) :
    multiReduction .add [1] S8 x 0x00000000#32 reduces_S8x128_S8 h₁ h₂ (ix1 r) = (∑ k : Fin 128, x (ix2 r k) : EReal) :=
  sum1_at x _ _ h₁ h₂ r
theorem sum256 (x : FVec Ideal S8x256 .f32) (h₁ : FKind.Formats .f32) (h₂ : (0x00000000#32 : BitVec 32) = FKind.add.neutral .f32 h₁) (r : Fin 8) :
    multiReduction .add [1] S8 x 0x00000000#32 reduces_S8x256_S8 h₁ h₂ (ix1 r) = (∑ k : Fin 256, x (ix2 r k) : EReal) :=
  sum1_at x _ _ h₁ h₂ r
theorem max128 (x : FVec Ideal S8x128 .f32) (h₁ : FKind.Formats .f32) (h₂ : (0xFF800000#32 : BitVec 32) = FKind.maximumf.neutral .f32 h₁) (r : Fin 8) :
    multiReduction .maximumf [1] S8 x 0xFF800000#32 reduces_S8x128_S8 h₁ h₂ (ix1 r)
      = (Finset.univ.fold max (⊥ : EReal) fun k : Fin 128 => (x (ix2 r k) : EReal)) := by
  rw [← ninf]; exact max1_at x _ _ h₁ h₂ r

theorem pay25_at (r : Fin 8) (u : Fin 1) : (k0_pay25 (stat I G 20).1 (ix2 r u) : EReal) = rowR (Xk I G r) := by
  unfold k0_pay25
  rw [rsqrt_at, addf_at, mulf_at, c81, splat_at, splat_at, lit_at, lit_at, show Ideal.ofBits .f32 0x394CCCCD#32 = cMean from rfl,
    show Ideal.ofBits .f32 0x358637BD#32 = cEps from rfl]
  unfold rowR
  refine congrArg (fun z : EReal => Ideal.rsqrt (z * cMean + cEps)) ((sum128 _ _ _ r).trans ?_)
  rw [Finset.sum_congr rfl fun l _ => stat_sum I G 20 r l, sum_tiles (fun c => (xN I G r c * xN I G r c : EReal)) (2 * 20)]
  exact (Fin.sum_univ_eq_sum_range (fun c => (xN I G r c * xN I G r c : EReal)) 5120).symm

/-! ## The exponent -/

/-- The row's number. -/
abbrev Mk (r : ℕ) : EReal := rowM (Xk I G r) (Wk I)

theorem top_eq (r : Fin 8) :
    (if rowR (Xk I G r) = 0 then 0 else (Finset.univ.fold max (⊥ : EReal) fun l : Fin 128 => ((stat I G 20).2 (ix2 r l) : EReal)) * rowR (Xk I G r)) * cMax
      = Mk I G r := by
  refine rowM_eq _ _ fun b => ?_
  rw [Finset.fold_max_le]
  constructor
  · rintro ⟨-, h⟩
    refine ⟨((stat_max I G 20 r 0 b).mp (h 0 (Finset.mem_univ _))).1, fun c => ?_⟩
    have := ((stat_max I G 20 r ⟨c % 128, Nat.mod_lt _ (by omega)⟩ b).mp (h _ (Finset.mem_univ _))).2 (c / 128) (by have := c.isLt; omega)
    rwa [show 128 * ((c : ℕ) / 128) + ((⟨c % 128, Nat.mod_lt _ (by omega)⟩ : Fin 128) : ℕ) = c from Nat.div_add_mod _ _] at this
  · rintro ⟨h0, h⟩
    refine ⟨bot_le, fun l _ => (stat_max I G 20 r l b).mpr ⟨h0, fun j hj => ?_⟩⟩
    exact h ⟨128 * j + l, by have := l.isLt; omega⟩

theorem fptosi_nat {n : ℕ} (h : n ≤ 255) : Ideal.fptosi 32 ((n : ℝ) : EReal) = BitVec.ofNat 32 n := by
  rw [Ideal.fptosi, Ideal.toIntClamped_coe, if_pos (Nat.cast_nonneg n), Int.floor_natCast, min_eq_right, max_eq_right]
  · exact BitVec.ofInt_natCast ..
  · norm_num
  · norm_num; omega

theorem i256 (r : Fin 8) (k : Fin 256) : iota .tc S8x256 32 [1] iota_S8x256_d1_w32 (ix2 r k) = BitVec.ofNat 32 k := by
  show BitVec.ofNat 32 (0 * 256 + (k : ℕ)) = _
  rw [Nat.zero_mul, Nat.zero_add]

/-- One place of the count. -/
theorem place (M : EReal) (k : Fin 256) :
    (Scalar.select (IntOp.andi (IntOp.cmpi .sgt (BitVec.ofNat 32 k) 0#32) (Ideal.cmp .oge M (Ideal.ofBits .f32 (IntOp.shli .vector (BitVec.ofNat 32 k) 23#32))))
      (Ideal.ofBits .f32 0x3F800000#32) (Ideal.ofBits .f32 0x00000000#32) : EReal) = if 0 < (k : ℕ) ∧ pw k ≤ M then (1 : EReal) else 0 := by
  rw [one32, zero32, sgt_zero, shl_pw _ k.isLt]
  unfold Scalar.select Ideal.cmp IntOp.andi
  by_cases h1 : 0 < (k : ℕ) <;> by_cases h2 : pw k ≤ M <;> simp [h1, h2]

theorem pay26_at (hW : ∀ c, av (Wk I c) ≤ (((2 : ℝ) ^ 128 : ℝ) : EReal)) (r : Fin 8) (u : Fin 1) :
    k0_pay26 (stat I G 20).1 (stat I G 20).2 (ix2 r u) = BitVec.ofNat 32 (fld (Mk I G r)) := by
  have hM : Mk I G r < pw 253 := rowM_lt _ _ hW
  have hf : fld (Mk I G r) ≤ 255 := (fld_lt hM).trans (by omega)
  have hm : ∀ k : Fin 256, broadcastTo S8x256 (mulf (select (cmpf .oeq (k0_pay25 (stat I G 20).1) (broadcast S8x1 (Scalar.ofBits .f32 0x00000000#32 : Ideal .f32)))
      (broadcast S8x1 (Scalar.ofBits .f32 0x00000000#32 : Ideal .f32))
      (mulf (shapeCast S8x1 (multiReduction .maximumf [1] S8 (stat I G 20).2 0xFF800000#32 reduces_S8x128_S8 (.inl rfl) rfl) shapeCasts_S8_S8x1) (k0_pay25 (stat I G 20).1)))
      (broadcast S8x1 (Scalar.ofBits .f32 0x3B124925#32 : Ideal .f32))) broadcasts_S8x1_S8x256 (ix2 r k) = Mk I G r := fun k => by
    rw [broadcastTo_apply _ broadcasts_S8x1_S8x256 (ix2 r k) (ix2 r (0 : Fin 1)) fun a => by match a with | ⟨0, _⟩ => rfl | ⟨1, _⟩ => rfl]
    rw [mulf_at, select_at, cmpf_at, mulf_at, c81, pay25_at, splat_at, splat_at, lit_at, lit_at, zero32, sel_eq,
      show Ideal.ofBits .f32 0x3B124925#32 = cMax from rfl]
    exact (congrArg (fun z : EReal => (if rowR (Xk I G r) = 0 then 0 else z * rowR (Xk I G r)) * cMax) (max128 _ _ _ r)).trans (top_eq I G r)
  unfold k0_pay26
  show Ideal.fptosi 32 (shapeCast S8x1 _ shapeCasts_S8_S8x1 (ix2 r u)) = _
  rw [c81, ← fptosi_nat hf, ← count_fld hf]
  refine congrArg (Ideal.fptosi 32) ((sum256 _ _ _ r).trans (Finset.sum_congr rfl fun k _ => ?_))
  rw [select_at]
  show Scalar.select (IntOp.andi (IntOp.cmpi .sgt (iota .tc S8x256 32 [1] iota_S8x256_d1_w32 (ix2 r k)) 0#32)
    (Ideal.cmp .oge (broadcastTo S8x256 _ broadcasts_S8x1_S8x256 (ix2 r k)) (Ideal.ofBits .f32 (IntOp.shli .vector (iota .tc S8x256 32 [1] iota_S8x256_d1_w32 (ix2 r k)) 23#32))))
    (Ideal.ofBits .f32 0x3F800000#32) (Ideal.ofBits .f32 0x00000000#32) = _
  rw [hm, i256]
  exact place _ k

theorem ew_sel (n : ℕ) : Scalar.select (IntOp.cmpi .eq (BitVec.ofNat 32 n) 0#32) 0#32 (BitVec.ofNat 32 n - 126#32) = ew n := by
  unfold ew Scalar.select IntOp.cmpi
  by_cases h : BitVec.ofNat 32 n = 0#32
  · simp [h]
  · have : (BitVec.ofNat 32 n == 0#32) = false := beq_eq_false_iff_ne.mpr h
    simp [h, this]

theorem pay34_at (hW : ∀ c, av (Wk I c) ≤ (((2 : ℝ) ^ 128 : ℝ) : EReal)) (r : Fin 8) (u : Fin 1) :
    k0_pay34 (k0_pay27 (stat I G 20).1 (stat I G 20).2) (k0_pay28 (stat I G 20).1 (stat I G 20).2) k0_pay29 (ix2 r u) = ew (fld (Mk I G r)) := by
  unfold k0_pay34 k0_pay27 k0_pay28 k0_pay29
  rw [select_at]
  show Scalar.select (IntOp.cmpi .eq (k0_pay26 (stat I G 20).1 (stat I G 20).2 (ix2 r u)) 0#32) 0#32 (k0_pay26 (stat I G 20).1 (stat I G 20).2 (ix2 r u) - 126#32) = _
  rw [pay26_at I G hW]
  exact ew_sel _

theorem c3 (x : FVec Ideal S8x1 .f32) (u : Fin 1) (r : Fin 8) (l : Fin 128) :
    shapeCast S1x8x128 (broadcastTo S8x128 (shapeCast S8x1 x shapeCasts_S8x1_S8x1) broadcasts_S8x1_S8x128) shapeCasts_S8x128_S1x8x128 (ix3 u r l) = x (ix2 r (0 : Fin 1)) := by
  rw [shapeCast_apply _ shapeCasts_S8x128_S1x8x128 (ix3 u r l) (ix2 r l) (by rw [Shape.rowMajor_val_three, Shape.rowMajor_val_two]; simp),
    broadcastTo_apply _ broadcasts_S8x1_S8x128 (ix2 r l) (ix2 r (0 : Fin 1)) fun a => by match a with | ⟨0, _⟩ => rfl | ⟨1, _⟩ => rfl]
  exact shapeCast_apply _ _ _ _ rfl

/-- The factor: the reciprocal root times the scale's inverse. -/
theorem rG_at (hW : ∀ c, av (Wk I c) ≤ (((2 : ℝ) ^ 128 : ℝ) : EReal)) (u : Fin 1) (r : Fin 8) (l : Fin 128) :
    (rG I G (ix3 u r l) : EReal) = rowR (Xk I G r) * iv (Mk I G r) := by
  unfold rG k0_pay35
  rw [c3, mulf_at, pay25_at, bits_at]
  show _ * Ideal.ofBits .f32 (IntOp.shli .vector (127#32 - k0_pay34 (k0_pay27 (stat I G 20).1 (stat I G 20).2) (k0_pay28 (stat I G 20).1 (stat I G 20).2) k0_pay29 (ix2 r (0 : Fin 1))) 23#32) = _
  rw [pay34_at I G hW, inv_bits (rowM_lt _ _ hW)]

theorem rN_at (hW : ∀ c, av (Wk I c) ≤ (((2 : ℝ) ^ 128 : ℝ) : EReal)) (r : Fin 8) (l : Fin 128) :
    (rN I G r l : EReal) = rowR (Xk I G r) * iv (Mk I G r) := by
  unfold rN
  rw [atN_eq (i := ix3 (0 : Fin 1) r l) _ _ fun a => by match a with | ⟨0, _⟩ => rfl | ⟨1, _⟩ => rfl | ⟨2, _⟩ => rfl]
  exact rG_at I G hW 0 r l

end Cert.KernelIdeal.Disp

end
-- ==== Proof.KITok.lean ====
/-
  The token scales and codes the kernel stores, over the ideal numbers.
-/
module

public import proofs.«01_k».proof.Proof.KIRow

@[expose] public section

noncomputable section

namespace Cert.KernelIdeal.Disp

open Cert.Disp Cert.KernelIdeal Cert.KernelIdeal.Gen
open Idealize.ShloMosaic Idealize.ShloMosaic.ValueIdx

variable (I : Ins Ideal)

/-! ## Scales over lanes -/

/-- The lane a group's first row lands in. -/
theorem lane_base : ∀ (k : Fin 4) (g : Fin 8),
    IntOp.addi (IntOp.muli (IntOp.andi (Scf.iv 0#32 1#32 (blk k).val) 1#32) 64#32) (IntOp.muli 8#32 (Scf.iv 0#32 1#32 g.val))
      = BitVec.ofNat 32 (64 * (k.val % 2) + 8 * g.val) := by decide +kernel

theorem ofNat_inj {a b : ℕ} (ha : a < 4294967296) (hb : b < 4294967296) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem lane_hit (k : Fin 4) (g : Fin 8) (r : Fin 8) (l : Fin 128) {α : Type} (p q : α) :
    Scalar.select (IntOp.cmpi .eq (BitVec.ofNat 32 l) (BitVec.ofNat 32 r +
      IntOp.addi (IntOp.muli (IntOp.andi (Scf.iv 0#32 1#32 (blk k).val) 1#32) 64#32) (IntOp.muli 8#32 (Scf.iv 0#32 1#32 g.val)))) p q
      = if (l : ℕ) = r + (64 * (k % 2) + 8 * g) then p else q := by
  rw [lane_base, ← BitVec.ofNat_add]
  unfold Scalar.select IntOp.cmpi
  by_cases h : (l : ℕ) = r + (64 * (k % 2) + 8 * g)
  · simp [h]
  · have : (BitVec.ofNat 32 (l : ℕ) == BitVec.ofNat 32 (r + (64 * (k.val % 2) + 8 * g.val))) = false :=
      beq_eq_false_iff_ne.mpr fun e => h (ofNat_inj (by omega) (by omega) e)
    simp [h, this]

theorem i0 (r : Fin 8) (l : Fin 128) : iota .tc S8x128 32 [0] iota_S8x128_d0_w32 (ix2 r l) = BitVec.ofNat 32 r := by
  show BitVec.ofNat 32 (0 * 8 + (r : ℕ)) = _
  rw [Nat.zero_mul, Nat.zero_add]
theorem i1 (r : Fin 8) (l : Fin 128) : iota .tc S8x128 32 [1] iota_S8x128_d1_w32 (ix2 r l) = BitVec.ofNat 32 l := by
  show BitVec.ofNat 32 (0 * 128 + (l : ℕ)) = _
  rw [Nat.zero_mul, Nat.zero_add]

theorem c2 (x : FVec Ideal S8x1 .f32) (r : Fin 8) (l : Fin 128) :
    broadcastTo S8x128 (shapeCast S8x1 x shapeCasts_S8x1_S8x1) broadcasts_S8x1_S8x128 (ix2 r l) = x (ix2 r (0 : Fin 1)) := by
  rw [broadcastTo_apply _ broadcasts_S8x1_S8x128 (ix2 r l) (ix2 r (0 : Fin 1)) fun a => by match a with | ⟨0, _⟩ => rfl | ⟨1, _⟩ => rfl]
  exact shapeCast_apply _ _ _ _ rfl

variable (hW : ∀ c, av (Wk I c) ≤ (((2 : ℝ) ^ 128 : ℝ) : EReal))
include hW

theorem pay36_at (k : Fin 4) (g : Fin 8) (G : ℕ) (acc : FVec Ideal S8x128 .f32) (r : Fin 8) (l : Fin 128) :
    k0_pay36 0#32 1#32 (blk k) acc (Scf.iv 0#32 1#32 g.val) (k0_pay27 (stat I G 20).1 (stat I G 20).2) (k0_pay28 (stat I G 20).1 (stat I G 20).2) k0_pay29 (ix2 r l)
      = if (l : ℕ) = r + (64 * (k % 2) + 8 * g) then sc (Mk I G r) else (acc (ix2 r l) : EReal) := by
  unfold k0_pay36
  rw [select_at, c2, bits_at]
  show Scalar.select (IntOp.cmpi .eq (iota .tc S8x128 32 [1] iota_S8x128_d1_w32 (ix2 r l)) (iota .tc S8x128 32 [0] iota_S8x128_d0_w32 (ix2 r l) +
      IntOp.addi (IntOp.muli (IntOp.andi (Scf.iv 0#32 1#32 (blk k).val) 1#32) 64#32) (IntOp.muli 8#32 (Scf.iv 0#32 1#32 g.val))))
    (Ideal.ofBits .f32 (IntOp.shli .vector (127#32 + k0_pay34 (k0_pay27 (stat I G 20).1 (stat I G 20).2) (k0_pay28 (stat I G 20).1 (stat I G 20).2) k0_pay29 (ix2 r (0 : Fin 1))) 23#32)) _ = _
  rw [i0, i1, pay34_at I G hW, scale_bits (rowM_lt _ _ hW), lane_hit]

omit hW in
theorem pay33_even (k : Fin 4) (hk : k.val % 2 = 0) (acc : FVec Ideal S8x128 .f32) (i : S8x128.Idx) : (k0_pay33 0#32 1#32 (blk k) acc i : EReal) = 0 := by
  have e : ∀ k : Fin 4, k.val % 2 = 0 → IntOp.cmpi .eq (IntOp.andi (Scf.iv 0#32 1#32 (blk k).val) 1#32) 0#32 = 1#1 := by decide +kernel
  unfold k0_pay33
  show Scalar.select (IntOp.cmpi .eq (IntOp.andi (Scf.iv 0#32 1#32 (blk k).val) 1#32) 0#32) _ acc i = _
  rw [e k hk]
  exact zero32
omit hW in
theorem pay33_odd (k : Fin 4) (hk : k.val % 2 = 1) (acc : FVec Ideal S8x128 .f32) : k0_pay33 0#32 1#32 (blk k) acc = acc := by
  have e : ∀ k : Fin 4, k.val % 2 = 1 → IntOp.cmpi .eq (IntOp.andi (Scf.iv 0#32 1#32 (blk k).val) 1#32) 0#32 = 0#1 := by decide +kernel
  unfold k0_pay33
  show Scalar.select (IntOp.cmpi .eq (IntOp.andi (Scf.iv 0#32 1#32 (blk k).val) 1#32) 0#32) _ acc = _
  rw [e k hk]
  rfl

theorem lane_at (b : ℕ) (k : Fin 4) (acc : FVec Ideal S8x128 .f32) (g : ℕ) (hg : g ≤ 8) (r : Fin 8) (l : Fin 128) :
    (lane I b k acc g (ix2 r l) : EReal)
      = if (l : ℕ) % 8 = r ∧ 64 * (k % 2) ≤ (l : ℕ) ∧ (l : ℕ) < 64 * (k % 2) + 8 * g then sc (Mk I (8 * (4 * b + k) + (l - 64 * (k % 2)) / 8) r)
        else (k0_pay33 0#32 1#32 (blk k) acc (ix2 r l) : EReal) := by
  induction g with
  | zero => rw [if_neg (by omega)]; rfl
  | succ g ih =>
    have e := pay36_at I hW k ⟨g, by omega⟩ (8 * (4 * b + k) + g) (lane I b k acc g) r l
    refine Eq.trans e ?_
    rw [ih (by omega)]
    show (if (l : ℕ) = r + (64 * (k % 2) + 8 * g) then _ else _) = _
    by_cases h : (l : ℕ) = r + (64 * (k % 2) + 8 * g)
    · rw [if_pos h, if_pos (by omega), show ((l : ℕ) - 64 * (k % 2)) / 8 = g by omega]
    · rw [if_neg h]
      by_cases h' : (l : ℕ) % 8 = r ∧ 64 * (k % 2) ≤ (l : ℕ) ∧ (l : ℕ) < 64 * (k % 2) + 8 * g
      · rw [if_pos h', if_pos (by omega)]
      · rw [if_neg h', if_neg (by omega)]

theorem accB_at (b : ℕ) (h : Fin 2) (r : Fin 8) (l : Fin 128) :
    (accB I b (2 * h + 2) (ix2 r l) : EReal) = if (l : ℕ) % 8 = r then sc (Mk I (32 * b + (128 * h + l) / 8) r) else 0 := by
  have e1 := lane_at I hW b ⟨2 * h + 1, by omega⟩ (accB I b (2 * h + 1)) 8 le_rfl r l
  have e0 := lane_at I hW b ⟨2 * h, by omega⟩ (accB I b (2 * h)) 8 le_rfl r l
  rw [pay33_odd ⟨2 * h + 1, by omega⟩ (by show (2 * (h : ℕ) + 1) % 2 = 1; omega)] at e1
  rw [pay33_even ⟨2 * h, by omega⟩ (by show (2 * (h : ℕ)) % 2 = 0; omega)] at e0
  refine Eq.trans e1 ?_
  rw [show (accB I b (2 * h + 1) (ix2 r l) : EReal) = _ from e0]
  simp only [show (2 * (h : ℕ) + 1) % 2 = 1 by omega, show (2 * (h : ℕ)) % 2 = 0 by omega]
  have hl := l.isLt
  by_cases hr : (l : ℕ) % 8 = r
  · rw [if_pos hr]
    by_cases h6 : 64 ≤ (l : ℕ)
    · rw [if_pos (by omega), show 8 * (4 * b + (2 * (h : ℕ) + 1)) + ((l : ℕ) - 64 * 1) / 8 = 32 * b + (128 * h + l) / 8 by omega]
    · rw [if_neg (by omega), if_pos (by omega), show 8 * (4 * b + 2 * (h : ℕ)) + ((l : ℕ) - 64 * 0) / 8 = 32 * b + (128 * h + l) / 8 by omega]
  · rw [if_neg (by omega), if_neg (by omega), if_neg hr]

omit hW in
theorem pay37_at (acc : FVec Ideal S8x128 .f32) (old : Vec Ideal S6x128 .f32) (l : Fin 128) :
    (k0_pay37 acc old (ix2 (0 : Fin 6) l) : EReal) = ∑ r : Fin 8, (acc (ix2 r l) : EReal) := by
  unfold k0_pay37
  rw [shapeCast_apply _ shapeCasts_S6x128_S6x128 (ix2 (0 : Fin 6) l) (ix2 (0 : Fin 6) l) rfl, select_at,
    show cmpi .eq (iota .tc S6x128 32 [0] iota_S6x128_d0_w32) (broadcast S6x128 0#32) (ix2 (0 : Fin 6) l) = 1#1 from rfl, select_one,
    broadcastTo_apply _ broadcasts_S1x128_S6x128 (ix2 (0 : Fin 6) l) (ix2 (0 : Fin 1) l) fun a => by match a with | ⟨0, _⟩ => rfl | ⟨1, _⟩ => rfl]
  rw [shapeCast_apply _ shapeCasts_S1x128_S1x128 (ix2 (0 : Fin 1) l) (ix2 (0 : Fin 1) l) rfl,
    shapeCast_apply _ shapeCasts_S128_S1x128 (ix2 (0 : Fin 1) l) (ix1 l) (by rw [Shape.rowMajor_val_one, Shape.rowMajor_val_two]; simp)]
  exact sum0_at acc _ _ _ _ l

theorem tsN_at (b : ℕ) (c : Fin 256) : (tsN I b c : EReal) = sc (Mk I (32 * b + c / 8) (c % 8)) := by
  have hc := c.isLt
  unfold tsN
  rw [atN_eq (s := S6x128) (i := ix2 (0 : Fin 6) (⟨c % 128, Nat.mod_lt _ (by omega)⟩ : Fin 128)) _ _ fun a => by match a with | ⟨0, _⟩ => rfl | ⟨1, _⟩ => rfl]
  rw [pay37_at]
  rw [Finset.sum_eq_single (⟨c % 8, Nat.mod_lt _ (by omega)⟩ : Fin 8)]
  · have := accB_at I hW b ⟨c / 128, by omega⟩ ⟨c % 8, Nat.mod_lt _ (by omega)⟩ ⟨c % 128, Nat.mod_lt _ (by omega)⟩
    refine Eq.trans this ?_
    rw [if_pos (by show (c : ℕ) % 128 % 8 = c % 8; omega)]
    show sc (Mk I (32 * b + (128 * ((c : ℕ) / 128) + c % 128) / 8) (c % 8)) = _
    rw [Nat.div_add_mod]
  · intro r _ hr
    have := accB_at I hW b ⟨c / 128, by omega⟩ r ⟨c % 128, Nat.mod_lt _ (by omega)⟩
    refine Eq.trans this (if_neg fun e => hr (Fin.ext ?_))
    have e : (c : ℕ) % 128 % 8 = r := e
    show (r : ℕ) = c % 8
    omega
  · exact fun h => absurd (Finset.mem_univ _) h

theorem TS_at (b : Fin 6) (c : Fin 256) : (TS I (ix2 b c) : EReal) = sc (Mk I (32 * b + c / 8) (c % 8)) := by
  unfold TS TSat
  rw [if_pos (by show 2 * (b : ℕ) + (c : ℕ) / 128 < 12; omega)]
  exact tsN_at I hW b c

/-! ## Codes -/

omit hW in
theorem cc (x : FVec Ideal S4x8x128 .f32) (u : Fin 1) (q : Fin 32) (l : Fin 128) :
    shapeCast S1x32x128 (truncf .fp8e4m3 (shapeCast S32x128 x shapeCasts_S4x8x128_S32x128) bitsLt_fp8e4m3_f32) shapeCasts_S32x128_S1x32x128 (ix3 u q l)
      = x (ix3 (⟨q / 8, by omega⟩ : Fin 4) (⟨q % 8, Nat.mod_lt _ (by omega)⟩ : Fin 8) l) := by
  rw [shapeCast_apply _ shapeCasts_S32x128_S1x32x128 (ix3 u q l) (ix2 q l) (by rw [Shape.rowMajor_val_three, Shape.rowMajor_val_two]; simp), truncf_at]
  exact shapeCast_apply _ _ _ _ (by
    rw [Shape.rowMajor_val_three, Shape.rowMajor_val_two]
    show ((q : ℕ) / 8 * 8 + (q : ℕ) % 8) * 128 + (l : ℕ) = (q : ℕ) * 128 + l
    omega)

omit hW in
theorem wcast (m : ℕ) (a : Fin 4) (r : Fin 8) (l : Fin 128) :
    broadcastTo S4x8x128 (shapeCast S1x1x128 (wT2 I m) shapeCasts_S1x128_S1x1x128) broadcasts_S1x1x128_S4x8x128 (ix3 a r l) = wN I (128 * m + l) := by
  rw [broadcastTo_apply _ broadcasts_S1x1x128_S4x8x128 (ix3 a r l) (ix3 (0 : Fin 1) (0 : Fin 1) l) fun a => by match a with | ⟨0, _⟩ => rfl | ⟨1, _⟩ => rfl | ⟨2, _⟩ => rfl]
  exact shapeCast_apply (wT2 I m) _ _ (ix2 (0 : Fin 1) l) (by rw [Shape.rowMajor_val_three, Shape.rowMajor_val_two]; simp)

omit hW in
theorem pay30_at (G n : ℕ) (a : Fin 4) (r : Fin 8) (l : Fin 256) : k0_pay30 (F := Ideal) (xT4 I G n) (ix3 a r l) = xN I (G + a) r (256 * n + l) := by
  unfold k0_pay30
  rw [extf_at, shapeCast_apply _ shapeCasts_S1x4x8x256_S4x8x256 (ix3 a r l) (ix4 (0 : Fin 1) a r l)
    (by rw [Shape.rowMajor_val_four, Shape.rowMajor_val_three]; simp)]
  rfl

theorem codeT_at (G m : ℕ) (u : Fin 1) (q : Fin 32) (l : Fin 128) :
    (codeT I G m (ix3 u q l) : EReal)
      = min hi (max lo (xN I (G + q / 8) (q % 8) (128 * m + l) * (rowR (Xk I (G + q / 8) (q % 8)) * iv (Mk I (G + q / 8) (q % 8))) * wN I (128 * m + l))) := by
  have hr := rN_at I (G + q / 8) hW ⟨q % 8, Nat.mod_lt _ (by omega)⟩ l
  unfold codeT
  by_cases h : m % 2 = 0
  · rw [if_pos h]
    unfold k0_pay31
    rw [cc, minf_at, maxf_at, splat_at, splat_at, lit_at, lit_at, mulf_at, mulf_at, wcast,
      extractStridedSlice_apply ![0, 0, 0] _ slices_S4x8x256_o0_0_0_S4x8x128 _ (ix3 (⟨q / 8, by omega⟩ : Fin 4) (⟨q % 8, Nat.mod_lt _ (by omega)⟩ : Fin 8) (⟨l, by omega⟩ : Fin 256))
        (fun a => by match a with | ⟨0, _⟩ => exact (Nat.zero_add _).symm | ⟨1, _⟩ => exact (Nat.zero_add _).symm | ⟨2, _⟩ => exact (Nat.zero_add _).symm),
      pay30_at]
    rw [show 256 * (m / 2) + ((⟨l, by omega⟩ : Fin 256) : ℕ) = 128 * m + l by show 256 * (m / 2) + (l : ℕ) = _; omega]
    show min hi (max lo (_ * (rN I (G + q / 8) (q % 8) l : EReal) * _)) = _
    rw [hr]
  · rw [if_neg h]
    unfold k0_pay38 k0_pay32
    rw [cc, minf_at, maxf_at, splat_at, splat_at, lit_at, lit_at, mulf_at, mulf_at, wcast,
      extractStridedSlice_apply ![0, 0, 128] _ slices_S4x8x256_o0_0_128_S4x8x128 _ (ix3 (⟨q / 8, by omega⟩ : Fin 4) (⟨q % 8, Nat.mod_lt _ (by omega)⟩ : Fin 8) (⟨128 + l, by omega⟩ : Fin 256))
        (fun a => by match a with | ⟨0, _⟩ => exact (Nat.zero_add _).symm | ⟨1, _⟩ => exact (Nat.zero_add _).symm | ⟨2, _⟩ => rfl),
      pay30_at]
    rw [show 256 * (m / 2) + ((⟨128 + l, by omega⟩ : Fin 256) : ℕ) = 128 * m + l by show 256 * (m / 2) + (128 + (l : ℕ)) = _; omega]
    show min hi (max lo (_ * (rN I (G + q / 8) (q % 8) l : EReal) * _)) = _
    rw [hr]

theorem CODES_at (b : Fin 6) (r : Fin 256) (c : Fin 5120) :
    (CODES I (ix3 b r c) : EReal)
      = min hi (max lo (Xk I (32 * b + r / 8) (r % 8) c * rowR (Xk I (32 * b + r / 8) (r % 8)) * Wk I c * iv (Mk I (32 * b + r / 8) (r % 8)))) := by
  rw [← code_assoc]
  show (codeN I b r c : EReal) = _
  unfold codeN
  rw [atN_eq (i := ix3 (0 : Fin 1) (⟨r % 32, Nat.mod_lt _ (by omega)⟩ : Fin 32) (⟨c % 128, Nat.mod_lt _ (by omega)⟩ : Fin 128)) _ _
    fun a => by match a with | ⟨0, _⟩ => rfl | ⟨1, _⟩ => rfl | ⟨2, _⟩ => rfl]
  rw [codeT_at I hW]
  show min hi (max lo (xN I (4 * (8 * (b : ℕ) + (r : ℕ) / 32) + (r : ℕ) % 32 / 8) ((r : ℕ) % 32 % 8) (128 * ((c : ℕ) / 128) + (c : ℕ) % 128)
    * (rowR (Xk I (4 * (8 * (b : ℕ) + (r : ℕ) / 32) + (r : ℕ) % 32 / 8) ((r : ℕ) % 32 % 8)) * iv (Mk I (4 * (8 * (b : ℕ) + (r : ℕ) / 32) + (r : ℕ) % 32 / 8) ((r : ℕ) % 32 % 8)))
    * wN I (128 * ((c : ℕ) / 128) + (c : ℕ) % 128))) = _
  rw [show 4 * (8 * (b : ℕ) + (r : ℕ) / 32) + (r : ℕ) % 32 / 8 = 32 * b + r / 8 by omega, show (r : ℕ) % 32 % 8 = r % 8 by omega, Nat.div_add_mod]

end Cert.KernelIdeal.Disp

end
-- ==== Proof.Count.lean ====
/-
  Counting the choices of a sequence: positions of the tokens within their experts.
-/
module

public import proofs.«01_k».proof.Proof.At
public import Idealize.ShloMosaic.Lib.Affine

@[expose] public section

noncomputable section

namespace Cert.Disp

open Idealize.ShloMosaic Idealize.ShloMosaic.ValueIdx

/-! ## Truth values as numbers -/

theorem sel_cond {α : Type} {c : BitVec 1} {P : Prop} [Decidable P] (h : c = 1#1 ↔ P) (p q : α) : Scalar.select c p q = if P then p else q := by
  unfold Scalar.select
  by_cases hP : P
  · rw [if_pos hP]; exact if_pos (h.mpr hP)
  · rw [if_neg hP]; exact if_neg fun e => hP (h.mp e)

theorem sel_cmpi {α : Type} {w : ℕ} (x y : BitVec w) (p q : α) : Scalar.select (IntOp.cmpi .eq x y) p q = if x = y then p else q :=
  sel_cond IntOp.cmpi_eq p q

/-- A truth value converted to a number, through a 32-bit integer. -/
theorem bit_val {c : BitVec 1} {P : Prop} [Decidable P] (h : c = 1#1 ↔ P) :
    (FloatOps.sitofp (F := Ideal) .f32 (c.setWidth 32) : EReal) = if P then 1 else 0 := by
  have e : ∀ c : BitVec 1, c = 0#1 ∨ c = 1#1 := by decide
  by_cases hP : P
  · rw [if_pos hP, h.mpr hP]
    show (((((1#1 : BitVec 1).setWidth 32).toInt : ℤ) : ℝ) : EReal) = 1
    rw [show ((1#1 : BitVec 1).setWidth 32).toInt = 1 from by decide]; norm_num
  · rw [if_neg hP, (e c).resolve_right fun e => hP (h.mp e)]
    show (((((0#1 : BitVec 1).setWidth 32).toInt : ℤ) : ℝ) : EReal) = 0
    rw [show ((0#1 : BitVec 1).setWidth 32).toInt = 0 from by decide]; norm_num

/-- A truth value converted to a number. -/
theorem ubit_val {c : BitVec 1} {P : Prop} [Decidable P] (h : c = 1#1 ↔ P) :
    (FloatOps.uitofp (F := Ideal) .f32 c : EReal) = if P then 1 else 0 := by
  have e : ∀ c : BitVec 1, c = 0#1 ∨ c = 1#1 := by decide
  by_cases hP : P
  · rw [if_pos hP, h.mpr hP]
    show ((((1#1 : BitVec 1).toNat : ℕ) : ℝ) : EReal) = 1
    rw [show (1#1 : BitVec 1).toNat = 1 from by decide]; norm_num
  · rw [if_neg hP, (e c).resolve_right fun e => hP (h.mp e)]
    show ((((0#1 : BitVec 1).toNat : ℕ) : ℝ) : EReal) = 0
    rw [show (0#1 : BitVec 1).toNat = 0 from by decide]; norm_num

theorem fptosi_count {n : ℕ} (h : n < 2 ^ 31) : Ideal.fptosi 32 ((n : ℝ) : EReal) = BitVec.ofNat 32 n := by
  rw [Ideal.fptosi, Ideal.toIntClamped_coe, if_pos (Nat.cast_nonneg n), Int.floor_natCast, min_eq_right, max_eq_right]
  · exact BitVec.ofInt_natCast ..
  · norm_num
  · norm_num; omega

theorem real_nat (n : ℕ) : ((n : ℝ) : EReal) = (n : EReal) := rfl

theorem ofNat_inj' {a b : ℕ} (ha : a < 4294967296) (hb : b < 4294967296) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem toInt_nat {a : ℕ} (ha : a < 2 ^ 31) : (BitVec.ofNat 32 a).toInt = a := by
  have e : (BitVec.ofNat 32 a).toNat = a := by rw [BitVec.toNat_ofNat]; exact Nat.mod_eq_of_lt (by omega)
  rw [BitVec.toInt_eq_toNat_of_lt (by omega), e]

theorem slt_ofNat {a b : ℕ} (ha : a < 2 ^ 31) (hb : b < 2 ^ 31) : IntOp.cmpi .slt (BitVec.ofNat 32 a) (BitVec.ofNat 32 b) = 1#1 ↔ a < b := by
  rw [IntOp.cmpi_slt, toInt_nat ha, toInt_nat hb]
  omega
theorem sle_ofNat {a b : ℕ} (ha : a < 2 ^ 31) (hb : b < 2 ^ 31) : IntOp.cmpi .sle (BitVec.ofNat 32 a) (BitVec.ofNat 32 b) = 1#1 ↔ a ≤ b := by
  rw [IntOp.cmpi_sle, toInt_nat ha, toInt_nat hb]
  omega

/-! ## Counts -/

/-- How many of the first `t + 1` choices are `v`. -/
def rk (f : Fin 256 → BitVec 32) (v : BitVec 32) (t : Fin 256) : ℕ := ∑ k : Fin 256, if f k = v ∧ k ≤ t then 1 else 0
/-- How many of the choices are `v`. -/
def tot (f : Fin 256 → BitVec 32) (v : BitVec 32) : ℕ := ∑ k : Fin 256, if f k = v then 1 else 0

theorem rk_le (f : Fin 256 → BitVec 32) (v : BitVec 32) (t : Fin 256) : rk f v t ≤ 256 := by
  unfold rk
  refine (Finset.sum_le_sum (g := fun _ => 1) fun k _ => ?_).trans (by simp)
  split <;> omega
theorem tot_le (f : Fin 256 → BitVec 32) (v : BitVec 32) : tot f v ≤ 256 := by
  unfold tot
  refine (Finset.sum_le_sum (g := fun _ => 1) fun k _ => ?_).trans (by simp)
  split <;> omega
theorem rk_pos (f : Fin 256 → BitVec 32) (t : Fin 256) : 1 ≤ rk f (f t) t := by
  unfold rk
  refine le_trans ?_ (Finset.single_le_sum (f := fun k : Fin 256 => if f k = f t ∧ k ≤ t then 1 else 0) (fun _ _ => Nat.zero_le _) (Finset.mem_univ t))
  rw [if_pos ⟨rfl, le_refl _⟩]

/-- The places of a token's two choices within their experts. -/
def pl1 (e₁ : Fin 256 → BitVec 32) (t : Fin 256) : ℕ := rk e₁ (e₁ t) t - 1
def pl2 (e₁ e₂ : Fin 256 → BitVec 32) (t : Fin 256) : ℕ := rk e₂ (e₂ t) t - 1 + min (tot e₁ (e₂ t)) 40

theorem pl1_lt (e₁ : Fin 256 → BitVec 32) (t : Fin 256) : pl1 e₁ t < 256 := by
  have := rk_le e₁ (e₁ t) t; have := rk_pos e₁ t; unfold pl1; omega
theorem pl2_lt (e₁ e₂ : Fin 256 → BitVec 32) (t : Fin 256) : pl2 e₁ e₂ t < 296 := by
  have := rk_le e₂ (e₂ t) t; have := rk_pos e₂ t; unfold pl2; omega

theorem sub_one {n : ℕ} (h : 1 ≤ n) (hn : n < 4294967296) : BitVec.ofNat 32 n - 1#32 = BitVec.ofNat 32 (n - 1) := by
  apply BitVec.eq_of_toNat_eq
  simp only [BitVec.toNat_sub, BitVec.toNat_ofNat]
  omega

/-- A sum of truth values over the extended reals is the count. -/
theorem cast_count {ι : Type} (s : Finset ι) (P : ι → Prop) [DecidablePred P] :
    (∑ k ∈ s, if P k then (1 : EReal) else 0) = (((∑ k ∈ s, if P k then 1 else 0 : ℕ) : ℝ) : EReal) := by
  classical
  rw [real_nat]
  induction s using Finset.induction_on with
  | empty => simp
  | insert a s ha ih =>
    rw [Finset.sum_insert ha, Finset.sum_insert ha, ih, Nat.cast_add]
    split <;> simp

/-- A sum of truth values over the 32-bit integers is the count. -/
theorem fold_count {ι : Type} (s : Finset ι) (P : ι → Prop) [DecidablePred P] :
    s.fold IntOp.addi 0#32 (fun k => if P k then 1#32 else 0#32) = BitVec.ofNat 32 (∑ k ∈ s, if P k then 1 else 0) := by
  classical
  induction s using Finset.induction_on with
  | empty => rfl
  | insert a s ha ih =>
    rw [Finset.fold_insert ha, Finset.sum_insert ha, ih, BitVec.ofNat_add]
    split <;> rfl

end Cert.Disp

end
-- ==== Proof.KIRt.lean ====
/-
  The kernel's positions, kept flags and combine weights, over the ideal numbers.
-/
module

public import proofs.«01_k».proof.Proof.KIVals
public import proofs.«01_k».proof.Proof.Count
public import Idealize.ShloMosaic.Lib.MatmulPlain

@[expose] public section

noncomputable section

namespace Cert.KernelIdeal.Disp

open Cert.Disp Cert.KernelIdeal Cert.KernelIdeal.Gen
open Idealize.ShloMosaic Idealize.ShloMosaic.ValueIdx

/-! ## Layouts -/

theorem flat3 {α : Type} (x : S1x1x256.Idx → α) (u : Fin 1) (t : Fin 256) :
    shapeCast S1x256 x shapeCasts_S1x1x256_S1x256 (ix2 u t) = x (ix3 (0 : Fin 1) (0 : Fin 1) t) :=
  shapeCast_apply _ _ _ _ (by rw [Shape.rowMajor_val_three, Shape.rowMajor_val_two]; simp)
theorem unflat3 {α : Type} (x : S1x256.Idx → α) (u v : Fin 1) (t : Fin 256) :
    shapeCast S1x1x256 x shapeCasts_S1x256_S1x1x256 (ix3 u v t) = x (ix2 (0 : Fin 1) t) :=
  shapeCast_apply _ _ _ _ (by rw [Shape.rowMajor_val_three, Shape.rowMajor_val_two]; simp)
theorem flat1 {α : Type} (x : S256.Idx → α) (u : Fin 1) (t : Fin 256) :
    shapeCast S1x256 x shapeCasts_S256_S1x256 (ix2 u t) = x (ix1 t) :=
  shapeCast_apply _ _ _ _ (by rw [Shape.rowMajor_val_one, Shape.rowMajor_val_two]; simp)
theorem col16 {α : Type} (x : S16.Idx → α) (e : Fin 16) (u : Fin 1) :
    shapeCast S16x1 x shapeCasts_S16_S16x1 (ix2 e u) = x (ix1 e) :=
  shapeCast_apply _ _ _ _ (by rw [Shape.rowMajor_val_one, Shape.rowMajor_val_two]; simp)
theorem row16 {α : Type} (x : S1x256.Idx → α) (e : Fin 16) (t : Fin 256) :
    broadcastTo S16x256 x broadcasts_S1x256_S16x256 (ix2 e t) = x (ix2 (0 : Fin 1) t) :=
  broadcastTo_apply _ _ _ _ fun a => by match a with | ⟨0, _⟩ => rfl | ⟨1, _⟩ => rfl
theorem colb16 {α : Type} (x : S16x1.Idx → α) (e : Fin 16) (t : Fin 256) :
    broadcastTo S16x256 x broadcasts_S16x1_S16x256 (ix2 e t) = x (ix2 e (0 : Fin 1)) :=
  broadcastTo_apply _ _ _ _ fun a => by match a with | ⟨0, _⟩ => rfl | ⟨1, _⟩ => rfl

theorem io16 (e : Fin 16) (t : Fin 256) : iota .tc S16x256 32 [0] iota_S16x256_d0_w32 (ix2 e t) = BitVec.ofNat 32 e := by
  show BitVec.ofNat 32 (0 * 16 + (e : ℕ)) = _
  rw [Nat.zero_mul, Nat.zero_add]

/-! ## One-hots and counts -/

/-- A row of choices. -/
abbrev rowOf (x : IVec S1x1x256 32) : Fin 256 → BitVec 32 := fun t => x (ix3 (0 : Fin 1) (0 : Fin 1) t)

theorem pay3_at (x : IVec S1x1x256 32) (e : Fin 16) (t : Fin 256) :
    (k0_pay3 (F := Ideal) x (ix2 e t) : EReal) = if rowOf x t = BitVec.ofNat 32 e then 1 else 0 := by
  unfold k0_pay3 k0_pay1
  refine bit_val ?_
  show IntOp.cmpi .eq (iota .tc S16x256 32 [0] iota_S16x256_d0_w32 (ix2 e t)) (broadcastTo S16x256 (shapeCast S1x256 x shapeCasts_S1x1x256_S1x256) broadcasts_S1x256_S16x256 (ix2 e t)) = 1#1 ↔ _
  rw [io16, row16, flat3, IntOp.cmpi_eq]
  exact eq_comm
theorem pay4_at (x : IVec S1x1x256 32) (e : Fin 16) (t : Fin 256) :
    (k0_pay4 (F := Ideal) x (ix2 e t) : EReal) = if rowOf x t = BitVec.ofNat 32 e then 1 else 0 := pay3_at x e t

theorem pay64_at (k t : Fin 256) : (k0_pay64 (F := Ideal) (ix2 k t) : EReal) = if k ≤ t then 1 else 0 := by
  unfold k0_pay64
  refine bit_val ?_
  show IntOp.cmpi .sle (BitVec.ofNat 32 (0 * 256 + (k : ℕ))) (BitVec.ofNat 32 (0 * 256 + (t : ℕ))) = 1#1 ↔ _
  rw [Nat.zero_mul, Nat.zero_add, Nat.zero_add, sle_ofNat (by omega) (by omega)]
  exact Iff.rfl

theorem count_sum (f : Fin 256 → BitVec 32) (v : BitVec 32) (t : Fin 256) :
    (∑ k : Fin 256, (if f k = v then (1 : EReal) else 0) * (if k ≤ t then 1 else 0)) = ((rk f v t : ℝ) : EReal) := by
  unfold rk
  rw [← cast_count]
  refine Finset.sum_congr rfl fun k _ => ?_
  by_cases h₁ : f k = v <;> by_cases h₂ : k ≤ t <;> simp [h₁, h₂]

theorem pay5_at (x y : IVec S1x1x256 32) (i : Fin 32) (t : Fin 256) :
    k0_pay5 (F := Ideal) k0_pay64 x y (ix2 i t)
      = (∑ k : Fin 256, concatenate S32x256 0 [⟨S16x256, k0_pay3 (F := Ideal) x⟩, ⟨S16x256, k0_pay4 (F := Ideal) y⟩] concatenates_S16x256_S16x256_S32x256_d0 (ix2 i k) * (if k ≤ t then 1 else 0) : EReal) := by
  unfold k0_pay5
  refine (Ideal.matmul_plain_apply (M := 32) (K := 256) (N := 256) none _ _ _ i t).trans ?_
  rw [cst_at, zero32, zero_add]
  exact Finset.sum_congr rfl fun k _ => by rw [pay64_at]; rfl

theorem low_at (x y : IVec S1x1x256 32) (e : Fin 16) (t : Fin 256) :
    (extractStridedSlice S16x256 ![0, 0] (k0_pay5 (F := Ideal) k0_pay64 x y) slices_S32x256_o0_0_S16x256 (ix2 e t) : EReal)
      = ((rk (rowOf x) (BitVec.ofNat 32 e) t : ℝ) : EReal) := by
  rw [extractStridedSlice_apply _ _ slices_S32x256_o0_0_S16x256 (ix2 e t) (ix2 (⟨e, by omega⟩ : Fin 32) t) fun a => by
    match a with | ⟨0, _⟩ => exact (Nat.zero_add _).symm | ⟨1, _⟩ => exact (Nat.zero_add _).symm]
  rw [pay5_at, ← count_sum]
  refine Finset.sum_congr rfl fun k _ => congrArg (fun z : EReal => z * _) ?_
  rw [concatenate_pair_apply_left (s₁ := S16x256) (s₂ := S16x256) 0 _ _ concatenates_S16x256_S16x256_S32x256_d0 (ix2 (⟨e, by omega⟩ : Fin 32) k) rfl (ix2 e k) fun b => by
    match b with | ⟨0, _⟩ => rfl | ⟨1, _⟩ => rfl]
  exact pay3_at x e k

theorem high_at (x y : IVec S1x1x256 32) (e : Fin 16) (t : Fin 256) :
    (extractStridedSlice S16x256 ![16, 0] (k0_pay5 (F := Ideal) k0_pay64 x y) slices_S32x256_o16_0_S16x256 (ix2 e t) : EReal)
      = ((rk (rowOf y) (BitVec.ofNat 32 e) t : ℝ) : EReal) := by
  rw [extractStridedSlice_apply _ _ slices_S32x256_o16_0_S16x256 (ix2 e t) (ix2 (⟨16 + e, by omega⟩ : Fin 32) t) fun a => by
    match a with | ⟨0, _⟩ => rfl | ⟨1, _⟩ => exact (Nat.zero_add _).symm]
  rw [pay5_at, ← count_sum]
  refine Finset.sum_congr rfl fun k _ => congrArg (fun z : EReal => z * _) ?_
  rw [concatenate_pair_apply_right (s₁ := S16x256) (s₂ := S16x256) 0 _ _ concatenates_S16x256_S16x256_S32x256_d0 (ix2 (⟨16 + e, by omega⟩ : Fin 32) k) rfl rfl (ix2 e k)
    (fun b hb => by match b with | ⟨0, _⟩ => exact absurd rfl hb | ⟨1, _⟩ => rfl) (Nat.add_comm _ _)]
  exact pay4_at y e k

/-! ## Positions -/

variable {x y : IVec S1x1x256 32}

/-- A sum over the experts picks the token's own. -/
theorem theirs (v : BitVec 32) (hv : v.toNat < 16) (g : BitVec 32 → EReal) :
    (∑ e : Fin 16, (if v = BitVec.ofNat 32 e then (1 : EReal) else 0) * g (BitVec.ofNat 32 e)) = g v := by
  have ev : BitVec.ofNat 32 ((⟨v.toNat, hv⟩ : Fin 16) : ℕ) = v := by simp
  rw [Finset.sum_eq_single (⟨v.toNat, hv⟩ : Fin 16)]
  · rw [ev, if_pos rfl, one_mul]
  · intro e _ he
    rw [if_neg fun h => he (Fin.ext ?_), zero_mul]
    show (e : ℕ) = v.toNat
    rw [h, BitVec.toNat_ofNat]
    have := e.isLt; omega
  · exact fun h => absurd (Finset.mem_univ _) h

theorem pay6_at (hx : ∀ t, (rowOf x t).toNat < 16) (u : Fin 1) (t : Fin 256) :
    k0_pay6 (F := Ideal) k0_pay64 x y (ix2 u t) = BitVec.ofNat 32 (pl1 (rowOf x) t) := by
  have e : (multiReduction .add [0] S256 (mulf (k0_pay3 (F := Ideal) x) (extractStridedSlice S16x256 ![0, 0] (k0_pay5 (F := Ideal) k0_pay64 x y) slices_S32x256_o0_0_S16x256))
      0x00000000#32 reduces_S16x256_S256 (.inl rfl) rfl (ix1 t) : EReal) = ((rk (rowOf x) (rowOf x t) t : ℝ) : EReal) := by
    refine (sum0_at (p := 256) (n := 16) _ _ _ _ _ t).trans ?_
    rw [← theirs _ (hx t) fun v => ((rk (rowOf x) v t : ℝ) : EReal)]
    exact Finset.sum_congr rfl fun k _ => by rw [mulf_at, pay3_at, low_at]
  unfold k0_pay6
  show Ideal.fptosi 32 (shapeCast S1x256 _ shapeCasts_S256_S1x256 (ix2 u t)) - 1#32 = _
  rw [flat1, e, fptosi_count (by have := rk_le (rowOf x) (rowOf x t) t; omega)]
  exact sub_one (rk_pos _ _) (by have := rk_le (rowOf x) (rowOf x t) t; omega)

theorem forty : (Ideal.ofBits .f32 0x42200000#32 : EReal) = (((40 : ℕ) : ℝ) : EReal) := by
  simp [Ideal.ofBits, Ideal.ieee, -EReal.coe_mul]
  norm_num

theorem tot_at (x : IVec S1x1x256 32) (e : Fin 16) :
    (multiReduction .add [1] S16 (k0_pay3 (F := Ideal) x) 0x00000000#32 reduces_S16x256_S16 (.inl rfl) rfl (ix1 e) : EReal)
      = ((tot (rowOf x) (BitVec.ofNat 32 e) : ℝ) : EReal) := by
  refine (sum1_at (p := 16) (n := 256) _ _ _ _ _ e).trans ?_
  unfold tot
  rw [← cast_count]
  exact Finset.sum_congr rfl fun k _ => pay3_at x e k

theorem min_forty (n : ℕ) : (min ((n : ℝ) : EReal) (Ideal.ofBits .f32 0x42200000#32) : EReal) = (((min n 40 : ℕ) : ℝ) : EReal) := by
  rw [forty, Nat.cast_min]
  exact (EReal.coe_strictMono.monotone.map_min).symm

/-- The capped number of first choices, along the row. -/
def capd (x : IVec S1x1x256 32) : FVec Ideal S16x256 .f32 :=
  broadcastTo S16x256 (minimumf (shapeCast S16x1 (multiReduction .add [1] S16 (k0_pay3 (F := Ideal) x) 0x00000000#32 reduces_S16x256_S16 (.inl rfl) rfl) shapeCasts_S16_S16x1)
    (broadcast S16x1 (Scalar.ofBits (F := Ideal) .f32 0x42200000#32))) broadcasts_S16x1_S16x256

theorem capd_at (x : IVec S1x1x256 32) (e : Fin 16) (t : Fin 256) :
    (capd x (ix2 e t) : EReal) = (((min (tot (rowOf x) (BitVec.ofNat 32 e)) 40 : ℕ) : ℝ) : EReal) := by
  unfold capd
  rw [colb16, minf_at, col16, tot_at]
  exact min_forty _

theorem sum7 (hy : ∀ t, (rowOf y t).toNat < 16) (t : Fin 256) :
    (multiReduction .add [0] S256 (mulf (k0_pay4 (F := Ideal) y) (addf (extractStridedSlice S16x256 ![16, 0] (k0_pay5 (F := Ideal) k0_pay64 x y) slices_S32x256_o16_0_S16x256) (capd x)))
      0x00000000#32 reduces_S16x256_S256 (.inl rfl) rfl (ix1 t) : EReal) = (((rk (rowOf y) (rowOf y t) t + min (tot (rowOf x) (rowOf y t)) 40 : ℕ) : ℝ) : EReal) := by
  refine (sum0_at (p := 256) (n := 16) _ _ _ _ _ t).trans ?_
  rw [← theirs _ (hy t) fun v => (((rk (rowOf y) v t + min (tot (rowOf x) v) 40 : ℕ) : ℝ) : EReal)]
  refine Finset.sum_congr rfl fun k _ => ?_
  rw [mulf_at, pay4_at, addf_at, high_at, capd_at, Nat.cast_add, EReal.coe_add]

theorem pay7_at (hy : ∀ t, (rowOf y t).toNat < 16) (u : Fin 1) (t : Fin 256) :
    k0_pay7 (F := Ideal) k0_pay64 x y (ix2 u t) = BitVec.ofNat 32 (pl2 (rowOf x) (rowOf y) t) := by
  have h₁ := rk_le (rowOf y) (rowOf y t) t
  have h₂ := rk_pos (rowOf y) t
  have e : k0_pay7 (F := Ideal) k0_pay64 x y (ix2 u t) = Ideal.fptosi 32 (shapeCast S1x256 (multiReduction .add [0] S256 (mulf (k0_pay4 (F := Ideal) y) (addf (extractStridedSlice S16x256 ![16, 0] (k0_pay5 (F := Ideal) k0_pay64 x y) slices_S32x256_o16_0_S16x256) (capd x)))
      0x00000000#32 reduces_S16x256_S256 (.inl rfl) rfl) shapeCasts_S256_S1x256 (ix2 u t)) - 1#32 := by
    unfold k0_pay7 capd
    rfl
  rw [e, flat1, sum7 hy, fptosi_count (by omega), sub_one (by omega) (by omega)]
  unfold pl2
  exact congrArg (BitVec.ofNat 32) (Nat.sub_add_comm h₂)

theorem pay8_at (hx : ∀ t, (rowOf x t).toNat < 16) (u : Fin 1) (t : Fin 256) :
    k0_pay8 (F := Ideal) k0_pay64 x y (ix2 u t) = 1#1 ↔ pl1 (rowOf x) t < 40 := by
  unfold k0_pay8
  show IntOp.cmpi .slt (k0_pay6 (F := Ideal) k0_pay64 x y (ix2 u t)) (BitVec.ofNat 32 40) = 1#1 ↔ _
  rw [pay6_at hx, slt_ofNat (by have := pl1_lt (rowOf x) t; omega) (by omega)]
theorem pay9_at (hy : ∀ t, (rowOf y t).toNat < 16) (u : Fin 1) (t : Fin 256) :
    k0_pay9 (F := Ideal) k0_pay64 x y (ix2 u t) = 1#1 ↔ pl2 (rowOf x) (rowOf y) t < 40 := by
  unfold k0_pay9
  show IntOp.cmpi .slt (k0_pay7 (F := Ideal) k0_pay64 x y (ix2 u t)) (BitVec.ofNat 32 40) = 1#1 ↔ _
  rw [pay7_at hy, slt_ofNat (by have := pl2_lt (rowOf x) (rowOf y) t; omega) (by omega)]

/-! ## The stored rows -/

variable (I : Ins Ideal) (b : Fin 6)

/-- A sequence's first and second choices. -/
abbrev E1 (b : ℕ) : Fin 256 → BitVec 32 := rowOf (ixR I b 0)
abbrev E2 (b : ℕ) : Fin 256 → BitVec 32 := rowOf (ixR I b 1)

/-- The place of choice `j`. -/
def plN (b : ℕ) (j : ℕ) (t : Fin 256) : ℕ := if j = 0 then pl1 (E1 I b) t else pl2 (E1 I b) (E2 I b) t

theorem plN_lt (b j : ℕ) (t : Fin 256) : plN I b j t < 296 := by
  unfold plN
  split
  · have := pl1_lt (E1 I b) t; omega
  · exact pl2_lt _ _ t

variable (h1 : ∀ b t, (E1 I b t).toNat < 16) (h2 : ∀ b t, (E2 I b t).toNat < 16)
include h1 h2

theorem pos0_at (b : ℕ) (u : Fin 1) (t : Fin 256) : pos0 I b (ix2 u t) = BitVec.ofNat 32 (pl1 (E1 I b) t) := pay6_at (h1 b) u t
theorem pos1_at (b : ℕ) (u : Fin 1) (t : Fin 256) : pos1 I b (ix2 u t) = BitVec.ofNat 32 (pl2 (E1 I b) (E2 I b) t) := pay7_at (h2 b) u t
theorem kp0_at (b : ℕ) (u : Fin 1) (t : Fin 256) : kp0 I b (ix2 u t) = 1#1 ↔ pl1 (E1 I b) t < 40 := pay8_at (h1 b) u t
theorem kp1_at (b : ℕ) (u : Fin 1) (t : Fin 256) : kp1 I b (ix2 u t) = 1#1 ↔ pl2 (E1 I b) (E2 I b) t < 40 := pay9_at (h2 b) u t

theorem posN_at (b j : ℕ) (t : Fin 256) : posN I b j t = BitVec.ofNat 32 (plN I b j t) := by
  unfold posN plN
  rw [atN_eq (i := ix3 (0 : Fin 1) (0 : Fin 1) t) _ _ fun a => by match a with | ⟨0, _⟩ => rfl | ⟨1, _⟩ => rfl | ⟨2, _⟩ => rfl]
  split
  · unfold k0_pay10; rw [unflat3, pos0_at I h1 h2]
  · unfold k0_pay11; rw [unflat3, pos1_at I h1 h2]

theorem POS_at (j : Fin 2) (t : Fin 256) : POS I (ix3 b j t) = BitVec.ofNat 32 (plN I b j t) := posN_at I h1 h2 b j t

omit h1 h2 in
theorem ext_eq {c : BitVec 1} {P : Prop} [Decidable P] (h : c = 1#1 ↔ P) : c.setWidth 32 = if P then 1#32 else 0#32 := by
  have e : ∀ c : BitVec 1, c = 0#1 ∨ c = 1#1 := by decide
  by_cases hP : P
  · rw [if_pos hP, h.mpr hP]; rfl
  · rw [if_neg hP, (e c).resolve_right fun e => hP (h.mp e)]; rfl

theorem KEEP_at (j : Fin 2) (t : Fin 256) : KEEP I (ix3 j b t) = if plN I b j t < 40 then 1#32 else 0#32 := by
  show keepN I j b t = _
  unfold keepN plN
  rw [atN_eq (i := ix3 (0 : Fin 1) (0 : Fin 1) t) _ _ fun a => by match a with | ⟨0, _⟩ => rfl | ⟨1, _⟩ => rfl | ⟨2, _⟩ => rfl]
  split
  · unfold k0_pay12; rw [unflat3]; exact ext_eq (kp0_at I h1 h2 b 0 t)
  · unfold k0_pay13; rw [unflat3]; exact ext_eq (kp1_at I h1 h2 b 0 t)

/-- The sum of a token's gates, one where it is zero. -/
def den (p q : EReal) : EReal := if p + q = 0 then 1 else p + q

omit h1 h2 in
theorem pay16_at (p q : FVec Ideal S1x1x256 .f32) (t : Fin 256) :
    (k0_pay16 (F := Ideal) p q (ix2 (0 : Fin 1) t) : EReal) = den (p (ix3 (0 : Fin 1) (0 : Fin 1) t)) (q (ix3 (0 : Fin 1) (0 : Fin 1) t)) := by
  unfold k0_pay16 k0_pay14 k0_pay15 den
  rw [select_at, cmpf_at, addf_at, flat3, flat3]
  show Scalar.select (Ideal.cmp .oeq _ (Ideal.ofBits .f32 0x00000000#32)) (Ideal.ofBits .f32 0x3F800000#32) _ = _
  rw [sel_eq, zero32, one32]

theorem COMB_at (j : Fin 2) (t : Fin 256) : (COMB I (ix3 b j t) : EReal)
    = Ideal.div (gaN I b j t * if plN I b j t < 40 then 1 else 0) (den (gaN I b 0 t) (gaN I b 1 t)) := by
  show combN I b j t = _
  unfold combN plN
  rw [atN_eq (i := ix3 (0 : Fin 1) (0 : Fin 1) t) _ _ fun a => by match a with | ⟨0, _⟩ => rfl | ⟨1, _⟩ => rfl | ⟨2, _⟩ => rfl]
  match j with
  | ⟨0, _⟩ =>
    rw [if_pos rfl, if_pos rfl]
    unfold k0_pay17
    rw [unflat3]
    show Ideal.div (k0_pay14 (gaR I b 0) (ix2 (0 : Fin 1) t) * FloatOps.sitofp (F := Ideal) .f32 ((kp0 I b (ix2 (0 : Fin 1) t)).setWidth 32)) (k0_pay16 (gaR I b 0) (gaR I b 1) (ix2 (0 : Fin 1) t)) = _
    rw [pay16_at, bit_val (kp0_at I h1 h2 b 0 t)]
    unfold k0_pay14
    rw [flat3]
    rfl
  | ⟨1, _⟩ =>
    rw [if_neg Nat.one_ne_zero, if_neg Nat.one_ne_zero]
    unfold k0_pay19 k0_pay18
    rw [unflat3]
    show Ideal.div (k0_pay15 (gaR I b 1) (ix2 (0 : Fin 1) t) * FloatOps.sitofp (F := Ideal) .f32 ((kp1 I b (ix2 (0 : Fin 1) t)).setWidth 32)) (k0_pay16 (gaR I b 0) (gaR I b 1) (ix2 (0 : Fin 1) t)) = _
    rw [pay16_at, bit_val (kp1_at I h1 h2 b 0 t)]
    unfold k0_pay15
    rw [flat3]
    rfl

end Cert.KernelIdeal.Disp

end
-- ==== Proof.KIBs.lean ====
/-
  The scales of the expert buffers, over the ideal numbers.
-/
module

public import proofs.«01_k».proof.Proof.KIRt

@[expose] public section

noncomputable section

namespace Cert.KernelIdeal.Disp

open Cert.Disp Cert.KernelIdeal Cert.KernelIdeal.Gen
open Idealize.ShloMosaic Idealize.ShloMosaic.ValueIdx

variable (I : Ins Ideal)

/-- A sequence's scales, at the experts of the choices. -/
def lhsF (w : BitVec 32) (T : FVec Ideal S6x256 .f32) (x : IVec S1x1x256 32) : FVec Ideal S16x256 .f32 :=
  select (cmpi .eq (iota .tc S16x256 32 [0] iota_S16x256_d0_w32) (broadcastTo S16x256 (shapeCast S1x256 x shapeCasts_S1x1x256_S1x256) broadcasts_S1x256_S16x256))
    (broadcastTo S16x256 (shapeCast S1x256 (shapeCast S1x256 (multiReduction .add [0] S256
        (select (cmpi .eq (iota .tc S6x256 32 [0] iota_S6x256_d0_w32) (broadcast S6x256 w)) T (broadcast S6x256 (Scalar.ofBits (F := Ideal) .f32 0x00000000#32)))
        0x00000000#32 reduces_S6x256_S256 (.inl rfl) rfl) shapeCasts_S256_S1x256) shapeCasts_S1x256_S1x256) broadcasts_S1x256_S16x256)
    (broadcast S16x256 (Scalar.ofBits (F := Ideal) .f32 0x00000000#32))

theorem same {α : Type} (x : S1x256.Idx → α) (u : Fin 1) (t : Fin 256) : shapeCast S1x256 x shapeCasts_S1x256_S1x256 (ix2 u t) = x (ix2 u t) :=
  shapeCast_apply _ _ _ _ rfl

theorem pick_row (b : Fin 6) (T : FVec Ideal S6x256 .f32) (t : Fin 256) :
    (multiReduction .add [0] S256
        (select (cmpi .eq (iota .tc S6x256 32 [0] iota_S6x256_d0_w32) (broadcast S6x256 (BitVec.ofNat 32 b))) T (broadcast S6x256 (Scalar.ofBits (F := Ideal) .f32 0x00000000#32)))
        0x00000000#32 reduces_S6x256_S256 (.inl rfl) rfl (ix1 t) : EReal) = T (ix2 b t) := by
  refine (sum0_at (p := 256) (n := 6) _ _ _ _ _ t).trans ?_
  have e : ∀ k : Fin 6, (select (cmpi .eq (iota .tc S6x256 32 [0] iota_S6x256_d0_w32) (broadcast S6x256 (BitVec.ofNat 32 b))) T (broadcast S6x256 (Scalar.ofBits (F := Ideal) .f32 0x00000000#32)) (ix2 k t) : EReal)
      = if k = b then (T (ix2 k t) : EReal) else 0 := fun k => by
    show Scalar.select (IntOp.cmpi .eq (BitVec.ofNat 32 (0 * 6 + (k : ℕ))) (BitVec.ofNat 32 (b : ℕ))) (T (ix2 k t)) (Ideal.ofBits .f32 0x00000000#32) = _
    rw [sel_cmpi, zero32, Nat.zero_mul, Nat.zero_add]
    by_cases h : k = b
    · rw [h, if_pos rfl, if_pos rfl]
    · rw [if_neg h, if_neg fun h' => h (Fin.ext (ofNat_inj' (by omega) (by omega) h'))]
  rw [Finset.sum_congr rfl fun k _ => e k, Finset.sum_ite_eq' Finset.univ b fun k => (T (ix2 k t) : EReal), if_pos (Finset.mem_univ _)]

theorem lhsF_at (b : Fin 6) (T : FVec Ideal S6x256 .f32) (x : IVec S1x1x256 32) (e : Fin 16) (t : Fin 256) :
    (lhsF (BitVec.ofNat 32 b) T x (ix2 e t) : EReal) = if rowOf x t = BitVec.ofNat 32 e then (T (ix2 b t) : EReal) else 0 := by
  unfold lhsF
  rw [select_at, row16, same, flat1, pick_row]
  show Scalar.select (IntOp.cmpi .eq (iota .tc S16x256 32 [0] iota_S16x256_d0_w32 (ix2 e t)) (broadcastTo S16x256 (shapeCast S1x256 x shapeCasts_S1x1x256_S1x256) broadcasts_S1x256_S16x256 (ix2 e t))) _ (Ideal.ofBits .f32 0x00000000#32) = _
  rw [io16, row16, flat3, sel_cmpi, zero32]
  simp only [eq_comm]

theorem row40 {α : Type} (x : S1x256.Idx → α) (e : Fin 40) (t : Fin 256) :
    broadcastTo S40x256 x broadcasts_S1x256_S40x256 (ix2 e t) = x (ix2 (0 : Fin 1) t) :=
  broadcastTo_apply _ _ _ _ fun a => by match a with | ⟨0, _⟩ => rfl | ⟨1, _⟩ => rfl

theorem pay62_at (x : IVec S1x1x256 32) (s : Fin 40) (t : Fin 256) :
    (k0_pay62 (F := Ideal) x (ix2 s t) : EReal) = if rowOf x t = BitVec.ofNat 32 s then 1 else 0 := by
  unfold k0_pay62
  refine bit_val ?_
  show IntOp.cmpi .eq (BitVec.ofNat 32 (0 * 40 + (s : ℕ))) (broadcastTo S40x256 (shapeCast S1x256 x shapeCasts_S1x1x256_S1x256) broadcasts_S1x256_S40x256 (ix2 s t)) = 1#1 ↔ _
  rw [row40, flat3, IntOp.cmpi_eq, Nat.zero_mul, Nat.zero_add]
  exact eq_comm

/-- A sequence's buffer scales. -/
def bsF (w : BitVec 32) (T : FVec Ideal S6x256 .f32) (x y p q : IVec S1x1x256 32) : FVec Ideal S1x16x40 .f32 :=
  shapeCast S1x16x40 (matmul dot_S16x512_S40x512_S16x40_1_1_0_0_n_n none
    (truncf .bf16 (concatenate S16x512 1 [⟨S16x256, lhsF w T x⟩, ⟨S16x256, lhsF w T y⟩] concatenates_S16x256_S16x256_S16x512_d1) bitsLt_bf16_f32)
    (truncf .bf16 (concatenate S40x512 1 [⟨S40x256, k0_pay62 (F := Ideal) p⟩, ⟨S40x256, k0_pay62 (F := Ideal) q⟩] concatenates_S40x256_S40x256_S40x512_d1) bitsLt_bf16_f32)
    (constant (F := Ideal) S16x40 .f32 0x00000000#32)) shapeCasts_S16x40_S1x16x40

theorem seq_word : ∀ b : Fin 6, b ≠ 0 → Scf.iv 1#32 1#32 (seq8 (b.val - 1)).val = BitVec.ofNat 32 b.val := by decide +kernel

theorem bsT_eq (b : Fin 6) : bsT I b = bsF (BitVec.ofNat 32 b) (TSat I (2 * b + 2)) (ixR I b 0) (ixR I b 1) (posR I b 0) (posR I b 1) := by
  by_cases hb : b = 0
  · subst hb
    unfold bsT
    rw [if_pos (show ((0 : Fin 6) : ℕ) = 0 from rfl)]
    rfl
  · unfold bsT
    rw [if_neg (show ¬(b : ℕ) = 0 from fun h => hb (Fin.ext h))]
    unfold k0_pay71 k0_pay61 k0_pay63 k0_pay60
    dsimp only
    rw [seq_word b hb]
    rfl

theorem bsF_at (b : Fin 6) (T : FVec Ideal S6x256 .f32) (x y p q : IVec S1x1x256 32) (e : Fin 16) (s : Fin 40) :
    (bsF (BitVec.ofNat 32 b) T x y p q (ix3 (0 : Fin 1) e s) : EReal)
      = (∑ t : Fin 256, if rowOf x t = BitVec.ofNat 32 e ∧ rowOf p t = BitVec.ofNat 32 s then (T (ix2 b t) : EReal) else 0)
        + ∑ t : Fin 256, if rowOf y t = BitVec.ofNat 32 e ∧ rowOf q t = BitVec.ofNat 32 s then (T (ix2 b t) : EReal) else 0 := by
  unfold bsF
  rw [shapeCast_apply _ shapeCasts_S16x40_S1x16x40 (ix3 (0 : Fin 1) e s) (ix2 e s) (by rw [Shape.rowMajor_val_three, Shape.rowMajor_val_two]; simp)]
  refine (Ideal.matmul_transposedRhs_apply (M := 16) (K := 512) (N := 40) none _ _ _ e s).trans ?_
  rw [cst_at, zero32, zero_add]
  refine (Fin.sum_univ_add (a := 256) (b := 256) (M := EReal) _).trans ?_
  refine congrArg₂ (fun u v : EReal => u + v) (Finset.sum_congr rfl fun t _ => ?_) (Finset.sum_congr rfl fun t _ => ?_)
  · rw [truncf_at, truncf_at,
      concatenate_pair_apply_left (s₁ := S16x256) (s₂ := S16x256) 1 _ _ concatenates_S16x256_S16x256_S16x512_d1 (ix2 e (Fin.castAdd 256 t)) rfl (ix2 e t) fun b => by
        match b with | ⟨0, _⟩ => rfl | ⟨1, _⟩ => rfl,
      concatenate_pair_apply_left (s₁ := S40x256) (s₂ := S40x256) 1 _ _ concatenates_S40x256_S40x256_S40x512_d1 (ix2 s (Fin.castAdd 256 t)) rfl (ix2 s t) fun b => by
        match b with | ⟨0, _⟩ => rfl | ⟨1, _⟩ => rfl, lhsF_at, pay62_at]
    by_cases h₁ : rowOf x t = BitVec.ofNat 32 e <;> by_cases h₂ : rowOf p t = BitVec.ofNat 32 s <;> simp [h₁, h₂]
  · rw [truncf_at, truncf_at,
      concatenate_pair_apply_right (s₁ := S16x256) (s₂ := S16x256) 1 _ _ concatenates_S16x256_S16x256_S16x512_d1 (ix2 e (Fin.natAdd 256 t)) rfl rfl (ix2 e t)
        (fun b hb => by match b with | ⟨0, _⟩ => rfl | ⟨1, _⟩ => exact absurd rfl hb) (Nat.add_comm _ _),
      concatenate_pair_apply_right (s₁ := S40x256) (s₂ := S40x256) 1 _ _ concatenates_S40x256_S40x256_S40x512_d1 (ix2 s (Fin.natAdd 256 t)) rfl rfl (ix2 s t)
        (fun b hb => by match b with | ⟨0, _⟩ => rfl | ⟨1, _⟩ => exact absurd rfl hb) (Nat.add_comm _ _), lhsF_at, pay62_at]
    by_cases h₁ : rowOf y t = BitVec.ofNat 32 e <;> by_cases h₂ : rowOf q t = BitVec.ofNat 32 s <;> simp [h₁, h₂]

theorem TSat_row (b : Fin 6) (t : Fin 256) : (TSat I (2 * b + 2) (ix2 b t) : EReal) = TS I (ix2 b t) := by
  have e₁ : TSat I (2 * b + 2) (ix2 b t) = tsN I b t := if_pos (by show 2 * (b : ℕ) + (t : ℕ) / 128 < _; omega)
  have e₂ : TSat I 12 (ix2 b t) = tsN I b t := if_pos (by show 2 * (b : ℕ) + (t : ℕ) / 128 < _; omega)
  exact e₁.trans e₂.symm

variable (h1 : ∀ b t, (E1 I b t).toNat < 16) (h2 : ∀ b t, (E2 I b t).toNat < 16)
include h1 h2

theorem posR_at (b j : ℕ) (t : Fin 256) : rowOf (posR I b j) t = BitVec.ofNat 32 (plN I b j t) := posN_at I h1 h2 b j t

theorem place_iff (b j : ℕ) (t : Fin 256) (s : Fin 40) : rowOf (posR I b j) t = BitVec.ofNat 32 s ↔ plN I b j t = s := by
  rw [posR_at I h1 h2]
  have := plN_lt I b j t
  exact ⟨fun h => ofNat_inj' (by omega) (by omega) h, fun h => by rw [h]⟩

theorem BS_at (b : Fin 6) (e : Fin 16) (s : Fin 40) : (BS I (ix3 b e s) : EReal)
    = (∑ t : Fin 256, if E1 I b t = BitVec.ofNat 32 e ∧ pl1 (E1 I b) t = s then (TS I (ix2 b t) : EReal) else 0)
      + ∑ t : Fin 256, if E2 I b t = BitVec.ofNat 32 e ∧ pl2 (E1 I b) (E2 I b) t = s then (TS I (ix2 b t) : EReal) else 0 := by
  show bsN I b e s = _
  unfold bsN
  rw [atN_eq (i := ix3 (0 : Fin 1) e s) _ _ fun a => by match a with | ⟨0, _⟩ => rfl | ⟨1, _⟩ => rfl | ⟨2, _⟩ => rfl]
  rw [bsT_eq, bsF_at]
  refine congrArg₂ (fun u v : EReal => u + v) (Finset.sum_congr rfl fun t _ => ?_) (Finset.sum_congr rfl fun t _ => ?_)
  · rw [TSat_row]
    refine if_congr (and_congr_right fun _ => ?_) rfl rfl
    exact place_iff I h1 h2 b 0 t s
  · rw [TSat_row]
    refine if_congr (and_congr_right fun _ => ?_) rfl rfl
    exact place_iff I h1 h2 b 1 t s

end Cert.KernelIdeal.Disp

end
-- ==== Proof.KIBuf.lean ====
/-
  The expert buffers the kernel fills, over the ideal numbers.
-/
module

public import proofs.«01_k».proof.Proof.KIRt
public import Idealize.ShloMosaic.Lib.BitcastPair

@[expose] public section

noncomputable section

namespace Cert.KernelIdeal.Disp

open Cert.Disp Cert.KernelIdeal Cert.KernelIdeal.Gen
open Idealize.ShloMosaic Idealize.ShloMosaic.ValueIdx

/-! ## Bytes of a word -/

/-- Words read as bytes: byte row `r` is byte `r % 4` of word row `r / 4`. -/
theorem bytes_at {R r n : ℕ} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) :
    bitcast ⟨2, ![R, n]⟩ 8 x h (ix2 a l) = (x (ix2 p l)).extractLsb' (8 * (a % 4)) 8 := by
  apply BitVec.eq_of_getLsbD_eq
  intro i hi
  rw [bitcast_getLsbD x h _ i hi (by decide), BitVec.getLsbD_extractLsb']
  have er : Shape.row (s := ⟨2, ![R, n]⟩) (ix2 a l) = a.val := rfl
  have eq : (Shape.row (s := ⟨2, ![R, n]⟩) (ix2 a l) * 8 + i) % 32 = 8 * (a.val % 4) + i := by rw [er]; omega
  rw [eq, decide_eq_true hi, Bool.true_and]
  refine congrArg (fun j => (x j).getLsbD (8 * (a.val % 4) + i)) ?_
  funext c
  match c with
  | ⟨0, _⟩ =>
    refine Fin.ext ((h.srcIdx_row _ _ _ ⟨0, Nat.zero_lt_two⟩ rfl).trans ?_)
    rw [er]
    show (a.val * 8 + i) / 32 = p.val
    omega
  | ⟨1, _⟩ => exact Fin.ext (h.srcIdx_other _ _ _ ⟨1, Nat.one_lt_two⟩ (by show ¬ 1 + 2 = 2; omega))

/-- The word a slot writes at word row `p`: the byte of one, in the slot's place. -/
def slotW (s : BitVec 32) (p : ℕ) : BitVec 32 :=
  Scalar.select (IntOp.cmpi .eq (BitVec.ofNat 32 p) (IntOp.shrsi .vector s 2#32)) (IntOp.shli .vector 56#32 (IntOp.muli (IntOp.andi s 3#32) 8#32)) 0#32

theorem slot_row : ∀ n : Fin 640, IntOp.shrsi .vector (BitVec.ofNat 32 n) 2#32 = BitVec.ofNat 32 (n / 4) := by decide +kernel
theorem slot_bits : ∀ n : Fin 640, ∀ k : Fin 4,
    (IntOp.shli .vector 56#32 (IntOp.muli (IntOp.andi (BitVec.ofNat 32 n) 3#32) 8#32)).extractLsb' (8 * k) 8 = if k.val = n % 4 then 0x38#8 else 0#8 := by
  decide +kernel

theorem slotW_hit (n : ℕ) (hn : n < 640) (p : ℕ) (hp : p < 160) (k : ℕ) (hk : k < 4) :
    (slotW (BitVec.ofNat 32 n) p).extractLsb' (8 * k) 8 = if n = 4 * p + k then 0x38#8 else 0#8 := by
  unfold slotW
  rw [slot_row ⟨n, hn⟩, sel_cmpi]
  by_cases h : p = n / 4
  · rw [if_pos (congrArg _ h), slot_bits ⟨n, hn⟩ ⟨k, hk⟩]
    refine if_congr ?_ rfl rfl
    show k = n % 4 ↔ n = 4 * p + k
    omega
  · rw [if_neg fun h' => h (ofNat_inj' (by omega) (by show n / 4 < _; omega) h'), if_neg (by omega)]
    simp

theorem slotW_miss (p : ℕ) (hp : p < 160) (k : ℕ) : (slotW 4294967295#32 p).extractLsb' (8 * k) 8 = 0#8 := by
  unfold slotW
  rw [show IntOp.shrsi .vector 4294967295#32 2#32 = BitVec.ofNat 32 4294967295 from by decide +kernel, sel_cmpi,
    if_neg fun h => absurd (ofNat_inj' (by omega) (by omega) h) (by omega)]
  simp

theorem byte_one : (Ideal.ofBits .fp8e4m3 0x38#8 : EReal) = 1 := by
  simp [Ideal.ofBits, Ideal.e4m3fn, -EReal.coe_mul]; norm_num
theorem byte_zero : (Ideal.ofBits .fp8e4m3 0#8 : EReal) = 0 := by
  simp [Ideal.ofBits, Ideal.e4m3fn, -EReal.coe_mul]

/-! ## The slots of a token -/

/-- The slot of a choice: 40 places per expert, or none. -/
def slotOf (keep : BitVec 1) (e pos : BitVec 32) : BitVec 32 := Scalar.select keep (IntOp.addi (IntOp.muli e 40#32) pos) 4294967295#32

theorem row160 {α : Type} (x : S1x256.Idx → α) (e : Fin 160) (t : Fin 256) :
    broadcastTo S160x256 x broadcasts_S1x256_S160x256 (ix2 e t) = x (ix2 (0 : Fin 1) t) :=
  broadcastTo_apply _ _ _ _ fun a => by match a with | ⟨0, _⟩ => rfl | ⟨1, _⟩ => rfl
theorem same' {α : Type} (x : S1x256.Idx → α) (u : Fin 1) (t : Fin 256) : shapeCast S1x256 x shapeCasts_S1x256_S1x256 (ix2 u t) = x (ix2 u t) :=
  shapeCast_apply _ _ _ _ rfl

/-- The words of one choice. -/
def wordsF (e pos : IVec S1x256 32) (keep : IVec S1x256 1) : IVec S160x256 32 :=
  select (cmpi .eq (iota .tc S160x256 32 [0] iota_S160x256_d0_w32)
      (broadcastTo S160x256 (shrsi (select keep (addi (muli e (broadcast S1x256 40#32)) pos) (broadcast S1x256 4294967295#32)) (broadcast S1x256 2#32)) broadcasts_S1x256_S160x256))
    (broadcastTo S160x256 (shapeCast S1x256 (shli (broadcast S1x256 56#32) (muli (andi (select keep (addi (muli e (broadcast S1x256 40#32)) pos) (broadcast S1x256 4294967295#32)) (broadcast S1x256 3#32)) (broadcast S1x256 8#32))) shapeCasts_S1x256_S1x256) broadcasts_S1x256_S160x256)
    (broadcast S160x256 0#32)

theorem wordsF_at (e pos : IVec S1x256 32) (keep : IVec S1x256 1) (p : Fin 160) (t : Fin 256) :
    wordsF e pos keep (ix2 p t) = slotW (slotOf (keep (ix2 (0 : Fin 1) t)) (e (ix2 (0 : Fin 1) t)) (pos (ix2 (0 : Fin 1) t))) p := by
  unfold wordsF
  rw [select_at, row160, same']
  show Scalar.select (IntOp.cmpi .eq (BitVec.ofNat 32 (0 * 160 + (p : ℕ))) (broadcastTo S160x256 _ broadcasts_S1x256_S160x256 (ix2 p t))) _ _ = _
  rw [row160, Nat.zero_mul, Nat.zero_add]
  rfl

theorem pay20_eq (e₁ e₂ p₁ p₂ : IVec S1x256 32) (k₁ k₂ : IVec S1x256 1) :
    k0_pay20 e₁ e₂ p₁ p₂ k₁ k₂ = ori (wordsF e₁ p₁ k₁) (wordsF e₂ p₂ k₂) := by
  unfold k0_pay20 wordsF
  rfl

/-- Whether a choice's slot is the place `s` of expert `x`. -/
theorem slot_byte {keep : BitVec 1} {e pos : BitVec 32} {n : ℕ} (he : e.toNat < 16) (hp : pos = BitVec.ofNat 32 n) (hk : keep = 1#1 ↔ n < 40)
    (x : Fin 16) (s : Fin 40) :
    (slotW (slotOf keep e pos) ((40 * (x : ℕ) + s) / 4)).extractLsb' (8 * ((40 * (x : ℕ) + s) % 4)) 8 = if e = BitVec.ofNat 32 x ∧ n = s then 0x38#8 else 0#8 := by
  have hx := x.isLt
  have hs := s.isLt
  unfold slotOf
  rw [sel_cond hk]
  have ee : e = BitVec.ofNat 32 e.toNat := by simp
  have ex : e = BitVec.ofNat 32 x ↔ e.toNat = x := by
    constructor
    · intro h; rw [ee] at h; exact ofNat_inj' (by omega) (by omega) h
    · intro h; rw [← h]; exact ee
  by_cases h : n < 40
  · rw [if_pos h]
    have e2 : IntOp.addi (IntOp.muli e 40#32) pos = BitVec.ofNat 32 (40 * e.toNat + n) := by
      rw [hp]
      apply BitVec.eq_of_toNat_eq
      simp only [IntOp.addi, IntOp.muli, BitVec.toNat_add, BitVec.toNat_mul, BitVec.toNat_ofNat]
      omega
    rw [e2, slotW_hit _ (by omega) _ (by omega) _ (Nat.mod_lt _ (by omega))]
    refine if_congr ?_ rfl rfl
    rw [ex]
    omega
  · rw [if_neg h, slotW_miss _ (by omega), if_neg fun h' => h (by omega)]

theorem or_byte (P Q : Prop) [Decidable P] [Decidable Q] :
    ((if P then 0x38#8 else 0#8) ||| (if Q then 0x38#8 else 0#8) : BitVec 8) = if P ∨ Q then 0x38#8 else 0#8 := by
  by_cases hP : P <;> by_cases hQ : Q <;> simp [hP, hQ]

/-! ## The moved tokens -/

variable (I : Ins Ideal)

theorem pickN_at (b : ℕ) (p : Fin 160) (t : Fin 256) :
    pickN I b p t = slotW (slotOf (kp0 I b (ix2 (0 : Fin 1) t)) (E1 I b t) (pos0 I b (ix2 (0 : Fin 1) t))) p
      ||| slotW (slotOf (kp1 I b (ix2 (0 : Fin 1) t)) (E2 I b t) (pos1 I b (ix2 (0 : Fin 1) t))) p := by
  unfold pickN
  rw [atN_eq (i := ix3 (0 : Fin 1) p t) _ _ fun a => by match a with | ⟨0, _⟩ => rfl | ⟨1, _⟩ => rfl | ⟨2, _⟩ => rfl]
  unfold k0_pay65
  rw [shapeCast_apply _ shapeCasts_S160x256_S1x160x256 (ix3 (0 : Fin 1) p t) (ix2 p t) (by rw [Shape.rowMajor_val_three, Shape.rowMajor_val_two]; simp), pay20_eq]
  show wordsF _ _ _ (ix2 p t) ||| wordsF _ _ _ (ix2 p t) = _
  rw [wordsF_at, wordsF_at]
  unfold k0_pay1 k0_pay2
  rw [flat3, flat3]

variable (h1 : ∀ b t, (E1 I b t).toNat < 16) (h2 : ∀ b t, (E2 I b t).toNat < 16)
include h1 h2

theorem pay57_at (b : ℕ) (x : Fin 16) (s : Fin 40) (t : Fin 256) :
    (k0_pay57 (F := Ideal) (pickR I b) (ix2 (⟨40 * (x : ℕ) + s, by omega⟩ : Fin 640) t) : EReal)
      = if (E1 I b t = BitVec.ofNat 32 x ∧ pl1 (E1 I b) t = s) ∨ (E2 I b t = BitVec.ofNat 32 x ∧ pl2 (E1 I b) (E2 I b) t = s) then 1 else 0 := by
  unfold k0_pay57
  show Ideal.ofBits .fp8e4m3 (bitcast S640x256 8 _ bitcasts_S160x256_w32_S640x256_w8 (ix2 (⟨40 * (x : ℕ) + s, by omega⟩ : Fin 640) t)) = _
  rw [bytes_at (R := 640) (r := 160) (n := 256) _ bitcasts_S160x256_w32_S640x256_w8 (⟨40 * (x : ℕ) + s, by omega⟩ : Fin 640) t (⟨(40 * (x : ℕ) + s) / 4, by omega⟩ : Fin 160) rfl,
    shapeCast_apply _ shapeCasts_S1x160x256_S160x256 (ix2 (⟨(40 * (x : ℕ) + s) / 4, by omega⟩ : Fin 160) t) (ix3 (0 : Fin 1) (⟨(40 * (x : ℕ) + s) / 4, by omega⟩ : Fin 160) t)
      (by rw [Shape.rowMajor_val_three, Shape.rowMajor_val_two]; simp)]
  have e : pickR I b (ix3 (0 : Fin 1) (⟨(40 * (x : ℕ) + s) / 4, by omega⟩ : Fin 160) t) = pickN I b ((40 * (x : ℕ) + s) / 4) t := rfl
  rw [e, pickN_at I b (⟨(40 * (x : ℕ) + s) / 4, by omega⟩ : Fin 160) t, BitVec.extractLsb'_or]
  rw [slot_byte (h1 b t) (pos0_at I h1 h2 b 0 t) (kp0_at I h1 h2 b 0 t) x s, slot_byte (h2 b t) (pos1_at I h1 h2 b 0 t) (kp1_at I h1 h2 b 0 t) x s, or_byte]
  by_cases h : (E1 I b t = BitVec.ofNat 32 x ∧ pl1 (E1 I b) t = s) ∨ (E2 I b t = BitVec.ofNat 32 x ∧ pl2 (E1 I b) (E2 I b) t = s)
  · rw [if_pos h, if_pos h]; exact byte_one
  · rw [if_neg h, if_neg h]; exact byte_zero

omit h1 h2 in
theorem pay59_at (A : FVec Ideal S640x256 .fp8e4m3) (B : FVec Ideal S1x256x256 .fp8e4m3) (x : Fin 16) (s : Fin 40) (c : Fin 256) :
    (k0_pay59 A B (ix4 (0 : Fin 1) x s c) : EReal)
      = ∑ t : Fin 256, (A (ix2 (⟨40 * (x : ℕ) + s, by omega⟩ : Fin 640) t) : EReal) * B (ix3 (0 : Fin 1) t c) := by
  unfold k0_pay59
  rw [shapeCast_apply _ shapeCasts_S16x40x256_S1x16x40x256 (ix4 (0 : Fin 1) x s c) (ix3 x s c) (by rw [Shape.rowMajor_val_three, Shape.rowMajor_val_four]; simp),
    truncf_at, shapeCast_apply _ shapeCasts_S640x256_S16x40x256 (ix3 x s c) (ix2 (⟨40 * (x : ℕ) + s, by omega⟩ : Fin 640) c) (by
      rw [Shape.rowMajor_val_three, Shape.rowMajor_val_two]
      show (40 * (x : ℕ) + (s : ℕ)) * 256 + (c : ℕ) = ((x : ℕ) * 40 + (s : ℕ)) * 256 + (c : ℕ)
      omega)]
  refine (Ideal.matmul_plain_apply (M := 640) (K := 256) (N := 256) none _ _ _ _ c).trans ?_
  rw [cst_at, zero32, zero_add]
  refine Finset.sum_congr rfl fun t _ => ?_
  rw [shapeCast_apply _ shapeCasts_S1x256x256_S256x256 (ix2 t c) (ix3 (0 : Fin 1) t c) (by rw [Shape.rowMajor_val_three, Shape.rowMajor_val_two]; simp)]

theorem BUF_at (b : Fin 6) (x : Fin 16) (s : Fin 40) (c : Fin 5120) : (BUF I (ix4 b x s c) : EReal)
    = ∑ t : Fin 256, (if (E1 I b t = BitVec.ofNat 32 x ∧ pl1 (E1 I b) t = s) ∨ (E2 I b t = BitVec.ofNat 32 x ∧ pl2 (E1 I b) (E2 I b) t = s) then (1 : EReal) else 0)
        * CODES I (ix3 b t c) := by
  show bufN I b x s c = _
  unfold bufN
  rw [atN_eq (i := ix4 (0 : Fin 1) x s (⟨(c : ℕ) % 256, Nat.mod_lt _ (by omega)⟩ : Fin 256)) _ _ fun a => by
    match a with | ⟨0, _⟩ => rfl | ⟨1, _⟩ => rfl | ⟨2, _⟩ => rfl | ⟨3, _⟩ => rfl]
  unfold bufT
  refine (pay59_at _ _ x s _).trans (Finset.sum_congr rfl fun t _ => ?_)
  rw [pay57_at I h1 h2]
  refine congrArg₂ (fun u v : EReal => u * v) rfl ?_
  show codeN I b t (256 * (c / 256) + c % 256) = codeN I b t c
  rw [Nat.div_add_mod]

end Cert.KernelIdeal.Disp

end
-- ==== Proof.RIVal.lean ====
/-
  The reference's two results at an index, over the ideal numbers.
-/
module

public import proofs.«01_k».proof.Defs
public import proofs.«01_k».proof.Proof.Gen.ReferenceIdeal.Run
public import proofs.«01_k».proof.Proof.At
public import Idealize.ShloMosaic.Lib.ValueIdx
public import Idealize.ShloMosaic.Lib.IdealHost
public import Idealize.ShloMosaic.Lib.ValueLayout

@[expose] public section

noncomputable section

namespace Cert.ReferenceIdeal.Disp

open Cert.Disp Cert.ReferenceIdeal Cert.ReferenceIdeal.Gen Cert.ReferenceIdeal.Value
open Idealize.ShloMosaic Idealize.ShloMosaic.ValueIdx

variable (A : FVec Ideal S6x256x5120 .bf16) (W : FVec Ideal S5120 .f32)

/-- Each row's factor. -/
def rR : FVec Ideal S6x256x1 .f32 :=
  Host.rsqrt (addf (mulf (broadcastInDim S6x256x1 ![0, 1] bcast_S6x256_S6x256x1_0_1 (Host.reduceAdd (mulf (extf .f32 A bitsLt_bf16_f32) (extf .f32 A bitsLt_bf16_f32)) (constant S_ .f32 0x00000000#32) reducesTo_S6x256x5120_S6x256_d2 h_S_)) (broadcastInDim S6x256x1 ![] bcast_S_S6x256x1 (constant S_ .f32 0x394CCCCD#32))) (broadcastInDim S6x256x1 ![] bcast_S_S6x256x1 (constant S_ .f32 0x358637BD#32)))
/-- The normalised tokens. -/
def rY : FVec Ideal S6x256x5120 .f32 :=
  mulf (mulf (extf .f32 A bitsLt_bf16_f32) (broadcastInDim S6x256x5120 ![0, 1, 2] bcast_S6x256x1_S6x256x5120_0_1_2 (rR A))) (broadcastInDim S6x256x5120 ![0, 1, 2] bcast_S1x1x5120_S6x256x5120_0_1_2 (broadcastInDim S1x1x5120 ![2] bcast_S5120_S1x1x5120_2 W))
/-- Each row's largest magnitude over the largest code. -/
def rM : FVec Ideal S6x256x1 .f32 :=
  mulf (broadcastInDim S6x256x1 ![0, 1] bcast_S6x256_S6x256x1_0_1 (Host.reduce FloatOps.maximumf (Host.absf (rY A W)) (constant S_ .f32 0xFF800000#32) reducesTo_S6x256x5120_S6x256_d2 h_S_)) (broadcastInDim S6x256x1 ![] bcast_S_S6x256x1 (constant S_ .f32 0x3B124925#32))
/-- The powers of two. -/
def rP : FVec Ideal S1x1x254 .f32 :=
  bitcastToFloat (F := Ideal) .f32 (Host.shli (addi (iotaInDim S1x1x254 32 2) (broadcastInDim S1x1x254 ![] bcast_S_S1x1x254 (constantI S_ 32 1#32))) (broadcastInDim S1x1x254 ![] bcast_S_S1x1x254 (constantI S_ 32 23#32)))
/-- The powers above the row's number, the others infinite. -/
def rQ : FVec Ideal S6x256x254 .f32 :=
  select (cmpf .ogt (broadcastInDim S6x256x254 ![0, 1, 2] bcast_S1x1x254_S6x256x254_0_1_2 rP) (broadcastInDim S6x256x254 ![0, 1, 2] bcast_S6x256x1_S6x256x254_0_1_2 (rM A W))) (broadcastInDim S6x256x254 ![0, 1, 2] bcast_S1x1x254_S6x256x254_0_1_2 rP) (broadcastInDim S6x256x254 ![] bcast_S_S6x256x254 (id (constant S_ .f32 0x7F800000#32)))
/-- The scales. -/
def rS : FVec Ideal S6x256x1 .f32 :=
  select (cmpf .olt (rM A W) (broadcastInDim S6x256x1 ![0, 1, 2] bcast_S1x1x1_S6x256x1_0_1_2 (extractStridedSlice S1x1x1 ![0, 0, 0] rP slices_S1x1x254_S1x1x1_0_0_0))) (broadcastInDim S6x256x1 ![] bcast_S_S6x256x1 (id (constant S_ .f32 0x3F800000#32))) (broadcastInDim S6x256x1 ![0, 1] bcast_S6x256_S6x256x1_0_1 (Host.reduce FloatOps.minimumf (rQ A W) (constant S_ .f32 0x7F800000#32) reducesTo_S6x256x254_S6x256_d2 h_S_))
/-- The codes. -/
def rC : FVec Ideal S6x256x5120 .fp8e4m3 :=
  Host.convertf .fp8e4m3 (minimumf (broadcastInDim S6x256x5120 ![] bcast_S_S6x256x5120 (id (constant S_ .f32 0x43E00000#32))) (maximumf (broadcastInDim S6x256x5120 ![] bcast_S_S6x256x5120 (id (constant S_ .f32 0xC3E00000#32))) (mulf (rY A W) (broadcastInDim S6x256x5120 ![0, 1, 2] bcast_S6x256x1_S6x256x5120_0_1_2 (Host.divf (broadcastInDim S6x256x1 ![] bcast_S_S6x256x1 (constant S_ .f32 0x3F800000#32)) (rS A W))))))

theorem red5120 : S6x256x5120.Reduces [2] S6x256 := by decide
theorem red254 : S6x256x254.Reduces [2] S6x256 := by decide

/-- A row of the tokens. -/
abbrev xr (a : Fin 6) (b : Fin 256) : Fin 5120 → EReal := fun c => A (ix3 a b c)
abbrev wr : Fin 5120 → EReal := fun c => W (ix1 c)

theorem bc1 {α : Type} (v : S6x256.Idx → α) (a : Fin 6) (b : Fin 256) (u : Fin 1) :
    broadcastInDim S6x256x1 ![0, 1] bcast_S6x256_S6x256x1_0_1 v (ix3 a b u) = v (ix2 a b) :=
  broadcastInDim_apply _ _ _ _ _ fun c => by match c with | ⟨0, _⟩ => rfl | ⟨1, _⟩ => rfl
theorem bc2 {α : Type} (v : S6x256x1.Idx → α) (a : Fin 6) (b : Fin 256) (c : Fin 5120) :
    broadcastInDim S6x256x5120 ![0, 1, 2] bcast_S6x256x1_S6x256x5120_0_1_2 v (ix3 a b c) = v (ix3 a b (0 : Fin 1)) :=
  broadcastInDim_apply _ _ _ _ _ fun c => by match c with | ⟨0, _⟩ => rfl | ⟨1, _⟩ => rfl | ⟨2, _⟩ => rfl
theorem bc3 {α : Type} (v : S6x256x1.Idx → α) (a : Fin 6) (b : Fin 256) (c : Fin 254) :
    broadcastInDim S6x256x254 ![0, 1, 2] bcast_S6x256x1_S6x256x254_0_1_2 v (ix3 a b c) = v (ix3 a b (0 : Fin 1)) :=
  broadcastInDim_apply _ _ _ _ _ fun c => by match c with | ⟨0, _⟩ => rfl | ⟨1, _⟩ => rfl | ⟨2, _⟩ => rfl
theorem bc4 {α : Type} (v : S1x1x254.Idx → α) (a : Fin 6) (b : Fin 256) (c : Fin 254) :
    broadcastInDim S6x256x254 ![0, 1, 2] bcast_S1x1x254_S6x256x254_0_1_2 v (ix3 a b c) = v (ix3 (0 : Fin 1) (0 : Fin 1) c) :=
  broadcastInDim_apply _ _ _ _ _ fun c => by match c with | ⟨0, _⟩ => rfl | ⟨1, _⟩ => rfl | ⟨2, _⟩ => rfl
theorem bc5 {α : Type} (v : S5120.Idx → α) (a : Fin 6) (b : Fin 256) (c : Fin 5120) :
    broadcastInDim S6x256x5120 ![0, 1, 2] bcast_S1x1x5120_S6x256x5120_0_1_2 (broadcastInDim S1x1x5120 ![2] bcast_S5120_S1x1x5120_2 v) (ix3 a b c) = v (ix1 c) :=
  (broadcastInDim_apply _ _ _ _ (ix3 (0 : Fin 1) (0 : Fin 1) c) fun c => by match c with | ⟨0, _⟩ => rfl | ⟨1, _⟩ => rfl | ⟨2, _⟩ => rfl).trans
    (broadcastInDim_apply _ _ _ _ _ fun c => by match c with | ⟨0, _⟩ => rfl)
theorem bc6 {α : Type} (v : S1x1x1.Idx → α) (a : Fin 6) (b : Fin 256) (u : Fin 1) :
    broadcastInDim S6x256x1 ![0, 1, 2] bcast_S1x1x1_S6x256x1_0_1_2 v (ix3 a b u) = v (ix3 (0 : Fin 1) (0 : Fin 1) (0 : Fin 1)) :=
  broadcastInDim_apply _ _ _ _ _ fun c => by match c with | ⟨0, _⟩ => rfl | ⟨1, _⟩ => rfl | ⟨2, _⟩ => rfl

theorem rR_at (a : Fin 6) (b : Fin 256) (u : Fin 1) : rR A (ix3 a b u) = rowR (xr A a b) := by
  unfold rR
  rw [hrsqrt_at, addf_at, mulf_at, bcs_at, bcs_at, bc1, hsum_at _ _ _ red5120, cst_at, zero32, zero_add,
    show Ideal.ofBits .f32 0x394CCCCD#32 = cMean from rfl, show Ideal.ofBits .f32 0x358637BD#32 = cEps from rfl]
  unfold rowR
  refine congrArg (fun z : EReal => Ideal.rsqrt (z * cMean + cEps)) ?_
  refine Finset.sum_congr rfl fun k _ => ?_
  rw [mulf_at, extf_at]

theorem rY_at (a : Fin 6) (b : Fin 256) (c : Fin 5120) : rY A W (ix3 a b c) = xr A a b c * rowR (xr A a b) * wr W c := by
  unfold rY
  rw [mulf_at, mulf_at, extf_at, bc2, bc5, rR_at]

theorem rM_at (a : Fin 6) (b : Fin 256) (u : Fin 1) : rM A W (ix3 a b u) = rowM (xr A a b) (wr W) := by
  unfold rM
  rw [mulf_at, bcs_at, bc1, hfold_at _ _ _ _ red5120, cst_at, ninf, show Ideal.ofBits .f32 0x3B124925#32 = cMax from rfl]
  unfold rowM
  refine congrArg (fun u : EReal => u * cMax) ?_
  refine (congrArg (fun f : Fin 5120 → EReal => Finset.univ.fold max ⊥ f) (funext fun k => ?_) :)
  rw [habsf_at, rY_at]

theorem rP_at (u v : Fin 1) (f : Fin 254) : rP (ix3 u v f) = pw (f + 1) := by
  unfold rP
  rw [bits_at]
  show Ideal.ofBits .f32 (IntOp.shli .host (BitVec.ofNat 32 f.val + 1#32) 23#32) = _
  rw [show BitVec.ofNat 32 f.val + 1#32 = BitVec.ofNat 32 (f.val + 1) from (BitVec.ofNat_add ..).symm]
  exact shl_pw .host (by have := f.isLt; omega)

theorem rQ_at (a : Fin 6) (b : Fin 256) (f : Fin 254) :
    rQ A W (ix3 a b f) = if rowM (xr A a b) (wr W) < pw (f + 1) then pw (f + 1) else ⊤ := by
  unfold rQ
  rw [select_at, cmpf_at, bcsi_at, bc4, bc3, rP_at, rM_at, sel_gt, pinf]

theorem rS_at (hW : ∀ c, av (wr W c) ≤ (((2 : ℝ) ^ 128 : ℝ) : EReal)) (a : Fin 6) (b : Fin 256) (u : Fin 1) :
    rS A W (ix3 a b u) = sc (rowM (xr A a b) (wr W)) := by
  have hM := rowM_lt (xr A a b) (wr W) hW
  unfold rS
  rw [select_at, cmpf_at, bcsi_at, bc6, bc1, rM_at, sel_lt, one32, extractStridedSlice_apply ![0, 0, 0] rP slices_S1x1x254_S1x1x1_0_0_0 _ (ix3 (0 : Fin 1) (0 : Fin 1) (0 : Fin 254))
    (fun c => by match c with | ⟨0, _⟩ => rfl | ⟨1, _⟩ => rfl | ⟨2, _⟩ => rfl), rP_at]
  rw [show ((0 : Fin 254) : ℕ) + 1 = 1 from rfl]
  by_cases h1 : rowM (xr A a b) (wr W) < pw 1
  · rw [if_pos h1]; unfold sc; rw [if_pos h1]
  · rw [if_neg h1, ← sc_eq hM h1, hfold_at _ _ _ _ red254, cst_at, pinf]
    refine (congrArg (fun f : Fin 254 → EReal => Finset.univ.fold min ⊤ f) (funext fun k => ?_) :)
    rw [rQ_at]

theorem rC_at (hW : ∀ c, av (wr W c) ≤ (((2 : ℝ) ^ 128 : ℝ) : EReal)) (a : Fin 6) (b : Fin 256) (c : Fin 5120) :
    rC A W (ix3 a b c) = min hi (max lo (xr A a b c * rowR (xr A a b) * wr W c * iv (rowM (xr A a b) (wr W)))) := by
  unfold rC hi lo
  rw [hconvertf_at, minf_at, maxf_at, mulf_at, bcsi_at, bcsi_at, bc2, rY_at, hdivf_at, bcs_at, rS_at A W hW, one32, iv_eq (rowM_lt _ _ hW)]

theorem res39 (V0 : Valuation τ sig (Elt Ideal)) :
    Host.convertf .fp8e4m3 (res_main_v39 V0) = rC (V0 (Proc.devRef .tc main_arg0)) (V0 (Proc.devRef .tc main_arg3)) := by
  unfold res_main_v39 rC rS rQ rP rM rY rR
  rfl

theorem res34 (V0 : Valuation τ sig (Elt Ideal)) :
    (res_main_v34 V0 : FVec Ideal S6x256x1 .f32) = rS (V0 (Proc.devRef .tc main_arg0)) (V0 (Proc.devRef .tc main_arg3)) := by
  unfold rS rQ rP rM rY rR
  rfl

/-- The reference's scales: one per token. -/
def rT : FVec Ideal S6x256 .f32 := shapeCast S6x256 (rS A W) shapeCasts_S6x256x1_S6x256

theorem rT_at (a : Fin 6) (b : Fin 256) : rT A W (ix2 a b) = rS A W (ix3 a b (0 : Fin 1)) :=
  shapeCast_apply _ _ _ _ (by rw [Shape.rowMajor_val_three, Shape.rowMajor_val_two]; simp)

end Cert.ReferenceIdeal.Disp

end
-- ==== Proof.RIRt.lean ====
/-
  The reference's positions, kept flags and combine weights at an index.
-/
module

public import proofs.«01_k».proof.Proof.RIVal
public import proofs.«01_k».proof.Proof.Count

@[expose] public section

noncomputable section

namespace Cert.ReferenceIdeal.Disp

open Cert.Disp Cert.ReferenceIdeal Cert.ReferenceIdeal.Gen Cert.ReferenceIdeal.Value
open Idealize.ShloMosaic Idealize.ShloMosaic.ValueIdx

theorem red256 : S6x256x256.Reduces [2] S6x256 := by decide

theorem drop1 {α : Type} (v : S6x256x1.Idx → α) (a : Fin 6) (t : Fin 256) :
    shapeCast S6x256 v shapeCasts_S6x256x1_S6x256 (ix2 a t) = v (ix3 a t (0 : Fin 1)) :=
  shapeCast_apply _ _ _ _ (by rw [Shape.rowMajor_val_three, Shape.rowMajor_val_two]; simp)
theorem sl0 {α : Type} (v : S6x256x2.Idx → α) (a : Fin 6) (t : Fin 256) (u : Fin 1) :
    extractStridedSlice S6x256x1 ![0, 0, 0] v slices_S6x256x2_S6x256x1_0_0_0 (ix3 a t u) = v (ix3 a t (0 : Fin 2)) :=
  extractStridedSlice_apply _ _ _ _ _ fun c => by
    match c with | ⟨0, _⟩ => exact (Nat.zero_add _).symm | ⟨1, _⟩ => exact (Nat.zero_add _).symm | ⟨2, _⟩ => show 0 = 0 + (u : ℕ); omega
theorem sl1 {α : Type} (v : S6x256x2.Idx → α) (a : Fin 6) (t : Fin 256) (u : Fin 1) :
    extractStridedSlice S6x256x1 ![0, 0, 1] v slices_S6x256x2_S6x256x1_0_0_1 (ix3 a t u) = v (ix3 a t (1 : Fin 2)) :=
  extractStridedSlice_apply _ _ _ _ _ fun c => by
    match c with | ⟨0, _⟩ => exact (Nat.zero_add _).symm | ⟨1, _⟩ => exact (Nat.zero_add _).symm | ⟨2, _⟩ => show 1 = 1 + (u : ℕ); omega

/-- The choices along a row, the same for every token. -/
theorem along {α : Type} (v : S6x256.Idx → α) (a : Fin 6) (t k : Fin 256) :
    broadcastInDim S6x256x256 ![0, 1, 2] bcast_S6x1x256_S6x256x256_0_1_2 (broadcastInDim S6x1x256 ![0, 2] bcast_S6x256_S6x1x256_0_2 v) (ix3 a t k) = v (ix2 a k) :=
  (broadcastInDim_apply _ _ _ _ (ix3 a (0 : Fin 1) k) fun c => by match c with | ⟨0, _⟩ => rfl | ⟨1, _⟩ => rfl | ⟨2, _⟩ => rfl).trans
    (broadcastInDim_apply _ _ _ _ _ fun c => by match c with | ⟨0, _⟩ => rfl | ⟨1, _⟩ => rfl)
/-- The token's own choice. -/
theorem mine {α : Type} (v : S6x256.Idx → α) (a : Fin 6) (t k : Fin 256) :
    broadcastInDim S6x256x256 ![0, 1, 2] bcast_S6x256x1_S6x256x256_0_1_2 (broadcastInDim S6x256x1 ![0, 1] bcast_S6x256_S6x256x1_0_1 v) (ix3 a t k) = v (ix2 a t) :=
  (broadcastInDim_apply _ _ _ _ (ix3 a t (0 : Fin 1)) fun c => by match c with | ⟨0, _⟩ => rfl | ⟨1, _⟩ => rfl | ⟨2, _⟩ => rfl).trans (bc1 v a t 0)
theorem every {α : Type} (v : S1x256x256.Idx → α) (a : Fin 6) (t k : Fin 256) :
    broadcastInDim S6x256x256 ![0, 1, 2] bcast_S1x256x256_S6x256x256_0_1_2 v (ix3 a t k) = v (ix3 (0 : Fin 1) t k) :=
  broadcastInDim_apply _ _ _ _ _ fun c => by match c with | ⟨0, _⟩ => rfl | ⟨1, _⟩ => rfl | ⟨2, _⟩ => rfl

variable (V0 : Valuation τ sig (Elt Ideal))

/-- The choices and the gates. -/
abbrev vE : IVec S6x256x2 32 := V0 (Proc.devRef .tc main_arg1)
abbrev vG : FVec Ideal S6x256x2 .f32 := V0 (Proc.devRef .tc main_arg2)
/-- A sequence's first and second choices. -/
abbrev C1 (a : Fin 6) : Fin 256 → BitVec 32 := fun t => vE V0 (ix3 a t (0 : Fin 2))
abbrev C2 (a : Fin 6) : Fin 256 → BitVec 32 := fun t => vE V0 (ix3 a t (1 : Fin 2))

theorem v43_at (a : Fin 6) (t : Fin 256) : (res_main_v43 V0 : IVec S6x256 32) (ix2 a t) = C1 V0 a t := by
  unfold res_main_v43
  exact (drop1 _ a t).trans (sl0 _ a t 0)
theorem v45_at (a : Fin 6) (t : Fin 256) : (res_main_v45 V0 : IVec S6x256 32) (ix2 a t) = C2 V0 a t := by
  unfold res_main_v45
  exact (drop1 _ a t).trans (sl1 _ a t 0)

theorem v48_at (u : Fin 1) (t k : Fin 256) : (res_main_v48 V0 : IVec S1x256x256 1) (ix3 u t k) = 1#1 ↔ k ≤ t := by
  unfold res_main_v48
  show IntOp.cmpi .sle (BitVec.ofNat 32 (k : ℕ)) (BitVec.ofNat 32 (t : ℕ)) = 1#1 ↔ _
  rw [sle_ofNat (by omega) (by omega)]
  exact Iff.rfl

theorem and_one : ∀ a b : BitVec 1, IntOp.andi a b = 1#1 ↔ a = 1#1 ∧ b = 1#1 := by decide
theorem or_one : ∀ a b : BitVec 1, IntOp.ori a b = 1#1 ↔ a = 1#1 ∨ b = 1#1 := by decide

/-- How many of the choices up to the token equal its own. -/
def ranks (v : IVec S6x256 32) : IVec S6x256 32 :=
  Host.reduce IntOp.addi (id (select (andi (cmpi .eq (broadcastInDim S6x256x256 ![0, 1, 2] bcast_S6x1x256_S6x256x256_0_1_2 (broadcastInDim S6x1x256 ![0, 2] bcast_S6x256_S6x1x256_0_2 v)) (broadcastInDim S6x256x256 ![0, 1, 2] bcast_S6x256x1_S6x256x256_0_1_2 (broadcastInDim S6x256x1 ![0, 1] bcast_S6x256_S6x256x1_0_1 v))) (broadcastInDim S6x256x256 ![0, 1, 2] bcast_S1x256x256_S6x256x256_0_1_2 (res_main_v48 V0))) (broadcastInDim S6x256x256 ![] bcast_S_S6x256x256 (constantI S_ 32 1#32)) (broadcastInDim S6x256x256 ![] bcast_S_S6x256x256 (constantI S_ 32 0#32)))) (constantI S_ 32 0#32) reducesTo_S6x256x256_S6x256_d2 h_S_

/-- How many of the first choices equal the token's second. -/
def totals (v w : IVec S6x256 32) : IVec S6x256 32 :=
  Host.reduce IntOp.addi (id (select (cmpi .eq (broadcastInDim S6x256x256 ![0, 1, 2] bcast_S6x1x256_S6x256x256_0_1_2 (broadcastInDim S6x1x256 ![0, 2] bcast_S6x256_S6x1x256_0_2 v)) (broadcastInDim S6x256x256 ![0, 1, 2] bcast_S6x256x1_S6x256x256_0_1_2 (broadcastInDim S6x256x1 ![0, 1] bcast_S6x256_S6x256x1_0_1 w))) (broadcastInDim S6x256x256 ![] bcast_S_S6x256x256 (constantI S_ 32 1#32)) (broadcastInDim S6x256x256 ![] bcast_S_S6x256x256 (constantI S_ 32 0#32)))) (constantI S_ 32 0#32) reducesTo_S6x256x256_S6x256_d2 h_S_

theorem ranks_at (v : IVec S6x256 32) (a : Fin 6) (t : Fin 256) :
    ranks V0 v (ix2 a t) = BitVec.ofNat 32 (rk (fun k => v (ix2 a k)) (v (ix2 a t)) t) := by
  unfold ranks rk
  rw [hfold_at _ _ _ _ red256, ← fold_count]
  refine (congrArg (fun f : Fin 256 → BitVec 32 => Finset.univ.fold IntOp.addi 0#32 f) (funext fun k => ?_) :)
  refine sel_cond ?_ 1#32 0#32
  show IntOp.andi (IntOp.cmpi .eq (broadcastInDim S6x256x256 ![0, 1, 2] bcast_S6x1x256_S6x256x256_0_1_2 (broadcastInDim S6x1x256 ![0, 2] bcast_S6x256_S6x1x256_0_2 v) (ix3 a t k)) (broadcastInDim S6x256x256 ![0, 1, 2] bcast_S6x256x1_S6x256x256_0_1_2 (broadcastInDim S6x256x1 ![0, 1] bcast_S6x256_S6x256x1_0_1 v) (ix3 a t k))) (broadcastInDim S6x256x256 ![0, 1, 2] bcast_S1x256x256_S6x256x256_0_1_2 (res_main_v48 V0) (ix3 a t k)) = 1#1 ↔ _
  rw [and_one, along, mine, every, IntOp.cmpi_eq, v48_at]

theorem totals_at (v w : IVec S6x256 32) (a : Fin 6) (t : Fin 256) :
    totals v w (ix2 a t) = BitVec.ofNat 32 (tot (fun k => v (ix2 a k)) (w (ix2 a t))) := by
  unfold totals tot
  rw [hfold_at _ _ _ _ red256, ← fold_count]
  refine (congrArg (fun f : Fin 256 → BitVec 32 => Finset.univ.fold IntOp.addi 0#32 f) (funext fun k => ?_) :)
  refine sel_cond ?_ 1#32 0#32
  show IntOp.cmpi .eq (broadcastInDim S6x256x256 ![0, 1, 2] bcast_S6x1x256_S6x256x256_0_1_2 (broadcastInDim S6x1x256 ![0, 2] bcast_S6x256_S6x1x256_0_2 v) (ix3 a t k)) (broadcastInDim S6x256x256 ![0, 1, 2] bcast_S6x256x1_S6x256x256_0_1_2 (broadcastInDim S6x256x1 ![0, 1] bcast_S6x256_S6x256x1_0_1 w) (ix3 a t k)) = 1#1 ↔ _
  rw [along, mine, IntOp.cmpi_eq]

theorem v78_at (a : Fin 6) (t : Fin 256) : (res_main_v78 V0 : IVec S6x256 32) (ix2 a t) = BitVec.ofNat 32 (pl1 (C1 V0 a) t) := by
  have e : (res_main_v78 V0 : IVec S6x256 32) (ix2 a t) = ranks V0 (res_main_v43 V0) (ix2 a t) - 1#32 := by
    unfold res_main_v78 ranks
    rfl
  rw [e, ranks_at, v43_at, show (fun k => (res_main_v43 V0 : IVec S6x256 32) (ix2 a k)) = C1 V0 a from funext fun k => v43_at V0 a k]
  exact sub_one (rk_pos _ _) (by have := rk_le (C1 V0 a) (C1 V0 a t) t; omega)

theorem mins (n : ℕ) (h : n < 2 ^ 31) : IntOp.minsi (BitVec.ofNat 32 n) 40#32 = BitVec.ofNat 32 (min n 40) := by
  have e : (BitVec.ofNat 32 n).slt 40#32 = true ↔ n < 40 := by
    rw [BitVec.slt_iff_toInt_lt, toInt_nat h, show (40#32).toInt = 40 from by decide]; omega
  unfold IntOp.minsi
  by_cases hn : n < 40
  · rw [if_pos (e.mpr hn), min_eq_left (by omega)]
  · rw [if_neg fun h => hn (e.mp h), min_eq_right (by omega)]

theorem v83_at (a : Fin 6) (t : Fin 256) : (res_main_v83 V0 : IVec S6x256 32) (ix2 a t) = BitVec.ofNat 32 (pl2 (C1 V0 a) (C2 V0 a) t) := by
  have e : (res_main_v83 V0 : IVec S6x256 32) (ix2 a t)
      = (ranks V0 (res_main_v45 V0) (ix2 a t) - 1#32) + IntOp.minsi (totals (res_main_v43 V0) (res_main_v45 V0) (ix2 a t)) 40#32 := by
    unfold res_main_v83 ranks totals
    rfl
  rw [e, ranks_at, totals_at, v45_at, show (fun k => (res_main_v45 V0 : IVec S6x256 32) (ix2 a k)) = C2 V0 a from funext fun k => v45_at V0 a k,
    show (fun k => (res_main_v43 V0 : IVec S6x256 32) (ix2 a k)) = C1 V0 a from funext fun k => v43_at V0 a k,
    mins _ (by have := tot_le (C1 V0 a) (C2 V0 a t); omega), sub_one (rk_pos _ _) (by have := rk_le (C2 V0 a) (C2 V0 a t) t; omega), ← BitVec.ofNat_add]
  rfl

/-- The place of choice `j`. -/
def rPl (a : Fin 6) (j : ℕ) (t : Fin 256) : ℕ := if j = 0 then pl1 (C1 V0 a) t else pl2 (C1 V0 a) (C2 V0 a) t

theorem rPl_lt (a : Fin 6) (j : ℕ) (t : Fin 256) : rPl V0 a j t < 296 := by
  unfold rPl
  split
  · have := pl1_lt (C1 V0 a) t; omega
  · exact pl2_lt _ _ t

/-- The positions of both choices. -/
def rPos : IVec S6x256x2 32 :=
  concatenate S6x256x2 2 [⟨S6x256x1, (broadcastInDim S6x256x1 ![0, 1] bcast_S6x256_S6x256x1_0_1 (res_main_v78 V0))⟩, ⟨S6x256x1, (broadcastInDim S6x256x1 ![0, 1] bcast_S6x256_S6x256x1_0_1 (res_main_v83 V0))⟩] concatenates_S6x256x1_S6x256x1_S6x256x2_d2

theorem rPos_at (a : Fin 6) (t : Fin 256) (j : Fin 2) : rPos V0 (ix3 a t j) = BitVec.ofNat 32 (rPl V0 a j t) := by
  unfold rPos rPl
  match j with
  | ⟨0, h⟩ =>
    rw [if_pos rfl]
    rw [concatenate_pair_apply_left (s₁ := S6x256x1) (s₂ := S6x256x1) 2 _ _ concatenates_S6x256x1_S6x256x1_S6x256x2_d2 (ix3 a t (⟨0, h⟩ : Fin 2)) rfl (ix3 a t (0 : Fin 1)) fun b => by
      match b with | ⟨0, _⟩ => rfl | ⟨1, _⟩ => rfl | ⟨2, _⟩ => rfl]
    rw [bc1]
    exact v78_at V0 a t
  | ⟨1, h⟩ =>
    rw [if_neg Nat.one_ne_zero]
    rw [concatenate_pair_apply_right (s₁ := S6x256x1) (s₂ := S6x256x1) 2 _ _ concatenates_S6x256x1_S6x256x1_S6x256x2_d2 (ix3 a t (⟨1, h⟩ : Fin 2)) rfl rfl (ix3 a t (0 : Fin 1))
      (fun b hb => by match b with | ⟨0, _⟩ => rfl | ⟨1, _⟩ => rfl | ⟨2, _⟩ => exact absurd rfl hb) rfl]
    rw [bc1]
    exact v83_at V0 a t

/-- Whether both choices are kept. -/
def rKeep : IVec S6x256x2 1 := cmpi .slt (rPos V0) (broadcastInDim S6x256x2 ![] bcast_S_S6x256x2 (constantI S_ 32 40#32))

theorem rKeep_at (a : Fin 6) (t : Fin 256) (j : Fin 2) : rKeep V0 (ix3 a t j) = 1#1 ↔ rPl V0 a j t < 40 := by
  unfold rKeep
  show IntOp.cmpi .slt (rPos V0 (ix3 a t j)) (BitVec.ofNat 32 40) = 1#1 ↔ _
  rw [rPos_at, slt_ofNat (by have := rPl_lt V0 a j t; omega) (by omega)]

/-- The combine weights. -/
def rComb : FVec Ideal S6x256x2 .f32 :=
  Host.divf (mulf (V0 (Proc.devRef .tc main_arg2)) (uitofp .f32 (rKeep V0))) (broadcastInDim S6x256x2 ![0, 1, 2] bcast_S6x256x1_S6x256x2_0_1_2 (select (cmpf .oeq (res_main_v121 V0) (broadcastInDim S6x256x1 ![] bcast_S_S6x256x1 (constant S_ .f32 0x00000000#32))) (broadcastInDim S6x256x1 ![] bcast_S_S6x256x1 (id (constant S_ .f32 0x3F800000#32))) (res_main_v121 V0)))

theorem v121_at (a : Fin 6) (t : Fin 256) (u : Fin 1) :
    ((res_main_v121 V0 : FVec Ideal S6x256x1 .f32) (ix3 a t u) : EReal) = vG V0 (ix3 a t (0 : Fin 2)) + vG V0 (ix3 a t (1 : Fin 2)) := by
  unfold res_main_v121
  rw [addf_at, sl0, sl1]

theorem pair2 {α : Type} (v : S6x256x1.Idx → α) (a : Fin 6) (t : Fin 256) (j : Fin 2) :
    broadcastInDim S6x256x2 ![0, 1, 2] bcast_S6x256x1_S6x256x2_0_1_2 v (ix3 a t j) = v (ix3 a t (0 : Fin 1)) :=
  broadcastInDim_apply _ _ _ _ _ fun c => by match c with | ⟨0, _⟩ => rfl | ⟨1, _⟩ => rfl | ⟨2, _⟩ => rfl

theorem rComb_at (a : Fin 6) (t : Fin 256) (j : Fin 2) : (rComb V0 (ix3 a t j) : EReal)
    = Ideal.div (vG V0 (ix3 a t j) * if rPl V0 a j t < 40 then 1 else 0)
      (if (vG V0 (ix3 a t (0 : Fin 2)) + vG V0 (ix3 a t (1 : Fin 2)) : EReal) = 0 then 1 else vG V0 (ix3 a t (0 : Fin 2)) + vG V0 (ix3 a t (1 : Fin 2))) := by
  unfold rComb
  rw [hdivf_at, mulf_at, pair2, select_at, cmpf_at, bcs_at, bcsi_at, v121_at, sel_eq, zero32, one32]
  refine congrArg (fun z : EReal => Ideal.div (_ * z) _) ?_
  exact ubit_val (rKeep_at V0 a t j)

end Cert.ReferenceIdeal.Disp

end
-- ==== Proof.RIBuf.lean ====
/-
  The reference's buffers and buffer scales at an index.
-/
module

public import proofs.«01_k».proof.Proof.RIRt
public import Idealize.ShloMosaic.Lib.StackMember

@[expose] public section

noncomputable section

namespace Cert.ReferenceIdeal.Disp

open Cert.Disp Cert.ReferenceIdeal Cert.ReferenceIdeal.Gen Cert.ReferenceIdeal.Value
open Idealize.ShloMosaic Idealize.ShloMosaic.ValueIdx

section Generic

variable {G p q k n : ℕ} {φ₁ φ₂ φ : FTy}

/-- A product of stacks, the left member's rows doubly indexed, at an index. -/
theorem dot4_at (w : DotDims.WF ⟨4, ![G, p, q, k]⟩ ⟨3, ![G, k, n]⟩ ⟨4, ![G, p, q, n]⟩ [3] [1] [1, 2] [2] [0] [0])
    (prec : Option ContractPrecision) (A : FVec Ideal ⟨4, ![G, p, q, k]⟩ φ₁) (B : FVec Ideal ⟨3, ![G, k, n]⟩ φ₂)
    (g : Fin G) (a : Fin p) (b : Fin q) (d : Fin n) :
    Host.dotGeneral (⟨[3], [1], [1, 2], [2], [0], [0], w⟩ : DotDims _ _ _) prec A B (ix4 g a b d)
      = (∑ c : Fin k, (A (ix4 g a b c) : EReal) * B (ix3 g c d) : EReal) := by
  show FloatOps.dotGeneral _ prec _ A B (ix4 g a b d) = _
  rw [Ideal.dotGeneral_apply,
    ← Equiv.sum_comp (contrEquiv1 (⟨[3], [1], [1, 2], [2], [0], [0], w⟩ : DotDims _ _ _) k rfl rfl).symm]
  refine Finset.sum_congr rfl fun c _ => ?_
  have c3 := contrEquiv1_symm_val
    (⟨[3], [1], [1, 2], [2], [0], [0], w⟩ : DotDims ⟨4, ![G, p, q, k]⟩ ⟨3, ![G, k, n]⟩ ⟨4, ![G, p, q, n]⟩) k rfl rfl c
  have l3 : (⟨[3], [1], [1, 2], [2], [0], [0], w⟩ : DotDims ⟨4, ![G, p, q, k]⟩ ⟨3, ![G, k, n]⟩ ⟨4, ![G, p, q, n]⟩).lhsIdx (ix4 g a b d)
      ((contrEquiv1 _ k rfl rfl).symm c) = ix4 g a b c := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact c3
  have r3 : (⟨[3], [1], [1, 2], [2], [0], [0], w⟩ : DotDims ⟨4, ![G, p, q, k]⟩ ⟨3, ![G, k, n]⟩ ⟨4, ![G, p, q, n]⟩).rhsIdx (ix4 g a b d)
      ((contrEquiv1 _ k rfl rfl).symm c) = ix3 g c d := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  rw [l3, r3]

theorem lift4 (h : Shape.Reduces ⟨4, ![G, p, q, n]⟩ [3] ⟨3, ![G, p, q]⟩) (g : Fin G) (a : Fin p) (b : Fin q) (k : Fin n) : h.lift (ix3 g a b) k = ix4 g a b k := by
  funext c; apply Fin.ext; match c with | ⟨0, _⟩ => rfl | ⟨1, _⟩ => rfl | ⟨2, _⟩ => rfl | ⟨3, _⟩ => rfl

theorem hsum4_at {u : Shape} (x : FVec Ideal ⟨4, ![G, p, q, n]⟩ φ) (i : u.Idx → Ideal φ) (h' : Shape.ReducesTo ⟨4, ![G, p, q, n]⟩ [3] ⟨3, ![G, p, q]⟩)
    (h : Shape.Reduces ⟨4, ![G, p, q, n]⟩ [3] ⟨3, ![G, p, q]⟩) (hu : 0 < u.numel) (g : Fin G) (a : Fin p) (b : Fin q) :
    Host.reduceAdd x i h' hu (ix3 g a b) = (i (Shape.Idx.first hu) + ∑ k : Fin n, x (ix4 g a b k) : EReal) := by
  rw [hostReduceAdd_apply, Ideal.hostReduceAdd_single h' h]
  exact congrArg (fun z : EReal => _ + z) (Finset.sum_congr rfl fun k _ => congrArg x (lift4 h g a b k))

end Generic

theorem red4 : S6x16x40x256.Reduces [3] S6x16x40 := by decide

theorem tok4 {α : Type} (v : S6x256.Idx → α) (g : Fin 6) (x : Fin 16) (s : Fin 40) (t : Fin 256) :
    broadcastInDim S6x16x40x256 ![0, 1, 2, 3] bcast_S6x1x1x256_S6x16x40x256_0_1_2_3 (broadcastInDim S6x1x1x256 ![0, 3] bcast_S6x256_S6x1x1x256_0_3 v) (ix4 g x s t) = v (ix2 g t) :=
  (broadcastInDim_apply _ _ _ _ (ix4 g (0 : Fin 1) (0 : Fin 1) t) fun c => by match c with | ⟨0, _⟩ => rfl | ⟨1, _⟩ => rfl | ⟨2, _⟩ => rfl | ⟨3, _⟩ => rfl).trans
    (broadcastInDim_apply _ _ _ _ _ fun c => by match c with | ⟨0, _⟩ => rfl | ⟨1, _⟩ => rfl)
theorem slot4 {α : Type} (v : S1x16x40x1.Idx → α) (g : Fin 6) (x : Fin 16) (s : Fin 40) (t : Fin 256) :
    broadcastInDim S6x16x40x256 ![0, 1, 2, 3] bcast_S1x16x40x1_S6x16x40x256_0_1_2_3 v (ix4 g x s t) = v (ix4 (0 : Fin 1) x s (0 : Fin 1)) :=
  broadcastInDim_apply _ _ _ _ _ fun c => by match c with | ⟨0, _⟩ => rfl | ⟨1, _⟩ => rfl | ⟨2, _⟩ => rfl | ⟨3, _⟩ => rfl

variable (V0 : Valuation τ sig (Elt Ideal))

/-- Which tokens a choice puts in which place. -/
def hereF (e pos : IVec S6x256 32) : IVec S6x16x40x256 1 :=
  andi (cmpi .eq (broadcastInDim S6x16x40x256 ![0, 1, 2, 3] bcast_S6x1x1x256_S6x16x40x256_0_1_2_3 (broadcastInDim S6x1x1x256 ![0, 3] bcast_S6x256_S6x1x1x256_0_3 e)) (broadcastInDim S6x16x40x256 ![0, 1, 2, 3] bcast_S1x16x40x1_S6x16x40x256_0_1_2_3 (iotaInDim S1x16x40x1 32 1)))
    (cmpi .eq (broadcastInDim S6x16x40x256 ![0, 1, 2, 3] bcast_S6x1x1x256_S6x16x40x256_0_1_2_3 (broadcastInDim S6x1x1x256 ![0, 3] bcast_S6x256_S6x1x1x256_0_3 pos)) (broadcastInDim S6x16x40x256 ![0, 1, 2, 3] bcast_S1x16x40x1_S6x16x40x256_0_1_2_3 (iotaInDim S1x16x40x1 32 2)))

theorem hereF_at (e pos : IVec S6x256 32) (g : Fin 6) (x : Fin 16) (s : Fin 40) (t : Fin 256) :
    hereF e pos (ix4 g x s t) = 1#1 ↔ e (ix2 g t) = BitVec.ofNat 32 x ∧ pos (ix2 g t) = BitVec.ofNat 32 s := by
  unfold hereF
  show IntOp.andi (IntOp.cmpi .eq (broadcastInDim S6x16x40x256 ![0, 1, 2, 3] bcast_S6x1x1x256_S6x16x40x256_0_1_2_3 (broadcastInDim S6x1x1x256 ![0, 3] bcast_S6x256_S6x1x1x256_0_3 e) (ix4 g x s t)) (broadcastInDim S6x16x40x256 ![0, 1, 2, 3] bcast_S1x16x40x1_S6x16x40x256_0_1_2_3 (iotaInDim S1x16x40x1 32 1) (ix4 g x s t)))
    (IntOp.cmpi .eq (broadcastInDim S6x16x40x256 ![0, 1, 2, 3] bcast_S6x1x1x256_S6x16x40x256_0_1_2_3 (broadcastInDim S6x1x1x256 ![0, 3] bcast_S6x256_S6x1x1x256_0_3 pos) (ix4 g x s t)) (broadcastInDim S6x16x40x256 ![0, 1, 2, 3] bcast_S1x16x40x1_S6x16x40x256_0_1_2_3 (iotaInDim S1x16x40x1 32 2) (ix4 g x s t))) = 1#1 ↔ _
  rw [tok4, tok4, slot4, slot4, and_one, IntOp.cmpi_eq, IntOp.cmpi_eq]
  exact Iff.rfl

theorem here1_at (g : Fin 6) (x : Fin 16) (s : Fin 40) (t : Fin 256) :
    (res_main_v99 V0 : IVec S6x16x40x256 1) (ix4 g x s t) = 1#1 ↔ C1 V0 g t = BitVec.ofNat 32 x ∧ pl1 (C1 V0 g) t = s := by
  have e : (res_main_v99 V0 : IVec S6x16x40x256 1) = hereF (res_main_v43 V0) (res_main_v78 V0) := by
    unfold res_main_v99 hereF
    rfl
  rw [e, hereF_at, v43_at, v78_at]
  have := pl1_lt (C1 V0 g) t
  exact and_congr_right fun _ => ⟨fun h => ofNat_inj' (by omega) (by omega) h, fun h => by rw [h]⟩

theorem here2_at (g : Fin 6) (x : Fin 16) (s : Fin 40) (t : Fin 256) :
    (res_main_v108 V0 : IVec S6x16x40x256 1) (ix4 g x s t) = 1#1 ↔ C2 V0 g t = BitVec.ofNat 32 x ∧ pl2 (C1 V0 g) (C2 V0 g) t = s := by
  have e : (res_main_v108 V0 : IVec S6x16x40x256 1) = hereF (res_main_v45 V0) (res_main_v83 V0) := by
    unfold res_main_v108 hereF
    rfl
  rw [e, hereF_at, v45_at, v83_at]
  have := pl2_lt (C1 V0 g) (C2 V0 g) t
  exact and_congr_right fun _ => ⟨fun h => ofNat_inj' (by omega) (by omega) h, fun h => by rw [h]⟩

/-- The token scales, one per token. -/
abbrev vT : FVec Ideal S6x256 .f32 := rT (V0 (Proc.devRef .tc main_arg0)) (V0 (Proc.devRef .tc main_arg3))
/-- The codes. -/
abbrev vC : FVec Ideal S6x256x5120 .fp8e4m3 := rC (V0 (Proc.devRef .tc main_arg0)) (V0 (Proc.devRef .tc main_arg3))

/-- The scales one choice puts in the buffers. -/
def partF (h : IVec S6x16x40x256 1) : FVec Ideal S6x16x40 .f32 :=
  Host.reduceAdd (select h (broadcastInDim S6x16x40x256 ![0, 1, 2, 3] bcast_S6x1x1x256_S6x16x40x256_0_1_2_3 (res_main_v109 V0)) (broadcastInDim S6x16x40x256 ![] bcast_S_S6x16x40x256 (id (constant S_ .f32 0x00000000#32)))) (constant S_ .f32 0x00000000#32) reducesTo_S6x16x40x256_S6x16x40_d3 h_S_

theorem v109_at (g : Fin 6) (x : Fin 16) (s : Fin 40) (t : Fin 256) :
    (broadcastInDim S6x16x40x256 ![0, 1, 2, 3] bcast_S6x1x1x256_S6x16x40x256_0_1_2_3 (res_main_v109 V0) (ix4 g x s t) : EReal) = vT V0 (ix2 g t) := by
  unfold res_main_v109
  refine (tok4 _ g x s t).trans ?_
  unfold vT rT
  rw [← res34]

theorem partF_at (h : IVec S6x16x40x256 1) (g : Fin 6) (x : Fin 16) (s : Fin 40) {P : Fin 256 → Prop} [DecidablePred P] (hP : ∀ t, h (ix4 g x s t) = 1#1 ↔ P t) :
    (partF V0 h (ix3 g x s) : EReal) = ∑ t : Fin 256, if P t then (vT V0 (ix2 g t) : EReal) else 0 := by
  unfold partF
  rw [hsum4_at _ _ _ red4, cst_at, zero32, zero_add]
  refine Finset.sum_congr rfl fun t _ => ?_
  rw [select_at, bcsi_at, v109_at, zero32, sel_cond (hP t)]

/-- The buffer scales. -/
def rBs : FVec Ideal S6x16x40 .f32 := addf (partF V0 (res_main_v99 V0)) (partF V0 (res_main_v108 V0))

theorem rBs_at (g : Fin 6) (x : Fin 16) (s : Fin 40) : (rBs V0 (ix3 g x s) : EReal)
    = (∑ t : Fin 256, if C1 V0 g t = BitVec.ofNat 32 x ∧ pl1 (C1 V0 g) t = s then (vT V0 (ix2 g t) : EReal) else 0)
      + ∑ t : Fin 256, if C2 V0 g t = BitVec.ofNat 32 x ∧ pl2 (C1 V0 g) (C2 V0 g) t = s then (vT V0 (ix2 g t) : EReal) else 0 := by
  unfold rBs
  rw [addf_at, partF_at V0 _ g x s fun t => here1_at V0 g x s t, partF_at V0 _ g x s fun t => here2_at V0 g x s t]

/-- The buffers. -/
def rBuf : FVec Ideal S6x16x40x5120 .fp8e4m3 :=
  Host.convertf .fp8e4m3 (Host.dotGeneral (φ₁ := .f32) (φ₂ := .f32) dot_S6x16x40x256_S6x256x5120_S6x16x40x5120_3_1_12_2_0_0 none (uitofp .f32 (ori (res_main_v99 V0) (res_main_v108 V0))) (res_main_v39 V0))

theorem rBuf_at (g : Fin 6) (x : Fin 16) (s : Fin 40) (c : Fin 5120) : (rBuf V0 (ix4 g x s c) : EReal)
    = ∑ t : Fin 256, (if (C1 V0 g t = BitVec.ofNat 32 x ∧ pl1 (C1 V0 g) t = s) ∨ (C2 V0 g t = BitVec.ofNat 32 x ∧ pl2 (C1 V0 g) (C2 V0 g) t = s) then (1 : EReal) else 0)
        * vC V0 (ix3 g t c) := by
  unfold rBuf
  rw [hconvertf_at]
  refine (dot4_at (G := 6) (p := 16) (q := 40) (k := 256) (n := 5120) (φ₁ := .f32) (φ₂ := .f32) _ none _ _ g x s c).trans (Finset.sum_congr rfl fun t _ => ?_)
  refine congrArg₂ (fun u v : EReal => u * v) ?_ ?_
  · refine ubit_val ?_
    show IntOp.ori ((res_main_v99 V0 : IVec S6x16x40x256 1) (ix4 g x s t)) ((res_main_v108 V0 : IVec S6x16x40x256 1) (ix4 g x s t)) = 1#1 ↔ _
    rw [or_one, here1_at, here2_at]
  · exact congrFun (res39 V0) (ix3 g t c)

end Cert.ReferenceIdeal.Disp

end
-- ==== Proof.Tie.lean ====
/-
  The kernel's seven results are the reference's, over the ideal numbers.
-/
module

public import proofs.«01_k».proof.Defs
public import proofs.«01_k».proof.Proof.KILaunch
public import proofs.«01_k».proof.Proof.KITok
public import proofs.«01_k».proof.Proof.KIBs
public import proofs.«01_k».proof.Proof.KIBuf
public import proofs.«01_k».proof.Proof.RIVal
public import proofs.«01_k».proof.Proof.RIBuf
public import Idealize.ShloMosaic.Lib.Quiescent

@[expose] public section

noncomputable section

namespace Cert.Tie

open Cert.Disp
open Idealize.ShloMosaic Idealize.ShloMosaic.ValueIdx Idealize.ShloMosaic.Tactic Idealize.SL.Sem

/-! ## The precondition -/

instance preFacts : Cert.Pre_valid.Facts where
  bcast_S_S6x256x2 := by decide
  bcast_S_S5120 := by decide
  reducesTo_S5120_S_d0 := by decide
  h_S_ := by decide
  reducesTo_S6x256x2_S_d0_1_2 := by decide

instance : Std.Commutative (IntOp.andi (w := 1)) := ⟨by decide⟩
instance : Std.Associative (IntOp.andi (w := 1)) := ⟨by decide⟩

theorem fold_and {ι : Type} (S : Finset ι) (f : ι → BitVec 1) : S.fold IntOp.andi 1#1 f = 1#1 → ∀ i ∈ S, f i = 1#1 := by
  classical
  induction S using Finset.induction_on with
  | empty => intro _ i hi; exact absurd hi (Finset.notMem_empty _)
  | insert a S ha ih =>
    rw [Finset.fold_insert ha]
    intro h i hi
    have h' : f a = 1#1 ∧ S.fold IntOp.andi 1#1 f = 1#1 := by
      revert h; generalize f a = p; generalize S.fold IntOp.andi 1#1 f = q; revert p q; decide
    rcases Finset.mem_insert.mp hi with rfl | hi
    · exact h'.1
    · exact ih h'.2 i hi

theorem bound : (Ideal.ofBits .f32 0x7F7FFFFF#32 : EReal) ≤ (((2 : ℝ) ^ 128 : ℝ) : EReal) := by
  have e : (Ideal.ofBits .f32 0x7F7FFFFF#32 : EReal) = (((16777215 * (2 : ℝ) ^ (104 : ℤ)) : ℝ) : EReal) := by
    simp [Ideal.ofBits, Ideal.ieee, -EReal.coe_mul]
  rw [e, EReal.coe_le_coe_iff]
  norm_num

section Pre

variable (A0 : FVec Ideal Cert.Pre_valid.S6x256x5120 .bf16) (A1 : IVec Cert.Pre_valid.S6x256x2 32)
    (A2 : FVec Ideal Cert.Pre_valid.S6x256x2 .f32) (A3 : FVec Ideal Cert.Pre_valid.S5120 .f32)
    (h : Cert.Pre_valid.fn (F := Ideal) A0 A1 A2 A3 = fun _ => 1#1)
include h

/-- The precondition bounds every weight. -/
theorem weights (c : Fin 5120) : av (A3 (ix1 c)) ≤ (((2 : ℝ) ^ 128 : ℝ) : EReal) := by
  have h0 := congrFun h (fun a : Fin 0 => a.elim0)
  unfold Cert.Pre_valid.fn at h0
  dsimp only at h0
  have h0 := ((Cert.ReferenceIdeal.Disp.and_one _ _).mp h0).1
  rw [Host.reduce_eq_fold] at h0
  have h1 := fold_and _ _ h0 (ix1 c) (Finset.mem_filter.mpr ⟨Finset.mem_univ _, funext fun a => a.elim0⟩)
  rw [cmpf_at, habsf_at, bcs_at] at h1
  unfold Ideal.cmp at h1
  refine le_trans ?_ bound
  by_contra hn
  dsimp only at h1
  rw [decide_eq_false hn] at h1
  exact absurd h1 (by decide)

/-- The precondition bounds every expert index. -/
theorem experts (b : Fin 6) (t : Fin 256) (j : Fin 2) : (A1 (ix3 b t j)).toNat < 16 := by
  have h0 := congrFun h (fun a : Fin 0 => a.elim0)
  unfold Cert.Pre_valid.fn at h0
  dsimp only at h0
  have h0 := ((Cert.ReferenceIdeal.Disp.and_one _ _).mp h0).2
  rw [Host.reduce_eq_fold] at h0
  have h1 := fold_and _ _ h0 (ix3 b t j) (Finset.mem_filter.mpr ⟨Finset.mem_univ _, funext fun a => a.elim0⟩)
  have h2 := (Cert.ReferenceIdeal.Disp.and_one _ _).mp (show IntOp.andi (IntOp.cmpi .sge (A1 (ix3 b t j)) 0#32) (IntOp.cmpi .slt (A1 (ix3 b t j)) 16#32) = 1#1 from h1)
  have h3 := IntOp.cmpi_sge.mp h2.1
  have h4 := IntOp.cmpi_slt.mp h2.2
  have e0 : (0#32).toInt = 0 := by decide
  have e16 : (16#32).toInt = 16 := by decide
  rw [e0] at h3
  rw [e16] at h4
  have h5 := BitVec.toInt_eq_toNat_cond (A1 (ix3 b t j))
  have h6 := (A1 (ix3 b t j)).isLt
  split at h5 <;> omega

end Pre

/-! ## The kernel's inputs -/

section Kernel

open Cert.KernelIdeal Cert.KernelIdeal.Disp

variable (m : (ℓ : Loc nD τ sig) → Buf (Elt Ideal) ℓ) (c : Dev nD)

/-- The tokens, the experts, the gates and the weights as launched. -/
abbrev A0 : FVec Ideal S6x256x5120 .bf16 := m ((c.tc : Thread nD τ).loc main_arg0)
abbrev A1 : IVec S6x256x2 32 := m ((c.tc : Thread nD τ).loc main_arg1)
abbrev A2 : FVec Ideal S6x256x2 .f32 := m ((c.tc : Thread nD τ).loc main_arg2)
abbrev A3 : FVec Ideal S5120 .f32 := m ((c.tc : Thread nD τ).loc main_arg3)

theorem V_v0 : (Gen.V m c main_v0 : FVec Ideal S192x8x5120 .bf16) = shapeCast S192x8x5120 (A0 m c) Gen.shapeCasts_S6x256x5120_S192x8x5120 := by
  show StableHlo.after (List.flatten [Gen.hostOps0]) (fun b => m (c, b)) (Proc.devRef .tc main_v0) = _
  simp only [Gen.hostOps0, List.flatten_cons, List.flatten_nil, List.append_nil]
  after_results_simp <;> rfl

theorem V_v1 : (Gen.V m c main_v1 : IVec S6x2x256 32) = transpose S6x2x256 [0, 2, 1] (A1 m c) Gen.transposes_S6x256x2_S6x2x256_0_2_1 := by
  show StableHlo.after (List.flatten [Gen.hostOps0]) (fun b => m (c, b)) (Proc.devRef .tc main_v1) = _
  simp only [Gen.hostOps0, List.flatten_cons, List.flatten_nil, List.append_nil]
  after_results_simp <;> rfl

theorem V_v2 : (Gen.V m c main_v2 : FVec Ideal S6x2x256 .f32) = transpose S6x2x256 [0, 2, 1] (A2 m c) Gen.transposes_S6x256x2_S6x2x256_0_2_1 := by
  show StableHlo.after (List.flatten [Gen.hostOps0]) (fun b => m (c, b)) (Proc.devRef .tc main_v2) = _
  simp only [Gen.hostOps0, List.flatten_cons, List.flatten_nil, List.append_nil]
  after_results_simp <;> rfl

theorem V_v3 : (Gen.V m c main_v3 : FVec Ideal S1x5120 .f32) = shapeCast S1x5120 (A3 m c) Gen.shapeCasts_S5120_S1x5120 := by
  show StableHlo.after (List.flatten [Gen.hostOps0]) (fun b => m (c, b)) (Proc.devRef .tc main_v3) = _
  simp only [Gen.hostOps0, List.flatten_cons, List.flatten_nil, List.append_nil]
  after_results_simp <;> rfl

theorem Wk_eq : Wk (In m c) = fun k => A3 m c (ix1 k) := funext fun k => by
  show wN (In m c) k = _
  unfold wN
  rw [atN_eq (i := ix2 (0 : Fin 1) k) _ _ fun a => by match a with | ⟨0, _⟩ => rfl | ⟨1, _⟩ => rfl]
  show (Gen.V m c main_v3 : FVec Ideal S1x5120 .f32) (ix2 (0 : Fin 1) k) = _
  rw [V_v3]
  exact shapeCast_apply _ _ _ _ (by rw [Shape.rowMajor_val_one, Shape.rowMajor_val_two]; simp)

theorem Xk_eq (b : Fin 6) (r : Fin 256) : Xk (In m c) (32 * b + r / 8) (r % 8) = fun k => A0 m c (ix3 b r k) := funext fun k => by
  show xN (In m c) (32 * b + r / 8) (r % 8) k = _
  unfold xN
  rw [atN_eq (i := ix3 (⟨32 * b + r / 8, by omega⟩ : Fin 192) (⟨r % 8, Nat.mod_lt _ (by omega)⟩ : Fin 8) k) _ _
    fun a => by match a with | ⟨0, _⟩ => rfl | ⟨1, _⟩ => rfl | ⟨2, _⟩ => rfl]
  show (Gen.V m c main_v0 : FVec Ideal S192x8x5120 .bf16) (ix3 (⟨32 * b + r / 8, by omega⟩ : Fin 192) (⟨r % 8, Nat.mod_lt _ (by omega)⟩ : Fin 8) k) = _
  rw [V_v0]
  exact shapeCast_apply _ _ _ _ (by
    rw [Shape.rowMajor_val_three, Shape.rowMajor_val_three]
    show ((b : ℕ) * 256 + (r : ℕ)) * 5120 + (k : ℕ) = ((32 * (b : ℕ) + (r : ℕ) / 8) * 8 + (r : ℕ) % 8) * 5120 + (k : ℕ)
    omega)

/-- Choices by token as choices by place. -/
theorem swap_at {α : Type} (x : S6x256x2.Idx → α) (b : Fin 6) (j : Fin 2) (t : Fin 256) :
    transpose S6x2x256 [0, 2, 1] x Gen.transposes_S6x256x2_S6x2x256_0_2_1 (ix3 b j t) = x (ix3 b t j) :=
  transpose_apply _ _ _ _ _ fun a => by match a with | ⟨0, _⟩ => rfl | ⟨1, _⟩ => rfl | ⟨2, _⟩ => rfl
theorem back_at {α : Type} (x : S6x2x256.Idx → α) (b : Fin 6) (j : Fin 2) (t : Fin 256) :
    transpose S6x256x2 [0, 2, 1] x Gen.transposes_S6x2x256_S6x256x2_0_2_1 (ix3 b t j) = x (ix3 b j t) :=
  transpose_apply _ _ _ _ _ fun a => by match a with | ⟨0, _⟩ => rfl | ⟨1, _⟩ => rfl | ⟨2, _⟩ => rfl
theorem turn_at {α : Type} (x : S2x6x256.Idx → α) (b : Fin 6) (j : Fin 2) (t : Fin 256) :
    transpose S6x256x2 [1, 2, 0] x Gen.transposes_S2x6x256_S6x256x2_1_2_0 (ix3 b t j) = x (ix3 j b t) :=
  transpose_apply _ _ _ _ _ fun a => by match a with | ⟨0, _⟩ => rfl | ⟨1, _⟩ => rfl | ⟨2, _⟩ => rfl

theorem ix_eq (b : ℕ) (j : Fin 2) (t : Fin 256) : ixN (In m c) b j t = A1 m c (ix3 (⟨b % 6, Nat.mod_lt _ (by omega)⟩ : Fin 6) t j) := by
  have e : ixN (In m c) b j t = (In m c).ix (ix3 (⟨b % 6, Nat.mod_lt _ (by omega)⟩ : Fin 6) j t) := by
    unfold ixN atN
    refine congrArg _ (funext fun a => Fin.ext ?_)
    match a with
    | ⟨0, _⟩ => rfl
    | ⟨1, _⟩ => exact Nat.mod_eq_of_lt j.isLt
    | ⟨2, _⟩ => exact Nat.mod_eq_of_lt t.isLt
  rw [e]
  show (Gen.V m c main_v1 : IVec S6x2x256 32) _ = _
  rw [V_v1]
  exact swap_at _ _ j t

theorem ga_eq (b : Fin 6) (j : Fin 2) (t : Fin 256) : (gaN (In m c) b j t : EReal) = A2 m c (ix3 b t j) := by
  unfold gaN
  rw [atN_eq (i := ix3 b j t) _ _ fun a => by match a with | ⟨0, _⟩ => rfl | ⟨1, _⟩ => rfl | ⟨2, _⟩ => rfl]
  show (Gen.V m c main_v2 : FVec Ideal S6x2x256 .f32) _ = _
  rw [V_v2]
  exact swap_at _ b j t

theorem E1_eq (b : ℕ) (t : Fin 256) : E1 (In m c) b t = A1 m c (ix3 (⟨b % 6, Nat.mod_lt _ (by omega)⟩ : Fin 6) t (0 : Fin 2)) := ix_eq m c b (0 : Fin 2) t
theorem E2_eq (b : ℕ) (t : Fin 256) : E2 (In m c) b t = A1 m c (ix3 (⟨b % 6, Nat.mod_lt _ (by omega)⟩ : Fin 6) t (1 : Fin 2)) := ix_eq m c b (1 : Fin 2) t

/-! ## The results -/

variable (hW : ∀ k : Fin 5120, av (A3 m c (ix1 k)) ≤ (((2 : ℝ) ^ 128 : ℝ) : EReal))
include hW

theorem codes_eq : (CODES (In m c) : FVec Ideal S6x256x5120 .fp8e4m3) = Cert.ReferenceIdeal.Disp.rC (A0 m c) (A3 m c) := by
  have hW' : ∀ k, av (Wk (In m c) k) ≤ (((2 : ℝ) ^ 128 : ℝ) : EReal) := by rw [Wk_eq]; exact hW
  funext i
  obtain ⟨b, r, k, rfl⟩ : ∃ b r k, i = ix3 b r k := ⟨_, _, _, eq_ix3 i⟩
  refine (CODES_at (In m c) hW' b r k).trans ?_
  unfold Mk
  rw [Xk_eq, Wk_eq]
  exact (Cert.ReferenceIdeal.Disp.rC_at (A0 m c) (A3 m c) hW b r k).symm

theorem scales_eq : (TS (In m c) : FVec Ideal S6x256 .f32) = Cert.ReferenceIdeal.Disp.rT (A0 m c) (A3 m c) := by
  have hW' : ∀ k, av (Wk (In m c) k) ≤ (((2 : ℝ) ^ 128 : ℝ) : EReal) := by rw [Wk_eq]; exact hW
  funext i
  obtain ⟨b, r, rfl⟩ : ∃ b r, i = ix2 b r := ⟨_, _, eq_ix2 i⟩
  refine (TS_at (In m c) hW' b r).trans ?_
  unfold Mk
  rw [Xk_eq, Wk_eq]
  exact ((Cert.ReferenceIdeal.Disp.rT_at (A0 m c) (A3 m c) b r).trans (Cert.ReferenceIdeal.Disp.rS_at (A0 m c) (A3 m c) hW b r 0)).symm

omit hW in
theorem Ends_R (b : Ref sig .tc) (h₁ : ∀ op ∈ (List.flatten [Gen.hostOps1] : List (HloOp τ sig (Elt Ideal))), Proc.devRef .tc b ∉ op.writes) (h₂ : b ∈ R0) :
    Ends m c (Proc.devRef .tc b) = Gout m c b := by
  unfold Ends
  rw [StableHlo.after_of_forall_not_mem _ _ h₁, Pipeline.withArrays_of_ne _ c _ _ b (fun w => w.elim0), Pipeline.withR_of_mem _ _ _ _ b h₂]

omit hW in
theorem Ends_5 : Ends m c (Proc.devRef .tc main_v4_5) = CODES (In m c) :=
  (Ends_R m c main_v4_5 (List.forall_iff_forall_mem.mp (by
    simp only [Gen.hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gout_5 m c)
omit hW in
theorem Ends_0 : Ends m c (Proc.devRef .tc main_v4_0) = BUF (In m c) :=
  (Ends_R m c main_v4_0 (List.forall_iff_forall_mem.mp (by
    simp only [Gen.hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gout_0 m c)
omit hW in
theorem Ends_1 : Ends m c (Proc.devRef .tc main_v4_1) = BS (In m c) :=
  (Ends_R m c main_v4_1 (List.forall_iff_forall_mem.mp (by
    simp only [Gen.hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gout_1 m c)

omit hW in
/-- What the lines after the region start from. -/
theorem mid (b : Ref sig .tc) (h₂ : b ∈ R0) :
    Pipeline.withArrays cfg0.spec c (Pipeline.withR (Gen.V0 m c) R0 c (Gout m c)) (fun w => (dats m 0 c).arrAt w cfg0.N) (Proc.devRef .tc b) = Gout m c b := by
  rw [Pipeline.withArrays_of_ne _ c _ _ b (fun w => w.elim0), Pipeline.withR_of_mem _ _ _ _ b h₂]

/-- The combine weights, the positions and the kept flags, as returned. -/
def kComb : FVec Ideal S6x256x2 .f32 := transpose S6x256x2 [0, 2, 1] (COMB (In m c)) Gen.transposes_S6x2x256_S6x256x2_0_2_1
def kPos : IVec S6x256x2 32 := transpose S6x256x2 [0, 2, 1] (POS (In m c)) Gen.transposes_S6x2x256_S6x256x2_0_2_1
def kKeep : IVec S6x256x2 1 :=
  cmpi .ne (transpose S6x256x2 [1, 2, 0] (KEEP (In m c)) Gen.transposes_S2x6x256_S6x256x2_1_2_0) (broadcastInDim S6x256x2 ![] Gen.bcast_S_S6x256x2 (constantI S_ 32 0#32))

omit hW in
theorem Ends_v5 : Ends m c (Proc.devRef .tc main_v5) = kComb m c := by
  have e : Ends m c (Proc.devRef .tc main_v5) = transpose S6x256x2 [0, 2, 1]
      (Pipeline.withArrays cfg0.spec c (Pipeline.withR (Gen.V0 m c) R0 c (Gout m c)) (fun w => (dats m 0 c).arrAt w cfg0.N) (Proc.devRef .tc main_v4_2) : FVec Ideal S6x2x256 .f32)
      Gen.transposes_S6x2x256_S6x256x2_0_2_1 := by
    unfold Ends
    generalize Pipeline.withArrays cfg0.spec c _ _ = W
    simp only [Gen.hostOps1, List.flatten_cons, List.flatten_nil, List.append_nil]
    after_results_simp <;> rfl
  rw [e, mid m c main_v4_2 (by decide), Gout_2]
  rfl
omit hW in
theorem Ends_v6 : Ends m c (Proc.devRef .tc main_v6) = kPos m c := by
  have e : Ends m c (Proc.devRef .tc main_v6) = transpose S6x256x2 [0, 2, 1]
      (Pipeline.withArrays cfg0.spec c (Pipeline.withR (Gen.V0 m c) R0 c (Gout m c)) (fun w => (dats m 0 c).arrAt w cfg0.N) (Proc.devRef .tc main_v4_3) : IVec S6x2x256 32)
      Gen.transposes_S6x2x256_S6x256x2_0_2_1 := by
    unfold Ends
    generalize Pipeline.withArrays cfg0.spec c _ _ = W
    simp only [Gen.hostOps1, List.flatten_cons, List.flatten_nil, List.append_nil]
    after_results_simp <;> rfl
  rw [e, mid m c main_v4_3 (by decide), Gout_3]
  rfl
omit hW in
theorem Ends_v9 : Ends m c (Proc.devRef .tc main_v9) = kKeep m c := by
  have e : Ends m c (Proc.devRef .tc main_v9) = cmpi .ne (transpose S6x256x2 [1, 2, 0]
      (Pipeline.withArrays cfg0.spec c (Pipeline.withR (Gen.V0 m c) R0 c (Gout m c)) (fun w => (dats m 0 c).arrAt w cfg0.N) (Proc.devRef .tc main_v4_4) : IVec S2x6x256 32)
      Gen.transposes_S2x6x256_S6x256x2_1_2_0) (broadcastInDim S6x256x2 ![] Gen.bcast_S_S6x256x2 (constantI S_ 32 0#32)) := by
    unfold Ends
    generalize Pipeline.withArrays cfg0.spec c _ _ = W
    simp only [Gen.hostOps1, List.flatten_cons, List.flatten_nil, List.append_nil]
    after_results_simp <;> rfl
  rw [e, mid m c main_v4_4 (by decide), Gout_4]
  rfl
omit hW in
theorem Ends_6 : Ends m c (Proc.devRef .tc main_v4_6) = TS (In m c) :=
  (Ends_R m c main_v4_6 (List.forall_iff_forall_mem.mp (by
    simp only [Gen.hostOps1, List.flatten_cons, List.flatten_nil, List.append_nil, List.cons_append, List.nil_append, List.Forall, StableHlo.nullary_writes,
      StableHlo.unary_writes, StableHlo.binary_writes, Finset.mem_singleton]
    repeat' apply And.intro
    all_goals exact StableHlo.devRef_ne_of_ne (by decide))) (by decide)).trans (Gout_6 m c)

omit hW in
/-- Every run ends with the seven results at the kernel's values and the arguments as they were. -/
theorem run (g : Dev nD → PrngReg) : θ_run defs (onTc (τ := τ) (main (F := Ideal))) ⟨m, fun _ => 0, g⟩ (fun r => ∀ c : Dev nD,
      r.2.mem ((c.tc : Thread nD τ).loc main_v4_0) = BUF (In m c)
      ∧ r.2.mem ((c.tc : Thread nD τ).loc main_v4_1) = BS (In m c)
      ∧ r.2.mem ((c.tc : Thread nD τ).loc main_v5) = kComb m c
      ∧ r.2.mem ((c.tc : Thread nD τ).loc main_v6) = kPos m c
      ∧ r.2.mem ((c.tc : Thread nD τ).loc main_v9) = kKeep m c
      ∧ r.2.mem ((c.tc : Thread nD τ).loc main_v4_5) = CODES (In m c)
      ∧ r.2.mem ((c.tc : Thread nD τ).loc main_v4_6) = TS (In m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c main_v4_0 (Pipeline.mem_restRefs_of main_v4_0 (by decide) (by decide))).trans (Ends_0 m c),
    (h.1 c main_v4_1 (Pipeline.mem_restRefs_of main_v4_1 (by decide) (by decide))).trans (Ends_1 m c),
    (h.1 c main_v5 (Pipeline.mem_restRefs_of main_v5 (by decide) (by decide))).trans (Ends_v5 m c),
    (h.1 c main_v6 (Pipeline.mem_restRefs_of main_v6 (by decide) (by decide))).trans (Ends_v6 m c),
    (h.1 c main_v9 (Pipeline.mem_restRefs_of main_v9 (by decide) (by decide))).trans (Ends_v9 m c),
    (h.1 c main_v4_5 (Pipeline.mem_restRefs_of main_v4_5 (by decide) (by decide))).trans (Ends_5 m c),
    (h.1 c main_v4_6 (Pipeline.mem_restRefs_of main_v4_6 (by decide) (by decide))).trans (Ends_6 m c),
    (h.1 c main_arg0 (Pipeline.mem_restRefs_of main_arg0 (by decide) (by decide))).trans (Ends_arg0 m c),
    (h.1 c main_arg1 (Pipeline.mem_restRefs_of main_arg1 (by decide) (by decide))).trans (Ends_arg1 m c),
    (h.1 c main_arg2 (Pipeline.mem_restRefs_of main_arg2 (by decide) (by decide))).trans (Ends_arg2 m c),
    (h.1 c main_arg3 (Pipeline.mem_restRefs_of main_arg3 (by decide) (by decide))).trans (Ends_arg3 m c)⟩) (run_main m g)

end Kernel

/-! ## The reference -/

section Reference

open Cert.ReferenceIdeal Cert.ReferenceIdeal.Disp

variable (m : (ℓ : Loc nD τ sig) → Buf (Elt Ideal) ℓ) (g : Dev nD → PrngReg)

theorem ref_run : θ_run defs (onTc (τ := τ) (main (F := Ideal))) ⟨m, fun _ => 0, g⟩ (fun r => ∀ c : Dev nD,
      r.2.mem ((c.tc : Thread nD τ).loc main_v118) = rBuf (StableHlo.launchContents m c)
      ∧ r.2.mem ((c.tc : Thread nD τ).loc main_v114) = rBs (StableHlo.launchContents m c)
      ∧ r.2.mem ((c.tc : Thread nD τ).loc main_v128) = rComb (StableHlo.launchContents m c)
      ∧ r.2.mem ((c.tc : Thread nD τ).loc main_v86) = rPos (StableHlo.launchContents m c)
      ∧ r.2.mem ((c.tc : Thread nD τ).loc main_v88) = rKeep (StableHlo.launchContents m c)
      ∧ r.2.mem ((c.tc : Thread nD τ).loc main_v40) = vC (StableHlo.launchContents m c)
      ∧ r.2.mem ((c.tc : Thread nD τ).loc main_v41) = vT (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (by unfold rBuf; rfl), (h c).2.1.trans (by unfold rBs partF; rfl),
    (h c).2.2.1.trans (by unfold rComb rKeep rPos; rfl), (h c).2.2.2.1.trans (by unfold rPos; rfl), (h c).2.2.2.2.1.trans (by unfold rKeep rPos; rfl),
    (h c).2.2.2.2.2.1.trans (res39 _), (h c).2.2.2.2.2.2.1.trans (by unfold vT rT; exact congrArg (fun z => shapeCast S6x256 z Gen.shapeCasts_S6x256x1_S6x256) (res34 _)), (h c).2.2.2.2.2.2.2⟩) (Value.run m g)

theorem ref_frame : θ_run defs (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2.2.2.2.2, sem_eq_zero_of_no_sems rfl r.2⟩) (Value.run m g)

end Reference

/-! ## The two programs -/

section Both

open Cert.KernelIdeal.Disp

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))
  (e0 : (V (Proc.devRef .tc Cert.ReferenceIdeal.main_arg0) : FVec Ideal Cert.ReferenceIdeal.S6x256x5120 .bf16) = A0 m c)
  (e1 : Cert.ReferenceIdeal.Disp.vE V = A1 m c)
  (e2 : Cert.ReferenceIdeal.Disp.vG V = A2 m c)
  (e3 : (V (Proc.devRef .tc Cert.ReferenceIdeal.main_arg3) : FVec Ideal Cert.ReferenceIdeal.S5120 .f32) = A3 m c)
  (hW : ∀ k : Fin 5120, av (A3 m c (ix1 k)) ≤ (((2 : ℝ) ^ 128 : ℝ) : EReal))
  (hE : ∀ (b : Fin 6) (t : Fin 256) (j : Fin 2), (A1 m c (ix3 b t j)).toNat < 16)

include e1 in
theorem C1_eq (b : Fin 6) : E1 (In m c) b = Cert.ReferenceIdeal.Disp.C1 V b := funext fun t => by
  rw [E1_eq]
  show _ = Cert.ReferenceIdeal.Disp.vE V (ix3 b t (0 : Fin 2))
  rw [e1]
  exact congrArg (fun z : Fin 6 => A1 m c (ix3 z t (0 : Fin 2))) (Fin.ext (Nat.mod_eq_of_lt b.isLt))
include e1 in
theorem C2_eq (b : Fin 6) : E2 (In m c) b = Cert.ReferenceIdeal.Disp.C2 V b := funext fun t => by
  rw [E2_eq]
  show _ = Cert.ReferenceIdeal.Disp.vE V (ix3 b t (1 : Fin 2))
  rw [e1]
  exact congrArg (fun z : Fin 6 => A1 m c (ix3 z t (1 : Fin 2))) (Fin.ext (Nat.mod_eq_of_lt b.isLt))
include e1 in
theorem pl_eq (b : Fin 6) (j : ℕ) (t : Fin 256) : plN (In m c) b j t = Cert.ReferenceIdeal.Disp.rPl V b j t := by
  unfold plN Cert.ReferenceIdeal.Disp.rPl
  rw [C1_eq m c V e1 b, C2_eq m c V e1 b]

include hE in
theorem H1 (b : ℕ) (t : Fin 256) : (E1 (In m c) b t).toNat < 16 := by rw [E1_eq]; exact hE _ t _
include hE in
theorem H2 (b : ℕ) (t : Fin 256) : (E2 (In m c) b t).toNat < 16 := by rw [E2_eq]; exact hE _ t _

include e1 hE in
theorem pos_eq : Cert.ReferenceIdeal.Disp.rPos V = kPos m c := by
  funext i
  obtain ⟨b, t, j, rfl⟩ : ∃ b t j, i = ix3 b t j := ⟨_, _, _, eq_ix3 i⟩
  refine (Cert.ReferenceIdeal.Disp.rPos_at V b t j).trans ?_
  refine Eq.trans ?_ ((back_at (POS (In m c)) b j t).trans (POS_at (In m c) b (H1 m c hE) (H2 m c hE) j t)).symm
  rw [pl_eq m c V e1]

include e1 hE in
theorem keep_eq : Cert.ReferenceIdeal.Disp.rKeep V = kKeep m c := by
  funext i
  obtain ⟨b, t, j, rfl⟩ : ∃ b t j, i = ix3 b t j := ⟨_, _, _, eq_ix3 i⟩
  have hk : kKeep m c (ix3 b t j) = IntOp.cmpi .ne (KEEP (In m c) (ix3 j b t)) 0#32 := by
    unfold kKeep
    exact congrArg (fun z => IntOp.cmpi .ne z 0#32) (turn_at (KEEP (In m c)) b j t)
  have hr := Cert.ReferenceIdeal.Disp.rKeep_at V b t j
  rw [hk, KEEP_at (In m c) b (H1 m c hE) (H2 m c hE) j t, pl_eq m c V e1]
  by_cases h : Cert.ReferenceIdeal.Disp.rPl V b j t < 40
  · rw [if_pos h, hr.mpr h]; rfl
  · rw [if_neg h]
    have h' : Cert.ReferenceIdeal.Disp.rKeep V (ix3 b t j) ≠ 1#1 := fun z => h (hr.mp z)
    revert h'
    generalize Cert.ReferenceIdeal.Disp.rKeep V (ix3 b t j) = z
    revert z
    decide

include e1 e2 hE in
theorem comb_eq : Cert.ReferenceIdeal.Disp.rComb V = kComb m c := by
  funext i
  obtain ⟨b, t, j, rfl⟩ : ∃ b t j, i = ix3 b t j := ⟨_, _, _, eq_ix3 i⟩
  refine (Cert.ReferenceIdeal.Disp.rComb_at V b t j).trans ?_
  refine Eq.trans ?_ ((back_at (COMB (In m c)) b j t).trans (COMB_at (In m c) b (H1 m c hE) (H2 m c hE) j t)).symm
  rw [pl_eq m c V e1, ga_eq, e2]
  have g0 := ga_eq m c b (0 : Fin 2) t
  have g1 := ga_eq m c b (1 : Fin 2) t
  unfold den
  show _ = Ideal.div _ (if (gaN (In m c) b ((0 : Fin 2) : ℕ) t : EReal) + gaN (In m c) b ((1 : Fin 2) : ℕ) t = 0 then 1 else (gaN (In m c) b ((0 : Fin 2) : ℕ) t : EReal) + gaN (In m c) b ((1 : Fin 2) : ℕ) t)
  rw [g0, g1]

include e0 e3 hW in
theorem vC_eq : Cert.ReferenceIdeal.Disp.vC V = CODES (In m c) := by
  refine Eq.trans ?_ (codes_eq m c hW).symm
  exact congrArg₂ (fun a w => Cert.ReferenceIdeal.Disp.rC a w) e0 e3
include e0 e3 hW in
theorem vT_eq : Cert.ReferenceIdeal.Disp.vT V = TS (In m c) := by
  refine Eq.trans ?_ (scales_eq m c hW).symm
  exact congrArg₂ (fun a w => Cert.ReferenceIdeal.Disp.rT a w) e0 e3

include e0 e1 e3 hW hE in
theorem bs_eq : Cert.ReferenceIdeal.Disp.rBs V = BS (In m c) := by
  funext i
  obtain ⟨b, x, s, rfl⟩ : ∃ b x s, i = ix3 b x s := ⟨_, _, _, eq_ix3 i⟩
  refine (Cert.ReferenceIdeal.Disp.rBs_at V b x s).trans ?_
  refine Eq.trans ?_ (BS_at (In m c) (H1 m c hE) (H2 m c hE) b x s).symm
  rw [C1_eq m c V e1 b, C2_eq m c V e1 b, vT_eq m c V e0 e3 hW]

include e0 e1 e3 hW hE in
theorem buf_eq : Cert.ReferenceIdeal.Disp.rBuf V = BUF (In m c) := by
  funext i
  obtain ⟨b, x, s, k, rfl⟩ : ∃ b x s k, i = ix4 b x s k := ⟨_, _, _, _, eq_ix4 i⟩
  refine (Cert.ReferenceIdeal.Disp.rBuf_at V b x s k).trans ?_
  refine Eq.trans ?_ (BUF_at (In m c) (H1 m c hE) (H2 m c hE) b x s k).symm
  rw [C1_eq m c V e1 b, C2_eq m c V e1 b, vC_eq m c V e0 e3 hW]

end Both

theorem algebraic : algebraic_KernelIdeal_ReferenceIdeal_pre_valid (hKernelIdeal := Cert.KernelIdeal.Gen.facts)
    (hReferenceIdeal := Cert.ReferenceIdeal.Gen.facts) (hPre_valid := preFacts) := by
  intro m g m' g' hp ha
  refine ⟨fun c => Cert.KernelIdeal.Disp.BUF (Cert.KernelIdeal.Disp.In m c), fun c => Cert.KernelIdeal.Disp.BS (Cert.KernelIdeal.Disp.In m c),
    fun c => kComb m c, fun c => kPos m c, fun c => kKeep m c,
    fun c => Cert.KernelIdeal.Disp.CODES (Cert.KernelIdeal.Disp.In m c), fun c => Cert.KernelIdeal.Disp.TS (Cert.KernelIdeal.Disp.In m c), run m g, ?_⟩
  refine (θ_run Cert.ReferenceIdeal.defs _ _).mono (fun r h c => ?_) (ref_run m' g')
  have hW := weights _ _ _ _ (hp c)
  have hE := experts _ _ _ _ (hp c)
  have e0 := (ha c).1
  have e1 := (ha c).2.1
  have e2 := (ha c).2.2.1
  have e3 := (ha c).2.2.2
  exact ⟨(h c).1.trans (buf_eq m c (StableHlo.launchContents m' c) e0 e1 e3 hW hE), (h c).2.1.trans (bs_eq m c (StableHlo.launchContents m' c) e0 e1 e3 hW hE),
    (h c).2.2.1.trans (comb_eq m c (StableHlo.launchContents m' c) e1 e2 hE), (h c).2.2.2.1.trans (pos_eq m c (StableHlo.launchContents m' c) e1 hE),
    (h c).2.2.2.2.1.trans (keep_eq m c (StableHlo.launchContents m' c) e1 hE), (h c).2.2.2.2.2.1.trans (vC_eq m c (StableHlo.launchContents m' c) e0 e3 hW),
    (h c).2.2.2.2.2.2.1.trans (vT_eq m c (StableHlo.launchContents m' c) e0 e3 hW), (h c).2.2.2.2.2.2.2⟩

end Cert.Tie

end
-- ==== Proof.lean ====
/-
  The certificate: every run of the kernel ends, leaves its arguments as they were and every semaphore at zero — as the
  program stands and over the ideal numbers —, the idealization rewrote nothing, and over the ideal numbers the kernel's
  seven results are the reference's whenever the norm weights are finite and every expert index names an expert.
-/
module

public import proofs.«01_k».proof.Defs
public import proofs.«01_k».proof.Proof.KLaunch
public import proofs.«01_k».proof.Proof.KILaunch
public import proofs.«01_k».proof.Proof.Tie

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Tie.preFacts,
  fun m g _ => Cert.Kernel.Disp.frame m g, fun m g _ => Cert.KernelIdeal.Disp.frame m g, fun m g _ => Cert.KernelIdeal.Disp.frame m g,
  fun m g _ => Cert.Tie.ref_frame m g, fun m g _ => Cert.Tie.ref_frame m g, trivial, Cert.Tie.algebraic⟩

end Cert.Proof

end
